-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelWo (m : (ℓ : Loc Cert.KernelWo.nD Cert.KernelWo.τ Cert.KernelWo.sig) → Buf (Elt Bits) ℓ) : Prop :=
  True

def Pre_KernelWoIdeal (m : (ℓ : Loc Cert.KernelWoIdeal.nD Cert.KernelWoIdeal.τ Cert.KernelWoIdeal.sig) → Buf (Elt Ideal) ℓ) : Prop :=
  True

def Pre_ReferenceWoIdeal (m : (ℓ : Loc Cert.ReferenceWoIdeal.nD Cert.ReferenceWoIdeal.τ Cert.ReferenceWoIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4)
      ∧ r.2.mem ((c.tc : Thread Cert.KernelUp.nD Cert.KernelUp.τ).loc Cert.KernelUp.main_arg5) = m ((c.tc : Thread Cert.KernelUp.nD Cert.KernelUp.τ).loc Cert.KernelUp.main_arg5)
      ∧ r.2.mem ((c.tc : Thread Cert.KernelUp.nD Cert.KernelUp.τ).loc Cert.KernelUp.main_arg6) = m ((c.tc : Thread Cert.KernelUp.nD Cert.KernelUp.τ).loc Cert.KernelUp.main_arg6)
      ∧ r.2.mem ((c.tc : Thread Cert.KernelUp.nD Cert.KernelUp.τ).loc Cert.KernelUp.main_arg7) = m ((c.tc : Thread Cert.KernelUp.nD Cert.KernelUp.τ).loc Cert.KernelUp.main_arg7))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
      ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6)
      ∧ r.2.mem ((c.tc : Thread Cert.KernelUpIdeal.nD Cert.KernelUpIdeal.τ).loc Cert.KernelUpIdeal.main_arg7) = m ((c.tc : Thread Cert.KernelUpIdeal.nD Cert.KernelUpIdeal.τ).loc Cert.KernelUpIdeal.main_arg7))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5)
      ∧ r.2.mem ((c.tc : Thread Cert.ReferenceUpIdeal.nD Cert.ReferenceUpIdeal.τ).loc Cert.ReferenceUpIdeal.main_arg6) = m ((c.tc : Thread Cert.ReferenceUpIdeal.nD Cert.ReferenceUpIdeal.τ).loc Cert.ReferenceUpIdeal.main_arg6)
      ∧ r.2.mem ((c.tc : Thread Cert.ReferenceUpIdeal.nD Cert.ReferenceUpIdeal.τ).loc Cert.ReferenceUpIdeal.main_arg7) = m ((c.tc : Thread Cert.ReferenceUpIdeal.nD Cert.ReferenceUpIdeal.τ).loc Cert.ReferenceUpIdeal.main_arg7))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelWo [hKernelWo : Cert.KernelWo.Facts] : Prop :=
  ∀ (m : (ℓ : Loc Cert.KernelWo.nD Cert.KernelWo.τ Cert.KernelWo.sig) → Buf (Elt Bits) ℓ) (g : Dev Cert.KernelWo.nD → PrngReg), Pre_KernelWo m →
    θ_run (Cert.KernelWo.defs (F := Bits)) (onTc (τ := Cert.KernelWo.τ) (Cert.KernelWo.main (F := Bits))) ⟨m, fun _ => 0, g⟩ (fun r => (∀ c : Dev Cert.KernelWo.nD,
      r.2.mem ((c.tc : Thread Cert.KernelWo.nD Cert.KernelWo.τ).loc Cert.KernelWo.main_arg0) = m ((c.tc : Thread Cert.KernelWo.nD Cert.KernelWo.τ).loc Cert.KernelWo.main_arg0)
      ∧ r.2.mem ((c.tc : Thread Cert.KernelWo.nD Cert.KernelWo.τ).loc Cert.KernelWo.main_arg1) = m ((c.tc : Thread Cert.KernelWo.nD Cert.KernelWo.τ).loc Cert.KernelWo.main_arg1)
      ∧ r.2.mem ((c.tc : Thread Cert.KernelWo.nD Cert.KernelWo.τ).loc Cert.KernelWo.main_arg2) = m ((c.tc : Thread Cert.KernelWo.nD Cert.KernelWo.τ).loc Cert.KernelWo.main_arg2)
      ∧ r.2.mem ((c.tc : Thread Cert.KernelWo.nD Cert.KernelWo.τ).loc Cert.KernelWo.main_arg3) = m ((c.tc : Thread Cert.KernelWo.nD Cert.KernelWo.τ).loc Cert.KernelWo.main_arg3)
      ∧ r.2.mem ((c.tc : Thread Cert.KernelWo.nD Cert.KernelWo.τ).loc Cert.KernelWo.main_arg4) = m ((c.tc : Thread Cert.KernelWo.nD Cert.KernelWo.τ).loc Cert.KernelWo.main_arg4))
      ∧ r.2.sem = fun _ => 0)

def quiescent_KernelWoIdeal [hKernelWoIdeal : Cert.KernelWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg), Pre_KernelWoIdeal m →
    θ_run (Cert.KernelWoIdeal.defs (F := Ideal)) (onTc (τ := Cert.KernelWoIdeal.τ) (Cert.KernelWoIdeal.main (F := Ideal))) ⟨m, fun _ => 0, g⟩ (fun r => (∀ c : Dev Cert.KernelWoIdeal.nD,
      r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
      ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
      ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2)
      ∧ r.2.mem ((c.tc : Thread Cert.KernelWoIdeal.nD Cert.KernelWoIdeal.τ).loc Cert.KernelWoIdeal.main_arg3) = m ((c.tc : Thread Cert.KernelWoIdeal.nD Cert.KernelWoIdeal.τ).loc Cert.KernelWoIdeal.main_arg3)
      ∧ r.2.mem ((c.tc : Thread Cert.KernelWoIdeal.nD Cert.KernelWoIdeal.τ).loc Cert.KernelWoIdeal.main_arg4) = m ((c.tc : Thread Cert.KernelWoIdeal.nD Cert.KernelWoIdeal.τ).loc Cert.KernelWoIdeal.main_arg4))
      ∧ r.2.sem = fun _ => 0)

def quiescent_ReferenceWoIdeal [hReferenceWoIdeal : Cert.ReferenceWoIdeal.Facts] : Prop :=
  ∀ (m : (ℓ : Loc Cert.ReferenceWoIdeal.nD Cert.ReferenceWoIdeal.τ Cert.ReferenceWoIdeal.sig) → Buf (Elt Ideal) ℓ) (g : Dev Cert.ReferenceWoIdeal.nD → PrngReg), Pre_ReferenceWoIdeal m →
    θ_run (Cert.ReferenceWoIdeal.defs (F := Ideal)) (onTc (τ := Cert.ReferenceWoIdeal.τ) (Cert.ReferenceWoIdeal.main (F := Ideal))) ⟨m, fun _ => 0, g⟩ (fun r => (∀ c : Dev Cert.ReferenceWoIdeal.nD,
      r.2.mem ((c.tc : Thread Cert.ReferenceWoIdeal.nD Cert.ReferenceWoIdeal.τ).loc Cert.ReferenceWoIdeal.main_arg0) = m ((c.tc : Thread Cert.ReferenceWoIdeal.nD Cert.ReferenceWoIdeal.τ).loc Cert.ReferenceWoIdeal.main_arg0)
      ∧ r.2.mem ((c.tc : Thread Cert.ReferenceWoIdeal.nD Cert.ReferenceWoIdeal.τ).loc Cert.ReferenceWoIdeal.main_arg1) = m ((c.tc : Thread Cert.ReferenceWoIdeal.nD Cert.ReferenceWoIdeal.τ).loc Cert.ReferenceWoIdeal.main_arg1)
      ∧ r.2.mem ((c.tc : Thread Cert.ReferenceWoIdeal.nD Cert.ReferenceWoIdeal.τ).loc Cert.ReferenceWoIdeal.main_arg2) = m ((c.tc : Thread Cert.ReferenceWoIdeal.nD Cert.ReferenceWoIdeal.τ).loc Cert.ReferenceWoIdeal.main_arg2)
      ∧ r.2.mem ((c.tc : Thread Cert.ReferenceWoIdeal.nD Cert.ReferenceWoIdeal.τ).loc Cert.ReferenceWoIdeal.main_arg3) = m ((c.tc : Thread Cert.ReferenceWoIdeal.nD Cert.ReferenceWoIdeal.τ).loc Cert.ReferenceWoIdeal.main_arg3)
      ∧ r.2.mem ((c.tc : Thread Cert.ReferenceWoIdeal.nD Cert.ReferenceWoIdeal.τ).loc Cert.ReferenceWoIdeal.main_arg4) = m ((c.tc : Thread Cert.ReferenceWoIdeal.nD Cert.ReferenceWoIdeal.τ).loc Cert.ReferenceWoIdeal.main_arg4))
      ∧ r.2.sem = fun _ => 0)

def preserves_Kernel_KernelIdeal : Prop :=
  IdealRules.bf16_pair.BufferStatement Cert.KernelIdeal.S64x2x5120 Cert.KernelIdeal.S64x1x5120
  ∧ IdealRules.bf16_pair.BufferStatement Cert.KernelIdeal.S160x2x256 Cert.KernelIdeal.S160x1x256
  ∧ IdealRules.bf16_pair.Statement Cert.KernelIdeal.S128x5120 Cert.KernelIdeal.S64x5120
  ∧ IdealRules.bf16_pair.Statement Cert.KernelIdeal.S64x2x5120 Cert.KernelIdeal.S64x1x5120
  ∧ IdealRules.bf16_pair.PackStatement Cert.KernelIdeal.S160x256
  ∧ IdealRules.bf16_pair.Statement Cert.KernelIdeal.S160x2x256 Cert.KernelIdeal.S160x1x256
  ∧ IdealRules.bf16_pair.Statement Cert.KernelIdeal.S1x2x128 Cert.KernelIdeal.S1x1x128
  ∧ IdealRules.bf16_pair.Statement Cert.KernelIdeal.S16x128 Cert.KernelIdeal.S8x128
  ∧ IdealRules.bf16_pair.Statement Cert.KernelIdeal.S64x2x256 Cert.KernelIdeal.S64x1x256
  ∧ IdealRules.bf16_pair.Statement Cert.KernelIdeal.S128x256 Cert.KernelIdeal.S64x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v24_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_v24_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_v153) = v3 c
          ∧ r.2.mem ((c.tc : Thread Cert.ReferenceIdeal.nD Cert.ReferenceIdeal.τ).loc Cert.ReferenceIdeal.main_v154) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_KernelUp_KernelUpIdeal : Prop :=
  IdealRules.bf16_pair.BufferStatement Cert.KernelUpIdeal.S64x2x5120 Cert.KernelUpIdeal.S64x1x5120
  ∧ IdealRules.bf16_pair.BufferStatement Cert.KernelUpIdeal.S160x2x384 Cert.KernelUpIdeal.S160x1x384
  ∧ IdealRules.bf16_pair.Statement Cert.KernelUpIdeal.S128x5120 Cert.KernelUpIdeal.S64x5120
  ∧ IdealRules.bf16_pair.Statement Cert.KernelUpIdeal.S64x2x5120 Cert.KernelUpIdeal.S64x1x5120
  ∧ IdealRules.bf16_pair.PackStatement Cert.KernelUpIdeal.S160x384
  ∧ IdealRules.bf16_pair.Statement Cert.KernelUpIdeal.S160x2x384 Cert.KernelUpIdeal.S160x1x384
  ∧ IdealRules.bf16_pair.Statement Cert.KernelUpIdeal.S1x2x128 Cert.KernelUpIdeal.S1x1x128
  ∧ IdealRules.bf16_pair.Statement Cert.KernelUpIdeal.S16x128 Cert.KernelUpIdeal.S8x128
  ∧ IdealRules.bf16_pair.Statement Cert.KernelUpIdeal.S64x2x256 Cert.KernelUpIdeal.S64x1x256
  ∧ IdealRules.bf16_pair.Statement Cert.KernelUpIdeal.S128x256 Cert.KernelUpIdeal.S64x256

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)
      ∧ m' ((c.tc : Thread Cert.ReferenceUpIdeal.nD Cert.ReferenceUpIdeal.τ).loc Cert.ReferenceUpIdeal.main_arg5) = m ((c.tc : Thread Cert.KernelUpIdeal.nD Cert.KernelUpIdeal.τ).loc Cert.KernelUpIdeal.main_arg5)
      ∧ m' ((c.tc : Thread Cert.ReferenceUpIdeal.nD Cert.ReferenceUpIdeal.τ).loc Cert.ReferenceUpIdeal.main_arg6) = m ((c.tc : Thread Cert.KernelUpIdeal.nD Cert.KernelUpIdeal.τ).loc Cert.KernelUpIdeal.main_arg6)
      ∧ m' ((c.tc : Thread Cert.ReferenceUpIdeal.nD Cert.ReferenceUpIdeal.τ).loc Cert.ReferenceUpIdeal.main_arg7) = m ((c.tc : Thread Cert.KernelUpIdeal.nD Cert.KernelUpIdeal.τ).loc Cert.KernelUpIdeal.main_arg7)) →
    ∃ (v0 : (c : Dev Cert.KernelUpIdeal.nD) → Buf (Elt Ideal) ((c.tc : Thread Cert.KernelUpIdeal.nD Cert.KernelUpIdeal.τ).loc Cert.KernelUpIdeal.main_v10)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v10) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
          ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
          ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6)
          ∧ r.2.mem ((c.tc : Thread Cert.KernelUpIdeal.nD Cert.KernelUpIdeal.τ).loc Cert.KernelUpIdeal.main_arg7) = m ((c.tc : Thread Cert.KernelUpIdeal.nD Cert.KernelUpIdeal.τ).loc Cert.KernelUpIdeal.main_arg7))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v68) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4)
          ∧ r.2.mem ((c.tc : Thread Cert.ReferenceUpIdeal.nD Cert.ReferenceUpIdeal.τ).loc Cert.ReferenceUpIdeal.main_arg5) = m' ((c.tc : Thread Cert.ReferenceUpIdeal.nD Cert.ReferenceUpIdeal.τ).loc Cert.ReferenceUpIdeal.main_arg5)
          ∧ r.2.mem ((c.tc : Thread Cert.ReferenceUpIdeal.nD Cert.ReferenceUpIdeal.τ).loc Cert.ReferenceUpIdeal.main_arg6) = m' ((c.tc : Thread Cert.ReferenceUpIdeal.nD Cert.ReferenceUpIdeal.τ).loc Cert.ReferenceUpIdeal.main_arg6)
          ∧ r.2.mem ((c.tc : Thread Cert.ReferenceUpIdeal.nD Cert.ReferenceUpIdeal.τ).loc Cert.ReferenceUpIdeal.main_arg7) = m' ((c.tc : Thread Cert.ReferenceUpIdeal.nD Cert.ReferenceUpIdeal.τ).loc Cert.ReferenceUpIdeal.main_arg7))

def preserves_KernelDown_KernelDownIdeal : Prop :=
  IdealRules.bf16_pair.BufferStatement Cert.KernelDownIdeal.S108x2x1280 Cert.KernelDownIdeal.S108x1x1280
  ∧ IdealRules.bf16_pair.PackStatement Cert.KernelDownIdeal.S108x1280
  ∧ IdealRules.bf16_pair.Statement Cert.KernelDownIdeal.S108x2x1280 Cert.KernelDownIdeal.S108x1x1280
  ∧ IdealRules.bf16_pair.Statement Cert.KernelDownIdeal.S1x2x128 Cert.KernelDownIdeal.S1x1x128
  ∧ IdealRules.bf16_pair.Statement Cert.KernelDownIdeal.S16x128 Cert.KernelDownIdeal.S8x128

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v5)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v5) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v28) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelWo_KernelWoIdeal : Prop :=
  IdealRules.bf16_pair.BufferStatement Cert.KernelWoIdeal.S40x2x1280 Cert.KernelWoIdeal.S40x1x1280
  ∧ IdealRules.bf16_pair.PackStatement Cert.KernelWoIdeal.S40x1280
  ∧ IdealRules.bf16_pair.Statement Cert.KernelWoIdeal.S40x2x1280 Cert.KernelWoIdeal.S40x1x1280
  ∧ IdealRules.bf16_pair.Statement Cert.KernelWoIdeal.S1x2x128 Cert.KernelWoIdeal.S1x1x128
  ∧ IdealRules.bf16_pair.Statement Cert.KernelWoIdeal.S16x128 Cert.KernelWoIdeal.S8x128

def algebraic_KernelWoIdeal_ReferenceWoIdeal [hKernelWoIdeal : Cert.KernelWoIdeal.Facts] [hReferenceWoIdeal : Cert.ReferenceWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg)
    (m' : (ℓ : Loc Cert.ReferenceWoIdeal.nD Cert.ReferenceWoIdeal.τ Cert.ReferenceWoIdeal.sig) → Buf (Elt Ideal) ℓ) (g' : Dev Cert.ReferenceWoIdeal.nD → PrngReg), Pre_KernelWoIdeal m →
    (∀ c : Dev Cert.KernelWoIdeal.nD,
      m' ((c.tc : Thread Cert.ReferenceWoIdeal.nD Cert.ReferenceWoIdeal.τ).loc Cert.ReferenceWoIdeal.main_arg0) = m ((c.tc : Thread Cert.KernelWoIdeal.nD Cert.KernelWoIdeal.τ).loc Cert.KernelWoIdeal.main_arg0)
      ∧ m' ((c.tc : Thread Cert.ReferenceWoIdeal.nD Cert.ReferenceWoIdeal.τ).loc Cert.ReferenceWoIdeal.main_arg1) = m ((c.tc : Thread Cert.KernelWoIdeal.nD Cert.KernelWoIdeal.τ).loc Cert.KernelWoIdeal.main_arg1)
      ∧ m' ((c.tc : Thread Cert.ReferenceWoIdeal.nD Cert.ReferenceWoIdeal.τ).loc Cert.ReferenceWoIdeal.main_arg2) = m ((c.tc : Thread Cert.KernelWoIdeal.nD Cert.KernelWoIdeal.τ).loc Cert.KernelWoIdeal.main_arg2)
      ∧ m' ((c.tc : Thread Cert.ReferenceWoIdeal.nD Cert.ReferenceWoIdeal.τ).loc Cert.ReferenceWoIdeal.main_arg3) = m ((c.tc : Thread Cert.KernelWoIdeal.nD Cert.KernelWoIdeal.τ).loc Cert.KernelWoIdeal.main_arg3)
      ∧ m' ((c.tc : Thread Cert.ReferenceWoIdeal.nD Cert.ReferenceWoIdeal.τ).loc Cert.ReferenceWoIdeal.main_arg4) = m ((c.tc : Thread Cert.KernelWoIdeal.nD Cert.KernelWoIdeal.τ).loc Cert.KernelWoIdeal.main_arg4)) →
    ∃ (v0 : (c : Dev Cert.KernelWoIdeal.nD) → Buf (Elt Ideal) ((c.tc : Thread Cert.KernelWoIdeal.nD Cert.KernelWoIdeal.τ).loc Cert.KernelWoIdeal.main_v5)),
      θ_run (Cert.KernelWoIdeal.defs (F := Ideal)) (onTc (τ := Cert.KernelWoIdeal.τ) (Cert.KernelWoIdeal.main (F := Ideal))) ⟨m, fun _ => 0, g⟩ (fun r => ∀ c : Dev Cert.KernelWoIdeal.nD,
          r.2.mem ((c.tc : Thread Cert.KernelWoIdeal.nD Cert.KernelWoIdeal.τ).loc Cert.KernelWoIdeal.main_v5) = v0 c
          ∧ r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
          ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
          ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2)
          ∧ r.2.mem ((c.tc : Thread Cert.KernelWoIdeal.nD Cert.KernelWoIdeal.τ).loc Cert.KernelWoIdeal.main_arg3) = m ((c.tc : Thread Cert.KernelWoIdeal.nD Cert.KernelWoIdeal.τ).loc Cert.KernelWoIdeal.main_arg3)
          ∧ r.2.mem ((c.tc : Thread Cert.KernelWoIdeal.nD Cert.KernelWoIdeal.τ).loc Cert.KernelWoIdeal.main_arg4) = m ((c.tc : Thread Cert.KernelWoIdeal.nD Cert.KernelWoIdeal.τ).loc Cert.KernelWoIdeal.main_arg4))
      ∧ θ_run (Cert.ReferenceWoIdeal.defs (F := Ideal)) (onTc (τ := Cert.ReferenceWoIdeal.τ) (Cert.ReferenceWoIdeal.main (F := Ideal))) ⟨m', fun _ => 0, g'⟩ (fun r => ∀ c : Dev Cert.ReferenceWoIdeal.nD,
          r.2.mem ((c.tc : Thread Cert.ReferenceWoIdeal.nD Cert.ReferenceWoIdeal.τ).loc Cert.ReferenceWoIdeal.main_v28) = v0 c
          ∧ r.2.mem ((c.tc : Thread Cert.ReferenceWoIdeal.nD Cert.ReferenceWoIdeal.τ).loc Cert.ReferenceWoIdeal.main_arg0) = m' ((c.tc : Thread Cert.ReferenceWoIdeal.nD Cert.ReferenceWoIdeal.τ).loc Cert.ReferenceWoIdeal.main_arg0)
          ∧ r.2.mem ((c.tc : Thread Cert.ReferenceWoIdeal.nD Cert.ReferenceWoIdeal.τ).loc Cert.ReferenceWoIdeal.main_arg1) = m' ((c.tc : Thread Cert.ReferenceWoIdeal.nD Cert.ReferenceWoIdeal.τ).loc Cert.ReferenceWoIdeal.main_arg1)
          ∧ r.2.mem ((c.tc : Thread Cert.ReferenceWoIdeal.nD Cert.ReferenceWoIdeal.τ).loc Cert.ReferenceWoIdeal.main_arg2) = m' ((c.tc : Thread Cert.ReferenceWoIdeal.nD Cert.ReferenceWoIdeal.τ).loc Cert.ReferenceWoIdeal.main_arg2)
          ∧ r.2.mem ((c.tc : Thread Cert.ReferenceWoIdeal.nD Cert.ReferenceWoIdeal.τ).loc Cert.ReferenceWoIdeal.main_arg3) = m' ((c.tc : Thread Cert.ReferenceWoIdeal.nD Cert.ReferenceWoIdeal.τ).loc Cert.ReferenceWoIdeal.main_arg3)
          ∧ r.2.mem ((c.tc : Thread Cert.ReferenceWoIdeal.nD Cert.ReferenceWoIdeal.τ).loc Cert.ReferenceWoIdeal.main_arg4) = m' ((c.tc : Thread Cert.ReferenceWoIdeal.nD Cert.ReferenceWoIdeal.τ).loc Cert.ReferenceWoIdeal.main_arg4))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelWo : Cert.KernelWo.Facts) (hKernelWoIdeal : Cert.KernelWoIdeal.Facts) (hReferenceWoIdeal : Cert.ReferenceWoIdeal.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelWo (hKernelWo := hKernelWo)
    ∧ quiescent_KernelWoIdeal (hKernelWoIdeal := hKernelWoIdeal)
    ∧ quiescent_ReferenceWoIdeal (hReferenceWoIdeal := hReferenceWoIdeal)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelWo_KernelWoIdeal
    ∧ algebraic_KernelWoIdeal_ReferenceWoIdeal (hKernelWoIdeal := hKernelWoIdeal) (hReferenceWoIdeal := hReferenceWoIdeal)
-- ==== Kernel.lean ====
abbrev S128x1x5120 : Shape := ⟨3, ![128, 1, 5120]⟩
abbrev S5120 : Shape := ⟨1, ![5120]⟩
abbrev S1280x160x16 : Shape := ⟨3, ![1280, 160, 16]⟩
abbrev S1280x160 : Shape := ⟨2, ![1280, 160]⟩
abbrev S128 : Shape := ⟨1, ![128]⟩
abbrev S128x5120 : Shape := ⟨2, ![128, 5120]⟩
abbrev S64 : Shape := ⟨1, ![64]⟩
abbrev S_ : Shape := ⟨0, ![]⟩
abbrev S1x128 : Shape := ⟨2, ![1, 128]⟩
abbrev S1x64 : Shape := ⟨2, ![1, 64]⟩
abbrev S160x16x1280 : Shape := ⟨3, ![160, 16, 1280]⟩
abbrev S160x2x8x10x128 : Shape := ⟨5, ![160, 2, 8, 10, 128]⟩
abbrev S160x2x10x8x128 : Shape := ⟨5, ![160, 2, 10, 8, 128]⟩
abbrev S160x1280 : Shape := ⟨2, ![160, 1280]⟩
abbrev S10x128x128 : Shape := ⟨3, ![10, 128, 128]⟩
abbrev S160x2x2x8x128 : Shape := ⟨5, ![160, 2, 2, 8, 128]⟩
abbrev S160x256 : Shape := ⟨2, ![160, 256]⟩
abbrev S2x128x128 : Shape := ⟨3, ![2, 128, 128]⟩
abbrev S64x5120 : Shape := ⟨2, ![64, 5120]⟩
abbrev S128x128 : Shape := ⟨2, ![128, 128]⟩
abbrev S128x1 : Shape := ⟨2, ![128, 1]⟩
abbrev S1x5120 : Shape := ⟨2, ![1, 5120]⟩
abbrev S128x128x1 : Shape := ⟨3, ![128, 128, 1]⟩
abbrev S8x128 : Shape := ⟨2, ![8, 128]⟩
abbrev S128x8 : Shape := ⟨2, ![128, 8]⟩
abbrev S128x256 : Shape := ⟨2, ![128, 256]⟩
abbrev S16x128 : Shape := ⟨2, ![16, 128]⟩
abbrev S4x2x1x8x128 : Shape := ⟨5, ![4, 2, 1, 8, 128]⟩
abbrev S4x2x8x128 : Shape := ⟨4, ![4, 2, 8, 128]⟩
abbrev S64x128 : Shape := ⟨2, ![64, 128]⟩
abbrev S8x2x128 : Shape := ⟨3, ![8, 2, 128]⟩
abbrev S8x1x128 : Shape := ⟨3, ![8, 1, 128]⟩
abbrev S32x128 : Shape := ⟨2, ![32, 128]⟩
abbrev S256x128 : Shape := ⟨2, ![256, 128]⟩
abbrev S256x256 : Shape := ⟨2, ![256, 256]⟩
abbrev S64x256 : Shape := ⟨2, ![64, 256]⟩
abbrev S1x128x128 : Shape := ⟨3, ![1, 128, 128]⟩

abbrev nBuf : Space → Nat
  | .hbm => 43
  | .vmem => 41
  | .smem => 0
  | _ => 0

abbrev bufTy : (tb : Table) → Fin (tcTables nBuf tb) → BufTy
  | .hbm, ⟨0, _⟩ => ⟨S128x1x5120, .bf16⟩
  | .hbm, ⟨1, _⟩ => ⟨S5120, .bf16⟩
  | .hbm, ⟨2, _⟩ => ⟨S1280x160x16, .i8⟩
  | .hbm, ⟨3, _⟩ => ⟨S1280x160, .bf16⟩
  | .hbm, ⟨4, _⟩ => ⟨S1280x160, .bf16⟩
  | .hbm, ⟨5, _⟩ => ⟨S1280x160x16, .i8⟩
  | .hbm, ⟨6, _⟩ => ⟨S1280x160, .bf16⟩
  | .hbm, ⟨7, _⟩ => ⟨S1280x160, .bf16⟩
  | .hbm, ⟨8, _⟩ => ⟨S1280x160x16, .i8⟩
  | .hbm, ⟨9, _⟩ => ⟨S1280x160, .bf16⟩
  | .hbm, ⟨10, _⟩ => ⟨S1280x160, .bf16⟩
  | .hbm, ⟨11, _⟩ => ⟨S128, .i32⟩
  | .hbm, ⟨12, _⟩ => ⟨S128x5120, .bf16⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x128, .i32⟩
  | .hbm, ⟨22, _⟩ => ⟨S1x64, .f32⟩
  | .hbm, ⟨23, _⟩ => ⟨S160x16x1280, .i8⟩
  | .hbm, ⟨24, _⟩ => ⟨S160x2x8x10x128, .i8⟩
  | .hbm, ⟨25, _⟩ => ⟨S160x2x10x8x128, .i8⟩
  | .hbm, ⟨26, _⟩ => ⟨S160x1280, .bf16⟩
  | .hbm, ⟨27, _⟩ => ⟨S160x1280, .bf16⟩
  | .hbm, ⟨28, _⟩ => ⟨S160x16x1280, .i8⟩
  | .hbm, ⟨29, _⟩ => ⟨S160x2x8x10x128, .i8⟩
  | .hbm, ⟨30, _⟩ => ⟨S160x2x10x8x128, .i8⟩
  | .hbm, ⟨31, _⟩ => ⟨S160x1280, .bf16⟩
  | .hbm, ⟨32, _⟩ => ⟨S160x1280, .bf16⟩
  | .hbm, ⟨33, _⟩ => ⟨S160x16x1280, .i8⟩
  | .hbm, ⟨34, _⟩ => ⟨S160x2x8x10x128, .i8⟩
  | .hbm, ⟨35, _⟩ => ⟨S160x2x10x8x128, .i8⟩
  | .hbm, ⟨36, _⟩ => ⟨S160x1280, .bf16⟩
  | .hbm, ⟨37, _⟩ => ⟨S160x1280, .bf16⟩
  | .hbm, ⟨38, _⟩ => ⟨S10x128x128, .bf16⟩
  | .hbm, ⟨39, _⟩ => ⟨S10x128x128, .bf16⟩
  | .hbm, ⟨40, _⟩ => ⟨S10x128x128, .f32⟩
  | .hbm, ⟨41, _⟩ => ⟨S10x128x128, .f32⟩
  | .hbm, ⟨42, _⟩ => ⟨S10x128x128, .f32⟩
  | .local _ .vmem, ⟨0, _⟩ => ⟨S128x5120, .bf16⟩
  | .local _ .vmem, ⟨1, _⟩ => ⟨S5120, .bf16⟩
  | .local _ .vmem, ⟨2, _⟩ => ⟨S1x128, .i32⟩
  | .local _ .vmem, ⟨3, _⟩ => ⟨S1x64, .f32⟩
  | .local _ .vmem, ⟨4, _⟩ => ⟨S160x2x2x8x128, .i8⟩
  | .local _ .vmem, ⟨5, _⟩ => ⟨S160x2x2x8x128, .i8⟩
  | .local _ .vmem, ⟨6, _⟩ => ⟨S160x256, .bf16⟩
  | .local _ .vmem, ⟨7, _⟩ => ⟨S160x256, .bf16⟩
  | .local _ .vmem, ⟨8, _⟩ => ⟨S160x256, .bf16⟩
  | .local _ .vmem, ⟨9, _⟩ => ⟨S160x256, .bf16⟩
  | .local _ .vmem, ⟨10, _⟩ => ⟨S160x2x2x8x128, .i8⟩
  | .local _ .vmem, ⟨11, _⟩ => ⟨S160x2x2x8x128, .i8⟩
  | .local _ .vmem, ⟨12, _⟩ => ⟨S160x256, .bf16⟩
  | .local _ .vmem, ⟨13, _⟩ => ⟨S160x256, .bf16⟩
  | .local _ .vmem, ⟨14, _⟩ => ⟨S160x256, .bf16⟩
  | .local _ .vmem, ⟨15, _⟩ => ⟨S160x256, .bf16⟩
  | .local _ .vmem, ⟨16, _⟩ => ⟨S160x2x2x8x128, .i8⟩
  | .local _ .vmem, ⟨17, _⟩ => ⟨S160x2x2x8x128, .i8⟩
  | .local _ .vmem, ⟨18, _⟩ => ⟨S160x256, .bf16⟩
  | .local _ .vmem, ⟨19, _⟩ => ⟨S160x256, .bf16⟩
  | .local _ .vmem, ⟨20, _⟩ => ⟨S160x256, .bf16⟩
  | .local _ .vmem, ⟨21, _⟩ => ⟨S160x256, .bf16⟩
  | .local _ .vmem, ⟨22, _⟩ => ⟨S2x128x128, .bf16⟩
  | .local _ .vmem, ⟨23, _⟩ => ⟨S2x128x128, .bf16⟩
  | .local _ .vmem, ⟨24, _⟩ => ⟨S2x128x128, .bf16⟩
  | .local _ .vmem, ⟨25, _⟩ => ⟨S2x128x128, .bf16⟩
  | .local _ .vmem, ⟨26, _⟩ => ⟨S2x128x128, .f32⟩
  | .local _ .vmem, ⟨27, _⟩ => ⟨S2x128x128, .f32⟩
  | .local _ .vmem, ⟨28, _⟩ => ⟨S2x128x128, .f32⟩
  | .local _ .vmem, ⟨29, _⟩ => ⟨S2x128x128, .f32⟩
  | .local _ .vmem, ⟨30, _⟩ => ⟨S2x128x128, .f32⟩
  | .local _ .vmem, ⟨31, _⟩ => ⟨S2x128x128, .f32⟩
  | .local _ .vmem, ⟨32, _⟩ => ⟨S64x5120, .i32⟩
  | .local _ .vmem, ⟨33, _⟩ => ⟨S128x128, .f32⟩
  | .local _ .vmem, ⟨34, _⟩ => ⟨S128x128, .f32⟩
  | .local _ .vmem, ⟨35, _⟩ => ⟨S160x256, .i32⟩
  | .local _ .vmem, ⟨36, _⟩ => ⟨S160x256, .i32⟩
  | .local _ .vmem, ⟨37, _⟩ => ⟨S160x256, .i32⟩
  | .local _ .vmem, ⟨38, _⟩ => ⟨S160x256, .i32⟩
  | .local _ .vmem, ⟨39, _⟩ => ⟨S160x256, .i32⟩
  | .local _ .vmem, ⟨40, _⟩ => ⟨S160x256, .i32⟩
  | _, _ => ⟨S128x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v24_4 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_scratch8 : Ref sig .tc := ⟨.vmem, 40, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [BitOps F]

abbrev grid0 : Pipeline.Grid := ⟨1, ![5], ![false]⟩

@[reducible] def k0_t1_loop : Scf.Loop 32 :=
  let c0_i32_13 : BitVec 32 := 0#32
  let c20_i32 : BitVec 32 := 20#32
  let v27 : BitVec 32 := Scalar.addi c0_i32_13 c20_i32
  let c1_i32 : BitVec 32 := 1#32
  ⟨c0_i32_13, v27, c1_i32⟩
def k0_off1 (k0_t1 : Fin k0_t1_loop.trips) (c0_i32_74 : BitVec 32) (c0_i32_76 : BitVec 32) : Fin 2 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let v131 : BitVec 32 := Scalar.addi v129 c0_i32_74
  let v135 : BitVec 32 := Scalar.addi v131 c0_i32_76
  let v136 : Index := Scalar.indexCast v135
  let c0_77 : Index := 0#32
  ![v136.toNat, 0]
def k0_off2 (k0_t1 : Fin k0_t1_loop.trips) : Fin 5 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let v187 : Index := Scalar.indexCast v129
  let c0_97 : Index := 0#32
  let c0_98 : Index := 0#32
  let c0_99 : Index := 0#32
  let c0_100 : Index := 0#32
  ![v187.toNat, 0, 0, 0, 0]
def k0_off3 (k0_t1 : Fin k0_t1_loop.trips) (c0_i32_110 : BitVec 32) (c0_i32_112 : BitVec 32) : Fin 2 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c4_i32 : BitVec 32 := 4#32
  let v130 : BitVec 32 := Scalar.addi v129 c4_i32
  let v248 : BitVec 32 := Scalar.addi v130 c0_i32_110
  let v252 : BitVec 32 := Scalar.addi v248 c0_i32_112
  let v253 : Index := Scalar.indexCast v252
  let c0_113 : Index := 0#32
  ![v253.toNat, 0]
def k0_off4 (k0_t1 : Fin k0_t1_loop.trips) : Fin 5 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c4_i32 : BitVec 32 := 4#32
  let v130 : BitVec 32 := Scalar.addi v129 c4_i32
  let v304 : Index := Scalar.indexCast v130
  let c0_134 : Index := 0#32
  let c0_135 : Index := 0#32
  let c0_136 : Index := 0#32
  let c0_137 : Index := 0#32
  ![v304.toNat, 0, 0, 0, 0]
def k0_off5 (k0_t1 : Fin k0_t1_loop.trips) (c0_i32_148 : BitVec 32) (c0_i32_150 : BitVec 32) : Fin 2 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let v366 : BitVec 32 := Scalar.addi v129 c0_i32_148
  let v370 : BitVec 32 := Scalar.addi v366 c0_i32_150
  let v371 : Index := Scalar.indexCast v370
  let c128 : Index := 128#32
  ![v371.toNat, 128]
def k0_off6 (k0_t1 : Fin k0_t1_loop.trips) : Fin 5 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let v422 : Index := Scalar.indexCast v129
  let c0_171 : Index := 0#32
  let c1_172 : Index := 1#32
  let c0_173 : Index := 0#32
  let c0_174 : Index := 0#32
  ![v422.toNat, 0, 1, 0, 0]
def k0_off7 (k0_t1 : Fin k0_t1_loop.trips) (c0_i32_185 : BitVec 32) (c0_i32_187 : BitVec 32) : Fin 2 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c4_i32 : BitVec 32 := 4#32
  let v130 : BitVec 32 := Scalar.addi v129 c4_i32
  let v483 : BitVec 32 := Scalar.addi v130 c0_i32_185
  let v487 : BitVec 32 := Scalar.addi v483 c0_i32_187
  let v488 : Index := Scalar.indexCast v487
  let c128_188 : Index := 128#32
  ![v488.toNat, 128]
def k0_off8 (k0_t1 : Fin k0_t1_loop.trips) : Fin 5 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c4_i32 : BitVec 32 := 4#32
  let v130 : BitVec 32 := Scalar.addi v129 c4_i32
  let v539 : Index := Scalar.indexCast v130
  let c0_209 : Index := 0#32
  let c1_210 : Index := 1#32
  let c0_211 : Index := 0#32
  let c0_212 : Index := 0#32
  ![v539.toNat, 0, 1, 0, 0]
def k0_mult1 (k0_t1 : Fin k0_t1_loop.trips) : BitVec 32 :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c32_i32 : BitVec 32 := 32#32
  let v602 : BitVec 32 := Scalar.muli v129 c32_i32
  v602
def k0_off9 (k0_t1 : Fin k0_t1_loop.trips) : Fin 2 → Nat :=
  let c0_223 : Index := 0#32
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c32_i32 : BitVec 32 := 32#32
  let v602 : BitVec 32 := Scalar.muli v129 c32_i32
  let v603 : BitVec 32 := v602
  let v604 : Index := Scalar.indexCast v603
  ![0, v604.toNat]
@[reducible] def k0_t2_loop : Scf.Loop 32 :=
  let c0_i32_24 : BitVec 32 := 0#32
  let c20_i32_25 : BitVec 32 := 20#32
  let v45 : BitVec 32 := Scalar.addi c0_i32_24 c20_i32_25
  let c1_i32_26 : BitVec 32 := 1#32
  ⟨c0_i32_24, v45, c1_i32_26⟩
def k0_off10 (k0_t2 : Fin k0_t2_loop.trips) (c0_i32_74 : BitVec 32) (c0_i32_76 : BitVec 32) : Fin 2 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let v131 : BitVec 32 := Scalar.addi v129 c0_i32_74
  let v135 : BitVec 32 := Scalar.addi v131 c0_i32_76
  let v136 : Index := Scalar.indexCast v135
  let c0_77 : Index := 0#32
  ![v136.toNat, 0]
def k0_off11 (k0_t2 : Fin k0_t2_loop.trips) : Fin 5 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let v187 : Index := Scalar.indexCast v129
  let c0_97 : Index := 0#32
  let c0_98 : Index := 0#32
  let c0_99 : Index := 0#32
  let c0_100 : Index := 0#32
  ![v187.toNat, 0, 0, 0, 0]
def k0_off12 (k0_t2 : Fin k0_t2_loop.trips) (c0_i32_110 : BitVec 32) (c0_i32_112 : BitVec 32) : Fin 2 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c4_i32 : BitVec 32 := 4#32
  let v130 : BitVec 32 := Scalar.addi v129 c4_i32
  let v248 : BitVec 32 := Scalar.addi v130 c0_i32_110
  let v252 : BitVec 32 := Scalar.addi v248 c0_i32_112
  let v253 : Index := Scalar.indexCast v252
  let c0_113 : Index := 0#32
  ![v253.toNat, 0]
def k0_off13 (k0_t2 : Fin k0_t2_loop.trips) : Fin 5 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c4_i32 : BitVec 32 := 4#32
  let v130 : BitVec 32 := Scalar.addi v129 c4_i32
  let v304 : Index := Scalar.indexCast v130
  let c0_134 : Index := 0#32
  let c0_135 : Index := 0#32
  let c0_136 : Index := 0#32
  let c0_137 : Index := 0#32
  ![v304.toNat, 0, 0, 0, 0]
def k0_off14 (k0_t2 : Fin k0_t2_loop.trips) (c0_i32_148 : BitVec 32) (c0_i32_150 : BitVec 32) : Fin 2 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let v366 : BitVec 32 := Scalar.addi v129 c0_i32_148
  let v370 : BitVec 32 := Scalar.addi v366 c0_i32_150
  let v371 : Index := Scalar.indexCast v370
  let c128 : Index := 128#32
  ![v371.toNat, 128]
def k0_off15 (k0_t2 : Fin k0_t2_loop.trips) : Fin 5 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let v422 : Index := Scalar.indexCast v129
  let c0_171 : Index := 0#32
  let c1_172 : Index := 1#32
  let c0_173 : Index := 0#32
  let c0_174 : Index := 0#32
  ![v422.toNat, 0, 1, 0, 0]
def k0_off16 (k0_t2 : Fin k0_t2_loop.trips) (c0_i32_185 : BitVec 32) (c0_i32_187 : BitVec 32) : Fin 2 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c4_i32 : BitVec 32 := 4#32
  let v130 : BitVec 32 := Scalar.addi v129 c4_i32
  let v483 : BitVec 32 := Scalar.addi v130 c0_i32_185
  let v487 : BitVec 32 := Scalar.addi v483 c0_i32_187
  let v488 : Index := Scalar.indexCast v487
  let c128_188 : Index := 128#32
  ![v488.toNat, 128]
def k0_off17 (k0_t2 : Fin k0_t2_loop.trips) : Fin 5 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c4_i32 : BitVec 32 := 4#32
  let v130 : BitVec 32 := Scalar.addi v129 c4_i32
  let v539 : Index := Scalar.indexCast v130
  let c0_209 : Index := 0#32
  let c1_210 : Index := 1#32
  let c0_211 : Index := 0#32
  let c0_212 : Index := 0#32
  ![v539.toNat, 0, 1, 0, 0]
def k0_mult2 (k0_t2 : Fin k0_t2_loop.trips) : BitVec 32 :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c32_i32 : BitVec 32 := 32#32
  let v602 : BitVec 32 := Scalar.muli v129 c32_i32
  v602
def k0_off18 (k0_t2 : Fin k0_t2_loop.trips) : Fin 2 → Nat :=
  let c0_223 : Index := 0#32
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c32_i32 : BitVec 32 := 32#32
  let v602 : BitVec 32 := Scalar.muli v129 c32_i32
  let v603 : BitVec 32 := v602
  let v604 : Index := Scalar.indexCast v603
  ![0, v604.toNat]
@[reducible] def k0_t3_loop : Scf.Loop 32 :=
  let c0_i32_37 : BitVec 32 := 0#32
  let c20_i32_38 : BitVec 32 := 20#32
  let v63 : BitVec 32 := Scalar.addi c0_i32_37 c20_i32_38
  let c1_i32_39 : BitVec 32 := 1#32
  ⟨c0_i32_37, v63, c1_i32_39⟩
def k0_off19 (k0_t3 : Fin k0_t3_loop.trips) (c0_i32_74 : BitVec 32) (c0_i32_76 : BitVec 32) : Fin 2 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let v131 : BitVec 32 := Scalar.addi v129 c0_i32_74
  let v135 : BitVec 32 := Scalar.addi v131 c0_i32_76
  let v136 : Index := Scalar.indexCast v135
  let c0_77 : Index := 0#32
  ![v136.toNat, 0]
def k0_off20 (k0_t3 : Fin k0_t3_loop.trips) : Fin 5 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let v187 : Index := Scalar.indexCast v129
  let c0_97 : Index := 0#32
  let c0_98 : Index := 0#32
  let c0_99 : Index := 0#32
  let c0_100 : Index := 0#32
  ![v187.toNat, 0, 0, 0, 0]
def k0_off21 (k0_t3 : Fin k0_t3_loop.trips) (c0_i32_110 : BitVec 32) (c0_i32_112 : BitVec 32) : Fin 2 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c4_i32 : BitVec 32 := 4#32
  let v130 : BitVec 32 := Scalar.addi v129 c4_i32
  let v248 : BitVec 32 := Scalar.addi v130 c0_i32_110
  let v252 : BitVec 32 := Scalar.addi v248 c0_i32_112
  let v253 : Index := Scalar.indexCast v252
  let c0_113 : Index := 0#32
  ![v253.toNat, 0]
def k0_off22 (k0_t3 : Fin k0_t3_loop.trips) : Fin 5 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c4_i32 : BitVec 32 := 4#32
  let v130 : BitVec 32 := Scalar.addi v129 c4_i32
  let v304 : Index := Scalar.indexCast v130
  let c0_134 : Index := 0#32
  let c0_135 : Index := 0#32
  let c0_136 : Index := 0#32
  let c0_137 : Index := 0#32
  ![v304.toNat, 0, 0, 0, 0]
def k0_off23 (k0_t3 : Fin k0_t3_loop.trips) (c0_i32_148 : BitVec 32) (c0_i32_150 : BitVec 32) : Fin 2 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let v366 : BitVec 32 := Scalar.addi v129 c0_i32_148
  let v370 : BitVec 32 := Scalar.addi v366 c0_i32_150
  let v371 : Index := Scalar.indexCast v370
  let c128 : Index := 128#32
  ![v371.toNat, 128]
def k0_off24 (k0_t3 : Fin k0_t3_loop.trips) : Fin 5 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let v422 : Index := Scalar.indexCast v129
  let c0_171 : Index := 0#32
  let c1_172 : Index := 1#32
  let c0_173 : Index := 0#32
  let c0_174 : Index := 0#32
  ![v422.toNat, 0, 1, 0, 0]
def k0_off25 (k0_t3 : Fin k0_t3_loop.trips) (c0_i32_185 : BitVec 32) (c0_i32_187 : BitVec 32) : Fin 2 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c4_i32 : BitVec 32 := 4#32
  let v130 : BitVec 32 := Scalar.addi v129 c4_i32
  let v483 : BitVec 32 := Scalar.addi v130 c0_i32_185
  let v487 : BitVec 32 := Scalar.addi v483 c0_i32_187
  let v488 : Index := Scalar.indexCast v487
  let c128_188 : Index := 128#32
  ![v488.toNat, 128]
def k0_off26 (k0_t3 : Fin k0_t3_loop.trips) : Fin 5 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c4_i32 : BitVec 32 := 4#32
  let v130 : BitVec 32 := Scalar.addi v129 c4_i32
  let v539 : Index := Scalar.indexCast v130
  let c0_209 : Index := 0#32
  let c1_210 : Index := 1#32
  let c0_211 : Index := 0#32
  let c0_212 : Index := 0#32
  ![v539.toNat, 0, 1, 0, 0]
def k0_mult3 (k0_t3 : Fin k0_t3_loop.trips) : BitVec 32 :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c32_i32 : BitVec 32 := 32#32
  let v602 : BitVec 32 := Scalar.muli v129 c32_i32
  v602
def k0_off27 (k0_t3 : Fin k0_t3_loop.trips) : Fin 2 → Nat :=
  let c0_223 : Index := 0#32
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c32_i32 : BitVec 32 := 32#32
  let v602 : BitVec 32 := Scalar.muli v129 c32_i32
  let v603 : BitVec 32 := v602
  let v604 : Index := Scalar.indexCast v603
  ![0, v604.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S160x2x2x8x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x2x2x8x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S160x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S160x2x2x8x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S160x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S160x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
abbrev S128x1x5120 : Shape := ⟨3, ![128, 1, 5120]⟩
abbrev S5120 : Shape := ⟨1, ![5120]⟩
abbrev S1280x160x16 : Shape := ⟨3, ![1280, 160, 16]⟩
abbrev S1280x160 : Shape := ⟨2, ![1280, 160]⟩
abbrev S128 : Shape := ⟨1, ![128]⟩
abbrev S128x5120 : Shape := ⟨2, ![128, 5120]⟩
abbrev S64 : Shape := ⟨1, ![64]⟩
abbrev S_ : Shape := ⟨0, ![]⟩
abbrev S1x128 : Shape := ⟨2, ![1, 128]⟩
abbrev S1x64 : Shape := ⟨2, ![1, 64]⟩
abbrev S160x16x1280 : Shape := ⟨3, ![160, 16, 1280]⟩
abbrev S160x2x8x10x128 : Shape := ⟨5, ![160, 2, 8, 10, 128]⟩
abbrev S160x2x10x8x128 : Shape := ⟨5, ![160, 2, 10, 8, 128]⟩
abbrev S160x1280 : Shape := ⟨2, ![160, 1280]⟩
abbrev S10x128x128 : Shape := ⟨3, ![10, 128, 128]⟩
abbrev S160x2x2x8x128 : Shape := ⟨5, ![160, 2, 2, 8, 128]⟩
abbrev S160x256 : Shape := ⟨2, ![160, 256]⟩
abbrev S2x128x128 : Shape := ⟨3, ![2, 128, 128]⟩
abbrev S64x5120 : Shape := ⟨2, ![64, 5120]⟩
abbrev S64x2x5120 : Shape := ⟨3, ![64, 2, 5120]⟩
abbrev S64x1x5120 : Shape := ⟨3, ![64, 1, 5120]⟩
abbrev S128x128 : Shape := ⟨2, ![128, 128]⟩
abbrev S160x2x256 : Shape := ⟨3, ![160, 2, 256]⟩
abbrev S160x1x256 : Shape := ⟨3, ![160, 1, 256]⟩
abbrev S128x1 : Shape := ⟨2, ![128, 1]⟩
abbrev S1x5120 : Shape := ⟨2, ![1, 5120]⟩
abbrev S128x128x1 : Shape := ⟨3, ![128, 128, 1]⟩
abbrev S8x128 : Shape := ⟨2, ![8, 128]⟩
abbrev S128x8 : Shape := ⟨2, ![128, 8]⟩
abbrev S128x256 : Shape := ⟨2, ![128, 256]⟩
abbrev S1x2x128 : Shape := ⟨3, ![1, 2, 128]⟩
abbrev S1x1x128 : Shape := ⟨3, ![1, 1, 128]⟩
abbrev S16x128 : Shape := ⟨2, ![16, 128]⟩
abbrev S4x2x1x8x128 : Shape := ⟨5, ![4, 2, 1, 8, 128]⟩
abbrev S4x2x8x128 : Shape := ⟨4, ![4, 2, 8, 128]⟩
abbrev S64x128 : Shape := ⟨2, ![64, 128]⟩
abbrev S8x2x128 : Shape := ⟨3, ![8, 2, 128]⟩
abbrev S8x1x128 : Shape := ⟨3, ![8, 1, 128]⟩
abbrev S32x128 : Shape := ⟨2, ![32, 128]⟩
abbrev S256x128 : Shape := ⟨2, ![256, 128]⟩
abbrev S256x256 : Shape := ⟨2, ![256, 256]⟩
abbrev S64x256 : Shape := ⟨2, ![64, 256]⟩
abbrev S64x2x256 : Shape := ⟨3, ![64, 2, 256]⟩
abbrev S64x1x256 : Shape := ⟨3, ![64, 1, 256]⟩
abbrev S1x128x128 : Shape := ⟨3, ![1, 128, 128]⟩

abbrev nBuf : Space → Nat
  | .hbm => 43
  | .vmem => 41
  | .smem => 0
  | _ => 0

abbrev bufTy : (tb : Table) → Fin (tcTables nBuf tb) → BufTy
  | .hbm, ⟨0, _⟩ => ⟨S128x1x5120, .bf16⟩
  | .hbm, ⟨1, _⟩ => ⟨S5120, .bf16⟩
  | .hbm, ⟨2, _⟩ => ⟨S1280x160x16, .i8⟩
  | .hbm, ⟨3, _⟩ => ⟨S1280x160, .bf16⟩
  | .hbm, ⟨4, _⟩ => ⟨S1280x160, .bf16⟩
  | .hbm, ⟨5, _⟩ => ⟨S1280x160x16, .i8⟩
  | .hbm, ⟨6, _⟩ => ⟨S1280x160, .bf16⟩
  | .hbm, ⟨7, _⟩ => ⟨S1280x160, .bf16⟩
  | .hbm, ⟨8, _⟩ => ⟨S1280x160x16, .i8⟩
  | .hbm, ⟨9, _⟩ => ⟨S1280x160, .bf16⟩
  | .hbm, ⟨10, _⟩ => ⟨S1280x160, .bf16⟩
  | .hbm, ⟨11, _⟩ => ⟨S128, .i32⟩
  | .hbm, ⟨12, _⟩ => ⟨S128x5120, .bf16⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x128, .i32⟩
  | .hbm, ⟨22, _⟩ => ⟨S1x64, .f32⟩
  | .hbm, ⟨23, _⟩ => ⟨S160x16x1280, .i8⟩
  | .hbm, ⟨24, _⟩ => ⟨S160x2x8x10x128, .i8⟩
  | .hbm, ⟨25, _⟩ => ⟨S160x2x10x8x128, .i8⟩
  | .hbm, ⟨26, _⟩ => ⟨S160x1280, .bf16⟩
  | .hbm, ⟨27, _⟩ => ⟨S160x1280, .bf16⟩
  | .hbm, ⟨28, _⟩ => ⟨S160x16x1280, .i8⟩
  | .hbm, ⟨29, _⟩ => ⟨S160x2x8x10x128, .i8⟩
  | .hbm, ⟨30, _⟩ => ⟨S160x2x10x8x128, .i8⟩
  | .hbm, ⟨31, _⟩ => ⟨S160x1280, .bf16⟩
  | .hbm, ⟨32, _⟩ => ⟨S160x1280, .bf16⟩
  | .hbm, ⟨33, _⟩ => ⟨S160x16x1280, .i8⟩
  | .hbm, ⟨34, _⟩ => ⟨S160x2x8x10x128, .i8⟩
  | .hbm, ⟨35, _⟩ => ⟨S160x2x10x8x128, .i8⟩
  | .hbm, ⟨36, _⟩ => ⟨S160x1280, .bf16⟩
  | .hbm, ⟨37, _⟩ => ⟨S160x1280, .bf16⟩
  | .hbm, ⟨38, _⟩ => ⟨S10x128x128, .bf16⟩
  | .hbm, ⟨39, _⟩ => ⟨S10x128x128, .bf16⟩
  | .hbm, ⟨40, _⟩ => ⟨S10x128x128, .f32⟩
  | .hbm, ⟨41, _⟩ => ⟨S10x128x128, .f32⟩
  | .hbm, ⟨42, _⟩ => ⟨S10x128x128, .f32⟩
  | .local _ .vmem, ⟨0, _⟩ => ⟨S128x5120, .bf16⟩
  | .local _ .vmem, ⟨1, _⟩ => ⟨S5120, .bf16⟩
  | .local _ .vmem, ⟨2, _⟩ => ⟨S1x128, .i32⟩
  | .local _ .vmem, ⟨3, _⟩ => ⟨S1x64, .f32⟩
  | .local _ .vmem, ⟨4, _⟩ => ⟨S160x2x2x8x128, .i8⟩
  | .local _ .vmem, ⟨5, _⟩ => ⟨S160x2x2x8x128, .i8⟩
  | .local _ .vmem, ⟨6, _⟩ => ⟨S160x256, .bf16⟩
  | .local _ .vmem, ⟨7, _⟩ => ⟨S160x256, .bf16⟩
  | .local _ .vmem, ⟨8, _⟩ => ⟨S160x256, .bf16⟩
  | .local _ .vmem, ⟨9, _⟩ => ⟨S160x256, .bf16⟩
  | .local _ .vmem, ⟨10, _⟩ => ⟨S160x2x2x8x128, .i8⟩
  | .local _ .vmem, ⟨11, _⟩ => ⟨S160x2x2x8x128, .i8⟩
  | .local _ .vmem, ⟨12, _⟩ => ⟨S160x256, .bf16⟩
  | .local _ .vmem, ⟨13, _⟩ => ⟨S160x256, .bf16⟩
  | .local _ .vmem, ⟨14, _⟩ => ⟨S160x256, .bf16⟩
  | .local _ .vmem, ⟨15, _⟩ => ⟨S160x256, .bf16⟩
  | .local _ .vmem, ⟨16, _⟩ => ⟨S160x2x2x8x128, .i8⟩
  | .local _ .vmem, ⟨17, _⟩ => ⟨S160x2x2x8x128, .i8⟩
  | .local _ .vmem, ⟨18, _⟩ => ⟨S160x256, .bf16⟩
  | .local _ .vmem, ⟨19, _⟩ => ⟨S160x256, .bf16⟩
  | .local _ .vmem, ⟨20, _⟩ => ⟨S160x256, .bf16⟩
  | .local _ .vmem, ⟨21, _⟩ => ⟨S160x256, .bf16⟩
  | .local _ .vmem, ⟨22, _⟩ => ⟨S2x128x128, .bf16⟩
  | .local _ .vmem, ⟨23, _⟩ => ⟨S2x128x128, .bf16⟩
  | .local _ .vmem, ⟨24, _⟩ => ⟨S2x128x128, .bf16⟩
  | .local _ .vmem, ⟨25, _⟩ => ⟨S2x128x128, .bf16⟩
  | .local _ .vmem, ⟨26, _⟩ => ⟨S2x128x128, .f32⟩
  | .local _ .vmem, ⟨27, _⟩ => ⟨S2x128x128, .f32⟩
  | .local _ .vmem, ⟨28, _⟩ => ⟨S2x128x128, .f32⟩
  | .local _ .vmem, ⟨29, _⟩ => ⟨S2x128x128, .f32⟩
  | .local _ .vmem, ⟨30, _⟩ => ⟨S2x128x128, .f32⟩
  | .local _ .vmem, ⟨31, _⟩ => ⟨S2x128x128, .f32⟩
  | .local _ .vmem, ⟨32, _⟩ => ⟨S64x2x5120, .bf16⟩
  | .local _ .vmem, ⟨33, _⟩ => ⟨S128x128, .f32⟩
  | .local _ .vmem, ⟨34, _⟩ => ⟨S128x128, .f32⟩
  | .local _ .vmem, ⟨35, _⟩ => ⟨S160x2x256, .bf16⟩
  | .local _ .vmem, ⟨36, _⟩ => ⟨S160x2x256, .bf16⟩
  | .local _ .vmem, ⟨37, _⟩ => ⟨S160x2x256, .bf16⟩
  | .local _ .vmem, ⟨38, _⟩ => ⟨S160x2x256, .bf16⟩
  | .local _ .vmem, ⟨39, _⟩ => ⟨S160x2x256, .bf16⟩
  | .local _ .vmem, ⟨40, _⟩ => ⟨S160x2x256, .bf16⟩
  | _, _ => ⟨S128x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v24_4 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_scratch8 : Ref sig .tc := ⟨.vmem, 40, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32_13 : BitVec 32 := 0#32
  let c20_i32 : BitVec 32 := 20#32
  let v27 : BitVec 32 := Scalar.addi c0_i32_13 c20_i32
  let c1_i32 : BitVec 32 := 1#32
  ⟨c0_i32_13, v27, c1_i32⟩
def k0_off1 (k0_t1 : Fin k0_t1_loop.trips) (c0_i32_74 : BitVec 32) (c0_i32_76 : BitVec 32) : Fin 3 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let v131 : BitVec 32 := Scalar.addi v129 c0_i32_74
  let v135 : BitVec 32 := Scalar.addi v131 c0_i32_76
  let v136 : Index := Scalar.indexCast v135
  let c0_77 : Index := 0#32
  ![v136.toNat, 0, 0]
def k0_off2 (k0_t1 : Fin k0_t1_loop.trips) : Fin 5 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let v187 : Index := Scalar.indexCast v129
  let c0_97 : Index := 0#32
  let c0_98 : Index := 0#32
  let c0_99 : Index := 0#32
  let c0_100 : Index := 0#32
  ![v187.toNat, 0, 0, 0, 0]
def k0_off3 (k0_t1 : Fin k0_t1_loop.trips) (c0_i32_110 : BitVec 32) (c0_i32_112 : BitVec 32) : Fin 3 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c4_i32 : BitVec 32 := 4#32
  let v130 : BitVec 32 := Scalar.addi v129 c4_i32
  let v248 : BitVec 32 := Scalar.addi v130 c0_i32_110
  let v252 : BitVec 32 := Scalar.addi v248 c0_i32_112
  let v253 : Index := Scalar.indexCast v252
  let c0_113 : Index := 0#32
  ![v253.toNat, 0, 0]
def k0_off4 (k0_t1 : Fin k0_t1_loop.trips) : Fin 5 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c4_i32 : BitVec 32 := 4#32
  let v130 : BitVec 32 := Scalar.addi v129 c4_i32
  let v304 : Index := Scalar.indexCast v130
  let c0_134 : Index := 0#32
  let c0_135 : Index := 0#32
  let c0_136 : Index := 0#32
  let c0_137 : Index := 0#32
  ![v304.toNat, 0, 0, 0, 0]
def k0_off5 (k0_t1 : Fin k0_t1_loop.trips) (c0_i32_148 : BitVec 32) (c0_i32_150 : BitVec 32) : Fin 3 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let v366 : BitVec 32 := Scalar.addi v129 c0_i32_148
  let v370 : BitVec 32 := Scalar.addi v366 c0_i32_150
  let v371 : Index := Scalar.indexCast v370
  let c128 : Index := 128#32
  ![v371.toNat, 0, 128]
def k0_off6 (k0_t1 : Fin k0_t1_loop.trips) : Fin 5 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let v422 : Index := Scalar.indexCast v129
  let c0_171 : Index := 0#32
  let c1_172 : Index := 1#32
  let c0_173 : Index := 0#32
  let c0_174 : Index := 0#32
  ![v422.toNat, 0, 1, 0, 0]
def k0_off7 (k0_t1 : Fin k0_t1_loop.trips) (c0_i32_185 : BitVec 32) (c0_i32_187 : BitVec 32) : Fin 3 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c4_i32 : BitVec 32 := 4#32
  let v130 : BitVec 32 := Scalar.addi v129 c4_i32
  let v483 : BitVec 32 := Scalar.addi v130 c0_i32_185
  let v487 : BitVec 32 := Scalar.addi v483 c0_i32_187
  let v488 : Index := Scalar.indexCast v487
  let c128_188 : Index := 128#32
  ![v488.toNat, 0, 128]
def k0_off8 (k0_t1 : Fin k0_t1_loop.trips) : Fin 5 → Nat :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c4_i32 : BitVec 32 := 4#32
  let v130 : BitVec 32 := Scalar.addi v129 c4_i32
  let v539 : Index := Scalar.indexCast v130
  let c0_209 : Index := 0#32
  let c1_210 : Index := 1#32
  let c0_211 : Index := 0#32
  let c0_212 : Index := 0#32
  ![v539.toNat, 0, 1, 0, 0]
def k0_mult1 (k0_t1 : Fin k0_t1_loop.trips) : BitVec 32 :=
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c32_i32 : BitVec 32 := 32#32
  let v602 : BitVec 32 := Scalar.muli v129 c32_i32
  v602
def k0_off9 (k0_t1 : Fin k0_t1_loop.trips) : Fin 3 → Nat :=
  let c0_223 : Index := 0#32
  let c0_i32_13 : BitVec 32 := 0#32
  let c1_i32 : BitVec 32 := 1#32
  let arg28 : BitVec 32 := Scf.iv c0_i32_13 c1_i32 k0_t1
  let c8_i32 : BitVec 32 := 8#32
  let v129 : BitVec 32 := Scalar.muli arg28 c8_i32
  let c32_i32 : BitVec 32 := 32#32
  let v602 : BitVec 32 := Scalar.muli v129 c32_i32
  let v603 : BitVec 32 := v602
  let v604 : Index := Scalar.indexCast v603
  ![0, 0, v604.toNat]
@[reducible] def k0_t2_loop : Scf.Loop 32 :=
  let c0_i32_24 : BitVec 32 := 0#32
  let c20_i32_25 : BitVec 32 := 20#32
  let v45 : BitVec 32 := Scalar.addi c0_i32_24 c20_i32_25
  let c1_i32_26 : BitVec 32 := 1#32
  ⟨c0_i32_24, v45, c1_i32_26⟩
def k0_off10 (k0_t2 : Fin k0_t2_loop.trips) (c0_i32_74 : BitVec 32) (c0_i32_76 : BitVec 32) : Fin 3 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let v131 : BitVec 32 := Scalar.addi v129 c0_i32_74
  let v135 : BitVec 32 := Scalar.addi v131 c0_i32_76
  let v136 : Index := Scalar.indexCast v135
  let c0_77 : Index := 0#32
  ![v136.toNat, 0, 0]
def k0_off11 (k0_t2 : Fin k0_t2_loop.trips) : Fin 5 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let v187 : Index := Scalar.indexCast v129
  let c0_97 : Index := 0#32
  let c0_98 : Index := 0#32
  let c0_99 : Index := 0#32
  let c0_100 : Index := 0#32
  ![v187.toNat, 0, 0, 0, 0]
def k0_off12 (k0_t2 : Fin k0_t2_loop.trips) (c0_i32_110 : BitVec 32) (c0_i32_112 : BitVec 32) : Fin 3 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c4_i32 : BitVec 32 := 4#32
  let v130 : BitVec 32 := Scalar.addi v129 c4_i32
  let v248 : BitVec 32 := Scalar.addi v130 c0_i32_110
  let v252 : BitVec 32 := Scalar.addi v248 c0_i32_112
  let v253 : Index := Scalar.indexCast v252
  let c0_113 : Index := 0#32
  ![v253.toNat, 0, 0]
def k0_off13 (k0_t2 : Fin k0_t2_loop.trips) : Fin 5 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c4_i32 : BitVec 32 := 4#32
  let v130 : BitVec 32 := Scalar.addi v129 c4_i32
  let v304 : Index := Scalar.indexCast v130
  let c0_134 : Index := 0#32
  let c0_135 : Index := 0#32
  let c0_136 : Index := 0#32
  let c0_137 : Index := 0#32
  ![v304.toNat, 0, 0, 0, 0]
def k0_off14 (k0_t2 : Fin k0_t2_loop.trips) (c0_i32_148 : BitVec 32) (c0_i32_150 : BitVec 32) : Fin 3 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let v366 : BitVec 32 := Scalar.addi v129 c0_i32_148
  let v370 : BitVec 32 := Scalar.addi v366 c0_i32_150
  let v371 : Index := Scalar.indexCast v370
  let c128 : Index := 128#32
  ![v371.toNat, 0, 128]
def k0_off15 (k0_t2 : Fin k0_t2_loop.trips) : Fin 5 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let v422 : Index := Scalar.indexCast v129
  let c0_171 : Index := 0#32
  let c1_172 : Index := 1#32
  let c0_173 : Index := 0#32
  let c0_174 : Index := 0#32
  ![v422.toNat, 0, 1, 0, 0]
def k0_off16 (k0_t2 : Fin k0_t2_loop.trips) (c0_i32_185 : BitVec 32) (c0_i32_187 : BitVec 32) : Fin 3 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c4_i32 : BitVec 32 := 4#32
  let v130 : BitVec 32 := Scalar.addi v129 c4_i32
  let v483 : BitVec 32 := Scalar.addi v130 c0_i32_185
  let v487 : BitVec 32 := Scalar.addi v483 c0_i32_187
  let v488 : Index := Scalar.indexCast v487
  let c128_188 : Index := 128#32
  ![v488.toNat, 0, 128]
def k0_off17 (k0_t2 : Fin k0_t2_loop.trips) : Fin 5 → Nat :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c4_i32 : BitVec 32 := 4#32
  let v130 : BitVec 32 := Scalar.addi v129 c4_i32
  let v539 : Index := Scalar.indexCast v130
  let c0_209 : Index := 0#32
  let c1_210 : Index := 1#32
  let c0_211 : Index := 0#32
  let c0_212 : Index := 0#32
  ![v539.toNat, 0, 1, 0, 0]
def k0_mult2 (k0_t2 : Fin k0_t2_loop.trips) : BitVec 32 :=
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c32_i32 : BitVec 32 := 32#32
  let v602 : BitVec 32 := Scalar.muli v129 c32_i32
  v602
def k0_off18 (k0_t2 : Fin k0_t2_loop.trips) : Fin 3 → Nat :=
  let c0_223 : Index := 0#32
  let c0_i32_24 : BitVec 32 := 0#32
  let c1_i32_26 : BitVec 32 := 1#32
  let arg28 : BitVec 32 := Scf.iv c0_i32_24 c1_i32_26 k0_t2
  let c8_i32 : BitVec 32 := 8#32
  let v129 : BitVec 32 := Scalar.muli arg28 c8_i32
  let c32_i32 : BitVec 32 := 32#32
  let v602 : BitVec 32 := Scalar.muli v129 c32_i32
  let v603 : BitVec 32 := v602
  let v604 : Index := Scalar.indexCast v603
  ![0, 0, v604.toNat]
@[reducible] def k0_t3_loop : Scf.Loop 32 :=
  let c0_i32_37 : BitVec 32 := 0#32
  let c20_i32_38 : BitVec 32 := 20#32
  let v63 : BitVec 32 := Scalar.addi c0_i32_37 c20_i32_38
  let c1_i32_39 : BitVec 32 := 1#32
  ⟨c0_i32_37, v63, c1_i32_39⟩
def k0_off19 (k0_t3 : Fin k0_t3_loop.trips) (c0_i32_74 : BitVec 32) (c0_i32_76 : BitVec 32) : Fin 3 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let v131 : BitVec 32 := Scalar.addi v129 c0_i32_74
  let v135 : BitVec 32 := Scalar.addi v131 c0_i32_76
  let v136 : Index := Scalar.indexCast v135
  let c0_77 : Index := 0#32
  ![v136.toNat, 0, 0]
def k0_off20 (k0_t3 : Fin k0_t3_loop.trips) : Fin 5 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let v187 : Index := Scalar.indexCast v129
  let c0_97 : Index := 0#32
  let c0_98 : Index := 0#32
  let c0_99 : Index := 0#32
  let c0_100 : Index := 0#32
  ![v187.toNat, 0, 0, 0, 0]
def k0_off21 (k0_t3 : Fin k0_t3_loop.trips) (c0_i32_110 : BitVec 32) (c0_i32_112 : BitVec 32) : Fin 3 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c4_i32 : BitVec 32 := 4#32
  let v130 : BitVec 32 := Scalar.addi v129 c4_i32
  let v248 : BitVec 32 := Scalar.addi v130 c0_i32_110
  let v252 : BitVec 32 := Scalar.addi v248 c0_i32_112
  let v253 : Index := Scalar.indexCast v252
  let c0_113 : Index := 0#32
  ![v253.toNat, 0, 0]
def k0_off22 (k0_t3 : Fin k0_t3_loop.trips) : Fin 5 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c4_i32 : BitVec 32 := 4#32
  let v130 : BitVec 32 := Scalar.addi v129 c4_i32
  let v304 : Index := Scalar.indexCast v130
  let c0_134 : Index := 0#32
  let c0_135 : Index := 0#32
  let c0_136 : Index := 0#32
  let c0_137 : Index := 0#32
  ![v304.toNat, 0, 0, 0, 0]
def k0_off23 (k0_t3 : Fin k0_t3_loop.trips) (c0_i32_148 : BitVec 32) (c0_i32_150 : BitVec 32) : Fin 3 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let v366 : BitVec 32 := Scalar.addi v129 c0_i32_148
  let v370 : BitVec 32 := Scalar.addi v366 c0_i32_150
  let v371 : Index := Scalar.indexCast v370
  let c128 : Index := 128#32
  ![v371.toNat, 0, 128]
def k0_off24 (k0_t3 : Fin k0_t3_loop.trips) : Fin 5 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let v422 : Index := Scalar.indexCast v129
  let c0_171 : Index := 0#32
  let c1_172 : Index := 1#32
  let c0_173 : Index := 0#32
  let c0_174 : Index := 0#32
  ![v422.toNat, 0, 1, 0, 0]
def k0_off25 (k0_t3 : Fin k0_t3_loop.trips) (c0_i32_185 : BitVec 32) (c0_i32_187 : BitVec 32) : Fin 3 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c4_i32 : BitVec 32 := 4#32
  let v130 : BitVec 32 := Scalar.addi v129 c4_i32
  let v483 : BitVec 32 := Scalar.addi v130 c0_i32_185
  let v487 : BitVec 32 := Scalar.addi v483 c0_i32_187
  let v488 : Index := Scalar.indexCast v487
  let c128_188 : Index := 128#32
  ![v488.toNat, 0, 128]
def k0_off26 (k0_t3 : Fin k0_t3_loop.trips) : Fin 5 → Nat :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c4_i32 : BitVec 32 := 4#32
  let v130 : BitVec 32 := Scalar.addi v129 c4_i32
  let v539 : Index := Scalar.indexCast v130
  let c0_209 : Index := 0#32
  let c1_210 : Index := 1#32
  let c0_211 : Index := 0#32
  let c0_212 : Index := 0#32
  ![v539.toNat, 0, 1, 0, 0]
def k0_mult3 (k0_t3 : Fin k0_t3_loop.trips) : BitVec 32 :=
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c32_i32 : BitVec 32 := 32#32
  let v602 : BitVec 32 := Scalar.muli v129 c32_i32
  v602
def k0_off27 (k0_t3 : Fin k0_t3_loop.trips) : Fin 3 → Nat :=
  let c0_223 : Index := 0#32
  let c0_i32_37 : BitVec 32 := 0#32
  let c1_i32_39 : BitVec 32 := 1#32
  let arg28 : BitVec 32 := Scf.iv c0_i32_37 c1_i32_39 k0_t3
  let c8_i32 : BitVec 32 := 8#32
  let v129 : BitVec 32 := Scalar.muli arg28 c8_i32
  let c32_i32 : BitVec 32 := 32#32
  let v602 : BitVec 32 := Scalar.muli v129 c32_i32
  let v603 : BitVec 32 := v602
  let v604 : Index := Scalar.indexCast v603
  ![0, 0, v604.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S160x2x2x8x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x2x2x8x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S160x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S160x2x2x8x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S160x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S160x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S128x1x5120 : Shape := ⟨3, ![128, 1, 5120]⟩
abbrev S5120 : Shape := ⟨1, ![5120]⟩
abbrev S1280x160x16 : Shape := ⟨3, ![1280, 160, 16]⟩
abbrev S1280x160 : Shape := ⟨2, ![1280, 160]⟩
abbrev S128 : Shape := ⟨1, ![128]⟩
abbrev S128x5120 : Shape := ⟨2, ![128, 5120]⟩
abbrev S_ : Shape := ⟨0, ![]⟩
abbrev S128x1 : Shape := ⟨2, ![128, 1]⟩
abbrev S1x5120 : Shape := ⟨2, ![1, 5120]⟩
abbrev S128x160x32 : Shape := ⟨3, ![128, 160, 32]⟩
abbrev S128x160x16 : Shape := ⟨3, ![128, 160, 16]⟩
abbrev S1280x160x1 : Shape := ⟨3, ![1280, 160, 1]⟩
abbrev S128x1280 : Shape := ⟨2, ![128, 1280]⟩
abbrev S128x10x128 : Shape := ⟨3, ![128, 10, 128]⟩
abbrev S64 : Shape := ⟨1, ![64]⟩
abbrev S128x1x1 : Shape := ⟨3, ![128, 1, 1]⟩
abbrev S1x1x64 : Shape := ⟨3, ![1, 1, 64]⟩
abbrev S128x1x64 : Shape := ⟨3, ![128, 1, 64]⟩
abbrev S128x10x64 : Shape := ⟨3, ![128, 10, 64]⟩
abbrev S10x128x128 : Shape := ⟨3, ![10, 128, 128]⟩

abbrev nBuf : Space → Nat
  | .hbm => 180
  | .vmem => 0
  | .smem => 0
  | _ => 0

abbrev hbmTy0_0 (i : Nat) : BufTy := match i % 128 with
  | 0 => ⟨S128x1x5120, .bf16⟩
  | 1 => ⟨S5120, .bf16⟩
  | 2 => ⟨S1280x160x16, .i8⟩
  | 3 => ⟨S1280x160, .bf16⟩
  | 4 => ⟨S1280x160, .bf16⟩
  | 5 => ⟨S1280x160x16, .i8⟩
  | 6 => ⟨S1280x160, .bf16⟩
  | 7 => ⟨S1280x160, .bf16⟩
  | 8 => ⟨S1280x160x16, .i8⟩
  | 9 => ⟨S1280x160, .bf16⟩
  | 10 => ⟨S1280x160, .bf16⟩
  | 11 => ⟨S128, .i32⟩
  | 12 => ⟨S128x5120, .bf16⟩
  | 13 => ⟨S128x5120, .f32⟩
  | 14 => ⟨S128x5120, .f32⟩
  | 15 => ⟨S_, .f32⟩
  | 16 => ⟨S128, .f32⟩
  | 17 => ⟨S128x1, .f32⟩
  | 18 => ⟨S_, .f32⟩
  | 19 => ⟨S128x1, .f32⟩
  | 20 => ⟨S128x1, .f32⟩
  | 21 => ⟨S_, .f32⟩
  | 22 => ⟨S128x1, .f32⟩
  | 23 => ⟨S128x1, .f32⟩
  | 24 => ⟨S128x1, .f32⟩
  | 25 => ⟨S128x5120, .f32⟩
  | 26 => ⟨S128x5120, .f32⟩
  | 27 => ⟨S5120, .f32⟩
  | 28 => ⟨S1x5120, .f32⟩
  | 29 => ⟨S128x5120, .f32⟩
  | 30 => ⟨S128x5120, .f32⟩
  | 31 => ⟨S128x5120, .bf16⟩
  | 32 => ⟨S128x160x32, .bf16⟩
  | 33 => ⟨S128x160x16, .bf16⟩
  | 34 => ⟨S128x160x16, .bf16⟩
  | 35 => ⟨S1280x160x1, .bf16⟩
  | 36 => ⟨S1280x160x1, .bf16⟩
  | 37 => ⟨S1280x160x16, .i32⟩
  | 38 => ⟨S_, .i32⟩
  | 39 => ⟨S1280x160x16, .i32⟩
  | 40 => ⟨S1280x160x16, .i32⟩
  | 41 => ⟨S1280x160x16, .bf16⟩
  | 42 => ⟨S1280x160x16, .bf16⟩
  | 43 => ⟨S1280x160x16, .bf16⟩
  | 44 => ⟨S1280x160x16, .bf16⟩
  | 45 => ⟨S1280x160x16, .bf16⟩
  | 46 => ⟨S1280x160x16, .i32⟩
  | 47 => ⟨S_, .i32⟩
  | 48 => ⟨S1280x160x16, .i32⟩
  | 49 => ⟨S1280x160x16, .i32⟩
  | 50 => ⟨S1280x160x16, .bf16⟩
  | 51 => ⟨S1280x160x16, .bf16⟩
  | 52 => ⟨S1280x160x16, .bf16⟩
  | 53 => ⟨S1280x160x16, .bf16⟩
  | 54 => ⟨S1280x160x16, .bf16⟩
  | 55 => ⟨S128x1280, .f32⟩
  | 56 => ⟨S128x1280, .f32⟩
  | 57 => ⟨S128x1280, .f32⟩
  | 58 => ⟨S128x10x128, .f32⟩
  | 59 => ⟨S128x160x32, .bf16⟩
  | 60 => ⟨S128x160x16, .bf16⟩
  | 61 => ⟨S128x160x16, .bf16⟩
  | 62 => ⟨S1280x160x1, .bf16⟩
  | 63 => ⟨S1280x160x1, .bf16⟩
  | 64 => ⟨S1280x160x16, .i32⟩
  | 65 => ⟨S_, .i32⟩
  | 66 => ⟨S1280x160x16, .i32⟩
  | 67 => ⟨S1280x160x16, .i32⟩
  | 68 => ⟨S1280x160x16, .bf16⟩
  | 69 => ⟨S1280x160x16, .bf16⟩
  | 70 => ⟨S1280x160x16, .bf16⟩
  | 71 => ⟨S1280x160x16, .bf16⟩
  | 72 => ⟨S1280x160x16, .bf16⟩
  | 73 => ⟨S1280x160x16, .i32⟩
  | 74 => ⟨S_, .i32⟩
  | 75 => ⟨S1280x160x16, .i32⟩
  | 76 => ⟨S1280x160x16, .i32⟩
  | 77 => ⟨S1280x160x16, .bf16⟩
  | 78 => ⟨S1280x160x16, .bf16⟩
  | 79 => ⟨S1280x160x16, .bf16⟩
  | 80 => ⟨S1280x160x16, .bf16⟩
  | 81 => ⟨S1280x160x16, .bf16⟩
  | 82 => ⟨S128x1280, .f32⟩
  | 83 => ⟨S128x1280, .f32⟩
  | 84 => ⟨S128x1280, .f32⟩
  | 85 => ⟨S128x10x128, .f32⟩
  | 86 => ⟨S128x160x32, .bf16⟩
  | 87 => ⟨S128x160x16, .bf16⟩
  | 88 => ⟨S128x160x16, .bf16⟩
  | 89 => ⟨S1280x160x1, .bf16⟩
  | 90 => ⟨S1280x160x1, .bf16⟩
  | 91 => ⟨S1280x160x16, .i32⟩
  | 92 => ⟨S_, .i32⟩
  | 93 => ⟨S1280x160x16, .i32⟩
  | 94 => ⟨S1280x160x16, .i32⟩
  | 95 => ⟨S1280x160x16, .bf16⟩
  | 96 => ⟨S1280x160x16, .bf16⟩
  | 97 => ⟨S1280x160x16, .bf16⟩
  | 98 => ⟨S1280x160x16, .bf16⟩
  | 99 => ⟨S1280x160x16, .bf16⟩
  | 100 => ⟨S1280x160x16, .i32⟩
  | 101 => ⟨S_, .i32⟩
  | 102 => ⟨S1280x160x16, .i32⟩
  | 103 => ⟨S1280x160x16, .i32⟩
  | 104 => ⟨S1280x160x16, .bf16⟩
  | 105 => ⟨S1280x160x16, .bf16⟩
  | 106 => ⟨S1280x160x16, .bf16⟩
  | 107 => ⟨S1280x160x16, .bf16⟩
  | 108 => ⟨S1280x160x16, .bf16⟩
  | 109 => ⟨S128x1280, .f32⟩
  | 110 => ⟨S128x1280, .f32⟩
  | 111 => ⟨S128x1280, .f32⟩
  | 112 => ⟨S128x10x128, .f32⟩
  | 113 => ⟨S64, .f32⟩
  | 114 => ⟨S_, .f32⟩
  | 115 => ⟨S64, .f32⟩
  | 116 => ⟨S64, .f32⟩
  | 117 => ⟨S64, .f32⟩
  | 118 => ⟨S_, .f32⟩
  | 119 => ⟨S64, .f32⟩
  | 120 => ⟨S64, .f32⟩
  | 121 => ⟨S128, .f32⟩
  | 122 => ⟨S128x1x1, .f32⟩
  | 123 => ⟨S1x1x64, .f32⟩
  | 124 => ⟨S128x1x64, .f32⟩
  | 125 => ⟨S128x1x64, .f32⟩
  | 126 => ⟨S128x1x64, .f32⟩
  | 127 => ⟨S128x1x64, .f32⟩
  | _ => ⟨S128x1x5120, .bf16⟩

abbrev hbmTy0_1 (i : Nat) : BufTy := match i % 128 with
  | 0 => ⟨S128x1x64, .f32⟩
  | 1 => ⟨S128x10x64, .f32⟩
  | 2 => ⟨S128x10x64, .f32⟩
  | 3 => ⟨S128x10x64, .f32⟩
  | 4 => ⟨S128x10x64, .f32⟩
  | 5 => ⟨S128x10x64, .f32⟩
  | 6 => ⟨S128x10x64, .f32⟩
  | 7 => ⟨S128x10x64, .f32⟩
  | 8 => ⟨S128x10x64, .f32⟩
  | 9 => ⟨S128x10x64, .f32⟩
  | 10 => ⟨S128x10x64, .f32⟩
  | 11 => ⟨S128x10x64, .f32⟩
  | 12 => ⟨S128x10x64, .f32⟩
  | 13 => ⟨S128x10x128, .f32⟩
  | 14 => ⟨S128x10x128, .bf16⟩
  | 15 => ⟨S10x128x128, .bf16⟩
  | 16 => ⟨S64, .f32⟩
  | 17 => ⟨S_, .f32⟩
  | 18 => ⟨S64, .f32⟩
  | 19 => ⟨S64, .f32⟩
  | 20 => ⟨S64, .f32⟩
  | 21 => ⟨S_, .f32⟩
  | 22 => ⟨S64, .f32⟩
  | 23 => ⟨S64, .f32⟩
  | 24 => ⟨S128, .f32⟩
  | 25 => ⟨S128x1x1, .f32⟩
  | 26 => ⟨S1x1x64, .f32⟩
  | 27 => ⟨S128x1x64, .f32⟩
  | 28 => ⟨S128x1x64, .f32⟩
  | 29 => ⟨S128x1x64, .f32⟩
  | 30 => ⟨S128x1x64, .f32⟩
  | 31 => ⟨S128x1x64, .f32⟩
  | 32 => ⟨S128x10x64, .f32⟩
  | 33 => ⟨S128x10x64, .f32⟩
  | 34 => ⟨S128x10x64, .f32⟩
  | 35 => ⟨S128x10x64, .f32⟩
  | 36 => ⟨S128x10x64, .f32⟩
  | 37 => ⟨S128x10x64, .f32⟩
  | 38 => ⟨S128x10x64, .f32⟩
  | 39 => ⟨S128x10x64, .f32⟩
  | 40 => ⟨S128x10x64, .f32⟩
  | 41 => ⟨S128x10x64, .f32⟩
  | 42 => ⟨S128x10x64, .f32⟩
  | 43 => ⟨S128x10x64, .f32⟩
  | 44 => ⟨S128x10x128, .f32⟩
  | 45 => ⟨S128x10x128, .bf16⟩
  | 46 => ⟨S10x128x128, .bf16⟩
  | 47 => ⟨S128x10x128, .bf16⟩
  | 48 => ⟨S10x128x128, .bf16⟩
  | 49 => ⟨S10x128x128, .f32⟩
  | 50 => ⟨S10x128x128, .f32⟩
  | 51 => ⟨S10x128x128, .f32⟩
  | _ => ⟨S128x1x5120, .bf16⟩

abbrev hbmTy (i : Nat) : BufTy := match i / 128 with
  | 0 => hbmTy0_0 i
  | 1 => hbmTy0_1 i
  | _ => ⟨S128x1x5120, .bf16⟩

abbrev bufTy : (tb : Table) → Fin (tcTables nBuf tb) → BufTy
  | .hbm, ⟨i, _⟩ => hbmTy i
  | _, _ => ⟨S128x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_3 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_4 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_c_5 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_6 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_7 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_8 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_cst_9 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_cst_10 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩

abbrev nD : Nat := 1
abbrev τ : Topo := Topo.v7x

variable {F : FTy → Type} [FloatOps F]
-- ==== KernelUp.lean ====
abbrev S128x5120 : Shape := ⟨2, ![128, 5120]⟩
abbrev S5120 : Shape := ⟨1, ![5120]⟩
abbrev S3456x160x16 : Shape := ⟨3, ![3456, 160, 16]⟩
abbrev S3456x160 : Shape := ⟨2, ![3456, 160]⟩
abbrev S160x16x3456 : Shape := ⟨3, ![160, 16, 3456]⟩
abbrev S160x2x8x27x128 : Shape := ⟨5, ![160, 2, 8, 27, 128]⟩
abbrev S160x2x27x8x128 : Shape := ⟨5, ![160, 2, 27, 8, 128]⟩
abbrev S160x3456 : Shape := ⟨2, ![160, 3456]⟩
abbrev S128x3456 : Shape := ⟨2, ![128, 3456]⟩
abbrev S160x2x3x8x128 : Shape := ⟨5, ![160, 2, 3, 8, 128]⟩
abbrev S160x384 : Shape := ⟨2, ![160, 384]⟩
abbrev S128x384 : Shape := ⟨2, ![128, 384]⟩
abbrev S64x5120 : Shape := ⟨2, ![64, 5120]⟩
abbrev S128 : Shape := ⟨1, ![128]⟩
abbrev S128x1 : Shape := ⟨2, ![128, 1]⟩
abbrev S1x5120 : Shape := ⟨2, ![1, 5120]⟩
abbrev S128x128 : Shape := ⟨2, ![128, 128]⟩
abbrev S128x128x1 : Shape := ⟨3, ![128, 128, 1]⟩
abbrev S128x256 : Shape := ⟨2, ![128, 256]⟩
abbrev S8x128 : Shape := ⟨2, ![8, 128]⟩
abbrev S1x128 : Shape := ⟨2, ![1, 128]⟩
abbrev S16x128 : Shape := ⟨2, ![16, 128]⟩
abbrev S4x2x1x8x128 : Shape := ⟨5, ![4, 2, 1, 8, 128]⟩
abbrev S4x2x8x128 : Shape := ⟨4, ![4, 2, 8, 128]⟩
abbrev S64x128 : Shape := ⟨2, ![64, 128]⟩
abbrev S8x2x128 : Shape := ⟨3, ![8, 2, 128]⟩
abbrev S8x1x128 : Shape := ⟨3, ![8, 1, 128]⟩
abbrev S32x128 : Shape := ⟨2, ![32, 128]⟩
abbrev S256x128 : Shape := ⟨2, ![256, 128]⟩
abbrev S256x256 : Shape := ⟨2, ![256, 256]⟩
abbrev S64x256 : Shape := ⟨2, ![64, 256]⟩

abbrev nBuf : Space → Nat
  | .hbm => 19
  | .vmem => 21
  | .smem => 0
  | _ => 0

abbrev bufTy : (tb : Table) → Fin (tcTables nBuf tb) → BufTy
  | .hbm, ⟨0, _⟩ => ⟨S128x5120, .f32⟩
  | .hbm, ⟨1, _⟩ => ⟨S5120, .bf16⟩
  | .hbm, ⟨2, _⟩ => ⟨S3456x160x16, .i8⟩
  | .hbm, ⟨3, _⟩ => ⟨S3456x160, .bf16⟩
  | .hbm, ⟨4, _⟩ => ⟨S3456x160, .bf16⟩
  | .hbm, ⟨5, _⟩ => ⟨S3456x160x16, .i8⟩
  | .hbm, ⟨6, _⟩ => ⟨S3456x160, .bf16⟩
  | .hbm, ⟨7, _⟩ => ⟨S3456x160, .bf16⟩
  | .hbm, ⟨8, _⟩ => ⟨S160x16x3456, .i8⟩
  | .hbm, ⟨9, _⟩ => ⟨S160x2x8x27x128, .i8⟩
  | .hbm, ⟨10, _⟩ => ⟨S160x2x27x8x128, .i8⟩
  | .hbm, ⟨11, _⟩ => ⟨S160x3456, .bf16⟩
  | .hbm, ⟨12, _⟩ => ⟨S160x3456, .bf16⟩
  | .hbm, ⟨13, _⟩ => ⟨S160x16x3456, .i8⟩
  | .hbm, ⟨14, _⟩ => ⟨S160x2x8x27x128, .i8⟩
  | .hbm, ⟨15, _⟩ => ⟨S160x2x27x8x128, .i8⟩
  | .hbm, ⟨16, _⟩ => ⟨S160x3456, .bf16⟩
  | .hbm, ⟨17, _⟩ => ⟨S160x3456, .bf16⟩
  | .hbm, ⟨18, _⟩ => ⟨S128x3456, .bf16⟩
  | .local _ .vmem, ⟨0, _⟩ => ⟨S128x5120, .f32⟩
  | .local _ .vmem, ⟨1, _⟩ => ⟨S5120, .bf16⟩
  | .local _ .vmem, ⟨2, _⟩ => ⟨S160x2x3x8x128, .i8⟩
  | .local _ .vmem, ⟨3, _⟩ => ⟨S160x2x3x8x128, .i8⟩
  | .local _ .vmem, ⟨4, _⟩ => ⟨S160x384, .bf16⟩
  | .local _ .vmem, ⟨5, _⟩ => ⟨S160x384, .bf16⟩
  | .local _ .vmem, ⟨6, _⟩ => ⟨S160x384, .bf16⟩
  | .local _ .vmem, ⟨7, _⟩ => ⟨S160x384, .bf16⟩
  | .local _ .vmem, ⟨8, _⟩ => ⟨S160x2x3x8x128, .i8⟩
  | .local _ .vmem, ⟨9, _⟩ => ⟨S160x2x3x8x128, .i8⟩
  | .local _ .vmem, ⟨10, _⟩ => ⟨S160x384, .bf16⟩
  | .local _ .vmem, ⟨11, _⟩ => ⟨S160x384, .bf16⟩
  | .local _ .vmem, ⟨12, _⟩ => ⟨S160x384, .bf16⟩
  | .local _ .vmem, ⟨13, _⟩ => ⟨S160x384, .bf16⟩
  | .local _ .vmem, ⟨14, _⟩ => ⟨S128x384, .bf16⟩
  | .local _ .vmem, ⟨15, _⟩ => ⟨S128x384, .bf16⟩
  | .local _ .vmem, ⟨16, _⟩ => ⟨S64x5120, .i32⟩
  | .local _ .vmem, ⟨17, _⟩ => ⟨S160x384, .i32⟩
  | .local _ .vmem, ⟨18, _⟩ => ⟨S160x384, .i32⟩
  | .local _ .vmem, ⟨19, _⟩ => ⟨S160x384, .i32⟩
  | .local _ .vmem, ⟨20, _⟩ => ⟨S160x384, .i32⟩
  | _, _ => ⟨S128x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨1, ![9], ![false]⟩

@[reducible] def k0_t1_loop : Scf.Loop 32 :=
  let c0_i32_16 : BitVec 32 := 0#32
  let c20_i32 : BitVec 32 := 20#32
  let v33 : BitVec 32 := Scalar.addi c0_i32_16 c20_i32
  let c1_i32 : BitVec 32 := 1#32
  ⟨c0_i32_16, v33, c1_i32⟩
def k0_off1 (k0_t1 : Fin k0_t1_loop.trips) (c0_i32_81 : BitVec 32) (c0_i32_83 : BitVec 32) : Fin 2 → Nat :=
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let v204 : BitVec 32 := Scalar.addi v202 c0_i32_81
  let v208 : BitVec 32 := Scalar.addi v204 c0_i32_83
  let v209 : Index := Scalar.indexCast v208
  let c0_84 : Index := 0#32
  ![v209.toNat, 0]
def k0_off2 (k0_t1 : Fin k0_t1_loop.trips) : Fin 5 → Nat :=
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let v260 : Index := Scalar.indexCast v202
  let c0_105 : Index := 0#32
  let c0_106 : Index := 0#32
  let c0_107 : Index := 0#32
  let c0_108 : Index := 0#32
  ![v260.toNat, 0, 0, 0, 0]
def k0_off3 (k0_t1 : Fin k0_t1_loop.trips) (c0_i32_118 : BitVec 32) (c0_i32_120 : BitVec 32) : Fin 2 → Nat :=
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let c4_i32_80 : BitVec 32 := 4#32
  let v203 : BitVec 32 := Scalar.addi v202 c4_i32_80
  let v321 : BitVec 32 := Scalar.addi v203 c0_i32_118
  let v325 : BitVec 32 := Scalar.addi v321 c0_i32_120
  let v326 : Index := Scalar.indexCast v325
  let c0_121 : Index := 0#32
  ![v326.toNat, 0]
def k0_off4 (k0_t1 : Fin k0_t1_loop.trips) : Fin 5 → Nat :=
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let c4_i32_80 : BitVec 32 := 4#32
  let v203 : BitVec 32 := Scalar.addi v202 c4_i32_80
  let v377 : Index := Scalar.indexCast v203
  let c0_142 : Index := 0#32
  let c0_143 : Index := 0#32
  let c0_144 : Index := 0#32
  let c0_145 : Index := 0#32
  ![v377.toNat, 0, 0, 0, 0]
def k0_mult1 (k0_t1 : Fin k0_t1_loop.trips) : BitVec 32 :=
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let c32_i32 : BitVec 32 := 32#32
  let v675 : BitVec 32 := Scalar.muli v202 c32_i32
  v675
def k0_off5 (k0_t1 : Fin k0_t1_loop.trips) : Fin 2 → Nat :=
  let c0_232 : Index := 0#32
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let c32_i32 : BitVec 32 := 32#32
  let v675 : BitVec 32 := Scalar.muli v202 c32_i32
  let v676 : BitVec 32 := v675
  let v677 : Index := Scalar.indexCast v676
  ![0, v677.toNat]
@[reducible] def k0_t2_loop : Scf.Loop 32 :=
  let c0_i32_33 : BitVec 32 := 0#32
  let c20_i32_34 : BitVec 32 := 20#32
  let v90 : BitVec 32 := Scalar.addi c0_i32_33 c20_i32_34
  let c1_i32_35 : BitVec 32 := 1#32
  ⟨c0_i32_33, v90, c1_i32_35⟩
def k0_off6 (k0_t2 : Fin k0_t2_loop.trips) (c0_i32_81 : BitVec 32) (c0_i32_83 : BitVec 32) : Fin 2 → Nat :=
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let v204 : BitVec 32 := Scalar.addi v202 c0_i32_81
  let v208 : BitVec 32 := Scalar.addi v204 c0_i32_83
  let v209 : Index := Scalar.indexCast v208
  let c128_84 : Index := 128#32
  ![v209.toNat, 128]
def k0_off7 (k0_t2 : Fin k0_t2_loop.trips) : Fin 5 → Nat :=
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let v260 : Index := Scalar.indexCast v202
  let c0_105 : Index := 0#32
  let c1 : Index := 1#32
  let c0_106 : Index := 0#32
  let c0_107 : Index := 0#32
  ![v260.toNat, 0, 1, 0, 0]
def k0_off8 (k0_t2 : Fin k0_t2_loop.trips) (c0_i32_117 : BitVec 32) (c0_i32_119 : BitVec 32) : Fin 2 → Nat :=
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let c4_i32_80 : BitVec 32 := 4#32
  let v203 : BitVec 32 := Scalar.addi v202 c4_i32_80
  let v321 : BitVec 32 := Scalar.addi v203 c0_i32_117
  let v325 : BitVec 32 := Scalar.addi v321 c0_i32_119
  let v326 : Index := Scalar.indexCast v325
  let c128_120 : Index := 128#32
  ![v326.toNat, 128]
def k0_off9 (k0_t2 : Fin k0_t2_loop.trips) : Fin 5 → Nat :=
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let c4_i32_80 : BitVec 32 := 4#32
  let v203 : BitVec 32 := Scalar.addi v202 c4_i32_80
  let v377 : Index := Scalar.indexCast v203
  let c0_141 : Index := 0#32
  let c1_142 : Index := 1#32
  let c0_143 : Index := 0#32
  let c0_144 : Index := 0#32
  ![v377.toNat, 0, 1, 0, 0]
def k0_mult2 (k0_t2 : Fin k0_t2_loop.trips) : BitVec 32 :=
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let c32_i32 : BitVec 32 := 32#32
  let v675 : BitVec 32 := Scalar.muli v202 c32_i32
  v675
def k0_off10 (k0_t2 : Fin k0_t2_loop.trips) : Fin 2 → Nat :=
  let c0_231 : Index := 0#32
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let c32_i32 : BitVec 32 := 32#32
  let v675 : BitVec 32 := Scalar.muli v202 c32_i32
  let v676 : BitVec 32 := v675
  let v677 : Index := Scalar.indexCast v676
  ![0, v677.toNat]
@[reducible] def k0_t3_loop : Scf.Loop 32 :=
  let c0_i32_57 : BitVec 32 := 0#32
  let c20_i32_58 : BitVec 32 := 20#32
  let v147 : BitVec 32 := Scalar.addi c0_i32_57 c20_i32_58
  let c1_i32_59 : BitVec 32 := 1#32
  ⟨c0_i32_57, v147, c1_i32_59⟩
def k0_off11 (k0_t3 : Fin k0_t3_loop.trips) (c0_i32_81 : BitVec 32) (c0_i32_83 : BitVec 32) : Fin 2 → Nat :=
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let v204 : BitVec 32 := Scalar.addi v202 c0_i32_81
  let v208 : BitVec 32 := Scalar.addi v204 c0_i32_83
  let v209 : Index := Scalar.indexCast v208
  let c256_84 : Index := 256#32
  ![v209.toNat, 256]
def k0_off12 (k0_t3 : Fin k0_t3_loop.trips) : Fin 5 → Nat :=
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let v260 : Index := Scalar.indexCast v202
  let c0_105 : Index := 0#32
  let c2 : Index := 2#32
  let c0_106 : Index := 0#32
  let c0_107 : Index := 0#32
  ![v260.toNat, 0, 2, 0, 0]
def k0_off13 (k0_t3 : Fin k0_t3_loop.trips) (c0_i32_117 : BitVec 32) (c0_i32_119 : BitVec 32) : Fin 2 → Nat :=
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let c4_i32_80 : BitVec 32 := 4#32
  let v203 : BitVec 32 := Scalar.addi v202 c4_i32_80
  let v321 : BitVec 32 := Scalar.addi v203 c0_i32_117
  let v325 : BitVec 32 := Scalar.addi v321 c0_i32_119
  let v326 : Index := Scalar.indexCast v325
  let c256_120 : Index := 256#32
  ![v326.toNat, 256]
def k0_off14 (k0_t3 : Fin k0_t3_loop.trips) : Fin 5 → Nat :=
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let c4_i32_80 : BitVec 32 := 4#32
  let v203 : BitVec 32 := Scalar.addi v202 c4_i32_80
  let v377 : Index := Scalar.indexCast v203
  let c0_141 : Index := 0#32
  let c2_142 : Index := 2#32
  let c0_143 : Index := 0#32
  let c0_144 : Index := 0#32
  ![v377.toNat, 0, 2, 0, 0]
def k0_mult3 (k0_t3 : Fin k0_t3_loop.trips) : BitVec 32 :=
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let c32_i32 : BitVec 32 := 32#32
  let v675 : BitVec 32 := Scalar.muli v202 c32_i32
  v675
def k0_off15 (k0_t3 : Fin k0_t3_loop.trips) : Fin 2 → Nat :=
  let c0_231 : Index := 0#32
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let c32_i32 : BitVec 32 := 32#32
  let v675 : BitVec 32 := Scalar.muli v202 c32_i32
  let v676 : BitVec 32 := v675
  let v677 : Index := Scalar.indexCast v676
  ![0, v677.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S160x2x3x8x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x2x3x8x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelUpIdeal.lean ====
abbrev S128x5120 : Shape := ⟨2, ![128, 5120]⟩
abbrev S5120 : Shape := ⟨1, ![5120]⟩
abbrev S3456x160x16 : Shape := ⟨3, ![3456, 160, 16]⟩
abbrev S3456x160 : Shape := ⟨2, ![3456, 160]⟩
abbrev S160x16x3456 : Shape := ⟨3, ![160, 16, 3456]⟩
abbrev S160x2x8x27x128 : Shape := ⟨5, ![160, 2, 8, 27, 128]⟩
abbrev S160x2x27x8x128 : Shape := ⟨5, ![160, 2, 27, 8, 128]⟩
abbrev S160x3456 : Shape := ⟨2, ![160, 3456]⟩
abbrev S128x3456 : Shape := ⟨2, ![128, 3456]⟩
abbrev S160x2x3x8x128 : Shape := ⟨5, ![160, 2, 3, 8, 128]⟩
abbrev S160x384 : Shape := ⟨2, ![160, 384]⟩
abbrev S128x384 : Shape := ⟨2, ![128, 384]⟩
abbrev S64x5120 : Shape := ⟨2, ![64, 5120]⟩
abbrev S64x2x5120 : Shape := ⟨3, ![64, 2, 5120]⟩
abbrev S64x1x5120 : Shape := ⟨3, ![64, 1, 5120]⟩
abbrev S160x2x384 : Shape := ⟨3, ![160, 2, 384]⟩
abbrev S160x1x384 : Shape := ⟨3, ![160, 1, 384]⟩
abbrev S128 : Shape := ⟨1, ![128]⟩
abbrev S128x1 : Shape := ⟨2, ![128, 1]⟩
abbrev S1x5120 : Shape := ⟨2, ![1, 5120]⟩
abbrev S128x128 : Shape := ⟨2, ![128, 128]⟩
abbrev S128x128x1 : Shape := ⟨3, ![128, 128, 1]⟩
abbrev S128x256 : Shape := ⟨2, ![128, 256]⟩
abbrev S8x128 : Shape := ⟨2, ![8, 128]⟩
abbrev S1x128 : Shape := ⟨2, ![1, 128]⟩
abbrev S1x2x128 : Shape := ⟨3, ![1, 2, 128]⟩
abbrev S1x1x128 : Shape := ⟨3, ![1, 1, 128]⟩
abbrev S16x128 : Shape := ⟨2, ![16, 128]⟩
abbrev S4x2x1x8x128 : Shape := ⟨5, ![4, 2, 1, 8, 128]⟩
abbrev S4x2x8x128 : Shape := ⟨4, ![4, 2, 8, 128]⟩
abbrev S64x128 : Shape := ⟨2, ![64, 128]⟩
abbrev S8x2x128 : Shape := ⟨3, ![8, 2, 128]⟩
abbrev S8x1x128 : Shape := ⟨3, ![8, 1, 128]⟩
abbrev S32x128 : Shape := ⟨2, ![32, 128]⟩
abbrev S256x128 : Shape := ⟨2, ![256, 128]⟩
abbrev S256x256 : Shape := ⟨2, ![256, 256]⟩
abbrev S64x256 : Shape := ⟨2, ![64, 256]⟩
abbrev S64x2x256 : Shape := ⟨3, ![64, 2, 256]⟩
abbrev S64x1x256 : Shape := ⟨3, ![64, 1, 256]⟩

abbrev nBuf : Space → Nat
  | .hbm => 19
  | .vmem => 21
  | .smem => 0
  | _ => 0

abbrev bufTy : (tb : Table) → Fin (tcTables nBuf tb) → BufTy
  | .hbm, ⟨0, _⟩ => ⟨S128x5120, .f32⟩
  | .hbm, ⟨1, _⟩ => ⟨S5120, .bf16⟩
  | .hbm, ⟨2, _⟩ => ⟨S3456x160x16, .i8⟩
  | .hbm, ⟨3, _⟩ => ⟨S3456x160, .bf16⟩
  | .hbm, ⟨4, _⟩ => ⟨S3456x160, .bf16⟩
  | .hbm, ⟨5, _⟩ => ⟨S3456x160x16, .i8⟩
  | .hbm, ⟨6, _⟩ => ⟨S3456x160, .bf16⟩
  | .hbm, ⟨7, _⟩ => ⟨S3456x160, .bf16⟩
  | .hbm, ⟨8, _⟩ => ⟨S160x16x3456, .i8⟩
  | .hbm, ⟨9, _⟩ => ⟨S160x2x8x27x128, .i8⟩
  | .hbm, ⟨10, _⟩ => ⟨S160x2x27x8x128, .i8⟩
  | .hbm, ⟨11, _⟩ => ⟨S160x3456, .bf16⟩
  | .hbm, ⟨12, _⟩ => ⟨S160x3456, .bf16⟩
  | .hbm, ⟨13, _⟩ => ⟨S160x16x3456, .i8⟩
  | .hbm, ⟨14, _⟩ => ⟨S160x2x8x27x128, .i8⟩
  | .hbm, ⟨15, _⟩ => ⟨S160x2x27x8x128, .i8⟩
  | .hbm, ⟨16, _⟩ => ⟨S160x3456, .bf16⟩
  | .hbm, ⟨17, _⟩ => ⟨S160x3456, .bf16⟩
  | .hbm, ⟨18, _⟩ => ⟨S128x3456, .bf16⟩
  | .local _ .vmem, ⟨0, _⟩ => ⟨S128x5120, .f32⟩
  | .local _ .vmem, ⟨1, _⟩ => ⟨S5120, .bf16⟩
  | .local _ .vmem, ⟨2, _⟩ => ⟨S160x2x3x8x128, .i8⟩
  | .local _ .vmem, ⟨3, _⟩ => ⟨S160x2x3x8x128, .i8⟩
  | .local _ .vmem, ⟨4, _⟩ => ⟨S160x384, .bf16⟩
  | .local _ .vmem, ⟨5, _⟩ => ⟨S160x384, .bf16⟩
  | .local _ .vmem, ⟨6, _⟩ => ⟨S160x384, .bf16⟩
  | .local _ .vmem, ⟨7, _⟩ => ⟨S160x384, .bf16⟩
  | .local _ .vmem, ⟨8, _⟩ => ⟨S160x2x3x8x128, .i8⟩
  | .local _ .vmem, ⟨9, _⟩ => ⟨S160x2x3x8x128, .i8⟩
  | .local _ .vmem, ⟨10, _⟩ => ⟨S160x384, .bf16⟩
  | .local _ .vmem, ⟨11, _⟩ => ⟨S160x384, .bf16⟩
  | .local _ .vmem, ⟨12, _⟩ => ⟨S160x384, .bf16⟩
  | .local _ .vmem, ⟨13, _⟩ => ⟨S160x384, .bf16⟩
  | .local _ .vmem, ⟨14, _⟩ => ⟨S128x384, .bf16⟩
  | .local _ .vmem, ⟨15, _⟩ => ⟨S128x384, .bf16⟩
  | .local _ .vmem, ⟨16, _⟩ => ⟨S64x2x5120, .bf16⟩
  | .local _ .vmem, ⟨17, _⟩ => ⟨S160x2x384, .bf16⟩
  | .local _ .vmem, ⟨18, _⟩ => ⟨S160x2x384, .bf16⟩
  | .local _ .vmem, ⟨19, _⟩ => ⟨S160x2x384, .bf16⟩
  | .local _ .vmem, ⟨20, _⟩ => ⟨S160x2x384, .bf16⟩
  | _, _ => ⟨S128x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![9], ![false]⟩

@[reducible] def k0_t1_loop : Scf.Loop 32 :=
  let c0_i32_16 : BitVec 32 := 0#32
  let c20_i32 : BitVec 32 := 20#32
  let v33 : BitVec 32 := Scalar.addi c0_i32_16 c20_i32
  let c1_i32 : BitVec 32 := 1#32
  ⟨c0_i32_16, v33, c1_i32⟩
def k0_off1 (k0_t1 : Fin k0_t1_loop.trips) (c0_i32_81 : BitVec 32) (c0_i32_83 : BitVec 32) : Fin 3 → Nat :=
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let v204 : BitVec 32 := Scalar.addi v202 c0_i32_81
  let v208 : BitVec 32 := Scalar.addi v204 c0_i32_83
  let v209 : Index := Scalar.indexCast v208
  let c0_84 : Index := 0#32
  ![v209.toNat, 0, 0]
def k0_off2 (k0_t1 : Fin k0_t1_loop.trips) : Fin 5 → Nat :=
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let v260 : Index := Scalar.indexCast v202
  let c0_105 : Index := 0#32
  let c0_106 : Index := 0#32
  let c0_107 : Index := 0#32
  let c0_108 : Index := 0#32
  ![v260.toNat, 0, 0, 0, 0]
def k0_off3 (k0_t1 : Fin k0_t1_loop.trips) (c0_i32_118 : BitVec 32) (c0_i32_120 : BitVec 32) : Fin 3 → Nat :=
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let c4_i32_80 : BitVec 32 := 4#32
  let v203 : BitVec 32 := Scalar.addi v202 c4_i32_80
  let v321 : BitVec 32 := Scalar.addi v203 c0_i32_118
  let v325 : BitVec 32 := Scalar.addi v321 c0_i32_120
  let v326 : Index := Scalar.indexCast v325
  let c0_121 : Index := 0#32
  ![v326.toNat, 0, 0]
def k0_off4 (k0_t1 : Fin k0_t1_loop.trips) : Fin 5 → Nat :=
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let c4_i32_80 : BitVec 32 := 4#32
  let v203 : BitVec 32 := Scalar.addi v202 c4_i32_80
  let v377 : Index := Scalar.indexCast v203
  let c0_142 : Index := 0#32
  let c0_143 : Index := 0#32
  let c0_144 : Index := 0#32
  let c0_145 : Index := 0#32
  ![v377.toNat, 0, 0, 0, 0]
def k0_mult1 (k0_t1 : Fin k0_t1_loop.trips) : BitVec 32 :=
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let c32_i32 : BitVec 32 := 32#32
  let v675 : BitVec 32 := Scalar.muli v202 c32_i32
  v675
def k0_off5 (k0_t1 : Fin k0_t1_loop.trips) : Fin 3 → Nat :=
  let c0_232 : Index := 0#32
  let c0_i32_16 : BitVec 32 := 0#32
  let c1_i32 : BitVec 32 := 1#32
  let arg15 : BitVec 32 := Scf.iv c0_i32_16 c1_i32 k0_t1
  let c8_i32 : BitVec 32 := 8#32
  let v202 : BitVec 32 := Scalar.muli arg15 c8_i32
  let c32_i32 : BitVec 32 := 32#32
  let v675 : BitVec 32 := Scalar.muli v202 c32_i32
  let v676 : BitVec 32 := v675
  let v677 : Index := Scalar.indexCast v676
  ![0, 0, v677.toNat]
@[reducible] def k0_t2_loop : Scf.Loop 32 :=
  let c0_i32_33 : BitVec 32 := 0#32
  let c20_i32_34 : BitVec 32 := 20#32
  let v90 : BitVec 32 := Scalar.addi c0_i32_33 c20_i32_34
  let c1_i32_35 : BitVec 32 := 1#32
  ⟨c0_i32_33, v90, c1_i32_35⟩
def k0_off6 (k0_t2 : Fin k0_t2_loop.trips) (c0_i32_81 : BitVec 32) (c0_i32_83 : BitVec 32) : Fin 3 → Nat :=
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let v204 : BitVec 32 := Scalar.addi v202 c0_i32_81
  let v208 : BitVec 32 := Scalar.addi v204 c0_i32_83
  let v209 : Index := Scalar.indexCast v208
  let c128_84 : Index := 128#32
  ![v209.toNat, 0, 128]
def k0_off7 (k0_t2 : Fin k0_t2_loop.trips) : Fin 5 → Nat :=
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let v260 : Index := Scalar.indexCast v202
  let c0_105 : Index := 0#32
  let c1 : Index := 1#32
  let c0_106 : Index := 0#32
  let c0_107 : Index := 0#32
  ![v260.toNat, 0, 1, 0, 0]
def k0_off8 (k0_t2 : Fin k0_t2_loop.trips) (c0_i32_117 : BitVec 32) (c0_i32_119 : BitVec 32) : Fin 3 → Nat :=
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let c4_i32_80 : BitVec 32 := 4#32
  let v203 : BitVec 32 := Scalar.addi v202 c4_i32_80
  let v321 : BitVec 32 := Scalar.addi v203 c0_i32_117
  let v325 : BitVec 32 := Scalar.addi v321 c0_i32_119
  let v326 : Index := Scalar.indexCast v325
  let c128_120 : Index := 128#32
  ![v326.toNat, 0, 128]
def k0_off9 (k0_t2 : Fin k0_t2_loop.trips) : Fin 5 → Nat :=
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let c4_i32_80 : BitVec 32 := 4#32
  let v203 : BitVec 32 := Scalar.addi v202 c4_i32_80
  let v377 : Index := Scalar.indexCast v203
  let c0_141 : Index := 0#32
  let c1_142 : Index := 1#32
  let c0_143 : Index := 0#32
  let c0_144 : Index := 0#32
  ![v377.toNat, 0, 1, 0, 0]
def k0_mult2 (k0_t2 : Fin k0_t2_loop.trips) : BitVec 32 :=
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let c32_i32 : BitVec 32 := 32#32
  let v675 : BitVec 32 := Scalar.muli v202 c32_i32
  v675
def k0_off10 (k0_t2 : Fin k0_t2_loop.trips) : Fin 3 → Nat :=
  let c0_231 : Index := 0#32
  let c0_i32_33 : BitVec 32 := 0#32
  let c1_i32_35 : BitVec 32 := 1#32
  let arg15 : BitVec 32 := Scf.iv c0_i32_33 c1_i32_35 k0_t2
  let c8_i32 : BitVec 32 := 8#32
  let v202 : BitVec 32 := Scalar.muli arg15 c8_i32
  let c32_i32 : BitVec 32 := 32#32
  let v675 : BitVec 32 := Scalar.muli v202 c32_i32
  let v676 : BitVec 32 := v675
  let v677 : Index := Scalar.indexCast v676
  ![0, 0, v677.toNat]
@[reducible] def k0_t3_loop : Scf.Loop 32 :=
  let c0_i32_57 : BitVec 32 := 0#32
  let c20_i32_58 : BitVec 32 := 20#32
  let v147 : BitVec 32 := Scalar.addi c0_i32_57 c20_i32_58
  let c1_i32_59 : BitVec 32 := 1#32
  ⟨c0_i32_57, v147, c1_i32_59⟩
def k0_off11 (k0_t3 : Fin k0_t3_loop.trips) (c0_i32_81 : BitVec 32) (c0_i32_83 : BitVec 32) : Fin 3 → Nat :=
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let v204 : BitVec 32 := Scalar.addi v202 c0_i32_81
  let v208 : BitVec 32 := Scalar.addi v204 c0_i32_83
  let v209 : Index := Scalar.indexCast v208
  let c256_84 : Index := 256#32
  ![v209.toNat, 0, 256]
def k0_off12 (k0_t3 : Fin k0_t3_loop.trips) : Fin 5 → Nat :=
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let v260 : Index := Scalar.indexCast v202
  let c0_105 : Index := 0#32
  let c2 : Index := 2#32
  let c0_106 : Index := 0#32
  let c0_107 : Index := 0#32
  ![v260.toNat, 0, 2, 0, 0]
def k0_off13 (k0_t3 : Fin k0_t3_loop.trips) (c0_i32_117 : BitVec 32) (c0_i32_119 : BitVec 32) : Fin 3 → Nat :=
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let c4_i32_80 : BitVec 32 := 4#32
  let v203 : BitVec 32 := Scalar.addi v202 c4_i32_80
  let v321 : BitVec 32 := Scalar.addi v203 c0_i32_117
  let v325 : BitVec 32 := Scalar.addi v321 c0_i32_119
  let v326 : Index := Scalar.indexCast v325
  let c256_120 : Index := 256#32
  ![v326.toNat, 0, 256]
def k0_off14 (k0_t3 : Fin k0_t3_loop.trips) : Fin 5 → Nat :=
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let c4_i32_80 : BitVec 32 := 4#32
  let v203 : BitVec 32 := Scalar.addi v202 c4_i32_80
  let v377 : Index := Scalar.indexCast v203
  let c0_141 : Index := 0#32
  let c2_142 : Index := 2#32
  let c0_143 : Index := 0#32
  let c0_144 : Index := 0#32
  ![v377.toNat, 0, 2, 0, 0]
def k0_mult3 (k0_t3 : Fin k0_t3_loop.trips) : BitVec 32 :=
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let c32_i32 : BitVec 32 := 32#32
  let v675 : BitVec 32 := Scalar.muli v202 c32_i32
  v675
def k0_off15 (k0_t3 : Fin k0_t3_loop.trips) : Fin 3 → Nat :=
  let c0_231 : Index := 0#32
  let c0_i32_57 : BitVec 32 := 0#32
  let c1_i32_59 : BitVec 32 := 1#32
  let arg15 : BitVec 32 := Scf.iv c0_i32_57 c1_i32_59 k0_t3
  let c8_i32 : BitVec 32 := 8#32
  let v202 : BitVec 32 := Scalar.muli arg15 c8_i32
  let c32_i32 : BitVec 32 := 32#32
  let v675 : BitVec 32 := Scalar.muli v202 c32_i32
  let v676 : BitVec 32 := v675
  let v677 : Index := Scalar.indexCast v676
  ![0, 0, v677.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S160x2x3x8x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x2x3x8x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceUpIdeal.lean ====
abbrev S128x5120 : Shape := ⟨2, ![128, 5120]⟩
abbrev S5120 : Shape := ⟨1, ![5120]⟩
abbrev S3456x160x16 : Shape := ⟨3, ![3456, 160, 16]⟩
abbrev S3456x160 : Shape := ⟨2, ![3456, 160]⟩
abbrev S_ : Shape := ⟨0, ![]⟩
abbrev S128 : Shape := ⟨1, ![128]⟩
abbrev S128x1 : Shape := ⟨2, ![128, 1]⟩
abbrev S1x5120 : Shape := ⟨2, ![1, 5120]⟩
abbrev S128x160x32 : Shape := ⟨3, ![128, 160, 32]⟩
abbrev S128x160x16 : Shape := ⟨3, ![128, 160, 16]⟩
abbrev S3456x160x1 : Shape := ⟨3, ![3456, 160, 1]⟩
abbrev S128x3456 : Shape := ⟨2, ![128, 3456]⟩
abbrev S128x27x2x2x2x2x2x4 : Shape := ⟨8, ![128, 27, 2, 2, 2, 2, 2, 4]⟩

abbrev nBuf : Space → Nat
  | .hbm => 92
  | .vmem => 0
  | .smem => 0
  | _ => 0

abbrev bufTy : (tb : Table) → Fin (tcTables nBuf tb) → BufTy
  | .hbm, ⟨0, _⟩ => ⟨S128x5120, .f32⟩
  | .hbm, ⟨1, _⟩ => ⟨S5120, .bf16⟩
  | .hbm, ⟨2, _⟩ => ⟨S3456x160x16, .i8⟩
  | .hbm, ⟨3, _⟩ => ⟨S3456x160, .bf16⟩
  | .hbm, ⟨4, _⟩ => ⟨S3456x160, .bf16⟩
  | .hbm, ⟨5, _⟩ => ⟨S3456x160x16, .i8⟩
  | .hbm, ⟨6, _⟩ => ⟨S3456x160, .bf16⟩
  | .hbm, ⟨7, _⟩ => ⟨S3456x160, .bf16⟩
  | .hbm, ⟨8, _⟩ => ⟨S128x5120, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x5120, .f32⟩
  | .hbm, ⟨20, _⟩ => ⟨S128x5120, .f32⟩
  | .hbm, ⟨21, _⟩ => ⟨S5120, .f32⟩
  | .hbm, ⟨22, _⟩ => ⟨S1x5120, .f32⟩
  | .hbm, ⟨23, _⟩ => ⟨S128x5120, .f32⟩
  | .hbm, ⟨24, _⟩ => ⟨S128x5120, .f32⟩
  | .hbm, ⟨25, _⟩ => ⟨S128x5120, .bf16⟩
  | .hbm, ⟨26, _⟩ => ⟨S128x160x32, .bf16⟩
  | .hbm, ⟨27, _⟩ => ⟨S128x160x16, .bf16⟩
  | .hbm, ⟨28, _⟩ => ⟨S128x160x16, .bf16⟩
  | .hbm, ⟨29, _⟩ => ⟨S3456x160x1, .bf16⟩
  | .hbm, ⟨30, _⟩ => ⟨S3456x160x1, .bf16⟩
  | .hbm, ⟨31, _⟩ => ⟨S3456x160x16, .i32⟩
  | .hbm, ⟨32, _⟩ => ⟨S_, .i32⟩
  | .hbm, ⟨33, _⟩ => ⟨S3456x160x16, .i32⟩
  | .hbm, ⟨34, _⟩ => ⟨S3456x160x16, .i32⟩
  | .hbm, ⟨35, _⟩ => ⟨S3456x160x16, .bf16⟩
  | .hbm, ⟨36, _⟩ => ⟨S3456x160x16, .bf16⟩
  | .hbm, ⟨37, _⟩ => ⟨S3456x160x16, .bf16⟩
  | .hbm, ⟨38, _⟩ => ⟨S3456x160x16, .bf16⟩
  | .hbm, ⟨39, _⟩ => ⟨S3456x160x16, .bf16⟩
  | .hbm, ⟨40, _⟩ => ⟨S3456x160x16, .i32⟩
  | .hbm, ⟨41, _⟩ => ⟨S_, .i32⟩
  | .hbm, ⟨42, _⟩ => ⟨S3456x160x16, .i32⟩
  | .hbm, ⟨43, _⟩ => ⟨S3456x160x16, .i32⟩
  | .hbm, ⟨44, _⟩ => ⟨S3456x160x16, .bf16⟩
  | .hbm, ⟨45, _⟩ => ⟨S3456x160x16, .bf16⟩
  | .hbm, ⟨46, _⟩ => ⟨S3456x160x16, .bf16⟩
  | .hbm, ⟨47, _⟩ => ⟨S3456x160x16, .bf16⟩
  | .hbm, ⟨48, _⟩ => ⟨S3456x160x16, .bf16⟩
  | .hbm, ⟨49, _⟩ => ⟨S128x3456, .f32⟩
  | .hbm, ⟨50, _⟩ => ⟨S128x3456, .f32⟩
  | .hbm, ⟨51, _⟩ => ⟨S128x3456, .f32⟩
  | .hbm, ⟨52, _⟩ => ⟨S128x160x32, .bf16⟩
  | .hbm, ⟨53, _⟩ => ⟨S128x160x16, .bf16⟩
  | .hbm, ⟨54, _⟩ => ⟨S128x160x16, .bf16⟩
  | .hbm, ⟨55, _⟩ => ⟨S3456x160x1, .bf16⟩
  | .hbm, ⟨56, _⟩ => ⟨S3456x160x1, .bf16⟩
  | .hbm, ⟨57, _⟩ => ⟨S3456x160x16, .i32⟩
  | .hbm, ⟨58, _⟩ => ⟨S_, .i32⟩
  | .hbm, ⟨59, _⟩ => ⟨S3456x160x16, .i32⟩
  | .hbm, ⟨60, _⟩ => ⟨S3456x160x16, .i32⟩
  | .hbm, ⟨61, _⟩ => ⟨S3456x160x16, .bf16⟩
  | .hbm, ⟨62, _⟩ => ⟨S3456x160x16, .bf16⟩
  | .hbm, ⟨63, _⟩ => ⟨S3456x160x16, .bf16⟩
  | .hbm, ⟨64, _⟩ => ⟨S3456x160x16, .bf16⟩
  | .hbm, ⟨65, _⟩ => ⟨S3456x160x16, .bf16⟩
  | .hbm, ⟨66, _⟩ => ⟨S3456x160x16, .i32⟩
  | .hbm, ⟨67, _⟩ => ⟨S_, .i32⟩
  | .hbm, ⟨68, _⟩ => ⟨S3456x160x16, .i32⟩
  | .hbm, ⟨69, _⟩ => ⟨S3456x160x16, .i32⟩
  | .hbm, ⟨70, _⟩ => ⟨S3456x160x16, .bf16⟩
  | .hbm, ⟨71, _⟩ => ⟨S3456x160x16, .bf16⟩
  | .hbm, ⟨72, _⟩ => ⟨S3456x160x16, .bf16⟩
  | .hbm, ⟨73, _⟩ => ⟨S3456x160x16, .bf16⟩
  | .hbm, ⟨74, _⟩ => ⟨S3456x160x16, .bf16⟩
  | .hbm, ⟨75, _⟩ => ⟨S128x3456, .f32⟩
  | .hbm, ⟨76, _⟩ => ⟨S128x3456, .f32⟩
  | .hbm, ⟨77, _⟩ => ⟨S128x3456, .f32⟩
  | .hbm, ⟨78, _⟩ => ⟨S128x3456, .f32⟩
  | .hbm, ⟨79, _⟩ => ⟨S128x3456, .f32⟩
  | .hbm, ⟨80, _⟩ => ⟨S_, .f32⟩
  | .hbm, ⟨81, _⟩ => ⟨S128x3456, .f32⟩
  | .hbm, ⟨82, _⟩ => ⟨S128x3456, .f32⟩
  | .hbm, ⟨83, _⟩ => ⟨S_, .f32⟩
  | .hbm, ⟨84, _⟩ => ⟨S128x3456, .f32⟩
  | .hbm, ⟨85, _⟩ => ⟨S128x3456, .f32⟩
  | .hbm, ⟨86, _⟩ => ⟨S128x3456, .f32⟩
  | .hbm, ⟨87, _⟩ => ⟨S128x3456, .f32⟩
  | .hbm, ⟨88, _⟩ => ⟨S128x3456, .bf16⟩
  | .hbm, ⟨89, _⟩ => ⟨S128x27x2x2x2x2x2x4, .bf16⟩
  | .hbm, ⟨90, _⟩ => ⟨S128x27x2x2x2x2x2x4, .bf16⟩
  | .hbm, ⟨91, _⟩ => ⟨S128x3456, .bf16⟩
  | _, _ => ⟨S128x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_4 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== KernelDown.lean ====
abbrev S128x3456 : Shape := ⟨2, ![128, 3456]⟩
abbrev S128x5120 : Shape := ⟨2, ![128, 5120]⟩
abbrev S5120x108x16 : Shape := ⟨3, ![5120, 108, 16]⟩
abbrev S5120x108 : Shape := ⟨2, ![5120, 108]⟩
abbrev S108x16x5120 : Shape := ⟨3, ![108, 16, 5120]⟩
abbrev S108x2x8x40x128 : Shape := ⟨5, ![108, 2, 8, 40, 128]⟩
abbrev S108x2x40x8x128 : Shape := ⟨5, ![108, 2, 40, 8, 128]⟩
abbrev S108x5120 : Shape := ⟨2, ![108, 5120]⟩
abbrev S128x1280 : Shape := ⟨2, ![128, 1280]⟩
abbrev S108x2x10x8x128 : Shape := ⟨5, ![108, 2, 10, 8, 128]⟩
abbrev S108x1280 : Shape := ⟨2, ![108, 1280]⟩
abbrev S128x256 : Shape := ⟨2, ![128, 256]⟩
abbrev S128x128 : Shape := ⟨2, ![128, 128]⟩
abbrev S8x128 : Shape := ⟨2, ![8, 128]⟩
abbrev S1x128 : Shape := ⟨2, ![1, 128]⟩
abbrev S16x128 : Shape := ⟨2, ![16, 128]⟩
abbrev S4x2x1x8x128 : Shape := ⟨5, ![4, 2, 1, 8, 128]⟩
abbrev S4x2x8x128 : Shape := ⟨4, ![4, 2, 8, 128]⟩
abbrev S64x128 : Shape := ⟨2, ![64, 128]⟩
abbrev S8x2x128 : Shape := ⟨3, ![8, 2, 128]⟩
abbrev S8x1x128 : Shape := ⟨3, ![8, 1, 128]⟩
abbrev S32x128 : Shape := ⟨2, ![32, 128]⟩
abbrev S256x128 : Shape := ⟨2, ![256, 128]⟩
abbrev S256x256 : Shape := ⟨2, ![256, 256]⟩

abbrev nBuf : Space → Nat
  | .hbm => 11
  | .vmem => 13
  | .smem => 0
  | _ => 0

abbrev bufTy : (tb : Table) → Fin (tcTables nBuf tb) → BufTy
  | .hbm, ⟨0, _⟩ => ⟨S128x3456, .bf16⟩
  | .hbm, ⟨1, _⟩ => ⟨S128x5120, .f32⟩
  | .hbm, ⟨2, _⟩ => ⟨S5120x108x16, .i8⟩
  | .hbm, ⟨3, _⟩ => ⟨S5120x108, .bf16⟩
  | .hbm, ⟨4, _⟩ => ⟨S5120x108, .bf16⟩
  | .hbm, ⟨5, _⟩ => ⟨S108x16x5120, .i8⟩
  | .hbm, ⟨6, _⟩ => ⟨S108x2x8x40x128, .i8⟩
  | .hbm, ⟨7, _⟩ => ⟨S108x2x40x8x128, .i8⟩
  | .hbm, ⟨8, _⟩ => ⟨S108x5120, .bf16⟩
  | .hbm, ⟨9, _⟩ => ⟨S108x5120, .bf16⟩
  | .hbm, ⟨10, _⟩ => ⟨S128x5120, .bf16⟩
  | .local _ .vmem, ⟨0, _⟩ => ⟨S128x3456, .bf16⟩
  | .local _ .vmem, ⟨1, _⟩ => ⟨S128x1280, .f32⟩
  | .local _ .vmem, ⟨2, _⟩ => ⟨S128x1280, .f32⟩
  | .local _ .vmem, ⟨3, _⟩ => ⟨S108x2x10x8x128, .i8⟩
  | .local _ .vmem, ⟨4, _⟩ => ⟨S108x2x10x8x128, .i8⟩
  | .local _ .vmem, ⟨5, _⟩ => ⟨S108x1280, .bf16⟩
  | .local _ .vmem, ⟨6, _⟩ => ⟨S108x1280, .bf16⟩
  | .local _ .vmem, ⟨7, _⟩ => ⟨S108x1280, .bf16⟩
  | .local _ .vmem, ⟨8, _⟩ => ⟨S108x1280, .bf16⟩
  | .local _ .vmem, ⟨9, _⟩ => ⟨S128x1280, .bf16⟩
  | .local _ .vmem, ⟨10, _⟩ => ⟨S128x1280, .bf16⟩
  | .local _ .vmem, ⟨11, _⟩ => ⟨S108x1280, .i32⟩
  | .local _ .vmem, ⟨12, _⟩ => ⟨S108x1280, .i32⟩
  | _, _ => ⟨S128x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![4], ![false]⟩

@[reducible] def k0_t1_loop : Scf.Loop 32 :=
  let c0_i32 : BitVec 32 := 0#32
  let c13_i32 : BitVec 32 := 13#32
  let v17 : BitVec 32 := Scalar.addi c0_i32 c13_i32
  let c1_i32 : BitVec 32 := 1#32
  ⟨c0_i32, v17, c1_i32⟩
def k0_off1 (k0_t1 : Fin k0_t1_loop.trips) (c0_i32_399 : BitVec 32) (c0_i32_401 : BitVec 32) : Fin 2 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let v1026 : BitVec 32 := Scalar.addi v1024 c0_i32_399
  let v1030 : BitVec 32 := Scalar.addi v1026 c0_i32_401
  let v1031 : Index := Scalar.indexCast v1030
  let c0_402 : Index := 0#32
  ![v1031.toNat, 0]
def k0_off2 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let v1082 : Index := Scalar.indexCast v1024
  let c0_422 : Index := 0#32
  let c0_423 : Index := 0#32
  let c0_424 : Index := 0#32
  let c0_425 : Index := 0#32
  ![v1082.toNat, 0, 0, 0, 0]
def k0_off3 (k0_t1 : Fin k0_t1_loop.trips) (c0_i32_436 : BitVec 32) (c0_i32_438 : BitVec 32) : Fin 2 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c4_i32_398 : BitVec 32 := 4#32
  let v1025 : BitVec 32 := Scalar.addi v1024 c4_i32_398
  let v1143 : BitVec 32 := Scalar.addi v1025 c0_i32_436
  let v1147 : BitVec 32 := Scalar.addi v1143 c0_i32_438
  let v1148 : Index := Scalar.indexCast v1147
  let c0_439 : Index := 0#32
  ![v1148.toNat, 0]
def k0_off4 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c4_i32_398 : BitVec 32 := 4#32
  let v1025 : BitVec 32 := Scalar.addi v1024 c4_i32_398
  let v1199 : Index := Scalar.indexCast v1025
  let c0_460 : Index := 0#32
  let c0_461 : Index := 0#32
  let c0_462 : Index := 0#32
  let c0_463 : Index := 0#32
  ![v1199.toNat, 0, 0, 0, 0]
def k0_off5 (k0_t1 : Fin k0_t1_loop.trips) (c0_i32_474 : BitVec 32) (c0_i32_476 : BitVec 32) : Fin 2 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let v1261 : BitVec 32 := Scalar.addi v1024 c0_i32_474
  let v1265 : BitVec 32 := Scalar.addi v1261 c0_i32_476
  let v1266 : Index := Scalar.indexCast v1265
  let c128_477 : Index := 128#32
  ![v1266.toNat, 128]
def k0_off6 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let v1317 : Index := Scalar.indexCast v1024
  let c0_498 : Index := 0#32
  let c1_499 : Index := 1#32
  let c0_500 : Index := 0#32
  let c0_501 : Index := 0#32
  ![v1317.toNat, 0, 1, 0, 0]
def k0_off7 (k0_t1 : Fin k0_t1_loop.trips) (c0_i32_512 : BitVec 32) (c0_i32_514 : BitVec 32) : Fin 2 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c4_i32_398 : BitVec 32 := 4#32
  let v1025 : BitVec 32 := Scalar.addi v1024 c4_i32_398
  let v1378 : BitVec 32 := Scalar.addi v1025 c0_i32_512
  let v1382 : BitVec 32 := Scalar.addi v1378 c0_i32_514
  let v1383 : Index := Scalar.indexCast v1382
  let c128_515 : Index := 128#32
  ![v1383.toNat, 128]
def k0_off8 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c4_i32_398 : BitVec 32 := 4#32
  let v1025 : BitVec 32 := Scalar.addi v1024 c4_i32_398
  let v1434 : Index := Scalar.indexCast v1025
  let c0_536 : Index := 0#32
  let c1_537 : Index := 1#32
  let c0_538 : Index := 0#32
  let c0_539 : Index := 0#32
  ![v1434.toNat, 0, 1, 0, 0]
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c32_i32 : BitVec 32 := 32#32
  let v1497 : BitVec 32 := Scalar.muli v1024 c32_i32
  v1497
def k0_off9 (k0_t1 : Fin k0_t1_loop.trips) : Fin 2 → Nat :=
  let c0_550 : Index := 0#32
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c32_i32 : BitVec 32 := 32#32
  let v1497 : BitVec 32 := Scalar.muli v1024 c32_i32
  let v1498 : BitVec 32 := v1497
  let v1499 : Index := Scalar.indexCast v1498
  ![0, v1499.toNat]
@[reducible] def k0_t2_loop : Scf.Loop 32 :=
  let c0_i32_80 : BitVec 32 := 0#32
  let c13_i32_81 : BitVec 32 := 13#32
  let v219 : BitVec 32 := Scalar.addi c0_i32_80 c13_i32_81
  let c1_i32_82 : BitVec 32 := 1#32
  ⟨c0_i32_80, v219, c1_i32_82⟩
def k0_off10 (k0_t2 : Fin k0_t2_loop.trips) (c0_i32_399 : BitVec 32) (c0_i32_401 : BitVec 32) : Fin 2 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let v1026 : BitVec 32 := Scalar.addi v1024 c0_i32_399
  let v1030 : BitVec 32 := Scalar.addi v1026 c0_i32_401
  let v1031 : Index := Scalar.indexCast v1030
  let c256_402 : Index := 256#32
  ![v1031.toNat, 256]
def k0_off11 (k0_t2 : Fin k0_t2_loop.trips) : Fin 5 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let v1082 : Index := Scalar.indexCast v1024
  let c0_422 : Index := 0#32
  let c2_423 : Index := 2#32
  let c0_424 : Index := 0#32
  let c0_425 : Index := 0#32
  ![v1082.toNat, 0, 2, 0, 0]
def k0_off12 (k0_t2 : Fin k0_t2_loop.trips) (c0_i32_436 : BitVec 32) (c0_i32_438 : BitVec 32) : Fin 2 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c4_i32_398 : BitVec 32 := 4#32
  let v1025 : BitVec 32 := Scalar.addi v1024 c4_i32_398
  let v1143 : BitVec 32 := Scalar.addi v1025 c0_i32_436
  let v1147 : BitVec 32 := Scalar.addi v1143 c0_i32_438
  let v1148 : Index := Scalar.indexCast v1147
  let c256_439 : Index := 256#32
  ![v1148.toNat, 256]
def k0_off13 (k0_t2 : Fin k0_t2_loop.trips) : Fin 5 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c4_i32_398 : BitVec 32 := 4#32
  let v1025 : BitVec 32 := Scalar.addi v1024 c4_i32_398
  let v1199 : Index := Scalar.indexCast v1025
  let c0_460 : Index := 0#32
  let c2_461 : Index := 2#32
  let c0_462 : Index := 0#32
  let c0_463 : Index := 0#32
  ![v1199.toNat, 0, 2, 0, 0]
def k0_off14 (k0_t2 : Fin k0_t2_loop.trips) (c0_i32_474 : BitVec 32) (c0_i32_476 : BitVec 32) : Fin 2 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let v1261 : BitVec 32 := Scalar.addi v1024 c0_i32_474
  let v1265 : BitVec 32 := Scalar.addi v1261 c0_i32_476
  let v1266 : Index := Scalar.indexCast v1265
  let c384_477 : Index := 384#32
  ![v1266.toNat, 384]
def k0_off15 (k0_t2 : Fin k0_t2_loop.trips) : Fin 5 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let v1317 : Index := Scalar.indexCast v1024
  let c0_498 : Index := 0#32
  let c3_499 : Index := 3#32
  let c0_500 : Index := 0#32
  let c0_501 : Index := 0#32
  ![v1317.toNat, 0, 3, 0, 0]
def k0_off16 (k0_t2 : Fin k0_t2_loop.trips) (c0_i32_512 : BitVec 32) (c0_i32_514 : BitVec 32) : Fin 2 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c4_i32_398 : BitVec 32 := 4#32
  let v1025 : BitVec 32 := Scalar.addi v1024 c4_i32_398
  let v1378 : BitVec 32 := Scalar.addi v1025 c0_i32_512
  let v1382 : BitVec 32 := Scalar.addi v1378 c0_i32_514
  let v1383 : Index := Scalar.indexCast v1382
  let c384_515 : Index := 384#32
  ![v1383.toNat, 384]
def k0_off17 (k0_t2 : Fin k0_t2_loop.trips) : Fin 5 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c4_i32_398 : BitVec 32 := 4#32
  let v1025 : BitVec 32 := Scalar.addi v1024 c4_i32_398
  let v1434 : Index := Scalar.indexCast v1025
  let c0_536 : Index := 0#32
  let c3_537 : Index := 3#32
  let c0_538 : Index := 0#32
  let c0_539 : Index := 0#32
  ![v1434.toNat, 0, 3, 0, 0]
def k0_mult2 (k0_t2 : Fin k0_t2_loop.trips) : BitVec 32 :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c32_i32 : BitVec 32 := 32#32
  let v1497 : BitVec 32 := Scalar.muli v1024 c32_i32
  v1497
def k0_off18 (k0_t2 : Fin k0_t2_loop.trips) : Fin 2 → Nat :=
  let c0_550 : Index := 0#32
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c32_i32 : BitVec 32 := 32#32
  let v1497 : BitVec 32 := Scalar.muli v1024 c32_i32
  let v1498 : BitVec 32 := v1497
  let v1499 : Index := Scalar.indexCast v1498
  ![0, v1499.toNat]
@[reducible] def k0_t3_loop : Scf.Loop 32 :=
  let c0_i32_160 : BitVec 32 := 0#32
  let c13_i32_161 : BitVec 32 := 13#32
  let v421 : BitVec 32 := Scalar.addi c0_i32_160 c13_i32_161
  let c1_i32_162 : BitVec 32 := 1#32
  ⟨c0_i32_160, v421, c1_i32_162⟩
def k0_off19 (k0_t3 : Fin k0_t3_loop.trips) (c0_i32_399 : BitVec 32) (c0_i32_401 : BitVec 32) : Fin 2 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let v1026 : BitVec 32 := Scalar.addi v1024 c0_i32_399
  let v1030 : BitVec 32 := Scalar.addi v1026 c0_i32_401
  let v1031 : Index := Scalar.indexCast v1030
  let c512_402 : Index := 512#32
  ![v1031.toNat, 512]
def k0_off20 (k0_t3 : Fin k0_t3_loop.trips) : Fin 5 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let v1082 : Index := Scalar.indexCast v1024
  let c0_422 : Index := 0#32
  let c4_423 : Index := 4#32
  let c0_424 : Index := 0#32
  let c0_425 : Index := 0#32
  ![v1082.toNat, 0, 4, 0, 0]
def k0_off21 (k0_t3 : Fin k0_t3_loop.trips) (c0_i32_436 : BitVec 32) (c0_i32_438 : BitVec 32) : Fin 2 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c4_i32_398 : BitVec 32 := 4#32
  let v1025 : BitVec 32 := Scalar.addi v1024 c4_i32_398
  let v1143 : BitVec 32 := Scalar.addi v1025 c0_i32_436
  let v1147 : BitVec 32 := Scalar.addi v1143 c0_i32_438
  let v1148 : Index := Scalar.indexCast v1147
  let c512_439 : Index := 512#32
  ![v1148.toNat, 512]
def k0_off22 (k0_t3 : Fin k0_t3_loop.trips) : Fin 5 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c4_i32_398 : BitVec 32 := 4#32
  let v1025 : BitVec 32 := Scalar.addi v1024 c4_i32_398
  let v1199 : Index := Scalar.indexCast v1025
  let c0_460 : Index := 0#32
  let c4_461 : Index := 4#32
  let c0_462 : Index := 0#32
  let c0_463 : Index := 0#32
  ![v1199.toNat, 0, 4, 0, 0]
def k0_off23 (k0_t3 : Fin k0_t3_loop.trips) (c0_i32_474 : BitVec 32) (c0_i32_476 : BitVec 32) : Fin 2 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let v1261 : BitVec 32 := Scalar.addi v1024 c0_i32_474
  let v1265 : BitVec 32 := Scalar.addi v1261 c0_i32_476
  let v1266 : Index := Scalar.indexCast v1265
  let c640_477 : Index := 640#32
  ![v1266.toNat, 640]
def k0_off24 (k0_t3 : Fin k0_t3_loop.trips) : Fin 5 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let v1317 : Index := Scalar.indexCast v1024
  let c0_498 : Index := 0#32
  let c5_499 : Index := 5#32
  let c0_500 : Index := 0#32
  let c0_501 : Index := 0#32
  ![v1317.toNat, 0, 5, 0, 0]
def k0_off25 (k0_t3 : Fin k0_t3_loop.trips) (c0_i32_512 : BitVec 32) (c0_i32_514 : BitVec 32) : Fin 2 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c4_i32_398 : BitVec 32 := 4#32
  let v1025 : BitVec 32 := Scalar.addi v1024 c4_i32_398
  let v1378 : BitVec 32 := Scalar.addi v1025 c0_i32_512
  let v1382 : BitVec 32 := Scalar.addi v1378 c0_i32_514
  let v1383 : Index := Scalar.indexCast v1382
  let c640_515 : Index := 640#32
  ![v1383.toNat, 640]
def k0_off26 (k0_t3 : Fin k0_t3_loop.trips) : Fin 5 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c4_i32_398 : BitVec 32 := 4#32
  let v1025 : BitVec 32 := Scalar.addi v1024 c4_i32_398
  let v1434 : Index := Scalar.indexCast v1025
  let c0_536 : Index := 0#32
  let c5_537 : Index := 5#32
  let c0_538 : Index := 0#32
  let c0_539 : Index := 0#32
  ![v1434.toNat, 0, 5, 0, 0]
def k0_mult3 (k0_t3 : Fin k0_t3_loop.trips) : BitVec 32 :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c32_i32 : BitVec 32 := 32#32
  let v1497 : BitVec 32 := Scalar.muli v1024 c32_i32
  v1497
def k0_off27 (k0_t3 : Fin k0_t3_loop.trips) : Fin 2 → Nat :=
  let c0_550 : Index := 0#32
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c32_i32 : BitVec 32 := 32#32
  let v1497 : BitVec 32 := Scalar.muli v1024 c32_i32
  let v1498 : BitVec 32 := v1497
  let v1499 : Index := Scalar.indexCast v1498
  ![0, v1499.toNat]
@[reducible] def k0_t4_loop : Scf.Loop 32 :=
  let c0_i32_240 : BitVec 32 := 0#32
  let c13_i32_241 : BitVec 32 := 13#32
  let v623 : BitVec 32 := Scalar.addi c0_i32_240 c13_i32_241
  let c1_i32_242 : BitVec 32 := 1#32
  ⟨c0_i32_240, v623, c1_i32_242⟩
def k0_off28 (k0_t4 : Fin k0_t4_loop.trips) (c0_i32_399 : BitVec 32) (c0_i32_401 : BitVec 32) : Fin 2 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let v1026 : BitVec 32 := Scalar.addi v1024 c0_i32_399
  let v1030 : BitVec 32 := Scalar.addi v1026 c0_i32_401
  let v1031 : Index := Scalar.indexCast v1030
  let c768_402 : Index := 768#32
  ![v1031.toNat, 768]
def k0_off29 (k0_t4 : Fin k0_t4_loop.trips) : Fin 5 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let v1082 : Index := Scalar.indexCast v1024
  let c0_422 : Index := 0#32
  let c6_423 : Index := 6#32
  let c0_424 : Index := 0#32
  let c0_425 : Index := 0#32
  ![v1082.toNat, 0, 6, 0, 0]
def k0_off30 (k0_t4 : Fin k0_t4_loop.trips) (c0_i32_436 : BitVec 32) (c0_i32_438 : BitVec 32) : Fin 2 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c4_i32_398 : BitVec 32 := 4#32
  let v1025 : BitVec 32 := Scalar.addi v1024 c4_i32_398
  let v1143 : BitVec 32 := Scalar.addi v1025 c0_i32_436
  let v1147 : BitVec 32 := Scalar.addi v1143 c0_i32_438
  let v1148 : Index := Scalar.indexCast v1147
  let c768_439 : Index := 768#32
  ![v1148.toNat, 768]
def k0_off31 (k0_t4 : Fin k0_t4_loop.trips) : Fin 5 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c4_i32_398 : BitVec 32 := 4#32
  let v1025 : BitVec 32 := Scalar.addi v1024 c4_i32_398
  let v1199 : Index := Scalar.indexCast v1025
  let c0_460 : Index := 0#32
  let c6_461 : Index := 6#32
  let c0_462 : Index := 0#32
  let c0_463 : Index := 0#32
  ![v1199.toNat, 0, 6, 0, 0]
def k0_off32 (k0_t4 : Fin k0_t4_loop.trips) (c0_i32_474 : BitVec 32) (c0_i32_476 : BitVec 32) : Fin 2 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let v1261 : BitVec 32 := Scalar.addi v1024 c0_i32_474
  let v1265 : BitVec 32 := Scalar.addi v1261 c0_i32_476
  let v1266 : Index := Scalar.indexCast v1265
  let c896_477 : Index := 896#32
  ![v1266.toNat, 896]
def k0_off33 (k0_t4 : Fin k0_t4_loop.trips) : Fin 5 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let v1317 : Index := Scalar.indexCast v1024
  let c0_498 : Index := 0#32
  let c7_499 : Index := 7#32
  let c0_500 : Index := 0#32
  let c0_501 : Index := 0#32
  ![v1317.toNat, 0, 7, 0, 0]
def k0_off34 (k0_t4 : Fin k0_t4_loop.trips) (c0_i32_512 : BitVec 32) (c0_i32_514 : BitVec 32) : Fin 2 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c4_i32_398 : BitVec 32 := 4#32
  let v1025 : BitVec 32 := Scalar.addi v1024 c4_i32_398
  let v1378 : BitVec 32 := Scalar.addi v1025 c0_i32_512
  let v1382 : BitVec 32 := Scalar.addi v1378 c0_i32_514
  let v1383 : Index := Scalar.indexCast v1382
  let c896_515 : Index := 896#32
  ![v1383.toNat, 896]
def k0_off35 (k0_t4 : Fin k0_t4_loop.trips) : Fin 5 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c4_i32_398 : BitVec 32 := 4#32
  let v1025 : BitVec 32 := Scalar.addi v1024 c4_i32_398
  let v1434 : Index := Scalar.indexCast v1025
  let c0_536 : Index := 0#32
  let c7_537 : Index := 7#32
  let c0_538 : Index := 0#32
  let c0_539 : Index := 0#32
  ![v1434.toNat, 0, 7, 0, 0]
def k0_mult4 (k0_t4 : Fin k0_t4_loop.trips) : BitVec 32 :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c32_i32 : BitVec 32 := 32#32
  let v1497 : BitVec 32 := Scalar.muli v1024 c32_i32
  v1497
def k0_off36 (k0_t4 : Fin k0_t4_loop.trips) : Fin 2 → Nat :=
  let c0_550 : Index := 0#32
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c32_i32 : BitVec 32 := 32#32
  let v1497 : BitVec 32 := Scalar.muli v1024 c32_i32
  let v1498 : BitVec 32 := v1497
  let v1499 : Index := Scalar.indexCast v1498
  ![0, v1499.toNat]
@[reducible] def k0_t5_loop : Scf.Loop 32 :=
  let c0_i32_320 : BitVec 32 := 0#32
  let c13_i32_321 : BitVec 32 := 13#32
  let v825 : BitVec 32 := Scalar.addi c0_i32_320 c13_i32_321
  let c1_i32_322 : BitVec 32 := 1#32
  ⟨c0_i32_320, v825, c1_i32_322⟩
def k0_off37 (k0_t5 : Fin k0_t5_loop.trips) (c0_i32_399 : BitVec 32) (c0_i32_401 : BitVec 32) : Fin 2 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let v1026 : BitVec 32 := Scalar.addi v1024 c0_i32_399
  let v1030 : BitVec 32 := Scalar.addi v1026 c0_i32_401
  let v1031 : Index := Scalar.indexCast v1030
  let c1024_402 : Index := 1024#32
  ![v1031.toNat, 1024]
def k0_off38 (k0_t5 : Fin k0_t5_loop.trips) : Fin 5 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let v1082 : Index := Scalar.indexCast v1024
  let c0_422 : Index := 0#32
  let c8_423 : Index := 8#32
  let c0_424 : Index := 0#32
  let c0_425 : Index := 0#32
  ![v1082.toNat, 0, 8, 0, 0]
def k0_off39 (k0_t5 : Fin k0_t5_loop.trips) (c0_i32_436 : BitVec 32) (c0_i32_438 : BitVec 32) : Fin 2 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c4_i32_398 : BitVec 32 := 4#32
  let v1025 : BitVec 32 := Scalar.addi v1024 c4_i32_398
  let v1143 : BitVec 32 := Scalar.addi v1025 c0_i32_436
  let v1147 : BitVec 32 := Scalar.addi v1143 c0_i32_438
  let v1148 : Index := Scalar.indexCast v1147
  let c1024_439 : Index := 1024#32
  ![v1148.toNat, 1024]
def k0_off40 (k0_t5 : Fin k0_t5_loop.trips) : Fin 5 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c4_i32_398 : BitVec 32 := 4#32
  let v1025 : BitVec 32 := Scalar.addi v1024 c4_i32_398
  let v1199 : Index := Scalar.indexCast v1025
  let c0_460 : Index := 0#32
  let c8_461 : Index := 8#32
  let c0_462 : Index := 0#32
  let c0_463 : Index := 0#32
  ![v1199.toNat, 0, 8, 0, 0]
def k0_off41 (k0_t5 : Fin k0_t5_loop.trips) (c0_i32_474 : BitVec 32) (c0_i32_476 : BitVec 32) : Fin 2 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let v1261 : BitVec 32 := Scalar.addi v1024 c0_i32_474
  let v1265 : BitVec 32 := Scalar.addi v1261 c0_i32_476
  let v1266 : Index := Scalar.indexCast v1265
  let c1152_477 : Index := 1152#32
  ![v1266.toNat, 1152]
def k0_off42 (k0_t5 : Fin k0_t5_loop.trips) : Fin 5 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let v1317 : Index := Scalar.indexCast v1024
  let c0_498 : Index := 0#32
  let c9_499 : Index := 9#32
  let c0_500 : Index := 0#32
  let c0_501 : Index := 0#32
  ![v1317.toNat, 0, 9, 0, 0]
def k0_off43 (k0_t5 : Fin k0_t5_loop.trips) (c0_i32_512 : BitVec 32) (c0_i32_514 : BitVec 32) : Fin 2 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c4_i32_398 : BitVec 32 := 4#32
  let v1025 : BitVec 32 := Scalar.addi v1024 c4_i32_398
  let v1378 : BitVec 32 := Scalar.addi v1025 c0_i32_512
  let v1382 : BitVec 32 := Scalar.addi v1378 c0_i32_514
  let v1383 : Index := Scalar.indexCast v1382
  let c1152_515 : Index := 1152#32
  ![v1383.toNat, 1152]
def k0_off44 (k0_t5 : Fin k0_t5_loop.trips) : Fin 5 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c4_i32_398 : BitVec 32 := 4#32
  let v1025 : BitVec 32 := Scalar.addi v1024 c4_i32_398
  let v1434 : Index := Scalar.indexCast v1025
  let c0_536 : Index := 0#32
  let c9_537 : Index := 9#32
  let c0_538 : Index := 0#32
  let c0_539 : Index := 0#32
  ![v1434.toNat, 0, 9, 0, 0]
def k0_mult5 (k0_t5 : Fin k0_t5_loop.trips) : BitVec 32 :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c32_i32 : BitVec 32 := 32#32
  let v1497 : BitVec 32 := Scalar.muli v1024 c32_i32
  v1497
def k0_off45 (k0_t5 : Fin k0_t5_loop.trips) : Fin 2 → Nat :=
  let c0_550 : Index := 0#32
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c32_i32 : BitVec 32 := 32#32
  let v1497 : BitVec 32 := Scalar.muli v1024 c32_i32
  let v1498 : BitVec 32 := v1497
  let v1499 : Index := Scalar.indexCast v1498
  ![0, v1499.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x3456 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S108x2x10x8x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S108x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S108x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelDownIdeal.lean ====
abbrev S128x3456 : Shape := ⟨2, ![128, 3456]⟩
abbrev S128x5120 : Shape := ⟨2, ![128, 5120]⟩
abbrev S5120x108x16 : Shape := ⟨3, ![5120, 108, 16]⟩
abbrev S5120x108 : Shape := ⟨2, ![5120, 108]⟩
abbrev S108x16x5120 : Shape := ⟨3, ![108, 16, 5120]⟩
abbrev S108x2x8x40x128 : Shape := ⟨5, ![108, 2, 8, 40, 128]⟩
abbrev S108x2x40x8x128 : Shape := ⟨5, ![108, 2, 40, 8, 128]⟩
abbrev S108x5120 : Shape := ⟨2, ![108, 5120]⟩
abbrev S128x1280 : Shape := ⟨2, ![128, 1280]⟩
abbrev S108x2x10x8x128 : Shape := ⟨5, ![108, 2, 10, 8, 128]⟩
abbrev S108x1280 : Shape := ⟨2, ![108, 1280]⟩
abbrev S108x2x1280 : Shape := ⟨3, ![108, 2, 1280]⟩
abbrev S108x1x1280 : Shape := ⟨3, ![108, 1, 1280]⟩
abbrev S128x256 : Shape := ⟨2, ![128, 256]⟩
abbrev S128x128 : Shape := ⟨2, ![128, 128]⟩
abbrev S8x128 : Shape := ⟨2, ![8, 128]⟩
abbrev S1x128 : Shape := ⟨2, ![1, 128]⟩
abbrev S1x2x128 : Shape := ⟨3, ![1, 2, 128]⟩
abbrev S1x1x128 : Shape := ⟨3, ![1, 1, 128]⟩
abbrev S16x128 : Shape := ⟨2, ![16, 128]⟩
abbrev S4x2x1x8x128 : Shape := ⟨5, ![4, 2, 1, 8, 128]⟩
abbrev S4x2x8x128 : Shape := ⟨4, ![4, 2, 8, 128]⟩
abbrev S64x128 : Shape := ⟨2, ![64, 128]⟩
abbrev S8x2x128 : Shape := ⟨3, ![8, 2, 128]⟩
abbrev S8x1x128 : Shape := ⟨3, ![8, 1, 128]⟩
abbrev S32x128 : Shape := ⟨2, ![32, 128]⟩
abbrev S256x128 : Shape := ⟨2, ![256, 128]⟩
abbrev S256x256 : Shape := ⟨2, ![256, 256]⟩

abbrev nBuf : Space → Nat
  | .hbm => 11
  | .vmem => 13
  | .smem => 0
  | _ => 0

abbrev bufTy : (tb : Table) → Fin (tcTables nBuf tb) → BufTy
  | .hbm, ⟨0, _⟩ => ⟨S128x3456, .bf16⟩
  | .hbm, ⟨1, _⟩ => ⟨S128x5120, .f32⟩
  | .hbm, ⟨2, _⟩ => ⟨S5120x108x16, .i8⟩
  | .hbm, ⟨3, _⟩ => ⟨S5120x108, .bf16⟩
  | .hbm, ⟨4, _⟩ => ⟨S5120x108, .bf16⟩
  | .hbm, ⟨5, _⟩ => ⟨S108x16x5120, .i8⟩
  | .hbm, ⟨6, _⟩ => ⟨S108x2x8x40x128, .i8⟩
  | .hbm, ⟨7, _⟩ => ⟨S108x2x40x8x128, .i8⟩
  | .hbm, ⟨8, _⟩ => ⟨S108x5120, .bf16⟩
  | .hbm, ⟨9, _⟩ => ⟨S108x5120, .bf16⟩
  | .hbm, ⟨10, _⟩ => ⟨S128x5120, .bf16⟩
  | .local _ .vmem, ⟨0, _⟩ => ⟨S128x3456, .bf16⟩
  | .local _ .vmem, ⟨1, _⟩ => ⟨S128x1280, .f32⟩
  | .local _ .vmem, ⟨2, _⟩ => ⟨S128x1280, .f32⟩
  | .local _ .vmem, ⟨3, _⟩ => ⟨S108x2x10x8x128, .i8⟩
  | .local _ .vmem, ⟨4, _⟩ => ⟨S108x2x10x8x128, .i8⟩
  | .local _ .vmem, ⟨5, _⟩ => ⟨S108x1280, .bf16⟩
  | .local _ .vmem, ⟨6, _⟩ => ⟨S108x1280, .bf16⟩
  | .local _ .vmem, ⟨7, _⟩ => ⟨S108x1280, .bf16⟩
  | .local _ .vmem, ⟨8, _⟩ => ⟨S108x1280, .bf16⟩
  | .local _ .vmem, ⟨9, _⟩ => ⟨S128x1280, .bf16⟩
  | .local _ .vmem, ⟨10, _⟩ => ⟨S128x1280, .bf16⟩
  | .local _ .vmem, ⟨11, _⟩ => ⟨S108x2x1280, .bf16⟩
  | .local _ .vmem, ⟨12, _⟩ => ⟨S108x2x1280, .bf16⟩
  | _, _ => ⟨S128x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c13_i32 : BitVec 32 := 13#32
  let v17 : BitVec 32 := Scalar.addi c0_i32 c13_i32
  let c1_i32 : BitVec 32 := 1#32
  ⟨c0_i32, v17, c1_i32⟩
def k0_off1 (k0_t1 : Fin k0_t1_loop.trips) (c0_i32_399 : BitVec 32) (c0_i32_401 : BitVec 32) : Fin 3 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let v1026 : BitVec 32 := Scalar.addi v1024 c0_i32_399
  let v1030 : BitVec 32 := Scalar.addi v1026 c0_i32_401
  let v1031 : Index := Scalar.indexCast v1030
  let c0_402 : Index := 0#32
  ![v1031.toNat, 0, 0]
def k0_off2 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let v1082 : Index := Scalar.indexCast v1024
  let c0_422 : Index := 0#32
  let c0_423 : Index := 0#32
  let c0_424 : Index := 0#32
  let c0_425 : Index := 0#32
  ![v1082.toNat, 0, 0, 0, 0]
def k0_off3 (k0_t1 : Fin k0_t1_loop.trips) (c0_i32_436 : BitVec 32) (c0_i32_438 : BitVec 32) : Fin 3 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c4_i32_398 : BitVec 32 := 4#32
  let v1025 : BitVec 32 := Scalar.addi v1024 c4_i32_398
  let v1143 : BitVec 32 := Scalar.addi v1025 c0_i32_436
  let v1147 : BitVec 32 := Scalar.addi v1143 c0_i32_438
  let v1148 : Index := Scalar.indexCast v1147
  let c0_439 : Index := 0#32
  ![v1148.toNat, 0, 0]
def k0_off4 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c4_i32_398 : BitVec 32 := 4#32
  let v1025 : BitVec 32 := Scalar.addi v1024 c4_i32_398
  let v1199 : Index := Scalar.indexCast v1025
  let c0_460 : Index := 0#32
  let c0_461 : Index := 0#32
  let c0_462 : Index := 0#32
  let c0_463 : Index := 0#32
  ![v1199.toNat, 0, 0, 0, 0]
def k0_off5 (k0_t1 : Fin k0_t1_loop.trips) (c0_i32_474 : BitVec 32) (c0_i32_476 : BitVec 32) : Fin 3 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let v1261 : BitVec 32 := Scalar.addi v1024 c0_i32_474
  let v1265 : BitVec 32 := Scalar.addi v1261 c0_i32_476
  let v1266 : Index := Scalar.indexCast v1265
  let c128_477 : Index := 128#32
  ![v1266.toNat, 0, 128]
def k0_off6 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let v1317 : Index := Scalar.indexCast v1024
  let c0_498 : Index := 0#32
  let c1_499 : Index := 1#32
  let c0_500 : Index := 0#32
  let c0_501 : Index := 0#32
  ![v1317.toNat, 0, 1, 0, 0]
def k0_off7 (k0_t1 : Fin k0_t1_loop.trips) (c0_i32_512 : BitVec 32) (c0_i32_514 : BitVec 32) : Fin 3 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c4_i32_398 : BitVec 32 := 4#32
  let v1025 : BitVec 32 := Scalar.addi v1024 c4_i32_398
  let v1378 : BitVec 32 := Scalar.addi v1025 c0_i32_512
  let v1382 : BitVec 32 := Scalar.addi v1378 c0_i32_514
  let v1383 : Index := Scalar.indexCast v1382
  let c128_515 : Index := 128#32
  ![v1383.toNat, 0, 128]
def k0_off8 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c4_i32_398 : BitVec 32 := 4#32
  let v1025 : BitVec 32 := Scalar.addi v1024 c4_i32_398
  let v1434 : Index := Scalar.indexCast v1025
  let c0_536 : Index := 0#32
  let c1_537 : Index := 1#32
  let c0_538 : Index := 0#32
  let c0_539 : Index := 0#32
  ![v1434.toNat, 0, 1, 0, 0]
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c32_i32 : BitVec 32 := 32#32
  let v1497 : BitVec 32 := Scalar.muli v1024 c32_i32
  v1497
def k0_off9 (k0_t1 : Fin k0_t1_loop.trips) : Fin 2 → Nat :=
  let c0_550 : Index := 0#32
  let c0_i32 : BitVec 32 := 0#32
  let c1_i32 : BitVec 32 := 1#32
  let arg9 : BitVec 32 := Scf.iv c0_i32 c1_i32 k0_t1
  let c8_i32 : BitVec 32 := 8#32
  let v1024 : BitVec 32 := Scalar.muli arg9 c8_i32
  let c32_i32 : BitVec 32 := 32#32
  let v1497 : BitVec 32 := Scalar.muli v1024 c32_i32
  let v1498 : BitVec 32 := v1497
  let v1499 : Index := Scalar.indexCast v1498
  ![0, v1499.toNat]
@[reducible] def k0_t2_loop : Scf.Loop 32 :=
  let c0_i32_80 : BitVec 32 := 0#32
  let c13_i32_81 : BitVec 32 := 13#32
  let v219 : BitVec 32 := Scalar.addi c0_i32_80 c13_i32_81
  let c1_i32_82 : BitVec 32 := 1#32
  ⟨c0_i32_80, v219, c1_i32_82⟩
def k0_off10 (k0_t2 : Fin k0_t2_loop.trips) (c0_i32_399 : BitVec 32) (c0_i32_401 : BitVec 32) : Fin 3 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let v1026 : BitVec 32 := Scalar.addi v1024 c0_i32_399
  let v1030 : BitVec 32 := Scalar.addi v1026 c0_i32_401
  let v1031 : Index := Scalar.indexCast v1030
  let c256_402 : Index := 256#32
  ![v1031.toNat, 0, 256]
def k0_off11 (k0_t2 : Fin k0_t2_loop.trips) : Fin 5 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let v1082 : Index := Scalar.indexCast v1024
  let c0_422 : Index := 0#32
  let c2_423 : Index := 2#32
  let c0_424 : Index := 0#32
  let c0_425 : Index := 0#32
  ![v1082.toNat, 0, 2, 0, 0]
def k0_off12 (k0_t2 : Fin k0_t2_loop.trips) (c0_i32_436 : BitVec 32) (c0_i32_438 : BitVec 32) : Fin 3 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c4_i32_398 : BitVec 32 := 4#32
  let v1025 : BitVec 32 := Scalar.addi v1024 c4_i32_398
  let v1143 : BitVec 32 := Scalar.addi v1025 c0_i32_436
  let v1147 : BitVec 32 := Scalar.addi v1143 c0_i32_438
  let v1148 : Index := Scalar.indexCast v1147
  let c256_439 : Index := 256#32
  ![v1148.toNat, 0, 256]
def k0_off13 (k0_t2 : Fin k0_t2_loop.trips) : Fin 5 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c4_i32_398 : BitVec 32 := 4#32
  let v1025 : BitVec 32 := Scalar.addi v1024 c4_i32_398
  let v1199 : Index := Scalar.indexCast v1025
  let c0_460 : Index := 0#32
  let c2_461 : Index := 2#32
  let c0_462 : Index := 0#32
  let c0_463 : Index := 0#32
  ![v1199.toNat, 0, 2, 0, 0]
def k0_off14 (k0_t2 : Fin k0_t2_loop.trips) (c0_i32_474 : BitVec 32) (c0_i32_476 : BitVec 32) : Fin 3 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let v1261 : BitVec 32 := Scalar.addi v1024 c0_i32_474
  let v1265 : BitVec 32 := Scalar.addi v1261 c0_i32_476
  let v1266 : Index := Scalar.indexCast v1265
  let c384_477 : Index := 384#32
  ![v1266.toNat, 0, 384]
def k0_off15 (k0_t2 : Fin k0_t2_loop.trips) : Fin 5 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let v1317 : Index := Scalar.indexCast v1024
  let c0_498 : Index := 0#32
  let c3_499 : Index := 3#32
  let c0_500 : Index := 0#32
  let c0_501 : Index := 0#32
  ![v1317.toNat, 0, 3, 0, 0]
def k0_off16 (k0_t2 : Fin k0_t2_loop.trips) (c0_i32_512 : BitVec 32) (c0_i32_514 : BitVec 32) : Fin 3 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c4_i32_398 : BitVec 32 := 4#32
  let v1025 : BitVec 32 := Scalar.addi v1024 c4_i32_398
  let v1378 : BitVec 32 := Scalar.addi v1025 c0_i32_512
  let v1382 : BitVec 32 := Scalar.addi v1378 c0_i32_514
  let v1383 : Index := Scalar.indexCast v1382
  let c384_515 : Index := 384#32
  ![v1383.toNat, 0, 384]
def k0_off17 (k0_t2 : Fin k0_t2_loop.trips) : Fin 5 → Nat :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c4_i32_398 : BitVec 32 := 4#32
  let v1025 : BitVec 32 := Scalar.addi v1024 c4_i32_398
  let v1434 : Index := Scalar.indexCast v1025
  let c0_536 : Index := 0#32
  let c3_537 : Index := 3#32
  let c0_538 : Index := 0#32
  let c0_539 : Index := 0#32
  ![v1434.toNat, 0, 3, 0, 0]
def k0_mult2 (k0_t2 : Fin k0_t2_loop.trips) : BitVec 32 :=
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c32_i32 : BitVec 32 := 32#32
  let v1497 : BitVec 32 := Scalar.muli v1024 c32_i32
  v1497
def k0_off18 (k0_t2 : Fin k0_t2_loop.trips) : Fin 2 → Nat :=
  let c0_550 : Index := 0#32
  let c0_i32_80 : BitVec 32 := 0#32
  let c1_i32_82 : BitVec 32 := 1#32
  let arg9 : BitVec 32 := Scf.iv c0_i32_80 c1_i32_82 k0_t2
  let c8_i32 : BitVec 32 := 8#32
  let v1024 : BitVec 32 := Scalar.muli arg9 c8_i32
  let c32_i32 : BitVec 32 := 32#32
  let v1497 : BitVec 32 := Scalar.muli v1024 c32_i32
  let v1498 : BitVec 32 := v1497
  let v1499 : Index := Scalar.indexCast v1498
  ![0, v1499.toNat]
@[reducible] def k0_t3_loop : Scf.Loop 32 :=
  let c0_i32_160 : BitVec 32 := 0#32
  let c13_i32_161 : BitVec 32 := 13#32
  let v421 : BitVec 32 := Scalar.addi c0_i32_160 c13_i32_161
  let c1_i32_162 : BitVec 32 := 1#32
  ⟨c0_i32_160, v421, c1_i32_162⟩
def k0_off19 (k0_t3 : Fin k0_t3_loop.trips) (c0_i32_399 : BitVec 32) (c0_i32_401 : BitVec 32) : Fin 3 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let v1026 : BitVec 32 := Scalar.addi v1024 c0_i32_399
  let v1030 : BitVec 32 := Scalar.addi v1026 c0_i32_401
  let v1031 : Index := Scalar.indexCast v1030
  let c512_402 : Index := 512#32
  ![v1031.toNat, 0, 512]
def k0_off20 (k0_t3 : Fin k0_t3_loop.trips) : Fin 5 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let v1082 : Index := Scalar.indexCast v1024
  let c0_422 : Index := 0#32
  let c4_423 : Index := 4#32
  let c0_424 : Index := 0#32
  let c0_425 : Index := 0#32
  ![v1082.toNat, 0, 4, 0, 0]
def k0_off21 (k0_t3 : Fin k0_t3_loop.trips) (c0_i32_436 : BitVec 32) (c0_i32_438 : BitVec 32) : Fin 3 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c4_i32_398 : BitVec 32 := 4#32
  let v1025 : BitVec 32 := Scalar.addi v1024 c4_i32_398
  let v1143 : BitVec 32 := Scalar.addi v1025 c0_i32_436
  let v1147 : BitVec 32 := Scalar.addi v1143 c0_i32_438
  let v1148 : Index := Scalar.indexCast v1147
  let c512_439 : Index := 512#32
  ![v1148.toNat, 0, 512]
def k0_off22 (k0_t3 : Fin k0_t3_loop.trips) : Fin 5 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c4_i32_398 : BitVec 32 := 4#32
  let v1025 : BitVec 32 := Scalar.addi v1024 c4_i32_398
  let v1199 : Index := Scalar.indexCast v1025
  let c0_460 : Index := 0#32
  let c4_461 : Index := 4#32
  let c0_462 : Index := 0#32
  let c0_463 : Index := 0#32
  ![v1199.toNat, 0, 4, 0, 0]
def k0_off23 (k0_t3 : Fin k0_t3_loop.trips) (c0_i32_474 : BitVec 32) (c0_i32_476 : BitVec 32) : Fin 3 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let v1261 : BitVec 32 := Scalar.addi v1024 c0_i32_474
  let v1265 : BitVec 32 := Scalar.addi v1261 c0_i32_476
  let v1266 : Index := Scalar.indexCast v1265
  let c640_477 : Index := 640#32
  ![v1266.toNat, 0, 640]
def k0_off24 (k0_t3 : Fin k0_t3_loop.trips) : Fin 5 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let v1317 : Index := Scalar.indexCast v1024
  let c0_498 : Index := 0#32
  let c5_499 : Index := 5#32
  let c0_500 : Index := 0#32
  let c0_501 : Index := 0#32
  ![v1317.toNat, 0, 5, 0, 0]
def k0_off25 (k0_t3 : Fin k0_t3_loop.trips) (c0_i32_512 : BitVec 32) (c0_i32_514 : BitVec 32) : Fin 3 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c4_i32_398 : BitVec 32 := 4#32
  let v1025 : BitVec 32 := Scalar.addi v1024 c4_i32_398
  let v1378 : BitVec 32 := Scalar.addi v1025 c0_i32_512
  let v1382 : BitVec 32 := Scalar.addi v1378 c0_i32_514
  let v1383 : Index := Scalar.indexCast v1382
  let c640_515 : Index := 640#32
  ![v1383.toNat, 0, 640]
def k0_off26 (k0_t3 : Fin k0_t3_loop.trips) : Fin 5 → Nat :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c4_i32_398 : BitVec 32 := 4#32
  let v1025 : BitVec 32 := Scalar.addi v1024 c4_i32_398
  let v1434 : Index := Scalar.indexCast v1025
  let c0_536 : Index := 0#32
  let c5_537 : Index := 5#32
  let c0_538 : Index := 0#32
  let c0_539 : Index := 0#32
  ![v1434.toNat, 0, 5, 0, 0]
def k0_mult3 (k0_t3 : Fin k0_t3_loop.trips) : BitVec 32 :=
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c32_i32 : BitVec 32 := 32#32
  let v1497 : BitVec 32 := Scalar.muli v1024 c32_i32
  v1497
def k0_off27 (k0_t3 : Fin k0_t3_loop.trips) : Fin 2 → Nat :=
  let c0_550 : Index := 0#32
  let c0_i32_160 : BitVec 32 := 0#32
  let c1_i32_162 : BitVec 32 := 1#32
  let arg9 : BitVec 32 := Scf.iv c0_i32_160 c1_i32_162 k0_t3
  let c8_i32 : BitVec 32 := 8#32
  let v1024 : BitVec 32 := Scalar.muli arg9 c8_i32
  let c32_i32 : BitVec 32 := 32#32
  let v1497 : BitVec 32 := Scalar.muli v1024 c32_i32
  let v1498 : BitVec 32 := v1497
  let v1499 : Index := Scalar.indexCast v1498
  ![0, v1499.toNat]
@[reducible] def k0_t4_loop : Scf.Loop 32 :=
  let c0_i32_240 : BitVec 32 := 0#32
  let c13_i32_241 : BitVec 32 := 13#32
  let v623 : BitVec 32 := Scalar.addi c0_i32_240 c13_i32_241
  let c1_i32_242 : BitVec 32 := 1#32
  ⟨c0_i32_240, v623, c1_i32_242⟩
def k0_off28 (k0_t4 : Fin k0_t4_loop.trips) (c0_i32_399 : BitVec 32) (c0_i32_401 : BitVec 32) : Fin 3 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let v1026 : BitVec 32 := Scalar.addi v1024 c0_i32_399
  let v1030 : BitVec 32 := Scalar.addi v1026 c0_i32_401
  let v1031 : Index := Scalar.indexCast v1030
  let c768_402 : Index := 768#32
  ![v1031.toNat, 0, 768]
def k0_off29 (k0_t4 : Fin k0_t4_loop.trips) : Fin 5 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let v1082 : Index := Scalar.indexCast v1024
  let c0_422 : Index := 0#32
  let c6_423 : Index := 6#32
  let c0_424 : Index := 0#32
  let c0_425 : Index := 0#32
  ![v1082.toNat, 0, 6, 0, 0]
def k0_off30 (k0_t4 : Fin k0_t4_loop.trips) (c0_i32_436 : BitVec 32) (c0_i32_438 : BitVec 32) : Fin 3 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c4_i32_398 : BitVec 32 := 4#32
  let v1025 : BitVec 32 := Scalar.addi v1024 c4_i32_398
  let v1143 : BitVec 32 := Scalar.addi v1025 c0_i32_436
  let v1147 : BitVec 32 := Scalar.addi v1143 c0_i32_438
  let v1148 : Index := Scalar.indexCast v1147
  let c768_439 : Index := 768#32
  ![v1148.toNat, 0, 768]
def k0_off31 (k0_t4 : Fin k0_t4_loop.trips) : Fin 5 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c4_i32_398 : BitVec 32 := 4#32
  let v1025 : BitVec 32 := Scalar.addi v1024 c4_i32_398
  let v1199 : Index := Scalar.indexCast v1025
  let c0_460 : Index := 0#32
  let c6_461 : Index := 6#32
  let c0_462 : Index := 0#32
  let c0_463 : Index := 0#32
  ![v1199.toNat, 0, 6, 0, 0]
def k0_off32 (k0_t4 : Fin k0_t4_loop.trips) (c0_i32_474 : BitVec 32) (c0_i32_476 : BitVec 32) : Fin 3 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let v1261 : BitVec 32 := Scalar.addi v1024 c0_i32_474
  let v1265 : BitVec 32 := Scalar.addi v1261 c0_i32_476
  let v1266 : Index := Scalar.indexCast v1265
  let c896_477 : Index := 896#32
  ![v1266.toNat, 0, 896]
def k0_off33 (k0_t4 : Fin k0_t4_loop.trips) : Fin 5 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let v1317 : Index := Scalar.indexCast v1024
  let c0_498 : Index := 0#32
  let c7_499 : Index := 7#32
  let c0_500 : Index := 0#32
  let c0_501 : Index := 0#32
  ![v1317.toNat, 0, 7, 0, 0]
def k0_off34 (k0_t4 : Fin k0_t4_loop.trips) (c0_i32_512 : BitVec 32) (c0_i32_514 : BitVec 32) : Fin 3 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c4_i32_398 : BitVec 32 := 4#32
  let v1025 : BitVec 32 := Scalar.addi v1024 c4_i32_398
  let v1378 : BitVec 32 := Scalar.addi v1025 c0_i32_512
  let v1382 : BitVec 32 := Scalar.addi v1378 c0_i32_514
  let v1383 : Index := Scalar.indexCast v1382
  let c896_515 : Index := 896#32
  ![v1383.toNat, 0, 896]
def k0_off35 (k0_t4 : Fin k0_t4_loop.trips) : Fin 5 → Nat :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c4_i32_398 : BitVec 32 := 4#32
  let v1025 : BitVec 32 := Scalar.addi v1024 c4_i32_398
  let v1434 : Index := Scalar.indexCast v1025
  let c0_536 : Index := 0#32
  let c7_537 : Index := 7#32
  let c0_538 : Index := 0#32
  let c0_539 : Index := 0#32
  ![v1434.toNat, 0, 7, 0, 0]
def k0_mult4 (k0_t4 : Fin k0_t4_loop.trips) : BitVec 32 :=
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c32_i32 : BitVec 32 := 32#32
  let v1497 : BitVec 32 := Scalar.muli v1024 c32_i32
  v1497
def k0_off36 (k0_t4 : Fin k0_t4_loop.trips) : Fin 2 → Nat :=
  let c0_550 : Index := 0#32
  let c0_i32_240 : BitVec 32 := 0#32
  let c1_i32_242 : BitVec 32 := 1#32
  let arg9 : BitVec 32 := Scf.iv c0_i32_240 c1_i32_242 k0_t4
  let c8_i32 : BitVec 32 := 8#32
  let v1024 : BitVec 32 := Scalar.muli arg9 c8_i32
  let c32_i32 : BitVec 32 := 32#32
  let v1497 : BitVec 32 := Scalar.muli v1024 c32_i32
  let v1498 : BitVec 32 := v1497
  let v1499 : Index := Scalar.indexCast v1498
  ![0, v1499.toNat]
@[reducible] def k0_t5_loop : Scf.Loop 32 :=
  let c0_i32_320 : BitVec 32 := 0#32
  let c13_i32_321 : BitVec 32 := 13#32
  let v825 : BitVec 32 := Scalar.addi c0_i32_320 c13_i32_321
  let c1_i32_322 : BitVec 32 := 1#32
  ⟨c0_i32_320, v825, c1_i32_322⟩
def k0_off37 (k0_t5 : Fin k0_t5_loop.trips) (c0_i32_399 : BitVec 32) (c0_i32_401 : BitVec 32) : Fin 3 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let v1026 : BitVec 32 := Scalar.addi v1024 c0_i32_399
  let v1030 : BitVec 32 := Scalar.addi v1026 c0_i32_401
  let v1031 : Index := Scalar.indexCast v1030
  let c1024_402 : Index := 1024#32
  ![v1031.toNat, 0, 1024]
def k0_off38 (k0_t5 : Fin k0_t5_loop.trips) : Fin 5 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let v1082 : Index := Scalar.indexCast v1024
  let c0_422 : Index := 0#32
  let c8_423 : Index := 8#32
  let c0_424 : Index := 0#32
  let c0_425 : Index := 0#32
  ![v1082.toNat, 0, 8, 0, 0]
def k0_off39 (k0_t5 : Fin k0_t5_loop.trips) (c0_i32_436 : BitVec 32) (c0_i32_438 : BitVec 32) : Fin 3 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c4_i32_398 : BitVec 32 := 4#32
  let v1025 : BitVec 32 := Scalar.addi v1024 c4_i32_398
  let v1143 : BitVec 32 := Scalar.addi v1025 c0_i32_436
  let v1147 : BitVec 32 := Scalar.addi v1143 c0_i32_438
  let v1148 : Index := Scalar.indexCast v1147
  let c1024_439 : Index := 1024#32
  ![v1148.toNat, 0, 1024]
def k0_off40 (k0_t5 : Fin k0_t5_loop.trips) : Fin 5 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c4_i32_398 : BitVec 32 := 4#32
  let v1025 : BitVec 32 := Scalar.addi v1024 c4_i32_398
  let v1199 : Index := Scalar.indexCast v1025
  let c0_460 : Index := 0#32
  let c8_461 : Index := 8#32
  let c0_462 : Index := 0#32
  let c0_463 : Index := 0#32
  ![v1199.toNat, 0, 8, 0, 0]
def k0_off41 (k0_t5 : Fin k0_t5_loop.trips) (c0_i32_474 : BitVec 32) (c0_i32_476 : BitVec 32) : Fin 3 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let v1261 : BitVec 32 := Scalar.addi v1024 c0_i32_474
  let v1265 : BitVec 32 := Scalar.addi v1261 c0_i32_476
  let v1266 : Index := Scalar.indexCast v1265
  let c1152_477 : Index := 1152#32
  ![v1266.toNat, 0, 1152]
def k0_off42 (k0_t5 : Fin k0_t5_loop.trips) : Fin 5 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let v1317 : Index := Scalar.indexCast v1024
  let c0_498 : Index := 0#32
  let c9_499 : Index := 9#32
  let c0_500 : Index := 0#32
  let c0_501 : Index := 0#32
  ![v1317.toNat, 0, 9, 0, 0]
def k0_off43 (k0_t5 : Fin k0_t5_loop.trips) (c0_i32_512 : BitVec 32) (c0_i32_514 : BitVec 32) : Fin 3 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c4_i32_398 : BitVec 32 := 4#32
  let v1025 : BitVec 32 := Scalar.addi v1024 c4_i32_398
  let v1378 : BitVec 32 := Scalar.addi v1025 c0_i32_512
  let v1382 : BitVec 32 := Scalar.addi v1378 c0_i32_514
  let v1383 : Index := Scalar.indexCast v1382
  let c1152_515 : Index := 1152#32
  ![v1383.toNat, 0, 1152]
def k0_off44 (k0_t5 : Fin k0_t5_loop.trips) : Fin 5 → Nat :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c4_i32_398 : BitVec 32 := 4#32
  let v1025 : BitVec 32 := Scalar.addi v1024 c4_i32_398
  let v1434 : Index := Scalar.indexCast v1025
  let c0_536 : Index := 0#32
  let c9_537 : Index := 9#32
  let c0_538 : Index := 0#32
  let c0_539 : Index := 0#32
  ![v1434.toNat, 0, 9, 0, 0]
def k0_mult5 (k0_t5 : Fin k0_t5_loop.trips) : BitVec 32 :=
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c32_i32 : BitVec 32 := 32#32
  let v1497 : BitVec 32 := Scalar.muli v1024 c32_i32
  v1497
def k0_off45 (k0_t5 : Fin k0_t5_loop.trips) : Fin 2 → Nat :=
  let c0_550 : Index := 0#32
  let c0_i32_320 : BitVec 32 := 0#32
  let c1_i32_322 : BitVec 32 := 1#32
  let arg9 : BitVec 32 := Scf.iv c0_i32_320 c1_i32_322 k0_t5
  let c8_i32 : BitVec 32 := 8#32
  let v1024 : BitVec 32 := Scalar.muli arg9 c8_i32
  let c32_i32 : BitVec 32 := 32#32
  let v1497 : BitVec 32 := Scalar.muli v1024 c32_i32
  let v1498 : BitVec 32 := v1497
  let v1499 : Index := Scalar.indexCast v1498
  ![0, v1499.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x3456 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S108x2x10x8x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S108x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S108x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceDownIdeal.lean ====
abbrev S128x3456 : Shape := ⟨2, ![128, 3456]⟩
abbrev S128x5120 : Shape := ⟨2, ![128, 5120]⟩
abbrev S5120x108x16 : Shape := ⟨3, ![5120, 108, 16]⟩
abbrev S5120x108 : Shape := ⟨2, ![5120, 108]⟩
abbrev S128x27x2x2x2x2x2x4 : Shape := ⟨8, ![128, 27, 2, 2, 2, 2, 2, 4]⟩
abbrev S128x108x32 : Shape := ⟨3, ![128, 108, 32]⟩
abbrev S128x108x16 : Shape := ⟨3, ![128, 108, 16]⟩
abbrev S5120x108x1 : Shape := ⟨3, ![5120, 108, 1]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S128x3456, .bf16⟩
  | .hbm, ⟨1, _⟩ => ⟨S128x5120, .f32⟩
  | .hbm, ⟨2, _⟩ => ⟨S5120x108x16, .i8⟩
  | .hbm, ⟨3, _⟩ => ⟨S5120x108, .bf16⟩
  | .hbm, ⟨4, _⟩ => ⟨S5120x108, .bf16⟩
  | .hbm, ⟨5, _⟩ => ⟨S128x27x2x2x2x2x2x4, .bf16⟩
  | .hbm, ⟨6, _⟩ => ⟨S128x27x2x2x2x2x2x4, .bf16⟩
  | .hbm, ⟨7, _⟩ => ⟨S128x3456, .bf16⟩
  | .hbm, ⟨8, _⟩ => ⟨S128x108x32, .bf16⟩
  | .hbm, ⟨9, _⟩ => ⟨S128x108x16, .bf16⟩
  | .hbm, ⟨10, _⟩ => ⟨S128x108x16, .bf16⟩
  | .hbm, ⟨11, _⟩ => ⟨S5120x108x1, .bf16⟩
  | .hbm, ⟨12, _⟩ => ⟨S5120x108x1, .bf16⟩
  | .hbm, ⟨13, _⟩ => ⟨S5120x108x16, .i32⟩
  | .hbm, ⟨14, _⟩ => ⟨S_, .i32⟩
  | .hbm, ⟨15, _⟩ => ⟨S5120x108x16, .i32⟩
  | .hbm, ⟨16, _⟩ => ⟨S5120x108x16, .i32⟩
  | .hbm, ⟨17, _⟩ => ⟨S5120x108x16, .bf16⟩
  | .hbm, ⟨18, _⟩ => ⟨S5120x108x16, .bf16⟩
  | .hbm, ⟨19, _⟩ => ⟨S5120x108x16, .bf16⟩
  | .hbm, ⟨20, _⟩ => ⟨S5120x108x16, .bf16⟩
  | .hbm, ⟨21, _⟩ => ⟨S5120x108x16, .bf16⟩
  | .hbm, ⟨22, _⟩ => ⟨S5120x108x16, .i32⟩
  | .hbm, ⟨23, _⟩ => ⟨S_, .i32⟩
  | .hbm, ⟨24, _⟩ => ⟨S5120x108x16, .i32⟩
  | .hbm, ⟨25, _⟩ => ⟨S5120x108x16, .i32⟩
  | .hbm, ⟨26, _⟩ => ⟨S5120x108x16, .bf16⟩
  | .hbm, ⟨27, _⟩ => ⟨S5120x108x16, .bf16⟩
  | .hbm, ⟨28, _⟩ => ⟨S5120x108x16, .bf16⟩
  | .hbm, ⟨29, _⟩ => ⟨S5120x108x16, .bf16⟩
  | .hbm, ⟨30, _⟩ => ⟨S5120x108x16, .bf16⟩
  | .hbm, ⟨31, _⟩ => ⟨S128x5120, .f32⟩
  | .hbm, ⟨32, _⟩ => ⟨S128x5120, .f32⟩
  | .hbm, ⟨33, _⟩ => ⟨S128x5120, .f32⟩
  | .hbm, ⟨34, _⟩ => ⟨S128x5120, .f32⟩
  | .hbm, ⟨35, _⟩ => ⟨S128x5120, .bf16⟩
  | _, _ => ⟨S128x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== KernelWo.lean ====
abbrev S128x1280 : Shape := ⟨2, ![128, 1280]⟩
abbrev S128x5120 : Shape := ⟨2, ![128, 5120]⟩
abbrev S5120x40x16 : Shape := ⟨3, ![5120, 40, 16]⟩
abbrev S5120x40 : Shape := ⟨2, ![5120, 40]⟩
abbrev S40x16x5120 : Shape := ⟨3, ![40, 16, 5120]⟩
abbrev S40x2x8x40x128 : Shape := ⟨5, ![40, 2, 8, 40, 128]⟩
abbrev S40x2x40x8x128 : Shape := ⟨5, ![40, 2, 40, 8, 128]⟩
abbrev S40x5120 : Shape := ⟨2, ![40, 5120]⟩
abbrev S40x2x10x8x128 : Shape := ⟨5, ![40, 2, 10, 8, 128]⟩
abbrev S40x1280 : Shape := ⟨2, ![40, 1280]⟩
abbrev S128x256 : Shape := ⟨2, ![128, 256]⟩
abbrev S128x128 : Shape := ⟨2, ![128, 128]⟩
abbrev S8x128 : Shape := ⟨2, ![8, 128]⟩
abbrev S1x128 : Shape := ⟨2, ![1, 128]⟩
abbrev S16x128 : Shape := ⟨2, ![16, 128]⟩
abbrev S4x2x1x8x128 : Shape := ⟨5, ![4, 2, 1, 8, 128]⟩
abbrev S4x2x8x128 : Shape := ⟨4, ![4, 2, 8, 128]⟩
abbrev S64x128 : Shape := ⟨2, ![64, 128]⟩
abbrev S8x2x128 : Shape := ⟨3, ![8, 2, 128]⟩
abbrev S8x1x128 : Shape := ⟨3, ![8, 1, 128]⟩
abbrev S32x128 : Shape := ⟨2, ![32, 128]⟩
abbrev S256x128 : Shape := ⟨2, ![256, 128]⟩
abbrev S256x256 : Shape := ⟨2, ![256, 256]⟩

abbrev nBuf : Space → Nat
  | .hbm => 11
  | .vmem => 13
  | .smem => 0
  | _ => 0

abbrev bufTy : (tb : Table) → Fin (tcTables nBuf tb) → BufTy
  | .hbm, ⟨0, _⟩ => ⟨S128x1280, .bf16⟩
  | .hbm, ⟨1, _⟩ => ⟨S128x5120, .bf16⟩
  | .hbm, ⟨2, _⟩ => ⟨S5120x40x16, .i8⟩
  | .hbm, ⟨3, _⟩ => ⟨S5120x40, .bf16⟩
  | .hbm, ⟨4, _⟩ => ⟨S5120x40, .bf16⟩
  | .hbm, ⟨5, _⟩ => ⟨S40x16x5120, .i8⟩
  | .hbm, ⟨6, _⟩ => ⟨S40x2x8x40x128, .i8⟩
  | .hbm, ⟨7, _⟩ => ⟨S40x2x40x8x128, .i8⟩
  | .hbm, ⟨8, _⟩ => ⟨S40x5120, .bf16⟩
  | .hbm, ⟨9, _⟩ => ⟨S40x5120, .bf16⟩
  | .hbm, ⟨10, _⟩ => ⟨S128x5120, .f32⟩
  | .local _ .vmem, ⟨0, _⟩ => ⟨S128x1280, .bf16⟩
  | .local _ .vmem, ⟨1, _⟩ => ⟨S128x1280, .bf16⟩
  | .local _ .vmem, ⟨2, _⟩ => ⟨S128x1280, .bf16⟩
  | .local _ .vmem, ⟨3, _⟩ => ⟨S40x2x10x8x128, .i8⟩
  | .local _ .vmem, ⟨4, _⟩ => ⟨S40x2x10x8x128, .i8⟩
  | .local _ .vmem, ⟨5, _⟩ => ⟨S40x1280, .bf16⟩
  | .local _ .vmem, ⟨6, _⟩ => ⟨S40x1280, .bf16⟩
  | .local _ .vmem, ⟨7, _⟩ => ⟨S40x1280, .bf16⟩
  | .local _ .vmem, ⟨8, _⟩ => ⟨S40x1280, .bf16⟩
  | .local _ .vmem, ⟨9, _⟩ => ⟨S128x1280, .f32⟩
  | .local _ .vmem, ⟨10, _⟩ => ⟨S128x1280, .f32⟩
  | .local _ .vmem, ⟨11, _⟩ => ⟨S40x1280, .i32⟩
  | .local _ .vmem, ⟨12, _⟩ => ⟨S40x1280, .i32⟩
  | _, _ => ⟨S128x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![4], ![false]⟩

@[reducible] def k0_t1_loop : Scf.Loop 32 :=
  let c0_i32 : BitVec 32 := 0#32
  let c5_i32 : BitVec 32 := 5#32
  let v18 : BitVec 32 := Scalar.addi c0_i32 c5_i32
  let c1_i32 : BitVec 32 := 1#32
  ⟨c0_i32, v18, c1_i32⟩
def k0_off1 (k0_t1 : Fin k0_t1_loop.trips) (c0_i32_44 : BitVec 32) (c0_i32_46 : BitVec 32) : Fin 2 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let v56 : BitVec 32 := Scalar.addi v54 c0_i32_44
  let v60 : BitVec 32 := Scalar.addi v56 c0_i32_46
  let v61 : Index := Scalar.indexCast v60
  let c0_47 : Index := 0#32
  ![v61.toNat, 0]
def k0_off2 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let v112 : Index := Scalar.indexCast v54
  let c0_67 : Index := 0#32
  let c0_68 : Index := 0#32
  let c0_69 : Index := 0#32
  let c0_70 : Index := 0#32
  ![v112.toNat, 0, 0, 0, 0]
def k0_off3 (k0_t1 : Fin k0_t1_loop.trips) (c0_i32_80 : BitVec 32) (c0_i32_82 : BitVec 32) : Fin 2 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c4_i32 : BitVec 32 := 4#32
  let v55 : BitVec 32 := Scalar.addi v54 c4_i32
  let v173 : BitVec 32 := Scalar.addi v55 c0_i32_80
  let v177 : BitVec 32 := Scalar.addi v173 c0_i32_82
  let v178 : Index := Scalar.indexCast v177
  let c0_83 : Index := 0#32
  ![v178.toNat, 0]
def k0_off4 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c4_i32 : BitVec 32 := 4#32
  let v55 : BitVec 32 := Scalar.addi v54 c4_i32
  let v229 : Index := Scalar.indexCast v55
  let c0_104 : Index := 0#32
  let c0_105 : Index := 0#32
  let c0_106 : Index := 0#32
  let c0_107 : Index := 0#32
  ![v229.toNat, 0, 0, 0, 0]
def k0_off5 (k0_t1 : Fin k0_t1_loop.trips) (c0_i32_118 : BitVec 32) (c0_i32_120 : BitVec 32) : Fin 2 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let v291 : BitVec 32 := Scalar.addi v54 c0_i32_118
  let v295 : BitVec 32 := Scalar.addi v291 c0_i32_120
  let v296 : Index := Scalar.indexCast v295
  let c128 : Index := 128#32
  ![v296.toNat, 128]
def k0_off6 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let v347 : Index := Scalar.indexCast v54
  let c0_141 : Index := 0#32
  let c1 : Index := 1#32
  let c0_142 : Index := 0#32
  let c0_143 : Index := 0#32
  ![v347.toNat, 0, 1, 0, 0]
def k0_off7 (k0_t1 : Fin k0_t1_loop.trips) (c0_i32_154 : BitVec 32) (c0_i32_156 : BitVec 32) : Fin 2 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c4_i32 : BitVec 32 := 4#32
  let v55 : BitVec 32 := Scalar.addi v54 c4_i32
  let v408 : BitVec 32 := Scalar.addi v55 c0_i32_154
  let v412 : BitVec 32 := Scalar.addi v408 c0_i32_156
  let v413 : Index := Scalar.indexCast v412
  let c128_157 : Index := 128#32
  ![v413.toNat, 128]
def k0_off8 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c4_i32 : BitVec 32 := 4#32
  let v55 : BitVec 32 := Scalar.addi v54 c4_i32
  let v464 : Index := Scalar.indexCast v55
  let c0_178 : Index := 0#32
  let c1_179 : Index := 1#32
  let c0_180 : Index := 0#32
  let c0_181 : Index := 0#32
  ![v464.toNat, 0, 1, 0, 0]
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c32_i32 : BitVec 32 := 32#32
  let v527 : BitVec 32 := Scalar.muli v54 c32_i32
  v527
def k0_off9 (k0_t1 : Fin k0_t1_loop.trips) : Fin 2 → Nat :=
  let c0_192 : Index := 0#32
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c32_i32 : BitVec 32 := 32#32
  let v527 : BitVec 32 := Scalar.muli v54 c32_i32
  let v528 : BitVec 32 := v527
  let v529 : Index := Scalar.indexCast v528
  ![0, v529.toNat]
@[reducible] def k0_t2_loop : Scf.Loop 32 :=
  let c0_i32_14 : BitVec 32 := 0#32
  let c5_i32_15 : BitVec 32 := 5#32
  let v26 : BitVec 32 := Scalar.addi c0_i32_14 c5_i32_15
  let c1_i32_16 : BitVec 32 := 1#32
  ⟨c0_i32_14, v26, c1_i32_16⟩
def k0_off10 (k0_t2 : Fin k0_t2_loop.trips) (c0_i32_44 : BitVec 32) (c0_i32_46 : BitVec 32) : Fin 2 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let v56 : BitVec 32 := Scalar.addi v54 c0_i32_44
  let v60 : BitVec 32 := Scalar.addi v56 c0_i32_46
  let v61 : Index := Scalar.indexCast v60
  let c256_47 : Index := 256#32
  ![v61.toNat, 256]
def k0_off11 (k0_t2 : Fin k0_t2_loop.trips) : Fin 5 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let v112 : Index := Scalar.indexCast v54
  let c0_67 : Index := 0#32
  let c2 : Index := 2#32
  let c0_68 : Index := 0#32
  let c0_69 : Index := 0#32
  ![v112.toNat, 0, 2, 0, 0]
def k0_off12 (k0_t2 : Fin k0_t2_loop.trips) (c0_i32_79 : BitVec 32) (c0_i32_81 : BitVec 32) : Fin 2 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c4_i32 : BitVec 32 := 4#32
  let v55 : BitVec 32 := Scalar.addi v54 c4_i32
  let v173 : BitVec 32 := Scalar.addi v55 c0_i32_79
  let v177 : BitVec 32 := Scalar.addi v173 c0_i32_81
  let v178 : Index := Scalar.indexCast v177
  let c256_82 : Index := 256#32
  ![v178.toNat, 256]
def k0_off13 (k0_t2 : Fin k0_t2_loop.trips) : Fin 5 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c4_i32 : BitVec 32 := 4#32
  let v55 : BitVec 32 := Scalar.addi v54 c4_i32
  let v229 : Index := Scalar.indexCast v55
  let c0_103 : Index := 0#32
  let c2_104 : Index := 2#32
  let c0_105 : Index := 0#32
  let c0_106 : Index := 0#32
  ![v229.toNat, 0, 2, 0, 0]
def k0_off14 (k0_t2 : Fin k0_t2_loop.trips) (c0_i32_117 : BitVec 32) (c0_i32_119 : BitVec 32) : Fin 2 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let v291 : BitVec 32 := Scalar.addi v54 c0_i32_117
  let v295 : BitVec 32 := Scalar.addi v291 c0_i32_119
  let v296 : Index := Scalar.indexCast v295
  let c384 : Index := 384#32
  ![v296.toNat, 384]
def k0_off15 (k0_t2 : Fin k0_t2_loop.trips) : Fin 5 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let v347 : Index := Scalar.indexCast v54
  let c0_140 : Index := 0#32
  let c3 : Index := 3#32
  let c0_141 : Index := 0#32
  let c0_142 : Index := 0#32
  ![v347.toNat, 0, 3, 0, 0]
def k0_off16 (k0_t2 : Fin k0_t2_loop.trips) (c0_i32_153 : BitVec 32) (c0_i32_155 : BitVec 32) : Fin 2 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c4_i32 : BitVec 32 := 4#32
  let v55 : BitVec 32 := Scalar.addi v54 c4_i32
  let v408 : BitVec 32 := Scalar.addi v55 c0_i32_153
  let v412 : BitVec 32 := Scalar.addi v408 c0_i32_155
  let v413 : Index := Scalar.indexCast v412
  let c384_156 : Index := 384#32
  ![v413.toNat, 384]
def k0_off17 (k0_t2 : Fin k0_t2_loop.trips) : Fin 5 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c4_i32 : BitVec 32 := 4#32
  let v55 : BitVec 32 := Scalar.addi v54 c4_i32
  let v464 : Index := Scalar.indexCast v55
  let c0_177 : Index := 0#32
  let c3_178 : Index := 3#32
  let c0_179 : Index := 0#32
  let c0_180 : Index := 0#32
  ![v464.toNat, 0, 3, 0, 0]
def k0_mult2 (k0_t2 : Fin k0_t2_loop.trips) : BitVec 32 :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c32_i32 : BitVec 32 := 32#32
  let v527 : BitVec 32 := Scalar.muli v54 c32_i32
  v527
def k0_off18 (k0_t2 : Fin k0_t2_loop.trips) : Fin 2 → Nat :=
  let c0_191 : Index := 0#32
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c32_i32 : BitVec 32 := 32#32
  let v527 : BitVec 32 := Scalar.muli v54 c32_i32
  let v528 : BitVec 32 := v527
  let v529 : Index := Scalar.indexCast v528
  ![0, v529.toNat]
@[reducible] def k0_t3_loop : Scf.Loop 32 :=
  let c0_i32_22 : BitVec 32 := 0#32
  let c5_i32_23 : BitVec 32 := 5#32
  let v34 : BitVec 32 := Scalar.addi c0_i32_22 c5_i32_23
  let c1_i32_24 : BitVec 32 := 1#32
  ⟨c0_i32_22, v34, c1_i32_24⟩
def k0_off19 (k0_t3 : Fin k0_t3_loop.trips) (c0_i32_44 : BitVec 32) (c0_i32_46 : BitVec 32) : Fin 2 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let v56 : BitVec 32 := Scalar.addi v54 c0_i32_44
  let v60 : BitVec 32 := Scalar.addi v56 c0_i32_46
  let v61 : Index := Scalar.indexCast v60
  let c512_47 : Index := 512#32
  ![v61.toNat, 512]
def k0_off20 (k0_t3 : Fin k0_t3_loop.trips) : Fin 5 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let v112 : Index := Scalar.indexCast v54
  let c0_67 : Index := 0#32
  let c4 : Index := 4#32
  let c0_68 : Index := 0#32
  let c0_69 : Index := 0#32
  ![v112.toNat, 0, 4, 0, 0]
def k0_off21 (k0_t3 : Fin k0_t3_loop.trips) (c0_i32_79 : BitVec 32) (c0_i32_81 : BitVec 32) : Fin 2 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c4_i32 : BitVec 32 := 4#32
  let v55 : BitVec 32 := Scalar.addi v54 c4_i32
  let v173 : BitVec 32 := Scalar.addi v55 c0_i32_79
  let v177 : BitVec 32 := Scalar.addi v173 c0_i32_81
  let v178 : Index := Scalar.indexCast v177
  let c512_82 : Index := 512#32
  ![v178.toNat, 512]
def k0_off22 (k0_t3 : Fin k0_t3_loop.trips) : Fin 5 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c4_i32 : BitVec 32 := 4#32
  let v55 : BitVec 32 := Scalar.addi v54 c4_i32
  let v229 : Index := Scalar.indexCast v55
  let c0_103 : Index := 0#32
  let c4_104 : Index := 4#32
  let c0_105 : Index := 0#32
  let c0_106 : Index := 0#32
  ![v229.toNat, 0, 4, 0, 0]
def k0_off23 (k0_t3 : Fin k0_t3_loop.trips) (c0_i32_117 : BitVec 32) (c0_i32_119 : BitVec 32) : Fin 2 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let v291 : BitVec 32 := Scalar.addi v54 c0_i32_117
  let v295 : BitVec 32 := Scalar.addi v291 c0_i32_119
  let v296 : Index := Scalar.indexCast v295
  let c640 : Index := 640#32
  ![v296.toNat, 640]
def k0_off24 (k0_t3 : Fin k0_t3_loop.trips) : Fin 5 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let v347 : Index := Scalar.indexCast v54
  let c0_140 : Index := 0#32
  let c5 : Index := 5#32
  let c0_141 : Index := 0#32
  let c0_142 : Index := 0#32
  ![v347.toNat, 0, 5, 0, 0]
def k0_off25 (k0_t3 : Fin k0_t3_loop.trips) (c0_i32_153 : BitVec 32) (c0_i32_155 : BitVec 32) : Fin 2 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c4_i32 : BitVec 32 := 4#32
  let v55 : BitVec 32 := Scalar.addi v54 c4_i32
  let v408 : BitVec 32 := Scalar.addi v55 c0_i32_153
  let v412 : BitVec 32 := Scalar.addi v408 c0_i32_155
  let v413 : Index := Scalar.indexCast v412
  let c640_156 : Index := 640#32
  ![v413.toNat, 640]
def k0_off26 (k0_t3 : Fin k0_t3_loop.trips) : Fin 5 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c4_i32 : BitVec 32 := 4#32
  let v55 : BitVec 32 := Scalar.addi v54 c4_i32
  let v464 : Index := Scalar.indexCast v55
  let c0_177 : Index := 0#32
  let c5_178 : Index := 5#32
  let c0_179 : Index := 0#32
  let c0_180 : Index := 0#32
  ![v464.toNat, 0, 5, 0, 0]
def k0_mult3 (k0_t3 : Fin k0_t3_loop.trips) : BitVec 32 :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c32_i32 : BitVec 32 := 32#32
  let v527 : BitVec 32 := Scalar.muli v54 c32_i32
  v527
def k0_off27 (k0_t3 : Fin k0_t3_loop.trips) : Fin 2 → Nat :=
  let c0_191 : Index := 0#32
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c32_i32 : BitVec 32 := 32#32
  let v527 : BitVec 32 := Scalar.muli v54 c32_i32
  let v528 : BitVec 32 := v527
  let v529 : Index := Scalar.indexCast v528
  ![0, v529.toNat]
@[reducible] def k0_t4_loop : Scf.Loop 32 :=
  let c0_i32_30 : BitVec 32 := 0#32
  let c5_i32_31 : BitVec 32 := 5#32
  let v42 : BitVec 32 := Scalar.addi c0_i32_30 c5_i32_31
  let c1_i32_32 : BitVec 32 := 1#32
  ⟨c0_i32_30, v42, c1_i32_32⟩
def k0_off28 (k0_t4 : Fin k0_t4_loop.trips) (c0_i32_44 : BitVec 32) (c0_i32_46 : BitVec 32) : Fin 2 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let v56 : BitVec 32 := Scalar.addi v54 c0_i32_44
  let v60 : BitVec 32 := Scalar.addi v56 c0_i32_46
  let v61 : Index := Scalar.indexCast v60
  let c768_47 : Index := 768#32
  ![v61.toNat, 768]
def k0_off29 (k0_t4 : Fin k0_t4_loop.trips) : Fin 5 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let v112 : Index := Scalar.indexCast v54
  let c0_67 : Index := 0#32
  let c6 : Index := 6#32
  let c0_68 : Index := 0#32
  let c0_69 : Index := 0#32
  ![v112.toNat, 0, 6, 0, 0]
def k0_off30 (k0_t4 : Fin k0_t4_loop.trips) (c0_i32_79 : BitVec 32) (c0_i32_81 : BitVec 32) : Fin 2 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c4_i32 : BitVec 32 := 4#32
  let v55 : BitVec 32 := Scalar.addi v54 c4_i32
  let v173 : BitVec 32 := Scalar.addi v55 c0_i32_79
  let v177 : BitVec 32 := Scalar.addi v173 c0_i32_81
  let v178 : Index := Scalar.indexCast v177
  let c768_82 : Index := 768#32
  ![v178.toNat, 768]
def k0_off31 (k0_t4 : Fin k0_t4_loop.trips) : Fin 5 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c4_i32 : BitVec 32 := 4#32
  let v55 : BitVec 32 := Scalar.addi v54 c4_i32
  let v229 : Index := Scalar.indexCast v55
  let c0_103 : Index := 0#32
  let c6_104 : Index := 6#32
  let c0_105 : Index := 0#32
  let c0_106 : Index := 0#32
  ![v229.toNat, 0, 6, 0, 0]
def k0_off32 (k0_t4 : Fin k0_t4_loop.trips) (c0_i32_117 : BitVec 32) (c0_i32_119 : BitVec 32) : Fin 2 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let v291 : BitVec 32 := Scalar.addi v54 c0_i32_117
  let v295 : BitVec 32 := Scalar.addi v291 c0_i32_119
  let v296 : Index := Scalar.indexCast v295
  let c896 : Index := 896#32
  ![v296.toNat, 896]
def k0_off33 (k0_t4 : Fin k0_t4_loop.trips) : Fin 5 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let v347 : Index := Scalar.indexCast v54
  let c0_140 : Index := 0#32
  let c7 : Index := 7#32
  let c0_141 : Index := 0#32
  let c0_142 : Index := 0#32
  ![v347.toNat, 0, 7, 0, 0]
def k0_off34 (k0_t4 : Fin k0_t4_loop.trips) (c0_i32_153 : BitVec 32) (c0_i32_155 : BitVec 32) : Fin 2 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c4_i32 : BitVec 32 := 4#32
  let v55 : BitVec 32 := Scalar.addi v54 c4_i32
  let v408 : BitVec 32 := Scalar.addi v55 c0_i32_153
  let v412 : BitVec 32 := Scalar.addi v408 c0_i32_155
  let v413 : Index := Scalar.indexCast v412
  let c896_156 : Index := 896#32
  ![v413.toNat, 896]
def k0_off35 (k0_t4 : Fin k0_t4_loop.trips) : Fin 5 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c4_i32 : BitVec 32 := 4#32
  let v55 : BitVec 32 := Scalar.addi v54 c4_i32
  let v464 : Index := Scalar.indexCast v55
  let c0_177 : Index := 0#32
  let c7_178 : Index := 7#32
  let c0_179 : Index := 0#32
  let c0_180 : Index := 0#32
  ![v464.toNat, 0, 7, 0, 0]
def k0_mult4 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c32_i32 : BitVec 32 := 32#32
  let v527 : BitVec 32 := Scalar.muli v54 c32_i32
  v527
def k0_off36 (k0_t4 : Fin k0_t4_loop.trips) : Fin 2 → Nat :=
  let c0_191 : Index := 0#32
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c32_i32 : BitVec 32 := 32#32
  let v527 : BitVec 32 := Scalar.muli v54 c32_i32
  let v528 : BitVec 32 := v527
  let v529 : Index := Scalar.indexCast v528
  ![0, v529.toNat]
@[reducible] def k0_t5_loop : Scf.Loop 32 :=
  let c0_i32_38 : BitVec 32 := 0#32
  let c5_i32_39 : BitVec 32 := 5#32
  let v50 : BitVec 32 := Scalar.addi c0_i32_38 c5_i32_39
  let c1_i32_40 : BitVec 32 := 1#32
  ⟨c0_i32_38, v50, c1_i32_40⟩
def k0_off37 (k0_t5 : Fin k0_t5_loop.trips) (c0_i32_44 : BitVec 32) (c0_i32_46 : BitVec 32) : Fin 2 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let v56 : BitVec 32 := Scalar.addi v54 c0_i32_44
  let v60 : BitVec 32 := Scalar.addi v56 c0_i32_46
  let v61 : Index := Scalar.indexCast v60
  let c1024_47 : Index := 1024#32
  ![v61.toNat, 1024]
def k0_off38 (k0_t5 : Fin k0_t5_loop.trips) : Fin 5 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let v112 : Index := Scalar.indexCast v54
  let c0_67 : Index := 0#32
  let c8 : Index := 8#32
  let c0_68 : Index := 0#32
  let c0_69 : Index := 0#32
  ![v112.toNat, 0, 8, 0, 0]
def k0_off39 (k0_t5 : Fin k0_t5_loop.trips) (c0_i32_79 : BitVec 32) (c0_i32_81 : BitVec 32) : Fin 2 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c4_i32 : BitVec 32 := 4#32
  let v55 : BitVec 32 := Scalar.addi v54 c4_i32
  let v173 : BitVec 32 := Scalar.addi v55 c0_i32_79
  let v177 : BitVec 32 := Scalar.addi v173 c0_i32_81
  let v178 : Index := Scalar.indexCast v177
  let c1024_82 : Index := 1024#32
  ![v178.toNat, 1024]
def k0_off40 (k0_t5 : Fin k0_t5_loop.trips) : Fin 5 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c4_i32 : BitVec 32 := 4#32
  let v55 : BitVec 32 := Scalar.addi v54 c4_i32
  let v229 : Index := Scalar.indexCast v55
  let c0_103 : Index := 0#32
  let c8_104 : Index := 8#32
  let c0_105 : Index := 0#32
  let c0_106 : Index := 0#32
  ![v229.toNat, 0, 8, 0, 0]
def k0_off41 (k0_t5 : Fin k0_t5_loop.trips) (c0_i32_117 : BitVec 32) (c0_i32_119 : BitVec 32) : Fin 2 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let v291 : BitVec 32 := Scalar.addi v54 c0_i32_117
  let v295 : BitVec 32 := Scalar.addi v291 c0_i32_119
  let v296 : Index := Scalar.indexCast v295
  let c1152 : Index := 1152#32
  ![v296.toNat, 1152]
def k0_off42 (k0_t5 : Fin k0_t5_loop.trips) : Fin 5 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let v347 : Index := Scalar.indexCast v54
  let c0_140 : Index := 0#32
  let c9 : Index := 9#32
  let c0_141 : Index := 0#32
  let c0_142 : Index := 0#32
  ![v347.toNat, 0, 9, 0, 0]
def k0_off43 (k0_t5 : Fin k0_t5_loop.trips) (c0_i32_153 : BitVec 32) (c0_i32_155 : BitVec 32) : Fin 2 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c4_i32 : BitVec 32 := 4#32
  let v55 : BitVec 32 := Scalar.addi v54 c4_i32
  let v408 : BitVec 32 := Scalar.addi v55 c0_i32_153
  let v412 : BitVec 32 := Scalar.addi v408 c0_i32_155
  let v413 : Index := Scalar.indexCast v412
  let c1152_156 : Index := 1152#32
  ![v413.toNat, 1152]
def k0_off44 (k0_t5 : Fin k0_t5_loop.trips) : Fin 5 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c4_i32 : BitVec 32 := 4#32
  let v55 : BitVec 32 := Scalar.addi v54 c4_i32
  let v464 : Index := Scalar.indexCast v55
  let c0_177 : Index := 0#32
  let c9_178 : Index := 9#32
  let c0_179 : Index := 0#32
  let c0_180 : Index := 0#32
  ![v464.toNat, 0, 9, 0, 0]
def k0_mult5 (k0_t5 : Fin k0_t5_loop.trips) : BitVec 32 :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c32_i32 : BitVec 32 := 32#32
  let v527 : BitVec 32 := Scalar.muli v54 c32_i32
  v527
def k0_off45 (k0_t5 : Fin k0_t5_loop.trips) : Fin 2 → Nat :=
  let c0_191 : Index := 0#32
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c32_i32 : BitVec 32 := 32#32
  let v527 : BitVec 32 := Scalar.muli v54 c32_i32
  let v528 : BitVec 32 := v527
  let v529 : Index := Scalar.indexCast v528
  ![0, v529.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x2x10x8x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelWoIdeal.lean ====
abbrev S128x1280 : Shape := ⟨2, ![128, 1280]⟩
abbrev S128x5120 : Shape := ⟨2, ![128, 5120]⟩
abbrev S5120x40x16 : Shape := ⟨3, ![5120, 40, 16]⟩
abbrev S5120x40 : Shape := ⟨2, ![5120, 40]⟩
abbrev S40x16x5120 : Shape := ⟨3, ![40, 16, 5120]⟩
abbrev S40x2x8x40x128 : Shape := ⟨5, ![40, 2, 8, 40, 128]⟩
abbrev S40x2x40x8x128 : Shape := ⟨5, ![40, 2, 40, 8, 128]⟩
abbrev S40x5120 : Shape := ⟨2, ![40, 5120]⟩
abbrev S40x2x10x8x128 : Shape := ⟨5, ![40, 2, 10, 8, 128]⟩
abbrev S40x1280 : Shape := ⟨2, ![40, 1280]⟩
abbrev S40x2x1280 : Shape := ⟨3, ![40, 2, 1280]⟩
abbrev S40x1x1280 : Shape := ⟨3, ![40, 1, 1280]⟩
abbrev S128x256 : Shape := ⟨2, ![128, 256]⟩
abbrev S128x128 : Shape := ⟨2, ![128, 128]⟩
abbrev S8x128 : Shape := ⟨2, ![8, 128]⟩
abbrev S1x128 : Shape := ⟨2, ![1, 128]⟩
abbrev S1x2x128 : Shape := ⟨3, ![1, 2, 128]⟩
abbrev S1x1x128 : Shape := ⟨3, ![1, 1, 128]⟩
abbrev S16x128 : Shape := ⟨2, ![16, 128]⟩
abbrev S4x2x1x8x128 : Shape := ⟨5, ![4, 2, 1, 8, 128]⟩
abbrev S4x2x8x128 : Shape := ⟨4, ![4, 2, 8, 128]⟩
abbrev S64x128 : Shape := ⟨2, ![64, 128]⟩
abbrev S8x2x128 : Shape := ⟨3, ![8, 2, 128]⟩
abbrev S8x1x128 : Shape := ⟨3, ![8, 1, 128]⟩
abbrev S32x128 : Shape := ⟨2, ![32, 128]⟩
abbrev S256x128 : Shape := ⟨2, ![256, 128]⟩
abbrev S256x256 : Shape := ⟨2, ![256, 256]⟩

abbrev nBuf : Space → Nat
  | .hbm => 11
  | .vmem => 13
  | .smem => 0
  | _ => 0

abbrev bufTy : (tb : Table) → Fin (tcTables nBuf tb) → BufTy
  | .hbm, ⟨0, _⟩ => ⟨S128x1280, .bf16⟩
  | .hbm, ⟨1, _⟩ => ⟨S128x5120, .bf16⟩
  | .hbm, ⟨2, _⟩ => ⟨S5120x40x16, .i8⟩
  | .hbm, ⟨3, _⟩ => ⟨S5120x40, .bf16⟩
  | .hbm, ⟨4, _⟩ => ⟨S5120x40, .bf16⟩
  | .hbm, ⟨5, _⟩ => ⟨S40x16x5120, .i8⟩
  | .hbm, ⟨6, _⟩ => ⟨S40x2x8x40x128, .i8⟩
  | .hbm, ⟨7, _⟩ => ⟨S40x2x40x8x128, .i8⟩
  | .hbm, ⟨8, _⟩ => ⟨S40x5120, .bf16⟩
  | .hbm, ⟨9, _⟩ => ⟨S40x5120, .bf16⟩
  | .hbm, ⟨10, _⟩ => ⟨S128x5120, .f32⟩
  | .local _ .vmem, ⟨0, _⟩ => ⟨S128x1280, .bf16⟩
  | .local _ .vmem, ⟨1, _⟩ => ⟨S128x1280, .bf16⟩
  | .local _ .vmem, ⟨2, _⟩ => ⟨S128x1280, .bf16⟩
  | .local _ .vmem, ⟨3, _⟩ => ⟨S40x2x10x8x128, .i8⟩
  | .local _ .vmem, ⟨4, _⟩ => ⟨S40x2x10x8x128, .i8⟩
  | .local _ .vmem, ⟨5, _⟩ => ⟨S40x1280, .bf16⟩
  | .local _ .vmem, ⟨6, _⟩ => ⟨S40x1280, .bf16⟩
  | .local _ .vmem, ⟨7, _⟩ => ⟨S40x1280, .bf16⟩
  | .local _ .vmem, ⟨8, _⟩ => ⟨S40x1280, .bf16⟩
  | .local _ .vmem, ⟨9, _⟩ => ⟨S128x1280, .f32⟩
  | .local _ .vmem, ⟨10, _⟩ => ⟨S128x1280, .f32⟩
  | .local _ .vmem, ⟨11, _⟩ => ⟨S40x2x1280, .bf16⟩
  | .local _ .vmem, ⟨12, _⟩ => ⟨S40x2x1280, .bf16⟩
  | _, _ => ⟨S128x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c5_i32 : BitVec 32 := 5#32
  let v18 : BitVec 32 := Scalar.addi c0_i32 c5_i32
  let c1_i32 : BitVec 32 := 1#32
  ⟨c0_i32, v18, c1_i32⟩
def k0_off1 (k0_t1 : Fin k0_t1_loop.trips) (c0_i32_44 : BitVec 32) (c0_i32_46 : BitVec 32) : Fin 3 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let v56 : BitVec 32 := Scalar.addi v54 c0_i32_44
  let v60 : BitVec 32 := Scalar.addi v56 c0_i32_46
  let v61 : Index := Scalar.indexCast v60
  let c0_47 : Index := 0#32
  ![v61.toNat, 0, 0]
def k0_off2 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let v112 : Index := Scalar.indexCast v54
  let c0_67 : Index := 0#32
  let c0_68 : Index := 0#32
  let c0_69 : Index := 0#32
  let c0_70 : Index := 0#32
  ![v112.toNat, 0, 0, 0, 0]
def k0_off3 (k0_t1 : Fin k0_t1_loop.trips) (c0_i32_80 : BitVec 32) (c0_i32_82 : BitVec 32) : Fin 3 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c4_i32 : BitVec 32 := 4#32
  let v55 : BitVec 32 := Scalar.addi v54 c4_i32
  let v173 : BitVec 32 := Scalar.addi v55 c0_i32_80
  let v177 : BitVec 32 := Scalar.addi v173 c0_i32_82
  let v178 : Index := Scalar.indexCast v177
  let c0_83 : Index := 0#32
  ![v178.toNat, 0, 0]
def k0_off4 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c4_i32 : BitVec 32 := 4#32
  let v55 : BitVec 32 := Scalar.addi v54 c4_i32
  let v229 : Index := Scalar.indexCast v55
  let c0_104 : Index := 0#32
  let c0_105 : Index := 0#32
  let c0_106 : Index := 0#32
  let c0_107 : Index := 0#32
  ![v229.toNat, 0, 0, 0, 0]
def k0_off5 (k0_t1 : Fin k0_t1_loop.trips) (c0_i32_118 : BitVec 32) (c0_i32_120 : BitVec 32) : Fin 3 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let v291 : BitVec 32 := Scalar.addi v54 c0_i32_118
  let v295 : BitVec 32 := Scalar.addi v291 c0_i32_120
  let v296 : Index := Scalar.indexCast v295
  let c128 : Index := 128#32
  ![v296.toNat, 0, 128]
def k0_off6 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let v347 : Index := Scalar.indexCast v54
  let c0_141 : Index := 0#32
  let c1 : Index := 1#32
  let c0_142 : Index := 0#32
  let c0_143 : Index := 0#32
  ![v347.toNat, 0, 1, 0, 0]
def k0_off7 (k0_t1 : Fin k0_t1_loop.trips) (c0_i32_154 : BitVec 32) (c0_i32_156 : BitVec 32) : Fin 3 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c4_i32 : BitVec 32 := 4#32
  let v55 : BitVec 32 := Scalar.addi v54 c4_i32
  let v408 : BitVec 32 := Scalar.addi v55 c0_i32_154
  let v412 : BitVec 32 := Scalar.addi v408 c0_i32_156
  let v413 : Index := Scalar.indexCast v412
  let c128_157 : Index := 128#32
  ![v413.toNat, 0, 128]
def k0_off8 (k0_t1 : Fin k0_t1_loop.trips) : Fin 5 → Nat :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c4_i32 : BitVec 32 := 4#32
  let v55 : BitVec 32 := Scalar.addi v54 c4_i32
  let v464 : Index := Scalar.indexCast v55
  let c0_178 : Index := 0#32
  let c1_179 : Index := 1#32
  let c0_180 : Index := 0#32
  let c0_181 : Index := 0#32
  ![v464.toNat, 0, 1, 0, 0]
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c32_i32 : BitVec 32 := 32#32
  let v527 : BitVec 32 := Scalar.muli v54 c32_i32
  v527
def k0_off9 (k0_t1 : Fin k0_t1_loop.trips) : Fin 2 → Nat :=
  let c0_192 : Index := 0#32
  let c0_i32 : BitVec 32 := 0#32
  let c1_i32 : BitVec 32 := 1#32
  let arg9 : BitVec 32 := Scf.iv c0_i32 c1_i32 k0_t1
  let c8_i32 : BitVec 32 := 8#32
  let v54 : BitVec 32 := Scalar.muli arg9 c8_i32
  let c32_i32 : BitVec 32 := 32#32
  let v527 : BitVec 32 := Scalar.muli v54 c32_i32
  let v528 : BitVec 32 := v527
  let v529 : Index := Scalar.indexCast v528
  ![0, v529.toNat]
@[reducible] def k0_t2_loop : Scf.Loop 32 :=
  let c0_i32_14 : BitVec 32 := 0#32
  let c5_i32_15 : BitVec 32 := 5#32
  let v26 : BitVec 32 := Scalar.addi c0_i32_14 c5_i32_15
  let c1_i32_16 : BitVec 32 := 1#32
  ⟨c0_i32_14, v26, c1_i32_16⟩
def k0_off10 (k0_t2 : Fin k0_t2_loop.trips) (c0_i32_44 : BitVec 32) (c0_i32_46 : BitVec 32) : Fin 3 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let v56 : BitVec 32 := Scalar.addi v54 c0_i32_44
  let v60 : BitVec 32 := Scalar.addi v56 c0_i32_46
  let v61 : Index := Scalar.indexCast v60
  let c256_47 : Index := 256#32
  ![v61.toNat, 0, 256]
def k0_off11 (k0_t2 : Fin k0_t2_loop.trips) : Fin 5 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let v112 : Index := Scalar.indexCast v54
  let c0_67 : Index := 0#32
  let c2 : Index := 2#32
  let c0_68 : Index := 0#32
  let c0_69 : Index := 0#32
  ![v112.toNat, 0, 2, 0, 0]
def k0_off12 (k0_t2 : Fin k0_t2_loop.trips) (c0_i32_79 : BitVec 32) (c0_i32_81 : BitVec 32) : Fin 3 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c4_i32 : BitVec 32 := 4#32
  let v55 : BitVec 32 := Scalar.addi v54 c4_i32
  let v173 : BitVec 32 := Scalar.addi v55 c0_i32_79
  let v177 : BitVec 32 := Scalar.addi v173 c0_i32_81
  let v178 : Index := Scalar.indexCast v177
  let c256_82 : Index := 256#32
  ![v178.toNat, 0, 256]
def k0_off13 (k0_t2 : Fin k0_t2_loop.trips) : Fin 5 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c4_i32 : BitVec 32 := 4#32
  let v55 : BitVec 32 := Scalar.addi v54 c4_i32
  let v229 : Index := Scalar.indexCast v55
  let c0_103 : Index := 0#32
  let c2_104 : Index := 2#32
  let c0_105 : Index := 0#32
  let c0_106 : Index := 0#32
  ![v229.toNat, 0, 2, 0, 0]
def k0_off14 (k0_t2 : Fin k0_t2_loop.trips) (c0_i32_117 : BitVec 32) (c0_i32_119 : BitVec 32) : Fin 3 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let v291 : BitVec 32 := Scalar.addi v54 c0_i32_117
  let v295 : BitVec 32 := Scalar.addi v291 c0_i32_119
  let v296 : Index := Scalar.indexCast v295
  let c384 : Index := 384#32
  ![v296.toNat, 0, 384]
def k0_off15 (k0_t2 : Fin k0_t2_loop.trips) : Fin 5 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let v347 : Index := Scalar.indexCast v54
  let c0_140 : Index := 0#32
  let c3 : Index := 3#32
  let c0_141 : Index := 0#32
  let c0_142 : Index := 0#32
  ![v347.toNat, 0, 3, 0, 0]
def k0_off16 (k0_t2 : Fin k0_t2_loop.trips) (c0_i32_153 : BitVec 32) (c0_i32_155 : BitVec 32) : Fin 3 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c4_i32 : BitVec 32 := 4#32
  let v55 : BitVec 32 := Scalar.addi v54 c4_i32
  let v408 : BitVec 32 := Scalar.addi v55 c0_i32_153
  let v412 : BitVec 32 := Scalar.addi v408 c0_i32_155
  let v413 : Index := Scalar.indexCast v412
  let c384_156 : Index := 384#32
  ![v413.toNat, 0, 384]
def k0_off17 (k0_t2 : Fin k0_t2_loop.trips) : Fin 5 → Nat :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c4_i32 : BitVec 32 := 4#32
  let v55 : BitVec 32 := Scalar.addi v54 c4_i32
  let v464 : Index := Scalar.indexCast v55
  let c0_177 : Index := 0#32
  let c3_178 : Index := 3#32
  let c0_179 : Index := 0#32
  let c0_180 : Index := 0#32
  ![v464.toNat, 0, 3, 0, 0]
def k0_mult2 (k0_t2 : Fin k0_t2_loop.trips) : BitVec 32 :=
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c32_i32 : BitVec 32 := 32#32
  let v527 : BitVec 32 := Scalar.muli v54 c32_i32
  v527
def k0_off18 (k0_t2 : Fin k0_t2_loop.trips) : Fin 2 → Nat :=
  let c0_191 : Index := 0#32
  let c0_i32_14 : BitVec 32 := 0#32
  let c1_i32_16 : BitVec 32 := 1#32
  let arg9 : BitVec 32 := Scf.iv c0_i32_14 c1_i32_16 k0_t2
  let c8_i32 : BitVec 32 := 8#32
  let v54 : BitVec 32 := Scalar.muli arg9 c8_i32
  let c32_i32 : BitVec 32 := 32#32
  let v527 : BitVec 32 := Scalar.muli v54 c32_i32
  let v528 : BitVec 32 := v527
  let v529 : Index := Scalar.indexCast v528
  ![0, v529.toNat]
@[reducible] def k0_t3_loop : Scf.Loop 32 :=
  let c0_i32_22 : BitVec 32 := 0#32
  let c5_i32_23 : BitVec 32 := 5#32
  let v34 : BitVec 32 := Scalar.addi c0_i32_22 c5_i32_23
  let c1_i32_24 : BitVec 32 := 1#32
  ⟨c0_i32_22, v34, c1_i32_24⟩
def k0_off19 (k0_t3 : Fin k0_t3_loop.trips) (c0_i32_44 : BitVec 32) (c0_i32_46 : BitVec 32) : Fin 3 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let v56 : BitVec 32 := Scalar.addi v54 c0_i32_44
  let v60 : BitVec 32 := Scalar.addi v56 c0_i32_46
  let v61 : Index := Scalar.indexCast v60
  let c512_47 : Index := 512#32
  ![v61.toNat, 0, 512]
def k0_off20 (k0_t3 : Fin k0_t3_loop.trips) : Fin 5 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let v112 : Index := Scalar.indexCast v54
  let c0_67 : Index := 0#32
  let c4 : Index := 4#32
  let c0_68 : Index := 0#32
  let c0_69 : Index := 0#32
  ![v112.toNat, 0, 4, 0, 0]
def k0_off21 (k0_t3 : Fin k0_t3_loop.trips) (c0_i32_79 : BitVec 32) (c0_i32_81 : BitVec 32) : Fin 3 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c4_i32 : BitVec 32 := 4#32
  let v55 : BitVec 32 := Scalar.addi v54 c4_i32
  let v173 : BitVec 32 := Scalar.addi v55 c0_i32_79
  let v177 : BitVec 32 := Scalar.addi v173 c0_i32_81
  let v178 : Index := Scalar.indexCast v177
  let c512_82 : Index := 512#32
  ![v178.toNat, 0, 512]
def k0_off22 (k0_t3 : Fin k0_t3_loop.trips) : Fin 5 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c4_i32 : BitVec 32 := 4#32
  let v55 : BitVec 32 := Scalar.addi v54 c4_i32
  let v229 : Index := Scalar.indexCast v55
  let c0_103 : Index := 0#32
  let c4_104 : Index := 4#32
  let c0_105 : Index := 0#32
  let c0_106 : Index := 0#32
  ![v229.toNat, 0, 4, 0, 0]
def k0_off23 (k0_t3 : Fin k0_t3_loop.trips) (c0_i32_117 : BitVec 32) (c0_i32_119 : BitVec 32) : Fin 3 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let v291 : BitVec 32 := Scalar.addi v54 c0_i32_117
  let v295 : BitVec 32 := Scalar.addi v291 c0_i32_119
  let v296 : Index := Scalar.indexCast v295
  let c640 : Index := 640#32
  ![v296.toNat, 0, 640]
def k0_off24 (k0_t3 : Fin k0_t3_loop.trips) : Fin 5 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let v347 : Index := Scalar.indexCast v54
  let c0_140 : Index := 0#32
  let c5 : Index := 5#32
  let c0_141 : Index := 0#32
  let c0_142 : Index := 0#32
  ![v347.toNat, 0, 5, 0, 0]
def k0_off25 (k0_t3 : Fin k0_t3_loop.trips) (c0_i32_153 : BitVec 32) (c0_i32_155 : BitVec 32) : Fin 3 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c4_i32 : BitVec 32 := 4#32
  let v55 : BitVec 32 := Scalar.addi v54 c4_i32
  let v408 : BitVec 32 := Scalar.addi v55 c0_i32_153
  let v412 : BitVec 32 := Scalar.addi v408 c0_i32_155
  let v413 : Index := Scalar.indexCast v412
  let c640_156 : Index := 640#32
  ![v413.toNat, 0, 640]
def k0_off26 (k0_t3 : Fin k0_t3_loop.trips) : Fin 5 → Nat :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c4_i32 : BitVec 32 := 4#32
  let v55 : BitVec 32 := Scalar.addi v54 c4_i32
  let v464 : Index := Scalar.indexCast v55
  let c0_177 : Index := 0#32
  let c5_178 : Index := 5#32
  let c0_179 : Index := 0#32
  let c0_180 : Index := 0#32
  ![v464.toNat, 0, 5, 0, 0]
def k0_mult3 (k0_t3 : Fin k0_t3_loop.trips) : BitVec 32 :=
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c32_i32 : BitVec 32 := 32#32
  let v527 : BitVec 32 := Scalar.muli v54 c32_i32
  v527
def k0_off27 (k0_t3 : Fin k0_t3_loop.trips) : Fin 2 → Nat :=
  let c0_191 : Index := 0#32
  let c0_i32_22 : BitVec 32 := 0#32
  let c1_i32_24 : BitVec 32 := 1#32
  let arg9 : BitVec 32 := Scf.iv c0_i32_22 c1_i32_24 k0_t3
  let c8_i32 : BitVec 32 := 8#32
  let v54 : BitVec 32 := Scalar.muli arg9 c8_i32
  let c32_i32 : BitVec 32 := 32#32
  let v527 : BitVec 32 := Scalar.muli v54 c32_i32
  let v528 : BitVec 32 := v527
  let v529 : Index := Scalar.indexCast v528
  ![0, v529.toNat]
@[reducible] def k0_t4_loop : Scf.Loop 32 :=
  let c0_i32_30 : BitVec 32 := 0#32
  let c5_i32_31 : BitVec 32 := 5#32
  let v42 : BitVec 32 := Scalar.addi c0_i32_30 c5_i32_31
  let c1_i32_32 : BitVec 32 := 1#32
  ⟨c0_i32_30, v42, c1_i32_32⟩
def k0_off28 (k0_t4 : Fin k0_t4_loop.trips) (c0_i32_44 : BitVec 32) (c0_i32_46 : BitVec 32) : Fin 3 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let v56 : BitVec 32 := Scalar.addi v54 c0_i32_44
  let v60 : BitVec 32 := Scalar.addi v56 c0_i32_46
  let v61 : Index := Scalar.indexCast v60
  let c768_47 : Index := 768#32
  ![v61.toNat, 0, 768]
def k0_off29 (k0_t4 : Fin k0_t4_loop.trips) : Fin 5 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let v112 : Index := Scalar.indexCast v54
  let c0_67 : Index := 0#32
  let c6 : Index := 6#32
  let c0_68 : Index := 0#32
  let c0_69 : Index := 0#32
  ![v112.toNat, 0, 6, 0, 0]
def k0_off30 (k0_t4 : Fin k0_t4_loop.trips) (c0_i32_79 : BitVec 32) (c0_i32_81 : BitVec 32) : Fin 3 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c4_i32 : BitVec 32 := 4#32
  let v55 : BitVec 32 := Scalar.addi v54 c4_i32
  let v173 : BitVec 32 := Scalar.addi v55 c0_i32_79
  let v177 : BitVec 32 := Scalar.addi v173 c0_i32_81
  let v178 : Index := Scalar.indexCast v177
  let c768_82 : Index := 768#32
  ![v178.toNat, 0, 768]
def k0_off31 (k0_t4 : Fin k0_t4_loop.trips) : Fin 5 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c4_i32 : BitVec 32 := 4#32
  let v55 : BitVec 32 := Scalar.addi v54 c4_i32
  let v229 : Index := Scalar.indexCast v55
  let c0_103 : Index := 0#32
  let c6_104 : Index := 6#32
  let c0_105 : Index := 0#32
  let c0_106 : Index := 0#32
  ![v229.toNat, 0, 6, 0, 0]
def k0_off32 (k0_t4 : Fin k0_t4_loop.trips) (c0_i32_117 : BitVec 32) (c0_i32_119 : BitVec 32) : Fin 3 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let v291 : BitVec 32 := Scalar.addi v54 c0_i32_117
  let v295 : BitVec 32 := Scalar.addi v291 c0_i32_119
  let v296 : Index := Scalar.indexCast v295
  let c896 : Index := 896#32
  ![v296.toNat, 0, 896]
def k0_off33 (k0_t4 : Fin k0_t4_loop.trips) : Fin 5 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let v347 : Index := Scalar.indexCast v54
  let c0_140 : Index := 0#32
  let c7 : Index := 7#32
  let c0_141 : Index := 0#32
  let c0_142 : Index := 0#32
  ![v347.toNat, 0, 7, 0, 0]
def k0_off34 (k0_t4 : Fin k0_t4_loop.trips) (c0_i32_153 : BitVec 32) (c0_i32_155 : BitVec 32) : Fin 3 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c4_i32 : BitVec 32 := 4#32
  let v55 : BitVec 32 := Scalar.addi v54 c4_i32
  let v408 : BitVec 32 := Scalar.addi v55 c0_i32_153
  let v412 : BitVec 32 := Scalar.addi v408 c0_i32_155
  let v413 : Index := Scalar.indexCast v412
  let c896_156 : Index := 896#32
  ![v413.toNat, 0, 896]
def k0_off35 (k0_t4 : Fin k0_t4_loop.trips) : Fin 5 → Nat :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c4_i32 : BitVec 32 := 4#32
  let v55 : BitVec 32 := Scalar.addi v54 c4_i32
  let v464 : Index := Scalar.indexCast v55
  let c0_177 : Index := 0#32
  let c7_178 : Index := 7#32
  let c0_179 : Index := 0#32
  let c0_180 : Index := 0#32
  ![v464.toNat, 0, 7, 0, 0]
def k0_mult4 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c32_i32 : BitVec 32 := 32#32
  let v527 : BitVec 32 := Scalar.muli v54 c32_i32
  v527
def k0_off36 (k0_t4 : Fin k0_t4_loop.trips) : Fin 2 → Nat :=
  let c0_191 : Index := 0#32
  let c0_i32_30 : BitVec 32 := 0#32
  let c1_i32_32 : BitVec 32 := 1#32
  let arg9 : BitVec 32 := Scf.iv c0_i32_30 c1_i32_32 k0_t4
  let c8_i32 : BitVec 32 := 8#32
  let v54 : BitVec 32 := Scalar.muli arg9 c8_i32
  let c32_i32 : BitVec 32 := 32#32
  let v527 : BitVec 32 := Scalar.muli v54 c32_i32
  let v528 : BitVec 32 := v527
  let v529 : Index := Scalar.indexCast v528
  ![0, v529.toNat]
@[reducible] def k0_t5_loop : Scf.Loop 32 :=
  let c0_i32_38 : BitVec 32 := 0#32
  let c5_i32_39 : BitVec 32 := 5#32
  let v50 : BitVec 32 := Scalar.addi c0_i32_38 c5_i32_39
  let c1_i32_40 : BitVec 32 := 1#32
  ⟨c0_i32_38, v50, c1_i32_40⟩
def k0_off37 (k0_t5 : Fin k0_t5_loop.trips) (c0_i32_44 : BitVec 32) (c0_i32_46 : BitVec 32) : Fin 3 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let v56 : BitVec 32 := Scalar.addi v54 c0_i32_44
  let v60 : BitVec 32 := Scalar.addi v56 c0_i32_46
  let v61 : Index := Scalar.indexCast v60
  let c1024_47 : Index := 1024#32
  ![v61.toNat, 0, 1024]
def k0_off38 (k0_t5 : Fin k0_t5_loop.trips) : Fin 5 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let v112 : Index := Scalar.indexCast v54
  let c0_67 : Index := 0#32
  let c8 : Index := 8#32
  let c0_68 : Index := 0#32
  let c0_69 : Index := 0#32
  ![v112.toNat, 0, 8, 0, 0]
def k0_off39 (k0_t5 : Fin k0_t5_loop.trips) (c0_i32_79 : BitVec 32) (c0_i32_81 : BitVec 32) : Fin 3 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c4_i32 : BitVec 32 := 4#32
  let v55 : BitVec 32 := Scalar.addi v54 c4_i32
  let v173 : BitVec 32 := Scalar.addi v55 c0_i32_79
  let v177 : BitVec 32 := Scalar.addi v173 c0_i32_81
  let v178 : Index := Scalar.indexCast v177
  let c1024_82 : Index := 1024#32
  ![v178.toNat, 0, 1024]
def k0_off40 (k0_t5 : Fin k0_t5_loop.trips) : Fin 5 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c4_i32 : BitVec 32 := 4#32
  let v55 : BitVec 32 := Scalar.addi v54 c4_i32
  let v229 : Index := Scalar.indexCast v55
  let c0_103 : Index := 0#32
  let c8_104 : Index := 8#32
  let c0_105 : Index := 0#32
  let c0_106 : Index := 0#32
  ![v229.toNat, 0, 8, 0, 0]
def k0_off41 (k0_t5 : Fin k0_t5_loop.trips) (c0_i32_117 : BitVec 32) (c0_i32_119 : BitVec 32) : Fin 3 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let v291 : BitVec 32 := Scalar.addi v54 c0_i32_117
  let v295 : BitVec 32 := Scalar.addi v291 c0_i32_119
  let v296 : Index := Scalar.indexCast v295
  let c1152 : Index := 1152#32
  ![v296.toNat, 0, 1152]
def k0_off42 (k0_t5 : Fin k0_t5_loop.trips) : Fin 5 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let v347 : Index := Scalar.indexCast v54
  let c0_140 : Index := 0#32
  let c9 : Index := 9#32
  let c0_141 : Index := 0#32
  let c0_142 : Index := 0#32
  ![v347.toNat, 0, 9, 0, 0]
def k0_off43 (k0_t5 : Fin k0_t5_loop.trips) (c0_i32_153 : BitVec 32) (c0_i32_155 : BitVec 32) : Fin 3 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c4_i32 : BitVec 32 := 4#32
  let v55 : BitVec 32 := Scalar.addi v54 c4_i32
  let v408 : BitVec 32 := Scalar.addi v55 c0_i32_153
  let v412 : BitVec 32 := Scalar.addi v408 c0_i32_155
  let v413 : Index := Scalar.indexCast v412
  let c1152_156 : Index := 1152#32
  ![v413.toNat, 0, 1152]
def k0_off44 (k0_t5 : Fin k0_t5_loop.trips) : Fin 5 → Nat :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c4_i32 : BitVec 32 := 4#32
  let v55 : BitVec 32 := Scalar.addi v54 c4_i32
  let v464 : Index := Scalar.indexCast v55
  let c0_177 : Index := 0#32
  let c9_178 : Index := 9#32
  let c0_179 : Index := 0#32
  let c0_180 : Index := 0#32
  ![v464.toNat, 0, 9, 0, 0]
def k0_mult5 (k0_t5 : Fin k0_t5_loop.trips) : BitVec 32 :=
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c32_i32 : BitVec 32 := 32#32
  let v527 : BitVec 32 := Scalar.muli v54 c32_i32
  v527
def k0_off45 (k0_t5 : Fin k0_t5_loop.trips) : Fin 2 → Nat :=
  let c0_191 : Index := 0#32
  let c0_i32_38 : BitVec 32 := 0#32
  let c1_i32_40 : BitVec 32 := 1#32
  let arg9 : BitVec 32 := Scf.iv c0_i32_38 c1_i32_40 k0_t5
  let c8_i32 : BitVec 32 := 8#32
  let v54 : BitVec 32 := Scalar.muli arg9 c8_i32
  let c32_i32 : BitVec 32 := 32#32
  let v527 : BitVec 32 := Scalar.muli v54 c32_i32
  let v528 : BitVec 32 := v527
  let v529 : Index := Scalar.indexCast v528
  ![0, v529.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x2x10x8x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceWoIdeal.lean ====
abbrev S128x1280 : Shape := ⟨2, ![128, 1280]⟩
abbrev S128x5120 : Shape := ⟨2, ![128, 5120]⟩
abbrev S5120x40x16 : Shape := ⟨3, ![5120, 40, 16]⟩
abbrev S5120x40 : Shape := ⟨2, ![5120, 40]⟩
abbrev S128x10x2x2x2x2x2x4 : Shape := ⟨8, ![128, 10, 2, 2, 2, 2, 2, 4]⟩
abbrev S128x40x32 : Shape := ⟨3, ![128, 40, 32]⟩
abbrev S128x40x16 : Shape := ⟨3, ![128, 40, 16]⟩
abbrev S5120x40x1 : Shape := ⟨3, ![5120, 40, 1]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S128x1280, .bf16⟩
  | .hbm, ⟨1, _⟩ => ⟨S128x5120, .bf16⟩
  | .hbm, ⟨2, _⟩ => ⟨S5120x40x16, .i8⟩
  | .hbm, ⟨3, _⟩ => ⟨S5120x40, .bf16⟩
  | .hbm, ⟨4, _⟩ => ⟨S5120x40, .bf16⟩
  | .hbm, ⟨5, _⟩ => ⟨S128x10x2x2x2x2x2x4, .bf16⟩
  | .hbm, ⟨6, _⟩ => ⟨S128x10x2x2x2x2x2x4, .bf16⟩
  | .hbm, ⟨7, _⟩ => ⟨S128x1280, .bf16⟩
  | .hbm, ⟨8, _⟩ => ⟨S128x5120, .f32⟩
  | .hbm, ⟨9, _⟩ => ⟨S128x40x32, .bf16⟩
  | .hbm, ⟨10, _⟩ => ⟨S128x40x16, .bf16⟩
  | .hbm, ⟨11, _⟩ => ⟨S128x40x16, .bf16⟩
  | .hbm, ⟨12, _⟩ => ⟨S5120x40x1, .bf16⟩
  | .hbm, ⟨13, _⟩ => ⟨S5120x40x1, .bf16⟩
  | .hbm, ⟨14, _⟩ => ⟨S5120x40x16, .i32⟩
  | .hbm, ⟨15, _⟩ => ⟨S_, .i32⟩
  | .hbm, ⟨16, _⟩ => ⟨S5120x40x16, .i32⟩
  | .hbm, ⟨17, _⟩ => ⟨S5120x40x16, .i32⟩
  | .hbm, ⟨18, _⟩ => ⟨S5120x40x16, .bf16⟩
  | .hbm, ⟨19, _⟩ => ⟨S5120x40x16, .bf16⟩
  | .hbm, ⟨20, _⟩ => ⟨S5120x40x16, .bf16⟩
  | .hbm, ⟨21, _⟩ => ⟨S5120x40x16, .bf16⟩
  | .hbm, ⟨22, _⟩ => ⟨S5120x40x16, .bf16⟩
  | .hbm, ⟨23, _⟩ => ⟨S5120x40x16, .i32⟩
  | .hbm, ⟨24, _⟩ => ⟨S_, .i32⟩
  | .hbm, ⟨25, _⟩ => ⟨S5120x40x16, .i32⟩
  | .hbm, ⟨26, _⟩ => ⟨S5120x40x16, .i32⟩
  | .hbm, ⟨27, _⟩ => ⟨S5120x40x16, .bf16⟩
  | .hbm, ⟨28, _⟩ => ⟨S5120x40x16, .bf16⟩
  | .hbm, ⟨29, _⟩ => ⟨S5120x40x16, .bf16⟩
  | .hbm, ⟨30, _⟩ => ⟨S5120x40x16, .bf16⟩
  | .hbm, ⟨31, _⟩ => ⟨S5120x40x16, .bf16⟩
  | .hbm, ⟨32, _⟩ => ⟨S128x5120, .f32⟩
  | .hbm, ⟨33, _⟩ => ⟨S128x5120, .f32⟩
  | .hbm, ⟨34, _⟩ => ⟨S128x5120, .f32⟩
  | .hbm, ⟨35, _⟩ => ⟨S128x5120, .f32⟩
  | _, _ => ⟨S128x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.Claims.lean ====
/- The claims that need no arithmetic: each program runs to its end with its arguments unchanged, and the kernel's
   idealization rewrites preserve it. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import Idealize.ShloMosaic.Lib.Bf16Pair
public import Idealize.ShloMosaic.Lib.Bf16PairInverse
public import Idealize.ShloMosaic.Lib.Quiescent

@[expose] public section

namespace Cert.Claims

open Idealize.ShloMosaic Idealize.SL.Sem Cert.KernelIdeal IdealRules.bf16_pair

/-- Each rewrite of the kernel's ledger preserves the value read: the re-typed word buffers, the packed words, and the
    word vectors read as their two rows. -/
theorem preserves : preserves_Kernel_KernelIdeal :=
  ⟨bufferStatement S64x2x5120 S64x1x5120, bufferStatement S160x2x256 S160x1x256, statement S128x5120 S64x5120,
    statement S64x2x5120 S64x1x5120, packStatement S160x256, statement S160x2x256 S160x1x256,
    statement S1x2x128 S1x1x128, statement S16x128 S8x128, statement S64x2x256 S64x1x256, statement S128x256 S64x256⟩

/-- The kernel as written runs to its end and leaves its arguments as they were. -/
theorem frameKernel : quiescent_Kernel (hKernel := Cert.Kernel.Gen.facts) := fun m ρ _ => Cert.Kernel.Gen.frame m ρ

/-- So does its idealization. -/
theorem frameKernelIdeal : quiescent_KernelIdeal (hKernelIdeal := Cert.KernelIdeal.Gen.facts) :=
  fun m ρ _ => Cert.KernelIdeal.Gen.frame m ρ

/-- So does the reference. -/
theorem frameReferenceIdeal : quiescent_ReferenceIdeal (hReferenceIdeal := Cert.ReferenceIdeal.Gen.facts) :=
  fun m ρ _ => (θ_run _ _ _).mono
    (fun r h => ⟨fun c => (h c).2.2.2.2.2, sem_eq_zero_of_no_sems (by decide) r.2⟩) (Cert.ReferenceIdeal.Value.run m ρ)

end Cert.Claims

end
-- ==== Proof.Deq.lean ====
module

public import proofs.«01_k».proof.Proof.Gen.KernelIdeal.Loops
public import Idealize.ShloMosaic.Lib.Pointwise
public import Idealize.ShloMosaic.Lib.Pipeline.Value

/-!
The dequantization step of the projections as one term: the same operations the three column loops run on what they
load, named once, so that one reading serves the loops of q, k and v.
-/

@[expose] public section

noncomputable section

namespace Cert.KernelIdeal.RefValue

open Idealize.ShloMosaic Cert.KernelIdeal Cert.KernelIdeal.Gen

variable {F : FTy → Type} [FloatOps F]

/-- One row of a scale buffer, one of its two halves, repeated over eight rows. -/
def rowV (p : Fin 2) (x : FVec F S1x2x128 .bf16) : FVec F S8x128 .bf16 :=
  let y : FVec F S1x128 .bf16 := shapeCast S1x128 (rowsOfParity p S1x1x128 x bitcasts_S1x2x128_w16_S1x1x128_w32) shapeCasts_S1x1x128_S1x128
  concatenate S8x128 0 [⟨S1x128, y⟩, ⟨S1x128, y⟩, ⟨S1x128, y⟩, ⟨S1x128, y⟩, ⟨S1x128, y⟩, ⟨S1x128, y⟩, ⟨S1x128, y⟩, ⟨S1x128, y⟩]
    concatenates_S1x128_S1x128_S1x128_S1x128_S1x128_S1x128_S1x128_S1x128_S8x128_d0

/-- The upper four of eight rows. -/
def upperV : IVec S8x128 1 := cmpi .slt (iota .tc S8x128 32 [0] iota_S8x128_d0_w32) (broadcast S8x128 4#32)

/-- Two neighbouring groups' scales over sixteen rows, eight rows each. -/
def pairV (a b : FVec F S1x2x128 .bf16) : FVec F S16x128 .bf16 :=
  interleaveRows S16x128 (select upperV (rowV 0 a) (rowV 0 b)) (select upperV (rowV 1 a) (rowV 1 b)) bitcasts_S16x128_w16_S8x128_w32

/-- The words of four groups' codes. -/
def wordsV (c : Vec F S4x2x1x8x128 .i8) : IVec S8x2x128 32 :=
  shapeCast S8x2x128 (bitcast S16x128 32 (shapeCast S64x128 (shapeCast S4x2x8x128 c shapeCasts_S4x2x1x8x128_S4x2x8x128)
    shapeCasts_S4x2x8x128_S64x128) bitcasts_S64x128_w8_S16x128_w32) shapeCasts_S16x128_S8x2x128

/-- The even word rows. -/
def word0V (c : Vec F S4x2x1x8x128 .i8) : IVec S8x128 32 :=
  shapeCast S8x128 (extractStridedSlice S8x1x128 ![0, 0, 0] (wordsV (F := F) c) slices_S8x2x128_o0_0_0_S8x1x128) shapeCasts_S8x1x128_S8x128

/-- The odd word rows. -/
def word1V (c : Vec F S4x2x1x8x128 .i8) : IVec S8x128 32 :=
  shapeCast S8x128 (extractStridedSlice S8x1x128 ![0, 1, 0] (wordsV (F := F) c) slices_S8x2x128_o0_1_0_S8x1x128) shapeCasts_S8x1x128_S8x128

/-- Words shifted down by four. -/
def shiftV (w : IVec S8x128 32) : IVec S8x128 32 := shrui w (broadcast S8x128 4#32)

/-- The low four bits of each byte as floats. -/
def nibV (w : IVec S8x128 32) : FVec F S32x128 .bf16 :=
  sitofp .bf16 (bitcast S32x128 8 (andi w (broadcast S8x128 252645135#32)) bitcasts_S8x128_w32_S32x128_w8)

/-- Sixteen rows of weights from the upper half of the codes. -/
def pieceLo (w : IVec S8x128 32) (s m : FVec F S16x128 .bf16) : FVec F S16x128 .bf16 :=
  addf (mulf (extractStridedSlice S16x128 ![0, 0] (nibV w) slices_S32x128_o0_0_S16x128) s) m

/-- Sixteen rows of weights from the lower half of the codes. -/
def pieceHi (w : IVec S8x128 32) (s m : FVec F S16x128 .bf16) : FVec F S16x128 .bf16 :=
  addf (mulf (extractStridedSlice S16x128 ![16, 0] (nibV w) slices_S32x128_o16_0_S16x128) s) m

/-- The weights of four groups: 128 rows. -/
def setV (s0 m0 s1 m1 : FVec F S16x128 .bf16) (c : Vec F S4x2x1x8x128 .i8) : FVec F S128x128 .bf16 :=
  concatenate S128x128 0 [⟨S16x128, pieceLo (word0V (F := F) c) s0 m0⟩, ⟨S16x128, pieceHi (word0V (F := F) c) s1 m1⟩,
    ⟨S16x128, pieceLo (shiftV (word0V (F := F) c)) s0 m0⟩, ⟨S16x128, pieceHi (shiftV (word0V (F := F) c)) s1 m1⟩,
    ⟨S16x128, pieceLo (word1V (F := F) c) s0 m0⟩, ⟨S16x128, pieceHi (word1V (F := F) c) s1 m1⟩,
    ⟨S16x128, pieceLo (shiftV (word1V (F := F) c)) s0 m0⟩, ⟨S16x128, pieceHi (shiftV (word1V (F := F) c)) s1 m1⟩]
    concatenates_S16x128_S16x128_S16x128_S16x128_S16x128_S16x128_S16x128_S16x128_S128x128_d0

/-- The rows of activations a step multiplies. -/
def actV (h : FVec F S64x2x256 .bf16) : FVec F S128x256 .bf16 :=
  interleaveRows S128x256 (shapeCast S64x256 (rowsOfParity 0 S64x1x256 h bitcasts_S64x2x256_w16_S64x1x256_w32) shapeCasts_S64x1x256_S64x256)
    (shapeCast S64x256 (rowsOfParity 1 S64x1x256 h bitcasts_S64x2x256_w16_S64x1x256_w32) shapeCasts_S64x1x256_S64x256)
    bitcasts_S128x256_w16_S64x256_w32

/-- One step of a projection from the weights of its four sets. -/
def stepV (acc : FVec F S128x256 .f32) (w00 w01 w10 w11 : FVec F S128x128 .bf16) (h : FVec F S64x2x256 .bf16) : FVec F S128x256 .f32 :=
  addf acc (matmul dot_S128x256_S256x256_S128x256_1_0_0_1_n_n none (actV h)
    (concatenate S256x256 1 [⟨S256x128, concatenate S256x128 0 [⟨S128x128, w00⟩, ⟨S128x128, w01⟩] concatenates_S128x128_S128x128_S256x128_d0⟩,
      ⟨S256x128, concatenate S256x128 0 [⟨S128x128, w10⟩, ⟨S128x128, w11⟩] concatenates_S128x128_S128x128_S256x128_d0⟩]
      concatenates_S256x128_S256x128_S256x256_d1) (constant S128x256 .f32 0x00000000#32))

/-- Row `g`, column tile `n` of a scale buffer. -/
def ldS (S : Vec F S160x2x256 .bf16) (g n : ℕ) : FVec F S1x2x128 .bf16 := fun i =>
  S (ix3 ⟨g % 160, Nat.mod_lt _ (by decide)⟩ (i 1) ⟨(128 * n + (i 2).val) % 256, Nat.mod_lt _ (by decide)⟩)

/-- Groups `g` to `g + 3`, column tile `n` of the codes. -/
def ldC (C : Vec F S160x2x2x8x128 .i8) (g n : ℕ) : Vec F S4x2x1x8x128 .i8 := fun i =>
  C (ix5 ⟨(g + (i 0).val) % 160, Nat.mod_lt _ (by decide)⟩ (i 1) ⟨n % 2, Nat.mod_lt _ (by decide)⟩ (i 3) (i 4))

/-- Columns `256 k` to `256 k + 255` of the activations. -/
def ldH (H : Vec F S64x2x5120 .bf16) (k : ℕ) : FVec F S64x2x256 .bf16 := fun i =>
  H (ix3 (i 0) (i 1) ⟨(256 * k + (i 2).val) % 5120, Nat.mod_lt _ (by decide)⟩)

/-- A load of one row of a scale buffer, over the contents its view reads. -/
theorem readS (v : View sig .tc .vmem S160x2x256 .bf16) (off : Fin 3 → ℕ) (inb) (X : BufTy.Contents (Elt F) v.ty) (g n : ℕ)
    (h : off = ![g, 0, 128 * n]) :
    View.readAt (Elt F) v (Rect.unit (s := S160x2x256) off S1x2x128.size inb).toLoadRect X = ldS (v.read (Elt F) X) g n := by
  subst h
  have h0 : g + 1 ≤ 160 := inb 0
  have h2 : 128 * n + 128 ≤ 256 := inb 2
  rw [View.readAt_eq_ld]
  funext i
  idx_vars i
  unfold ldS
  pointwise
  congr 1
  have e0 : g % 160 = g := Nat.mod_eq_of_lt (by omega)
  have e2 : (128 * n + i2.val) % 256 = 128 * n + i2.val := Nat.mod_eq_of_lt (by have := i2.isLt; omega)
  simp only [e0, e2]

/-- A load of four groups of one column tile of the codes, over the contents its view reads. -/
theorem readC (v : View sig .tc .vmem S160x2x2x8x128 .i8) (off : Fin 5 → ℕ) (inb) (X : BufTy.Contents (Elt F) v.ty) (g n : ℕ)
    (h : off = ![g, 0, n, 0, 0]) :
    View.readAt (Elt F) v (Rect.unit (s := S160x2x2x8x128) off S4x2x1x8x128.size inb).toLoadRect X = ldC (F := F) (v.read (Elt F) X) g n := by
  subst h
  have h0 : g + 4 ≤ 160 := inb 0
  have h2 : n + 1 ≤ 2 := inb 2
  rw [View.readAt_eq_ld]
  funext i
  idx_vars i
  unfold ldC
  pointwise
  congr 1
  have e0 : (g + i0.val) % 160 = g + i0.val := Nat.mod_eq_of_lt (by have := i0.isLt; omega)
  have e2 : n % 2 = n := Nat.mod_eq_of_lt (by omega)
  simp only [e0, e2]

/-- A load of 256 columns of the normalized rows, over the contents its view reads. -/
theorem readH (v : View sig .tc .vmem S64x2x5120 .bf16) (off : Fin 3 → ℕ) (inb) (X : BufTy.Contents (Elt F) v.ty) (k : ℕ)
    (h : off = ![0, 0, 256 * k]) :
    View.readAt (Elt F) v (Rect.unit (s := S64x2x5120) off S64x2x256.size inb).toLoadRect X = ldH (v.read (Elt F) X) k := by
  subst h
  have h2 : 256 * k + 256 ≤ 5120 := inb 2
  rw [View.readAt_eq_ld]
  funext i
  idx_vars i
  unfold ldH
  pointwise
  congr 1
  have e2 : (256 * k + i2.val) % 5120 = 256 * k + i2.val := Nat.mod_eq_of_lt (by have := i2.isLt; omega)
  simp only [e2]

/-- The weights of groups `g` to `g + 3` in column tile `n`. -/
def weightV (C : Vec F S160x2x2x8x128 .i8) (S M : Vec F S160x2x256 .bf16) (g n : ℕ) : FVec F S128x128 .bf16 :=
  setV (pairV (ldS S g n) (ldS S (g + 1) n)) (pairV (ldS M g n) (ldS M (g + 1) n))
    (pairV (ldS S (g + 2) n) (ldS S (g + 3) n)) (pairV (ldS M (g + 2) n) (ldS M (g + 3) n)) (ldC C g n)

/-- One trip over the buffers' contents. -/
def tripV (C : Vec F S160x2x2x8x128 .i8) (S M : Vec F S160x2x256 .bf16) (H : Vec F S64x2x5120 .bf16) (k : ℕ)
    (acc : FVec F S128x256 .f32) : FVec F S128x256 .f32 :=
  stepV acc (weightV C S M (8 * k) 0) (weightV C S M (8 * k + 4) 0) (weightV C S M (8 * k) 1) (weightV C S M (8 * k + 4) 1) (ldH H k)

/-- The trips before trip `n`. -/
def loopV (C : Vec F S160x2x2x8x128 .i8) (S M : Vec F S160x2x256 .bf16) (H : Vec F S64x2x5120 .bf16)
    (init : FVec F S128x256 .f32) : ℕ → FVec F S128x256 .f32
  | 0 => init
  | k + 1 => tripV C S M H k (loopV C S M H init k)

set_option maxHeartbeats 2000000 in
/-- A trip of loop 1 is that step on what it loads. -/
theorem trip1_eq (𝒱 : Variants) (c : Dev nD) (bd : Option 𝒱.V) (i : grid0.Coords) (arg1 : Memref sig .tc .vmem S128x5120 .bf16) (harg1 : arg1.IsWhole) (arg2 : Memref sig .tc .vmem S5120 .bf16) (harg2 : arg2.IsWhole) (arg3 : Memref sig .tc .vmem S1x128 .i32) (harg3 : arg3.IsWhole) (arg4 : Memref sig .tc .vmem S1x64 .f32) (harg4 : arg4.IsWhole) (arg5 : Memref sig .tc .vmem S160x2x2x8x128 .i8) (harg5 : arg5.IsWhole) (arg6 : Memref sig .tc .vmem S160x256 .bf16) (harg6 : arg6.IsWhole) (arg7 : Memref sig .tc .vmem S160x256 .bf16) (harg7 : arg7.IsWhole) (arg8 : Memref sig .tc .vmem S160x2x2x8x128 .i8) (harg8 : arg8.IsWhole) (arg9 : Memref sig .tc .vmem S160x256 .bf16) (harg9 : arg9.IsWhole) (arg10 : Memref sig .tc .vmem S160x256 .bf16) (harg10 : arg10.IsWhole) (arg11 : Memref sig .tc .vmem S160x2x2x8x128 .i8) (harg11 : arg11.IsWhole) (arg12 : Memref sig .tc .vmem S160x256 .bf16) (harg12 : arg12.IsWhole) (arg13 : Memref sig .tc .vmem S160x256 .bf16) (harg13 : arg13.IsWhole) (arg14 : Memref sig .tc .vmem S2x128x128 .bf16) (harg14 : arg14.IsWhole) (arg15 : Memref sig .tc .vmem S2x128x128 .bf16) (harg15 : arg15.IsWhole) (arg16 : Memref sig .tc .vmem S2x128x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S64x2x5120 .bf16) (harg19 : arg19.IsWhole) (arg20 : Memref sig .tc .vmem S128x128 .f32) (harg20 : arg20.IsWhole) (arg21 : Memref sig .tc .vmem S128x128 .f32) (harg21 : arg21.IsWhole) (arg22 : Memref sig .tc .vmem S160x2x256 .bf16) (harg22 : arg22.IsWhole) (arg23 : Memref sig .tc .vmem S160x2x256 .bf16) (harg23 : arg23.IsWhole) (arg24 : Memref sig .tc .vmem S160x2x256 .bf16) (harg24 : arg24.IsWhole) (arg25 : Memref sig .tc .vmem S160x2x256 .bf16) (harg25 : arg25.IsWhole) (arg26 : Memref sig .tc .vmem S160x2x256 .bf16) (harg26 : arg26.IsWhole) (arg27 : Memref sig .tc .vmem S160x2x256 .bf16) (harg27 : arg27.IsWhole) (v26 : FVec F S128x256 .f32) (X_arg5 : BufTy.Contents (Elt F) arg5.view.ty) (X_arg19 : BufTy.Contents (Elt F) arg19.view.ty) (X_arg22 : BufTy.Contents (Elt F) arg22.view.ty) (X_arg23 : BufTy.Contents (Elt F) arg23.view.ty) (k : Fin k0_t1_loop.trips) (acc : FVec F S128x256 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v26 X_arg5 X_arg19 X_arg22 X_arg23 k acc =
      stepV acc (setV (pairV (View.readAt (Elt F) arg22.view (Rect.unit (s := S160x2x256) (k0_off1 k (BitVec.ofNat 32 (2 * (0 : Fin 2).val)) (BitVec.ofNat 32 (0 : Fin 2).val)) S1x2x128.size (k0_off1_inb k 0 0)).toLoadRect X_arg22) (View.readAt (Elt F) arg22.view (Rect.unit (s := S160x2x256) (k0_off1 k (BitVec.ofNat 32 (2 * (0 : Fin 2).val)) (BitVec.ofNat 32 (1 : Fin 2).val)) S1x2x128.size (k0_off1_inb k 0 1)).toLoadRect X_arg22)) (pairV (View.readAt (Elt F) arg23.view (Rect.unit (s := S160x2x256) (k0_off1 k (BitVec.ofNat 32 (2 * (0 : Fin 2).val)) (BitVec.ofNat 32 (0 : Fin 2).val)) S1x2x128.size (k0_off1_inb k 0 0)).toLoadRect X_arg23) (View.readAt (Elt F) arg23.view (Rect.unit (s := S160x2x256) (k0_off1 k (BitVec.ofNat 32 (2 * (0 : Fin 2).val)) (BitVec.ofNat 32 (1 : Fin 2).val)) S1x2x128.size (k0_off1_inb k 0 1)).toLoadRect X_arg23)) (pairV (View.readAt (Elt F) arg22.view (Rect.unit (s := S160x2x256) (k0_off1 k (BitVec.ofNat 32 (2 * (1 : Fin 2).val)) (BitVec.ofNat 32 (0 : Fin 2).val)) S1x2x128.size (k0_off1_inb k 1 0)).toLoadRect X_arg22) (View.readAt (Elt F) arg22.view (Rect.unit (s := S160x2x256) (k0_off1 k (BitVec.ofNat 32 (2 * (1 : Fin 2).val)) (BitVec.ofNat 32 (1 : Fin 2).val)) S1x2x128.size (k0_off1_inb k 1 1)).toLoadRect X_arg22)) (pairV (View.readAt (Elt F) arg23.view (Rect.unit (s := S160x2x256) (k0_off1 k (BitVec.ofNat 32 (2 * (1 : Fin 2).val)) (BitVec.ofNat 32 (0 : Fin 2).val)) S1x2x128.size (k0_off1_inb k 1 0)).toLoadRect X_arg23) (View.readAt (Elt F) arg23.view (Rect.unit (s := S160x2x256) (k0_off1 k (BitVec.ofNat 32 (2 * (1 : Fin 2).val)) (BitVec.ofNat 32 (1 : Fin 2).val)) S1x2x128.size (k0_off1_inb k 1 1)).toLoadRect X_arg23)) (View.readAt (Elt F) arg5.view (Rect.unit (s := S160x2x2x8x128) (k0_off2 k) S4x2x1x8x128.size (k0_off2_inb k)).toLoadRect X_arg5))
        (setV (pairV (View.readAt (Elt F) arg22.view (Rect.unit (s := S160x2x256) (k0_off3 k (BitVec.ofNat 32 (2 * (0 : Fin 2).val)) (BitVec.ofNat 32 (0 : Fin 2).val)) S1x2x128.size (k0_off3_inb k 0 0)).toLoadRect X_arg22) (View.readAt (Elt F) arg22.view (Rect.unit (s := S160x2x256) (k0_off3 k (BitVec.ofNat 32 (2 * (0 : Fin 2).val)) (BitVec.ofNat 32 (1 : Fin 2).val)) S1x2x128.size (k0_off3_inb k 0 1)).toLoadRect X_arg22)) (pairV (View.readAt (Elt F) arg23.view (Rect.unit (s := S160x2x256) (k0_off3 k (BitVec.ofNat 32 (2 * (0 : Fin 2).val)) (BitVec.ofNat 32 (0 : Fin 2).val)) S1x2x128.size (k0_off3_inb k 0 0)).toLoadRect X_arg23) (View.readAt (Elt F) arg23.view (Rect.unit (s := S160x2x256) (k0_off3 k (BitVec.ofNat 32 (2 * (0 : Fin 2).val)) (BitVec.ofNat 32 (1 : Fin 2).val)) S1x2x128.size (k0_off3_inb k 0 1)).toLoadRect X_arg23)) (pairV (View.readAt (Elt F) arg22.view (Rect.unit (s := S160x2x256) (k0_off3 k (BitVec.ofNat 32 (2 * (1 : Fin 2).val)) (BitVec.ofNat 32 (0 : Fin 2).val)) S1x2x128.size (k0_off3_inb k 1 0)).toLoadRect X_arg22) (View.readAt (Elt F) arg22.view (Rect.unit (s := S160x2x256) (k0_off3 k (BitVec.ofNat 32 (2 * (1 : Fin 2).val)) (BitVec.ofNat 32 (1 : Fin 2).val)) S1x2x128.size (k0_off3_inb k 1 1)).toLoadRect X_arg22)) (pairV (View.readAt (Elt F) arg23.view (Rect.unit (s := S160x2x256) (k0_off3 k (BitVec.ofNat 32 (2 * (1 : Fin 2).val)) (BitVec.ofNat 32 (0 : Fin 2).val)) S1x2x128.size (k0_off3_inb k 1 0)).toLoadRect X_arg23) (View.readAt (Elt F) arg23.view (Rect.unit (s := S160x2x256) (k0_off3 k (BitVec.ofNat 32 (2 * (1 : Fin 2).val)) (BitVec.ofNat 32 (1 : Fin 2).val)) S1x2x128.size (k0_off3_inb k 1 1)).toLoadRect X_arg23)) (View.readAt (Elt F) arg5.view (Rect.unit (s := S160x2x2x8x128) (k0_off4 k) S4x2x1x8x128.size (k0_off4_inb k)).toLoadRect X_arg5))
        (setV (pairV (View.readAt (Elt F) arg22.view (Rect.unit (s := S160x2x256) (k0_off5 k (BitVec.ofNat 32 (2 * (0 : Fin 2).val)) (BitVec.ofNat 32 (0 : Fin 2).val)) S1x2x128.size (k0_off5_inb k 0 0)).toLoadRect X_arg22) (View.readAt (Elt F) arg22.view (Rect.unit (s := S160x2x256) (k0_off5 k (BitVec.ofNat 32 (2 * (0 : Fin 2).val)) (BitVec.ofNat 32 (1 : Fin 2).val)) S1x2x128.size (k0_off5_inb k 0 1)).toLoadRect X_arg22)) (pairV (View.readAt (Elt F) arg23.view (Rect.unit (s := S160x2x256) (k0_off5 k (BitVec.ofNat 32 (2 * (0 : Fin 2).val)) (BitVec.ofNat 32 (0 : Fin 2).val)) S1x2x128.size (k0_off5_inb k 0 0)).toLoadRect X_arg23) (View.readAt (Elt F) arg23.view (Rect.unit (s := S160x2x256) (k0_off5 k (BitVec.ofNat 32 (2 * (0 : Fin 2).val)) (BitVec.ofNat 32 (1 : Fin 2).val)) S1x2x128.size (k0_off5_inb k 0 1)).toLoadRect X_arg23)) (pairV (View.readAt (Elt F) arg22.view (Rect.unit (s := S160x2x256) (k0_off5 k (BitVec.ofNat 32 (2 * (1 : Fin 2).val)) (BitVec.ofNat 32 (0 : Fin 2).val)) S1x2x128.size (k0_off5_inb k 1 0)).toLoadRect X_arg22) (View.readAt (Elt F) arg22.view (Rect.unit (s := S160x2x256) (k0_off5 k (BitVec.ofNat 32 (2 * (1 : Fin 2).val)) (BitVec.ofNat 32 (1 : Fin 2).val)) S1x2x128.size (k0_off5_inb k 1 1)).toLoadRect X_arg22)) (pairV (View.readAt (Elt F) arg23.view (Rect.unit (s := S160x2x256) (k0_off5 k (BitVec.ofNat 32 (2 * (1 : Fin 2).val)) (BitVec.ofNat 32 (0 : Fin 2).val)) S1x2x128.size (k0_off5_inb k 1 0)).toLoadRect X_arg23) (View.readAt (Elt F) arg23.view (Rect.unit (s := S160x2x256) (k0_off5 k (BitVec.ofNat 32 (2 * (1 : Fin 2).val)) (BitVec.ofNat 32 (1 : Fin 2).val)) S1x2x128.size (k0_off5_inb k 1 1)).toLoadRect X_arg23)) (View.readAt (Elt F) arg5.view (Rect.unit (s := S160x2x2x8x128) (k0_off6 k) S4x2x1x8x128.size (k0_off6_inb k)).toLoadRect X_arg5))
        (setV (pairV (View.readAt (Elt F) arg22.view (Rect.unit (s := S160x2x256) (k0_off7 k (BitVec.ofNat 32 (2 * (0 : Fin 2).val)) (BitVec.ofNat 32 (0 : Fin 2).val)) S1x2x128.size (k0_off7_inb k 0 0)).toLoadRect X_arg22) (View.readAt (Elt F) arg22.view (Rect.unit (s := S160x2x256) (k0_off7 k (BitVec.ofNat 32 (2 * (0 : Fin 2).val)) (BitVec.ofNat 32 (1 : Fin 2).val)) S1x2x128.size (k0_off7_inb k 0 1)).toLoadRect X_arg22)) (pairV (View.readAt (Elt F) arg23.view (Rect.unit (s := S160x2x256) (k0_off7 k (BitVec.ofNat 32 (2 * (0 : Fin 2).val)) (BitVec.ofNat 32 (0 : Fin 2).val)) S1x2x128.size (k0_off7_inb k 0 0)).toLoadRect X_arg23) (View.readAt (Elt F) arg23.view (Rect.unit (s := S160x2x256) (k0_off7 k (BitVec.ofNat 32 (2 * (0 : Fin 2).val)) (BitVec.ofNat 32 (1 : Fin 2).val)) S1x2x128.size (k0_off7_inb k 0 1)).toLoadRect X_arg23)) (pairV (View.readAt (Elt F) arg22.view (Rect.unit (s := S160x2x256) (k0_off7 k (BitVec.ofNat 32 (2 * (1 : Fin 2).val)) (BitVec.ofNat 32 (0 : Fin 2).val)) S1x2x128.size (k0_off7_inb k 1 0)).toLoadRect X_arg22) (View.readAt (Elt F) arg22.view (Rect.unit (s := S160x2x256) (k0_off7 k (BitVec.ofNat 32 (2 * (1 : Fin 2).val)) (BitVec.ofNat 32 (1 : Fin 2).val)) S1x2x128.size (k0_off7_inb k 1 1)).toLoadRect X_arg22)) (pairV (View.readAt (Elt F) arg23.view (Rect.unit (s := S160x2x256) (k0_off7 k (BitVec.ofNat 32 (2 * (1 : Fin 2).val)) (BitVec.ofNat 32 (0 : Fin 2).val)) S1x2x128.size (k0_off7_inb k 1 0)).toLoadRect X_arg23) (View.readAt (Elt F) arg23.view (Rect.unit (s := S160x2x256) (k0_off7 k (BitVec.ofNat 32 (2 * (1 : Fin 2).val)) (BitVec.ofNat 32 (1 : Fin 2).val)) S1x2x128.size (k0_off7_inb k 1 1)).toLoadRect X_arg23)) (View.readAt (Elt F) arg5.view (Rect.unit (s := S160x2x2x8x128) (k0_off8 k) S4x2x1x8x128.size (k0_off8_inb k)).toLoadRect X_arg5))
        (View.readAt (Elt F) arg19.view (Rect.unit (s := S64x2x5120) (k0_off9 k) S64x2x256.size (k0_off9_inb k)).toLoadRect X_arg19) := by
  unfold tripR_k0_t1 trip_k0_t1
  rfl

/-- A trip of loop 1 over the buffers' contents. -/
theorem trip1_eq_tripV (𝒱 : Variants) (c : Dev nD) (bd : Option 𝒱.V) (i : grid0.Coords) (arg1 : Memref sig .tc .vmem S128x5120 .bf16) (harg1 : arg1.IsWhole) (arg2 : Memref sig .tc .vmem S5120 .bf16) (harg2 : arg2.IsWhole) (arg3 : Memref sig .tc .vmem S1x128 .i32) (harg3 : arg3.IsWhole) (arg4 : Memref sig .tc .vmem S1x64 .f32) (harg4 : arg4.IsWhole) (arg5 : Memref sig .tc .vmem S160x2x2x8x128 .i8) (harg5 : arg5.IsWhole) (arg6 : Memref sig .tc .vmem S160x256 .bf16) (harg6 : arg6.IsWhole) (arg7 : Memref sig .tc .vmem S160x256 .bf16) (harg7 : arg7.IsWhole) (arg8 : Memref sig .tc .vmem S160x2x2x8x128 .i8) (harg8 : arg8.IsWhole) (arg9 : Memref sig .tc .vmem S160x256 .bf16) (harg9 : arg9.IsWhole) (arg10 : Memref sig .tc .vmem S160x256 .bf16) (harg10 : arg10.IsWhole) (arg11 : Memref sig .tc .vmem S160x2x2x8x128 .i8) (harg11 : arg11.IsWhole) (arg12 : Memref sig .tc .vmem S160x256 .bf16) (harg12 : arg12.IsWhole) (arg13 : Memref sig .tc .vmem S160x256 .bf16) (harg13 : arg13.IsWhole) (arg14 : Memref sig .tc .vmem S2x128x128 .bf16) (harg14 : arg14.IsWhole) (arg15 : Memref sig .tc .vmem S2x128x128 .bf16) (harg15 : arg15.IsWhole) (arg16 : Memref sig .tc .vmem S2x128x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S64x2x5120 .bf16) (harg19 : arg19.IsWhole) (arg20 : Memref sig .tc .vmem S128x128 .f32) (harg20 : arg20.IsWhole) (arg21 : Memref sig .tc .vmem S128x128 .f32) (harg21 : arg21.IsWhole) (arg22 : Memref sig .tc .vmem S160x2x256 .bf16) (harg22 : arg22.IsWhole) (arg23 : Memref sig .tc .vmem S160x2x256 .bf16) (harg23 : arg23.IsWhole) (arg24 : Memref sig .tc .vmem S160x2x256 .bf16) (harg24 : arg24.IsWhole) (arg25 : Memref sig .tc .vmem S160x2x256 .bf16) (harg25 : arg25.IsWhole) (arg26 : Memref sig .tc .vmem S160x2x256 .bf16) (harg26 : arg26.IsWhole) (arg27 : Memref sig .tc .vmem S160x2x256 .bf16) (harg27 : arg27.IsWhole) (v26 : FVec F S128x256 .f32) (X_arg5 : BufTy.Contents (Elt F) arg5.view.ty) (X_arg19 : BufTy.Contents (Elt F) arg19.view.ty) (X_arg22 : BufTy.Contents (Elt F) arg22.view.ty) (X_arg23 : BufTy.Contents (Elt F) arg23.view.ty) (k : Fin k0_t1_loop.trips) (acc : FVec F S128x256 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v26 X_arg5 X_arg19 X_arg22 X_arg23 k acc =
      tripV (F := F) (arg5.view.read (Elt F) X_arg5) (arg22.view.read (Elt F) X_arg22) (arg23.view.read (Elt F) X_arg23) (arg19.view.read (Elt F) X_arg19) k.val acc := by
  rw [trip1_eq]
  unfold tripV weightV
  rw [readS arg22.view _ (k0_off1_inb k 0 0) X_arg22 (8 * k.val) 0 (by rw [k0_off1_eq]; first | rfl | (congr 1))]
  rw [readS arg23.view _ (k0_off1_inb k 0 0) X_arg23 (8 * k.val) 0 (by rw [k0_off1_eq]; first | rfl | (congr 1))]
  rw [readS arg22.view _ (k0_off1_inb k 0 1) X_arg22 (8 * k.val + 1) 0 (by rw [k0_off1_eq]; first | rfl | (congr 1))]
  rw [readS arg23.view _ (k0_off1_inb k 0 1) X_arg23 (8 * k.val + 1) 0 (by rw [k0_off1_eq]; first | rfl | (congr 1))]
  rw [readS arg22.view _ (k0_off1_inb k 1 0) X_arg22 (8 * k.val + 2) 0 (by rw [k0_off1_eq]; first | rfl | (congr 1))]
  rw [readS arg23.view _ (k0_off1_inb k 1 0) X_arg23 (8 * k.val + 2) 0 (by rw [k0_off1_eq]; first | rfl | (congr 1))]
  rw [readS arg22.view _ (k0_off1_inb k 1 1) X_arg22 (8 * k.val + 3) 0 (by rw [k0_off1_eq]; first | rfl | (congr 1))]
  rw [readS arg23.view _ (k0_off1_inb k 1 1) X_arg23 (8 * k.val + 3) 0 (by rw [k0_off1_eq]; first | rfl | (congr 1))]
  rw [readS arg22.view _ (k0_off3_inb k 0 0) X_arg22 (8 * k.val + 4) 0 (by rw [k0_off3_eq]; first | rfl | (congr 1))]
  rw [readS arg23.view _ (k0_off3_inb k 0 0) X_arg23 (8 * k.val + 4) 0 (by rw [k0_off3_eq]; first | rfl | (congr 1))]
  rw [readS arg22.view _ (k0_off3_inb k 0 1) X_arg22 (8 * k.val + 4 + 1) 0 (by rw [k0_off3_eq]; first | rfl | (congr 1))]
  rw [readS arg23.view _ (k0_off3_inb k 0 1) X_arg23 (8 * k.val + 4 + 1) 0 (by rw [k0_off3_eq]; first | rfl | (congr 1))]
  rw [readS arg22.view _ (k0_off3_inb k 1 0) X_arg22 (8 * k.val + 4 + 2) 0 (by rw [k0_off3_eq]; first | rfl | (congr 1))]
  rw [readS arg23.view _ (k0_off3_inb k 1 0) X_arg23 (8 * k.val + 4 + 2) 0 (by rw [k0_off3_eq]; first | rfl | (congr 1))]
  rw [readS arg22.view _ (k0_off3_inb k 1 1) X_arg22 (8 * k.val + 4 + 3) 0 (by rw [k0_off3_eq]; first | rfl | (congr 1))]
  rw [readS arg23.view _ (k0_off3_inb k 1 1) X_arg23 (8 * k.val + 4 + 3) 0 (by rw [k0_off3_eq]; first | rfl | (congr 1))]
  rw [readS arg22.view _ (k0_off5_inb k 0 0) X_arg22 (8 * k.val) 1 (by rw [k0_off5_eq]; first | rfl | (congr 1))]
  rw [readS arg23.view _ (k0_off5_inb k 0 0) X_arg23 (8 * k.val) 1 (by rw [k0_off5_eq]; first | rfl | (congr 1))]
  rw [readS arg22.view _ (k0_off5_inb k 0 1) X_arg22 (8 * k.val + 1) 1 (by rw [k0_off5_eq]; first | rfl | (congr 1))]
  rw [readS arg23.view _ (k0_off5_inb k 0 1) X_arg23 (8 * k.val + 1) 1 (by rw [k0_off5_eq]; first | rfl | (congr 1))]
  rw [readS arg22.view _ (k0_off5_inb k 1 0) X_arg22 (8 * k.val + 2) 1 (by rw [k0_off5_eq]; first | rfl | (congr 1))]
  rw [readS arg23.view _ (k0_off5_inb k 1 0) X_arg23 (8 * k.val + 2) 1 (by rw [k0_off5_eq]; first | rfl | (congr 1))]
  rw [readS arg22.view _ (k0_off5_inb k 1 1) X_arg22 (8 * k.val + 3) 1 (by rw [k0_off5_eq]; first | rfl | (congr 1))]
  rw [readS arg23.view _ (k0_off5_inb k 1 1) X_arg23 (8 * k.val + 3) 1 (by rw [k0_off5_eq]; first | rfl | (congr 1))]
  rw [readS arg22.view _ (k0_off7_inb k 0 0) X_arg22 (8 * k.val + 4) 1 (by rw [k0_off7_eq]; first | rfl | (congr 1))]
  rw [readS arg23.view _ (k0_off7_inb k 0 0) X_arg23 (8 * k.val + 4) 1 (by rw [k0_off7_eq]; first | rfl | (congr 1))]
  rw [readS arg22.view _ (k0_off7_inb k 0 1) X_arg22 (8 * k.val + 4 + 1) 1 (by rw [k0_off7_eq]; first | rfl | (congr 1))]
  rw [readS arg23.view _ (k0_off7_inb k 0 1) X_arg23 (8 * k.val + 4 + 1) 1 (by rw [k0_off7_eq]; first | rfl | (congr 1))]
  rw [readS arg22.view _ (k0_off7_inb k 1 0) X_arg22 (8 * k.val + 4 + 2) 1 (by rw [k0_off7_eq]; first | rfl | (congr 1))]
  rw [readS arg23.view _ (k0_off7_inb k 1 0) X_arg23 (8 * k.val + 4 + 2) 1 (by rw [k0_off7_eq]; first | rfl | (congr 1))]
  rw [readS arg22.view _ (k0_off7_inb k 1 1) X_arg22 (8 * k.val + 4 + 3) 1 (by rw [k0_off7_eq]; first | rfl | (congr 1))]
  rw [readS arg23.view _ (k0_off7_inb k 1 1) X_arg23 (8 * k.val + 4 + 3) 1 (by rw [k0_off7_eq]; first | rfl | (congr 1))]
  rw [readC arg5.view _ (k0_off2_inb k) X_arg5 (8 * k.val) 0 (by rw [k0_off2_eq])]
  rw [readC arg5.view _ (k0_off4_inb k) X_arg5 (8 * k.val + 4) 0 (by rw [k0_off4_eq])]
  rw [readC arg5.view _ (k0_off6_inb k) X_arg5 (8 * k.val) 1 (by rw [k0_off6_eq])]
  rw [readC arg5.view _ (k0_off8_inb k) X_arg5 (8 * k.val + 4) 1 (by rw [k0_off8_eq])]
  rw [readH arg19.view _ (k0_off9_inb k) X_arg19 k.val (by rw [k0_off9_eq])]

/-- Loop 1 over the buffers' contents. -/
theorem loop1_eq (𝒱 : Variants) (c : Dev nD) (bd : Option 𝒱.V) (i : grid0.Coords) (arg1 : Memref sig .tc .vmem S128x5120 .bf16) (harg1 : arg1.IsWhole) (arg2 : Memref sig .tc .vmem S5120 .bf16) (harg2 : arg2.IsWhole) (arg3 : Memref sig .tc .vmem S1x128 .i32) (harg3 : arg3.IsWhole) (arg4 : Memref sig .tc .vmem S1x64 .f32) (harg4 : arg4.IsWhole) (arg5 : Memref sig .tc .vmem S160x2x2x8x128 .i8) (harg5 : arg5.IsWhole) (arg6 : Memref sig .tc .vmem S160x256 .bf16) (harg6 : arg6.IsWhole) (arg7 : Memref sig .tc .vmem S160x256 .bf16) (harg7 : arg7.IsWhole) (arg8 : Memref sig .tc .vmem S160x2x2x8x128 .i8) (harg8 : arg8.IsWhole) (arg9 : Memref sig .tc .vmem S160x256 .bf16) (harg9 : arg9.IsWhole) (arg10 : Memref sig .tc .vmem S160x256 .bf16) (harg10 : arg10.IsWhole) (arg11 : Memref sig .tc .vmem S160x2x2x8x128 .i8) (harg11 : arg11.IsWhole) (arg12 : Memref sig .tc .vmem S160x256 .bf16) (harg12 : arg12.IsWhole) (arg13 : Memref sig .tc .vmem S160x256 .bf16) (harg13 : arg13.IsWhole) (arg14 : Memref sig .tc .vmem S2x128x128 .bf16) (harg14 : arg14.IsWhole) (arg15 : Memref sig .tc .vmem S2x128x128 .bf16) (harg15 : arg15.IsWhole) (arg16 : Memref sig .tc .vmem S2x128x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S64x2x5120 .bf16) (harg19 : arg19.IsWhole) (arg20 : Memref sig .tc .vmem S128x128 .f32) (harg20 : arg20.IsWhole) (arg21 : Memref sig .tc .vmem S128x128 .f32) (harg21 : arg21.IsWhole) (arg22 : Memref sig .tc .vmem S160x2x256 .bf16) (harg22 : arg22.IsWhole) (arg23 : Memref sig .tc .vmem S160x2x256 .bf16) (harg23 : arg23.IsWhole) (arg24 : Memref sig .tc .vmem S160x2x256 .bf16) (harg24 : arg24.IsWhole) (arg25 : Memref sig .tc .vmem S160x2x256 .bf16) (harg25 : arg25.IsWhole) (arg26 : Memref sig .tc .vmem S160x2x256 .bf16) (harg26 : arg26.IsWhole) (arg27 : Memref sig .tc .vmem S160x2x256 .bf16) (harg27 : arg27.IsWhole) (v26 : FVec F S128x256 .f32) (X_arg5 : BufTy.Contents (Elt F) arg5.view.ty) (X_arg19 : BufTy.Contents (Elt F) arg19.view.ty) (X_arg22 : BufTy.Contents (Elt F) arg22.view.ty) (X_arg23 : BufTy.Contents (Elt F) arg23.view.ty) (init : FVec F S128x256 .f32) (n : ℕ) (hn : n ≤ 20) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v26 X_arg5 X_arg19 X_arg22 X_arg23 init n =
      loopV (F := F) (arg5.view.read (Elt F) X_arg5) (arg22.view.read (Elt F) X_arg22) (arg23.view.read (Elt F) X_arg23) (arg19.view.read (Elt F) X_arg19) init n := by
  induction n with
  | zero => rfl
  | succ n ih =>
    have e : k0_t1_loop.trips = 20 := by decide
    have hk : n < k0_t1_loop.trips := by rw [e]; omega
    rw [show n + 1 = (⟨n, hk⟩ : Fin k0_t1_loop.trips).val + 1 from rfl, st_k0_t1_succ, trip1_eq_tripV, ih (by omega)]
    rfl

set_option maxHeartbeats 2000000 in
/-- A trip of loop 2 is that step on what it loads. -/
theorem trip2_eq (𝒱 : Variants) (c : Dev nD) (bd : Option 𝒱.V) (i : grid0.Coords) (arg1 : Memref sig .tc .vmem S128x5120 .bf16) (harg1 : arg1.IsWhole) (arg2 : Memref sig .tc .vmem S5120 .bf16) (harg2 : arg2.IsWhole) (arg3 : Memref sig .tc .vmem S1x128 .i32) (harg3 : arg3.IsWhole) (arg4 : Memref sig .tc .vmem S1x64 .f32) (harg4 : arg4.IsWhole) (arg5 : Memref sig .tc .vmem S160x2x2x8x128 .i8) (harg5 : arg5.IsWhole) (arg6 : Memref sig .tc .vmem S160x256 .bf16) (harg6 : arg6.IsWhole) (arg7 : Memref sig .tc .vmem S160x256 .bf16) (harg7 : arg7.IsWhole) (arg8 : Memref sig .tc .vmem S160x2x2x8x128 .i8) (harg8 : arg8.IsWhole) (arg9 : Memref sig .tc .vmem S160x256 .bf16) (harg9 : arg9.IsWhole) (arg10 : Memref sig .tc .vmem S160x256 .bf16) (harg10 : arg10.IsWhole) (arg11 : Memref sig .tc .vmem S160x2x2x8x128 .i8) (harg11 : arg11.IsWhole) (arg12 : Memref sig .tc .vmem S160x256 .bf16) (harg12 : arg12.IsWhole) (arg13 : Memref sig .tc .vmem S160x256 .bf16) (harg13 : arg13.IsWhole) (arg14 : Memref sig .tc .vmem S2x128x128 .bf16) (harg14 : arg14.IsWhole) (arg15 : Memref sig .tc .vmem S2x128x128 .bf16) (harg15 : arg15.IsWhole) (arg16 : Memref sig .tc .vmem S2x128x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S64x2x5120 .bf16) (harg19 : arg19.IsWhole) (arg20 : Memref sig .tc .vmem S128x128 .f32) (harg20 : arg20.IsWhole) (arg21 : Memref sig .tc .vmem S128x128 .f32) (harg21 : arg21.IsWhole) (arg22 : Memref sig .tc .vmem S160x2x256 .bf16) (harg22 : arg22.IsWhole) (arg23 : Memref sig .tc .vmem S160x2x256 .bf16) (harg23 : arg23.IsWhole) (arg24 : Memref sig .tc .vmem S160x2x256 .bf16) (harg24 : arg24.IsWhole) (arg25 : Memref sig .tc .vmem S160x2x256 .bf16) (harg25 : arg25.IsWhole) (arg26 : Memref sig .tc .vmem S160x2x256 .bf16) (harg26 : arg26.IsWhole) (arg27 : Memref sig .tc .vmem S160x2x256 .bf16) (harg27 : arg27.IsWhole) (v26 : FVec F S128x256 .f32) (X_arg8 : BufTy.Contents (Elt F) arg8.view.ty) (X_arg19 : BufTy.Contents (Elt F) arg19.view.ty) (X_arg24 : BufTy.Contents (Elt F) arg24.view.ty) (X_arg25 : BufTy.Contents (Elt F) arg25.view.ty) (k : Fin k0_t2_loop.trips) (acc : FVec F S128x256 .f32) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v26 X_arg8 X_arg19 X_arg24 X_arg25 k acc =
      stepV acc (setV (pairV (View.readAt (Elt F) arg24.view (Rect.unit (s := S160x2x256) (k0_off10 k (BitVec.ofNat 32 (2 * (0 : Fin 2).val)) (BitVec.ofNat 32 (0 : Fin 2).val)) S1x2x128.size (k0_off10_inb k 0 0)).toLoadRect X_arg24) (View.readAt (Elt F) arg24.view (Rect.unit (s := S160x2x256) (k0_off10 k (BitVec.ofNat 32 (2 * (0 : Fin 2).val)) (BitVec.ofNat 32 (1 : Fin 2).val)) S1x2x128.size (k0_off10_inb k 0 1)).toLoadRect X_arg24)) (pairV (View.readAt (Elt F) arg25.view (Rect.unit (s := S160x2x256) (k0_off10 k (BitVec.ofNat 32 (2 * (0 : Fin 2).val)) (BitVec.ofNat 32 (0 : Fin 2).val)) S1x2x128.size (k0_off10_inb k 0 0)).toLoadRect X_arg25) (View.readAt (Elt F) arg25.view (Rect.unit (s := S160x2x256) (k0_off10 k (BitVec.ofNat 32 (2 * (0 : Fin 2).val)) (BitVec.ofNat 32 (1 : Fin 2).val)) S1x2x128.size (k0_off10_inb k 0 1)).toLoadRect X_arg25)) (pairV (View.readAt (Elt F) arg24.view (Rect.unit (s := S160x2x256) (k0_off10 k (BitVec.ofNat 32 (2 * (1 : Fin 2).val)) (BitVec.ofNat 32 (0 : Fin 2).val)) S1x2x128.size (k0_off10_inb k 1 0)).toLoadRect X_arg24) (View.readAt (Elt F) arg24.view (Rect.unit (s := S160x2x256) (k0_off10 k (BitVec.ofNat 32 (2 * (1 : Fin 2).val)) (BitVec.ofNat 32 (1 : Fin 2).val)) S1x2x128.size (k0_off10_inb k 1 1)).toLoadRect X_arg24)) (pairV (View.readAt (Elt F) arg25.view (Rect.unit (s := S160x2x256) (k0_off10 k (BitVec.ofNat 32 (2 * (1 : Fin 2).val)) (BitVec.ofNat 32 (0 : Fin 2).val)) S1x2x128.size (k0_off10_inb k 1 0)).toLoadRect X_arg25) (View.readAt (Elt F) arg25.view (Rect.unit (s := S160x2x256) (k0_off10 k (BitVec.ofNat 32 (2 * (1 : Fin 2).val)) (BitVec.ofNat 32 (1 : Fin 2).val)) S1x2x128.size (k0_off10_inb k 1 1)).toLoadRect X_arg25)) (View.readAt (Elt F) arg8.view (Rect.unit (s := S160x2x2x8x128) (k0_off11 k) S4x2x1x8x128.size (k0_off11_inb k)).toLoadRect X_arg8))
        (setV (pairV (View.readAt (Elt F) arg24.view (Rect.unit (s := S160x2x256) (k0_off12 k (BitVec.ofNat 32 (2 * (0 : Fin 2).val)) (BitVec.ofNat 32 (0 : Fin 2).val)) S1x2x128.size (k0_off12_inb k 0 0)).toLoadRect X_arg24) (View.readAt (Elt F) arg24.view (Rect.unit (s := S160x2x256) (k0_off12 k (BitVec.ofNat 32 (2 * (0 : Fin 2).val)) (BitVec.ofNat 32 (1 : Fin 2).val)) S1x2x128.size (k0_off12_inb k 0 1)).toLoadRect X_arg24)) (pairV (View.readAt (Elt F) arg25.view (Rect.unit (s := S160x2x256) (k0_off12 k (BitVec.ofNat 32 (2 * (0 : Fin 2).val)) (BitVec.ofNat 32 (0 : Fin 2).val)) S1x2x128.size (k0_off12_inb k 0 0)).toLoadRect X_arg25) (View.readAt (Elt F) arg25.view (Rect.unit (s := S160x2x256) (k0_off12 k (BitVec.ofNat 32 (2 * (0 : Fin 2).val)) (BitVec.ofNat 32 (1 : Fin 2).val)) S1x2x128.size (k0_off12_inb k 0 1)).toLoadRect X_arg25)) (pairV (View.readAt (Elt F) arg24.view (Rect.unit (s := S160x2x256) (k0_off12 k (BitVec.ofNat 32 (2 * (1 : Fin 2).val)) (BitVec.ofNat 32 (0 : Fin 2).val)) S1x2x128.size (k0_off12_inb k 1 0)).toLoadRect X_arg24) (View.readAt (Elt F) arg24.view (Rect.unit (s := S160x2x256) (k0_off12 k (BitVec.ofNat 32 (2 * (1 : Fin 2).val)) (BitVec.ofNat 32 (1 : Fin 2).val)) S1x2x128.size (k0_off12_inb k 1 1)).toLoadRect X_arg24)) (pairV (View.readAt (Elt F) arg25.view (Rect.unit (s := S160x2x256) (k0_off12 k (BitVec.ofNat 32 (2 * (1 : Fin 2).val)) (BitVec.ofNat 32 (0 : Fin 2).val)) S1x2x128.size (k0_off12_inb k 1 0)).toLoadRect X_arg25) (View.readAt (Elt F) arg25.view (Rect.unit (s := S160x2x256) (k0_off12 k (BitVec.ofNat 32 (2 * (1 : Fin 2).val)) (BitVec.ofNat 32 (1 : Fin 2).val)) S1x2x128.size (k0_off12_inb k 1 1)).toLoadRect X_arg25)) (View.readAt (Elt F) arg8.view (Rect.unit (s := S160x2x2x8x128) (k0_off13 k) S4x2x1x8x128.size (k0_off13_inb k)).toLoadRect X_arg8))
        (setV (pairV (View.readAt (Elt F) arg24.view (Rect.unit (s := S160x2x256) (k0_off14 k (BitVec.ofNat 32 (2 * (0 : Fin 2).val)) (BitVec.ofNat 32 (0 : Fin 2).val)) S1x2x128.size (k0_off14_inb k 0 0)).toLoadRect X_arg24) (View.readAt (Elt F) arg24.view (Rect.unit (s := S160x2x256) (k0_off14 k (BitVec.ofNat 32 (2 * (0 : Fin 2).val)) (BitVec.ofNat 32 (1 : Fin 2).val)) S1x2x128.size (k0_off14_inb k 0 1)).toLoadRect X_arg24)) (pairV (View.readAt (Elt F) arg25.view (Rect.unit (s := S160x2x256) (k0_off14 k (BitVec.ofNat 32 (2 * (0 : Fin 2).val)) (BitVec.ofNat 32 (0 : Fin 2).val)) S1x2x128.size (k0_off14_inb k 0 0)).toLoadRect X_arg25) (View.readAt (Elt F) arg25.view (Rect.unit (s := S160x2x256) (k0_off14 k (BitVec.ofNat 32 (2 * (0 : Fin 2).val)) (BitVec.ofNat 32 (1 : Fin 2).val)) S1x2x128.size (k0_off14_inb k 0 1)).toLoadRect X_arg25)) (pairV (View.readAt (Elt F) arg24.view (Rect.unit (s := S160x2x256) (k0_off14 k (BitVec.ofNat 32 (2 * (1 : Fin 2).val)) (BitVec.ofNat 32 (0 : Fin 2).val)) S1x2x128.size (k0_off14_inb k 1 0)).toLoadRect X_arg24) (View.readAt (Elt F) arg24.view (Rect.unit (s := S160x2x256) (k0_off14 k (BitVec.ofNat 32 (2 * (1 : Fin 2).val)) (BitVec.ofNat 32 (1 : Fin 2).val)) S1x2x128.size (k0_off14_inb k 1 1)).toLoadRect X_arg24)) (pairV (View.readAt (Elt F) arg25.view (Rect.unit (s := S160x2x256) (k0_off14 k (BitVec.ofNat 32 (2 * (1 : Fin 2).val)) (BitVec.ofNat 32 (0 : Fin 2).val)) S1x2x128.size (k0_off14_inb k 1 0)).toLoadRect X_arg25) (View.readAt (Elt F) arg25.view (Rect.unit (s := S160x2x256) (k0_off14 k (BitVec.ofNat 32 (2 * (1 : Fin 2).val)) (BitVec.ofNat 32 (1 : Fin 2).val)) S1x2x128.size (k0_off14_inb k 1 1)).toLoadRect X_arg25)) (View.readAt (Elt F) arg8.view (Rect.unit (s := S160x2x2x8x128) (k0_off15 k) S4x2x1x8x128.size (k0_off15_inb k)).toLoadRect X_arg8))
        (setV (pairV (View.readAt (Elt F) arg24.view (Rect.unit (s := S160x2x256) (k0_off16 k (BitVec.ofNat 32 (2 * (0 : Fin 2).val)) (BitVec.ofNat 32 (0 : Fin 2).val)) S1x2x128.size (k0_off16_inb k 0 0)).toLoadRect X_arg24) (View.readAt (Elt F) arg24.view (Rect.unit (s := S160x2x256) (k0_off16 k (BitVec.ofNat 32 (2 * (0 : Fin 2).val)) (BitVec.ofNat 32 (1 : Fin 2).val)) S1x2x128.size (k0_off16_inb k 0 1)).toLoadRect X_arg24)) (pairV (View.readAt (Elt F) arg25.view (Rect.unit (s := S160x2x256) (k0_off16 k (BitVec.ofNat 32 (2 * (0 : Fin 2).val)) (BitVec.ofNat 32 (0 : Fin 2).val)) S1x2x128.size (k0_off16_inb k 0 0)).toLoadRect X_arg25) (View.readAt (Elt F) arg25.view (Rect.unit (s := S160x2x256) (k0_off16 k (BitVec.ofNat 32 (2 * (0 : Fin 2).val)) (BitVec.ofNat 32 (1 : Fin 2).val)) S1x2x128.size (k0_off16_inb k 0 1)).toLoadRect X_arg25)) (pairV (View.readAt (Elt F) arg24.view (Rect.unit (s := S160x2x256) (k0_off16 k (BitVec.ofNat 32 (2 * (1 : Fin 2).val)) (BitVec.ofNat 32 (0 : Fin 2).val)) S1x2x128.size (k0_off16_inb k 1 0)).toLoadRect X_arg24) (View.readAt (Elt F) arg24.view (Rect.unit (s := S160x2x256) (k0_off16 k (BitVec.ofNat 32 (2 * (1 : Fin 2).val)) (BitVec.ofNat 32 (1 : Fin 2).val)) S1x2x128.size (k0_off16_inb k 1 1)).toLoadRect X_arg24)) (pairV (View.readAt (Elt F) arg25.view (Rect.unit (s := S160x2x256) (k0_off16 k (BitVec.ofNat 32 (2 * (1 : Fin 2).val)) (BitVec.ofNat 32 (0 : Fin 2).val)) S1x2x128.size (k0_off16_inb k 1 0)).toLoadRect X_arg25) (View.readAt (Elt F) arg25.view (Rect.unit (s := S160x2x256) (k0_off16 k (BitVec.ofNat 32 (2 * (1 : Fin 2).val)) (BitVec.ofNat 32 (1 : Fin 2).val)) S1x2x128.size (k0_off16_inb k 1 1)).toLoadRect X_arg25)) (View.readAt (Elt F) arg8.view (Rect.unit (s := S160x2x2x8x128) (k0_off17 k) S4x2x1x8x128.size (k0_off17_inb k)).toLoadRect X_arg8))
        (View.readAt (Elt F) arg19.view (Rect.unit (s := S64x2x5120) (k0_off18 k) S64x2x256.size (k0_off18_inb k)).toLoadRect X_arg19) := by
  unfold tripR_k0_t2 trip_k0_t2
  rfl

/-- A trip of loop 2 over the buffers' contents. -/
theorem trip2_eq_tripV (𝒱 : Variants) (c : Dev nD) (bd : Option 𝒱.V) (i : grid0.Coords) (arg1 : Memref sig .tc .vmem S128x5120 .bf16) (harg1 : arg1.IsWhole) (arg2 : Memref sig .tc .vmem S5120 .bf16) (harg2 : arg2.IsWhole) (arg3 : Memref sig .tc .vmem S1x128 .i32) (harg3 : arg3.IsWhole) (arg4 : Memref sig .tc .vmem S1x64 .f32) (harg4 : arg4.IsWhole) (arg5 : Memref sig .tc .vmem S160x2x2x8x128 .i8) (harg5 : arg5.IsWhole) (arg6 : Memref sig .tc .vmem S160x256 .bf16) (harg6 : arg6.IsWhole) (arg7 : Memref sig .tc .vmem S160x256 .bf16) (harg7 : arg7.IsWhole) (arg8 : Memref sig .tc .vmem S160x2x2x8x128 .i8) (harg8 : arg8.IsWhole) (arg9 : Memref sig .tc .vmem S160x256 .bf16) (harg9 : arg9.IsWhole) (arg10 : Memref sig .tc .vmem S160x256 .bf16) (harg10 : arg10.IsWhole) (arg11 : Memref sig .tc .vmem S160x2x2x8x128 .i8) (harg11 : arg11.IsWhole) (arg12 : Memref sig .tc .vmem S160x256 .bf16) (harg12 : arg12.IsWhole) (arg13 : Memref sig .tc .vmem S160x256 .bf16) (harg13 : arg13.IsWhole) (arg14 : Memref sig .tc .vmem S2x128x128 .bf16) (harg14 : arg14.IsWhole) (arg15 : Memref sig .tc .vmem S2x128x128 .bf16) (harg15 : arg15.IsWhole) (arg16 : Memref sig .tc .vmem S2x128x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S64x2x5120 .bf16) (harg19 : arg19.IsWhole) (arg20 : Memref sig .tc .vmem S128x128 .f32) (harg20 : arg20.IsWhole) (arg21 : Memref sig .tc .vmem S128x128 .f32) (harg21 : arg21.IsWhole) (arg22 : Memref sig .tc .vmem S160x2x256 .bf16) (harg22 : arg22.IsWhole) (arg23 : Memref sig .tc .vmem S160x2x256 .bf16) (harg23 : arg23.IsWhole) (arg24 : Memref sig .tc .vmem S160x2x256 .bf16) (harg24 : arg24.IsWhole) (arg25 : Memref sig .tc .vmem S160x2x256 .bf16) (harg25 : arg25.IsWhole) (arg26 : Memref sig .tc .vmem S160x2x256 .bf16) (harg26 : arg26.IsWhole) (arg27 : Memref sig .tc .vmem S160x2x256 .bf16) (harg27 : arg27.IsWhole) (v26 : FVec F S128x256 .f32) (X_arg8 : BufTy.Contents (Elt F) arg8.view.ty) (X_arg19 : BufTy.Contents (Elt F) arg19.view.ty) (X_arg24 : BufTy.Contents (Elt F) arg24.view.ty) (X_arg25 : BufTy.Contents (Elt F) arg25.view.ty) (k : Fin k0_t2_loop.trips) (acc : FVec F S128x256 .f32) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v26 X_arg8 X_arg19 X_arg24 X_arg25 k acc =
      tripV (F := F) (arg8.view.read (Elt F) X_arg8) (arg24.view.read (Elt F) X_arg24) (arg25.view.read (Elt F) X_arg25) (arg19.view.read (Elt F) X_arg19) k.val acc := by
  rw [trip2_eq]
  unfold tripV weightV
  rw [readS arg24.view _ (k0_off10_inb k 0 0) X_arg24 (8 * k.val) 0 (by rw [k0_off10_eq]; first | rfl | (congr 1))]
  rw [readS arg25.view _ (k0_off10_inb k 0 0) X_arg25 (8 * k.val) 0 (by rw [k0_off10_eq]; first | rfl | (congr 1))]
  rw [readS arg24.view _ (k0_off10_inb k 0 1) X_arg24 (8 * k.val + 1) 0 (by rw [k0_off10_eq]; first | rfl | (congr 1))]
  rw [readS arg25.view _ (k0_off10_inb k 0 1) X_arg25 (8 * k.val + 1) 0 (by rw [k0_off10_eq]; first | rfl | (congr 1))]
  rw [readS arg24.view _ (k0_off10_inb k 1 0) X_arg24 (8 * k.val + 2) 0 (by rw [k0_off10_eq]; first | rfl | (congr 1))]
  rw [readS arg25.view _ (k0_off10_inb k 1 0) X_arg25 (8 * k.val + 2) 0 (by rw [k0_off10_eq]; first | rfl | (congr 1))]
  rw [readS arg24.view _ (k0_off10_inb k 1 1) X_arg24 (8 * k.val + 3) 0 (by rw [k0_off10_eq]; first | rfl | (congr 1))]
  rw [readS arg25.view _ (k0_off10_inb k 1 1) X_arg25 (8 * k.val + 3) 0 (by rw [k0_off10_eq]; first | rfl | (congr 1))]
  rw [readS arg24.view _ (k0_off12_inb k 0 0) X_arg24 (8 * k.val + 4) 0 (by rw [k0_off12_eq]; first | rfl | (congr 1))]
  rw [readS arg25.view _ (k0_off12_inb k 0 0) X_arg25 (8 * k.val + 4) 0 (by rw [k0_off12_eq]; first | rfl | (congr 1))]
  rw [readS arg24.view _ (k0_off12_inb k 0 1) X_arg24 (8 * k.val + 4 + 1) 0 (by rw [k0_off12_eq]; first | rfl | (congr 1))]
  rw [readS arg25.view _ (k0_off12_inb k 0 1) X_arg25 (8 * k.val + 4 + 1) 0 (by rw [k0_off12_eq]; first | rfl | (congr 1))]
  rw [readS arg24.view _ (k0_off12_inb k 1 0) X_arg24 (8 * k.val + 4 + 2) 0 (by rw [k0_off12_eq]; first | rfl | (congr 1))]
  rw [readS arg25.view _ (k0_off12_inb k 1 0) X_arg25 (8 * k.val + 4 + 2) 0 (by rw [k0_off12_eq]; first | rfl | (congr 1))]
  rw [readS arg24.view _ (k0_off12_inb k 1 1) X_arg24 (8 * k.val + 4 + 3) 0 (by rw [k0_off12_eq]; first | rfl | (congr 1))]
  rw [readS arg25.view _ (k0_off12_inb k 1 1) X_arg25 (8 * k.val + 4 + 3) 0 (by rw [k0_off12_eq]; first | rfl | (congr 1))]
  rw [readS arg24.view _ (k0_off14_inb k 0 0) X_arg24 (8 * k.val) 1 (by rw [k0_off14_eq]; first | rfl | (congr 1))]
  rw [readS arg25.view _ (k0_off14_inb k 0 0) X_arg25 (8 * k.val) 1 (by rw [k0_off14_eq]; first | rfl | (congr 1))]
  rw [readS arg24.view _ (k0_off14_inb k 0 1) X_arg24 (8 * k.val + 1) 1 (by rw [k0_off14_eq]; first | rfl | (congr 1))]
  rw [readS arg25.view _ (k0_off14_inb k 0 1) X_arg25 (8 * k.val + 1) 1 (by rw [k0_off14_eq]; first | rfl | (congr 1))]
  rw [readS arg24.view _ (k0_off14_inb k 1 0) X_arg24 (8 * k.val + 2) 1 (by rw [k0_off14_eq]; first | rfl | (congr 1))]
  rw [readS arg25.view _ (k0_off14_inb k 1 0) X_arg25 (8 * k.val + 2) 1 (by rw [k0_off14_eq]; first | rfl | (congr 1))]
  rw [readS arg24.view _ (k0_off14_inb k 1 1) X_arg24 (8 * k.val + 3) 1 (by rw [k0_off14_eq]; first | rfl | (congr 1))]
  rw [readS arg25.view _ (k0_off14_inb k 1 1) X_arg25 (8 * k.val + 3) 1 (by rw [k0_off14_eq]; first | rfl | (congr 1))]
  rw [readS arg24.view _ (k0_off16_inb k 0 0) X_arg24 (8 * k.val + 4) 1 (by rw [k0_off16_eq]; first | rfl | (congr 1))]
  rw [readS arg25.view _ (k0_off16_inb k 0 0) X_arg25 (8 * k.val + 4) 1 (by rw [k0_off16_eq]; first | rfl | (congr 1))]
  rw [readS arg24.view _ (k0_off16_inb k 0 1) X_arg24 (8 * k.val + 4 + 1) 1 (by rw [k0_off16_eq]; first | rfl | (congr 1))]
  rw [readS arg25.view _ (k0_off16_inb k 0 1) X_arg25 (8 * k.val + 4 + 1) 1 (by rw [k0_off16_eq]; first | rfl | (congr 1))]
  rw [readS arg24.view _ (k0_off16_inb k 1 0) X_arg24 (8 * k.val + 4 + 2) 1 (by rw [k0_off16_eq]; first | rfl | (congr 1))]
  rw [readS arg25.view _ (k0_off16_inb k 1 0) X_arg25 (8 * k.val + 4 + 2) 1 (by rw [k0_off16_eq]; first | rfl | (congr 1))]
  rw [readS arg24.view _ (k0_off16_inb k 1 1) X_arg24 (8 * k.val + 4 + 3) 1 (by rw [k0_off16_eq]; first | rfl | (congr 1))]
  rw [readS arg25.view _ (k0_off16_inb k 1 1) X_arg25 (8 * k.val + 4 + 3) 1 (by rw [k0_off16_eq]; first | rfl | (congr 1))]
  rw [readC arg8.view _ (k0_off11_inb k) X_arg8 (8 * k.val) 0 (by rw [k0_off11_eq])]
  rw [readC arg8.view _ (k0_off13_inb k) X_arg8 (8 * k.val + 4) 0 (by rw [k0_off13_eq])]
  rw [readC arg8.view _ (k0_off15_inb k) X_arg8 (8 * k.val) 1 (by rw [k0_off15_eq])]
  rw [readC arg8.view _ (k0_off17_inb k) X_arg8 (8 * k.val + 4) 1 (by rw [k0_off17_eq])]
  rw [readH arg19.view _ (k0_off18_inb k) X_arg19 k.val (by rw [k0_off18_eq])]

/-- Loop 2 over the buffers' contents. -/
theorem loop2_eq (𝒱 : Variants) (c : Dev nD) (bd : Option 𝒱.V) (i : grid0.Coords) (arg1 : Memref sig .tc .vmem S128x5120 .bf16) (harg1 : arg1.IsWhole) (arg2 : Memref sig .tc .vmem S5120 .bf16) (harg2 : arg2.IsWhole) (arg3 : Memref sig .tc .vmem S1x128 .i32) (harg3 : arg3.IsWhole) (arg4 : Memref sig .tc .vmem S1x64 .f32) (harg4 : arg4.IsWhole) (arg5 : Memref sig .tc .vmem S160x2x2x8x128 .i8) (harg5 : arg5.IsWhole) (arg6 : Memref sig .tc .vmem S160x256 .bf16) (harg6 : arg6.IsWhole) (arg7 : Memref sig .tc .vmem S160x256 .bf16) (harg7 : arg7.IsWhole) (arg8 : Memref sig .tc .vmem S160x2x2x8x128 .i8) (harg8 : arg8.IsWhole) (arg9 : Memref sig .tc .vmem S160x256 .bf16) (harg9 : arg9.IsWhole) (arg10 : Memref sig .tc .vmem S160x256 .bf16) (harg10 : arg10.IsWhole) (arg11 : Memref sig .tc .vmem S160x2x2x8x128 .i8) (harg11 : arg11.IsWhole) (arg12 : Memref sig .tc .vmem S160x256 .bf16) (harg12 : arg12.IsWhole) (arg13 : Memref sig .tc .vmem S160x256 .bf16) (harg13 : arg13.IsWhole) (arg14 : Memref sig .tc .vmem S2x128x128 .bf16) (harg14 : arg14.IsWhole) (arg15 : Memref sig .tc .vmem S2x128x128 .bf16) (harg15 : arg15.IsWhole) (arg16 : Memref sig .tc .vmem S2x128x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S64x2x5120 .bf16) (harg19 : arg19.IsWhole) (arg20 : Memref sig .tc .vmem S128x128 .f32) (harg20 : arg20.IsWhole) (arg21 : Memref sig .tc .vmem S128x128 .f32) (harg21 : arg21.IsWhole) (arg22 : Memref sig .tc .vmem S160x2x256 .bf16) (harg22 : arg22.IsWhole) (arg23 : Memref sig .tc .vmem S160x2x256 .bf16) (harg23 : arg23.IsWhole) (arg24 : Memref sig .tc .vmem S160x2x256 .bf16) (harg24 : arg24.IsWhole) (arg25 : Memref sig .tc .vmem S160x2x256 .bf16) (harg25 : arg25.IsWhole) (arg26 : Memref sig .tc .vmem S160x2x256 .bf16) (harg26 : arg26.IsWhole) (arg27 : Memref sig .tc .vmem S160x2x256 .bf16) (harg27 : arg27.IsWhole) (v26 : FVec F S128x256 .f32) (X_arg8 : BufTy.Contents (Elt F) arg8.view.ty) (X_arg19 : BufTy.Contents (Elt F) arg19.view.ty) (X_arg24 : BufTy.Contents (Elt F) arg24.view.ty) (X_arg25 : BufTy.Contents (Elt F) arg25.view.ty) (init : FVec F S128x256 .f32) (n : ℕ) (hn : n ≤ 20) :
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v26 X_arg8 X_arg19 X_arg24 X_arg25 init n =
      loopV (F := F) (arg8.view.read (Elt F) X_arg8) (arg24.view.read (Elt F) X_arg24) (arg25.view.read (Elt F) X_arg25) (arg19.view.read (Elt F) X_arg19) init n := by
  induction n with
  | zero => rfl
  | succ n ih =>
    have e : k0_t2_loop.trips = 20 := by decide
    have hk : n < k0_t2_loop.trips := by rw [e]; omega
    rw [show n + 1 = (⟨n, hk⟩ : Fin k0_t2_loop.trips).val + 1 from rfl, st_k0_t2_succ, trip2_eq_tripV, ih (by omega)]
    rfl

set_option maxHeartbeats 2000000 in
/-- A trip of loop 3 is that step on what it loads. -/
theorem trip3_eq (𝒱 : Variants) (c : Dev nD) (bd : Option 𝒱.V) (i : grid0.Coords) (arg1 : Memref sig .tc .vmem S128x5120 .bf16) (harg1 : arg1.IsWhole) (arg2 : Memref sig .tc .vmem S5120 .bf16) (harg2 : arg2.IsWhole) (arg3 : Memref sig .tc .vmem S1x128 .i32) (harg3 : arg3.IsWhole) (arg4 : Memref sig .tc .vmem S1x64 .f32) (harg4 : arg4.IsWhole) (arg5 : Memref sig .tc .vmem S160x2x2x8x128 .i8) (harg5 : arg5.IsWhole) (arg6 : Memref sig .tc .vmem S160x256 .bf16) (harg6 : arg6.IsWhole) (arg7 : Memref sig .tc .vmem S160x256 .bf16) (harg7 : arg7.IsWhole) (arg8 : Memref sig .tc .vmem S160x2x2x8x128 .i8) (harg8 : arg8.IsWhole) (arg9 : Memref sig .tc .vmem S160x256 .bf16) (harg9 : arg9.IsWhole) (arg10 : Memref sig .tc .vmem S160x256 .bf16) (harg10 : arg10.IsWhole) (arg11 : Memref sig .tc .vmem S160x2x2x8x128 .i8) (harg11 : arg11.IsWhole) (arg12 : Memref sig .tc .vmem S160x256 .bf16) (harg12 : arg12.IsWhole) (arg13 : Memref sig .tc .vmem S160x256 .bf16) (harg13 : arg13.IsWhole) (arg14 : Memref sig .tc .vmem S2x128x128 .bf16) (harg14 : arg14.IsWhole) (arg15 : Memref sig .tc .vmem S2x128x128 .bf16) (harg15 : arg15.IsWhole) (arg16 : Memref sig .tc .vmem S2x128x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S64x2x5120 .bf16) (harg19 : arg19.IsWhole) (arg20 : Memref sig .tc .vmem S128x128 .f32) (harg20 : arg20.IsWhole) (arg21 : Memref sig .tc .vmem S128x128 .f32) (harg21 : arg21.IsWhole) (arg22 : Memref sig .tc .vmem S160x2x256 .bf16) (harg22 : arg22.IsWhole) (arg23 : Memref sig .tc .vmem S160x2x256 .bf16) (harg23 : arg23.IsWhole) (arg24 : Memref sig .tc .vmem S160x2x256 .bf16) (harg24 : arg24.IsWhole) (arg25 : Memref sig .tc .vmem S160x2x256 .bf16) (harg25 : arg25.IsWhole) (arg26 : Memref sig .tc .vmem S160x2x256 .bf16) (harg26 : arg26.IsWhole) (arg27 : Memref sig .tc .vmem S160x2x256 .bf16) (harg27 : arg27.IsWhole) (v3 : Vec F S128x128 .f32) (v10 : FVec F S128x128 .f32) (v28 : FVec F S128x256 .f32) (v46 : FVec F S128x256 .f32) (v50_lo : FVec F S160x256 .bf16) (v50_hi : FVec F S160x256 .bf16) (X_arg11 : BufTy.Contents (Elt F) arg11.view.ty) (X_arg19 : BufTy.Contents (Elt F) arg19.view.ty) (X_arg26 : BufTy.Contents (Elt F) arg26.view.ty) (X_arg27 : BufTy.Contents (Elt F) arg27.view.ty) (k : Fin k0_t3_loop.trips) (acc : FVec F S128x256 .f32) :
    tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v3 v10 v28 v46 v50_lo v50_hi X_arg11 X_arg19 X_arg26 X_arg27 k acc =
      stepV acc (setV (pairV (View.readAt (Elt F) arg26.view (Rect.unit (s := S160x2x256) (k0_off19 k (BitVec.ofNat 32 (2 * (0 : Fin 2).val)) (BitVec.ofNat 32 (0 : Fin 2).val)) S1x2x128.size (k0_off19_inb k 0 0)).toLoadRect X_arg26) (View.readAt (Elt F) arg26.view (Rect.unit (s := S160x2x256) (k0_off19 k (BitVec.ofNat 32 (2 * (0 : Fin 2).val)) (BitVec.ofNat 32 (1 : Fin 2).val)) S1x2x128.size (k0_off19_inb k 0 1)).toLoadRect X_arg26)) (pairV (View.readAt (Elt F) arg27.view (Rect.unit (s := S160x2x256) (k0_off19 k (BitVec.ofNat 32 (2 * (0 : Fin 2).val)) (BitVec.ofNat 32 (0 : Fin 2).val)) S1x2x128.size (k0_off19_inb k 0 0)).toLoadRect X_arg27) (View.readAt (Elt F) arg27.view (Rect.unit (s := S160x2x256) (k0_off19 k (BitVec.ofNat 32 (2 * (0 : Fin 2).val)) (BitVec.ofNat 32 (1 : Fin 2).val)) S1x2x128.size (k0_off19_inb k 0 1)).toLoadRect X_arg27)) (pairV (View.readAt (Elt F) arg26.view (Rect.unit (s := S160x2x256) (k0_off19 k (BitVec.ofNat 32 (2 * (1 : Fin 2).val)) (BitVec.ofNat 32 (0 : Fin 2).val)) S1x2x128.size (k0_off19_inb k 1 0)).toLoadRect X_arg26) (View.readAt (Elt F) arg26.view (Rect.unit (s := S160x2x256) (k0_off19 k (BitVec.ofNat 32 (2 * (1 : Fin 2).val)) (BitVec.ofNat 32 (1 : Fin 2).val)) S1x2x128.size (k0_off19_inb k 1 1)).toLoadRect X_arg26)) (pairV (View.readAt (Elt F) arg27.view (Rect.unit (s := S160x2x256) (k0_off19 k (BitVec.ofNat 32 (2 * (1 : Fin 2).val)) (BitVec.ofNat 32 (0 : Fin 2).val)) S1x2x128.size (k0_off19_inb k 1 0)).toLoadRect X_arg27) (View.readAt (Elt F) arg27.view (Rect.unit (s := S160x2x256) (k0_off19 k (BitVec.ofNat 32 (2 * (1 : Fin 2).val)) (BitVec.ofNat 32 (1 : Fin 2).val)) S1x2x128.size (k0_off19_inb k 1 1)).toLoadRect X_arg27)) (View.readAt (Elt F) arg11.view (Rect.unit (s := S160x2x2x8x128) (k0_off20 k) S4x2x1x8x128.size (k0_off20_inb k)).toLoadRect X_arg11))
        (setV (pairV (View.readAt (Elt F) arg26.view (Rect.unit (s := S160x2x256) (k0_off21 k (BitVec.ofNat 32 (2 * (0 : Fin 2).val)) (BitVec.ofNat 32 (0 : Fin 2).val)) S1x2x128.size (k0_off21_inb k 0 0)).toLoadRect X_arg26) (View.readAt (Elt F) arg26.view (Rect.unit (s := S160x2x256) (k0_off21 k (BitVec.ofNat 32 (2 * (0 : Fin 2).val)) (BitVec.ofNat 32 (1 : Fin 2).val)) S1x2x128.size (k0_off21_inb k 0 1)).toLoadRect X_arg26)) (pairV (View.readAt (Elt F) arg27.view (Rect.unit (s := S160x2x256) (k0_off21 k (BitVec.ofNat 32 (2 * (0 : Fin 2).val)) (BitVec.ofNat 32 (0 : Fin 2).val)) S1x2x128.size (k0_off21_inb k 0 0)).toLoadRect X_arg27) (View.readAt (Elt F) arg27.view (Rect.unit (s := S160x2x256) (k0_off21 k (BitVec.ofNat 32 (2 * (0 : Fin 2).val)) (BitVec.ofNat 32 (1 : Fin 2).val)) S1x2x128.size (k0_off21_inb k 0 1)).toLoadRect X_arg27)) (pairV (View.readAt (Elt F) arg26.view (Rect.unit (s := S160x2x256) (k0_off21 k (BitVec.ofNat 32 (2 * (1 : Fin 2).val)) (BitVec.ofNat 32 (0 : Fin 2).val)) S1x2x128.size (k0_off21_inb k 1 0)).toLoadRect X_arg26) (View.readAt (Elt F) arg26.view (Rect.unit (s := S160x2x256) (k0_off21 k (BitVec.ofNat 32 (2 * (1 : Fin 2).val)) (BitVec.ofNat 32 (1 : Fin 2).val)) S1x2x128.size (k0_off21_inb k 1 1)).toLoadRect X_arg26)) (pairV (View.readAt (Elt F) arg27.view (Rect.unit (s := S160x2x256) (k0_off21 k (BitVec.ofNat 32 (2 * (1 : Fin 2).val)) (BitVec.ofNat 32 (0 : Fin 2).val)) S1x2x128.size (k0_off21_inb k 1 0)).toLoadRect X_arg27) (View.readAt (Elt F) arg27.view (Rect.unit (s := S160x2x256) (k0_off21 k (BitVec.ofNat 32 (2 * (1 : Fin 2).val)) (BitVec.ofNat 32 (1 : Fin 2).val)) S1x2x128.size (k0_off21_inb k 1 1)).toLoadRect X_arg27)) (View.readAt (Elt F) arg11.view (Rect.unit (s := S160x2x2x8x128) (k0_off22 k) S4x2x1x8x128.size (k0_off22_inb k)).toLoadRect X_arg11))
        (setV (pairV (View.readAt (Elt F) arg26.view (Rect.unit (s := S160x2x256) (k0_off23 k (BitVec.ofNat 32 (2 * (0 : Fin 2).val)) (BitVec.ofNat 32 (0 : Fin 2).val)) S1x2x128.size (k0_off23_inb k 0 0)).toLoadRect X_arg26) (View.readAt (Elt F) arg26.view (Rect.unit (s := S160x2x256) (k0_off23 k (BitVec.ofNat 32 (2 * (0 : Fin 2).val)) (BitVec.ofNat 32 (1 : Fin 2).val)) S1x2x128.size (k0_off23_inb k 0 1)).toLoadRect X_arg26)) (pairV (View.readAt (Elt F) arg27.view (Rect.unit (s := S160x2x256) (k0_off23 k (BitVec.ofNat 32 (2 * (0 : Fin 2).val)) (BitVec.ofNat 32 (0 : Fin 2).val)) S1x2x128.size (k0_off23_inb k 0 0)).toLoadRect X_arg27) (View.readAt (Elt F) arg27.view (Rect.unit (s := S160x2x256) (k0_off23 k (BitVec.ofNat 32 (2 * (0 : Fin 2).val)) (BitVec.ofNat 32 (1 : Fin 2).val)) S1x2x128.size (k0_off23_inb k 0 1)).toLoadRect X_arg27)) (pairV (View.readAt (Elt F) arg26.view (Rect.unit (s := S160x2x256) (k0_off23 k (BitVec.ofNat 32 (2 * (1 : Fin 2).val)) (BitVec.ofNat 32 (0 : Fin 2).val)) S1x2x128.size (k0_off23_inb k 1 0)).toLoadRect X_arg26) (View.readAt (Elt F) arg26.view (Rect.unit (s := S160x2x256) (k0_off23 k (BitVec.ofNat 32 (2 * (1 : Fin 2).val)) (BitVec.ofNat 32 (1 : Fin 2).val)) S1x2x128.size (k0_off23_inb k 1 1)).toLoadRect X_arg26)) (pairV (View.readAt (Elt F) arg27.view (Rect.unit (s := S160x2x256) (k0_off23 k (BitVec.ofNat 32 (2 * (1 : Fin 2).val)) (BitVec.ofNat 32 (0 : Fin 2).val)) S1x2x128.size (k0_off23_inb k 1 0)).toLoadRect X_arg27) (View.readAt (Elt F) arg27.view (Rect.unit (s := S160x2x256) (k0_off23 k (BitVec.ofNat 32 (2 * (1 : Fin 2).val)) (BitVec.ofNat 32 (1 : Fin 2).val)) S1x2x128.size (k0_off23_inb k 1 1)).toLoadRect X_arg27)) (View.readAt (Elt F) arg11.view (Rect.unit (s := S160x2x2x8x128) (k0_off24 k) S4x2x1x8x128.size (k0_off24_inb k)).toLoadRect X_arg11))
        (setV (pairV (View.readAt (Elt F) arg26.view (Rect.unit (s := S160x2x256) (k0_off25 k (BitVec.ofNat 32 (2 * (0 : Fin 2).val)) (BitVec.ofNat 32 (0 : Fin 2).val)) S1x2x128.size (k0_off25_inb k 0 0)).toLoadRect X_arg26) (View.readAt (Elt F) arg26.view (Rect.unit (s := S160x2x256) (k0_off25 k (BitVec.ofNat 32 (2 * (0 : Fin 2).val)) (BitVec.ofNat 32 (1 : Fin 2).val)) S1x2x128.size (k0_off25_inb k 0 1)).toLoadRect X_arg26)) (pairV (View.readAt (Elt F) arg27.view (Rect.unit (s := S160x2x256) (k0_off25 k (BitVec.ofNat 32 (2 * (0 : Fin 2).val)) (BitVec.ofNat 32 (0 : Fin 2).val)) S1x2x128.size (k0_off25_inb k 0 0)).toLoadRect X_arg27) (View.readAt (Elt F) arg27.view (Rect.unit (s := S160x2x256) (k0_off25 k (BitVec.ofNat 32 (2 * (0 : Fin 2).val)) (BitVec.ofNat 32 (1 : Fin 2).val)) S1x2x128.size (k0_off25_inb k 0 1)).toLoadRect X_arg27)) (pairV (View.readAt (Elt F) arg26.view (Rect.unit (s := S160x2x256) (k0_off25 k (BitVec.ofNat 32 (2 * (1 : Fin 2).val)) (BitVec.ofNat 32 (0 : Fin 2).val)) S1x2x128.size (k0_off25_inb k 1 0)).toLoadRect X_arg26) (View.readAt (Elt F) arg26.view (Rect.unit (s := S160x2x256) (k0_off25 k (BitVec.ofNat 32 (2 * (1 : Fin 2).val)) (BitVec.ofNat 32 (1 : Fin 2).val)) S1x2x128.size (k0_off25_inb k 1 1)).toLoadRect X_arg26)) (pairV (View.readAt (Elt F) arg27.view (Rect.unit (s := S160x2x256) (k0_off25 k (BitVec.ofNat 32 (2 * (1 : Fin 2).val)) (BitVec.ofNat 32 (0 : Fin 2).val)) S1x2x128.size (k0_off25_inb k 1 0)).toLoadRect X_arg27) (View.readAt (Elt F) arg27.view (Rect.unit (s := S160x2x256) (k0_off25 k (BitVec.ofNat 32 (2 * (1 : Fin 2).val)) (BitVec.ofNat 32 (1 : Fin 2).val)) S1x2x128.size (k0_off25_inb k 1 1)).toLoadRect X_arg27)) (View.readAt (Elt F) arg11.view (Rect.unit (s := S160x2x2x8x128) (k0_off26 k) S4x2x1x8x128.size (k0_off26_inb k)).toLoadRect X_arg11))
        (View.readAt (Elt F) arg19.view (Rect.unit (s := S64x2x5120) (k0_off27 k) S64x2x256.size (k0_off27_inb k)).toLoadRect X_arg19) := by
  unfold tripR_k0_t3 trip_k0_t3
  rfl

/-- A trip of loop 3 over the buffers' contents. -/
theorem trip3_eq_tripV (𝒱 : Variants) (c : Dev nD) (bd : Option 𝒱.V) (i : grid0.Coords) (arg1 : Memref sig .tc .vmem S128x5120 .bf16) (harg1 : arg1.IsWhole) (arg2 : Memref sig .tc .vmem S5120 .bf16) (harg2 : arg2.IsWhole) (arg3 : Memref sig .tc .vmem S1x128 .i32) (harg3 : arg3.IsWhole) (arg4 : Memref sig .tc .vmem S1x64 .f32) (harg4 : arg4.IsWhole) (arg5 : Memref sig .tc .vmem S160x2x2x8x128 .i8) (harg5 : arg5.IsWhole) (arg6 : Memref sig .tc .vmem S160x256 .bf16) (harg6 : arg6.IsWhole) (arg7 : Memref sig .tc .vmem S160x256 .bf16) (harg7 : arg7.IsWhole) (arg8 : Memref sig .tc .vmem S160x2x2x8x128 .i8) (harg8 : arg8.IsWhole) (arg9 : Memref sig .tc .vmem S160x256 .bf16) (harg9 : arg9.IsWhole) (arg10 : Memref sig .tc .vmem S160x256 .bf16) (harg10 : arg10.IsWhole) (arg11 : Memref sig .tc .vmem S160x2x2x8x128 .i8) (harg11 : arg11.IsWhole) (arg12 : Memref sig .tc .vmem S160x256 .bf16) (harg12 : arg12.IsWhole) (arg13 : Memref sig .tc .vmem S160x256 .bf16) (harg13 : arg13.IsWhole) (arg14 : Memref sig .tc .vmem S2x128x128 .bf16) (harg14 : arg14.IsWhole) (arg15 : Memref sig .tc .vmem S2x128x128 .bf16) (harg15 : arg15.IsWhole) (arg16 : Memref sig .tc .vmem S2x128x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S64x2x5120 .bf16) (harg19 : arg19.IsWhole) (arg20 : Memref sig .tc .vmem S128x128 .f32) (harg20 : arg20.IsWhole) (arg21 : Memref sig .tc .vmem S128x128 .f32) (harg21 : arg21.IsWhole) (arg22 : Memref sig .tc .vmem S160x2x256 .bf16) (harg22 : arg22.IsWhole) (arg23 : Memref sig .tc .vmem S160x2x256 .bf16) (harg23 : arg23.IsWhole) (arg24 : Memref sig .tc .vmem S160x2x256 .bf16) (harg24 : arg24.IsWhole) (arg25 : Memref sig .tc .vmem S160x2x256 .bf16) (harg25 : arg25.IsWhole) (arg26 : Memref sig .tc .vmem S160x2x256 .bf16) (harg26 : arg26.IsWhole) (arg27 : Memref sig .tc .vmem S160x2x256 .bf16) (harg27 : arg27.IsWhole) (v3 : Vec F S128x128 .f32) (v10 : FVec F S128x128 .f32) (v28 : FVec F S128x256 .f32) (v46 : FVec F S128x256 .f32) (v50_lo : FVec F S160x256 .bf16) (v50_hi : FVec F S160x256 .bf16) (X_arg11 : BufTy.Contents (Elt F) arg11.view.ty) (X_arg19 : BufTy.Contents (Elt F) arg19.view.ty) (X_arg26 : BufTy.Contents (Elt F) arg26.view.ty) (X_arg27 : BufTy.Contents (Elt F) arg27.view.ty) (k : Fin k0_t3_loop.trips) (acc : FVec F S128x256 .f32) :
    tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v3 v10 v28 v46 v50_lo v50_hi X_arg11 X_arg19 X_arg26 X_arg27 k acc =
      tripV (F := F) (arg11.view.read (Elt F) X_arg11) (arg26.view.read (Elt F) X_arg26) (arg27.view.read (Elt F) X_arg27) (arg19.view.read (Elt F) X_arg19) k.val acc := by
  rw [trip3_eq]
  unfold tripV weightV
  rw [readS arg26.view _ (k0_off19_inb k 0 0) X_arg26 (8 * k.val) 0 (by rw [k0_off19_eq]; first | rfl | (congr 1))]
  rw [readS arg27.view _ (k0_off19_inb k 0 0) X_arg27 (8 * k.val) 0 (by rw [k0_off19_eq]; first | rfl | (congr 1))]
  rw [readS arg26.view _ (k0_off19_inb k 0 1) X_arg26 (8 * k.val + 1) 0 (by rw [k0_off19_eq]; first | rfl | (congr 1))]
  rw [readS arg27.view _ (k0_off19_inb k 0 1) X_arg27 (8 * k.val + 1) 0 (by rw [k0_off19_eq]; first | rfl | (congr 1))]
  rw [readS arg26.view _ (k0_off19_inb k 1 0) X_arg26 (8 * k.val + 2) 0 (by rw [k0_off19_eq]; first | rfl | (congr 1))]
  rw [readS arg27.view _ (k0_off19_inb k 1 0) X_arg27 (8 * k.val + 2) 0 (by rw [k0_off19_eq]; first | rfl | (congr 1))]
  rw [readS arg26.view _ (k0_off19_inb k 1 1) X_arg26 (8 * k.val + 3) 0 (by rw [k0_off19_eq]; first | rfl | (congr 1))]
  rw [readS arg27.view _ (k0_off19_inb k 1 1) X_arg27 (8 * k.val + 3) 0 (by rw [k0_off19_eq]; first | rfl | (congr 1))]
  rw [readS arg26.view _ (k0_off21_inb k 0 0) X_arg26 (8 * k.val + 4) 0 (by rw [k0_off21_eq]; first | rfl | (congr 1))]
  rw [readS arg27.view _ (k0_off21_inb k 0 0) X_arg27 (8 * k.val + 4) 0 (by rw [k0_off21_eq]; first | rfl | (congr 1))]
  rw [readS arg26.view _ (k0_off21_inb k 0 1) X_arg26 (8 * k.val + 4 + 1) 0 (by rw [k0_off21_eq]; first | rfl | (congr 1))]
  rw [readS arg27.view _ (k0_off21_inb k 0 1) X_arg27 (8 * k.val + 4 + 1) 0 (by rw [k0_off21_eq]; first | rfl | (congr 1))]
  rw [readS arg26.view _ (k0_off21_inb k 1 0) X_arg26 (8 * k.val + 4 + 2) 0 (by rw [k0_off21_eq]; first | rfl | (congr 1))]
  rw [readS arg27.view _ (k0_off21_inb k 1 0) X_arg27 (8 * k.val + 4 + 2) 0 (by rw [k0_off21_eq]; first | rfl | (congr 1))]
  rw [readS arg26.view _ (k0_off21_inb k 1 1) X_arg26 (8 * k.val + 4 + 3) 0 (by rw [k0_off21_eq]; first | rfl | (congr 1))]
  rw [readS arg27.view _ (k0_off21_inb k 1 1) X_arg27 (8 * k.val + 4 + 3) 0 (by rw [k0_off21_eq]; first | rfl | (congr 1))]
  rw [readS arg26.view _ (k0_off23_inb k 0 0) X_arg26 (8 * k.val) 1 (by rw [k0_off23_eq]; first | rfl | (congr 1))]
  rw [readS arg27.view _ (k0_off23_inb k 0 0) X_arg27 (8 * k.val) 1 (by rw [k0_off23_eq]; first | rfl | (congr 1))]
  rw [readS arg26.view _ (k0_off23_inb k 0 1) X_arg26 (8 * k.val + 1) 1 (by rw [k0_off23_eq]; first | rfl | (congr 1))]
  rw [readS arg27.view _ (k0_off23_inb k 0 1) X_arg27 (8 * k.val + 1) 1 (by rw [k0_off23_eq]; first | rfl | (congr 1))]
  rw [readS arg26.view _ (k0_off23_inb k 1 0) X_arg26 (8 * k.val + 2) 1 (by rw [k0_off23_eq]; first | rfl | (congr 1))]
  rw [readS arg27.view _ (k0_off23_inb k 1 0) X_arg27 (8 * k.val + 2) 1 (by rw [k0_off23_eq]; first | rfl | (congr 1))]
  rw [readS arg26.view _ (k0_off23_inb k 1 1) X_arg26 (8 * k.val + 3) 1 (by rw [k0_off23_eq]; first | rfl | (congr 1))]
  rw [readS arg27.view _ (k0_off23_inb k 1 1) X_arg27 (8 * k.val + 3) 1 (by rw [k0_off23_eq]; first | rfl | (congr 1))]
  rw [readS arg26.view _ (k0_off25_inb k 0 0) X_arg26 (8 * k.val + 4) 1 (by rw [k0_off25_eq]; first | rfl | (congr 1))]
  rw [readS arg27.view _ (k0_off25_inb k 0 0) X_arg27 (8 * k.val + 4) 1 (by rw [k0_off25_eq]; first | rfl | (congr 1))]
  rw [readS arg26.view _ (k0_off25_inb k 0 1) X_arg26 (8 * k.val + 4 + 1) 1 (by rw [k0_off25_eq]; first | rfl | (congr 1))]
  rw [readS arg27.view _ (k0_off25_inb k 0 1) X_arg27 (8 * k.val + 4 + 1) 1 (by rw [k0_off25_eq]; first | rfl | (congr 1))]
  rw [readS arg26.view _ (k0_off25_inb k 1 0) X_arg26 (8 * k.val + 4 + 2) 1 (by rw [k0_off25_eq]; first | rfl | (congr 1))]
  rw [readS arg27.view _ (k0_off25_inb k 1 0) X_arg27 (8 * k.val + 4 + 2) 1 (by rw [k0_off25_eq]; first | rfl | (congr 1))]
  rw [readS arg26.view _ (k0_off25_inb k 1 1) X_arg26 (8 * k.val + 4 + 3) 1 (by rw [k0_off25_eq]; first | rfl | (congr 1))]
  rw [readS arg27.view _ (k0_off25_inb k 1 1) X_arg27 (8 * k.val + 4 + 3) 1 (by rw [k0_off25_eq]; first | rfl | (congr 1))]
  rw [readC arg11.view _ (k0_off20_inb k) X_arg11 (8 * k.val) 0 (by rw [k0_off20_eq])]
  rw [readC arg11.view _ (k0_off22_inb k) X_arg11 (8 * k.val + 4) 0 (by rw [k0_off22_eq])]
  rw [readC arg11.view _ (k0_off24_inb k) X_arg11 (8 * k.val) 1 (by rw [k0_off24_eq])]
  rw [readC arg11.view _ (k0_off26_inb k) X_arg11 (8 * k.val + 4) 1 (by rw [k0_off26_eq])]
  rw [readH arg19.view _ (k0_off27_inb k) X_arg19 k.val (by rw [k0_off27_eq])]

/-- Loop 3 over the buffers' contents. -/
theorem loop3_eq (𝒱 : Variants) (c : Dev nD) (bd : Option 𝒱.V) (i : grid0.Coords) (arg1 : Memref sig .tc .vmem S128x5120 .bf16) (harg1 : arg1.IsWhole) (arg2 : Memref sig .tc .vmem S5120 .bf16) (harg2 : arg2.IsWhole) (arg3 : Memref sig .tc .vmem S1x128 .i32) (harg3 : arg3.IsWhole) (arg4 : Memref sig .tc .vmem S1x64 .f32) (harg4 : arg4.IsWhole) (arg5 : Memref sig .tc .vmem S160x2x2x8x128 .i8) (harg5 : arg5.IsWhole) (arg6 : Memref sig .tc .vmem S160x256 .bf16) (harg6 : arg6.IsWhole) (arg7 : Memref sig .tc .vmem S160x256 .bf16) (harg7 : arg7.IsWhole) (arg8 : Memref sig .tc .vmem S160x2x2x8x128 .i8) (harg8 : arg8.IsWhole) (arg9 : Memref sig .tc .vmem S160x256 .bf16) (harg9 : arg9.IsWhole) (arg10 : Memref sig .tc .vmem S160x256 .bf16) (harg10 : arg10.IsWhole) (arg11 : Memref sig .tc .vmem S160x2x2x8x128 .i8) (harg11 : arg11.IsWhole) (arg12 : Memref sig .tc .vmem S160x256 .bf16) (harg12 : arg12.IsWhole) (arg13 : Memref sig .tc .vmem S160x256 .bf16) (harg13 : arg13.IsWhole) (arg14 : Memref sig .tc .vmem S2x128x128 .bf16) (harg14 : arg14.IsWhole) (arg15 : Memref sig .tc .vmem S2x128x128 .bf16) (harg15 : arg15.IsWhole) (arg16 : Memref sig .tc .vmem S2x128x128 .f32) (harg16 : arg16.IsWhole) (arg17 : Memref sig .tc .vmem S2x128x128 .f32) (harg17 : arg17.IsWhole) (arg18 : Memref sig .tc .vmem S2x128x128 .f32) (harg18 : arg18.IsWhole) (arg19 : Memref sig .tc .vmem S64x2x5120 .bf16) (harg19 : arg19.IsWhole) (arg20 : Memref sig .tc .vmem S128x128 .f32) (harg20 : arg20.IsWhole) (arg21 : Memref sig .tc .vmem S128x128 .f32) (harg21 : arg21.IsWhole) (arg22 : Memref sig .tc .vmem S160x2x256 .bf16) (harg22 : arg22.IsWhole) (arg23 : Memref sig .tc .vmem S160x2x256 .bf16) (harg23 : arg23.IsWhole) (arg24 : Memref sig .tc .vmem S160x2x256 .bf16) (harg24 : arg24.IsWhole) (arg25 : Memref sig .tc .vmem S160x2x256 .bf16) (harg25 : arg25.IsWhole) (arg26 : Memref sig .tc .vmem S160x2x256 .bf16) (harg26 : arg26.IsWhole) (arg27 : Memref sig .tc .vmem S160x2x256 .bf16) (harg27 : arg27.IsWhole) (v3 : Vec F S128x128 .f32) (v10 : FVec F S128x128 .f32) (v28 : FVec F S128x256 .f32) (v46 : FVec F S128x256 .f32) (v50_lo : FVec F S160x256 .bf16) (v50_hi : FVec F S160x256 .bf16) (X_arg11 : BufTy.Contents (Elt F) arg11.view.ty) (X_arg19 : BufTy.Contents (Elt F) arg19.view.ty) (X_arg26 : BufTy.Contents (Elt F) arg26.view.ty) (X_arg27 : BufTy.Contents (Elt F) arg27.view.ty) (init : FVec F S128x256 .f32) (n : ℕ) (hn : n ≤ 20) :
    st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v3 v10 v28 v46 v50_lo v50_hi X_arg11 X_arg19 X_arg26 X_arg27 init n =
      loopV (F := F) (arg11.view.read (Elt F) X_arg11) (arg26.view.read (Elt F) X_arg26) (arg27.view.read (Elt F) X_arg27) (arg19.view.read (Elt F) X_arg19) init n := by
  induction n with
  | zero => rfl
  | succ n ih =>
    have e : k0_t3_loop.trips = 20 := by decide
    have hk : n < k0_t3_loop.trips := by rw [e]; omega
    rw [show n + 1 = (⟨n, hk⟩ : Fin k0_t3_loop.trips).val + 1 from rfl, st_k0_t3_succ, trip3_eq_tripV, ih (by omega)]
    rfl

end Cert.KernelIdeal.RefValue
-- ==== Proof.W.lean ====
module

public import proofs.«01_k».proof.Proof.Deq
public import Idealize.ShloMosaic.Lib.BitcastFour

@[expose] public section

noncomputable section

namespace Cert.KernelIdeal.RefValue

open Idealize.ShloMosaic Cert.KernelIdeal Cert.KernelIdeal.Gen

/-- Two spellings of one index agree. -/
theorem ix2_vi {a b : ℕ} (r : Fin a) (l : Fin b) : (ValueIdx.ix2 r l : (⟨2, ![a, b]⟩ : Shape).Idx) = ix2 r l := rfl

/-- Words read as bytes: bit `q` of row `R` is bit `8 (R % 4) + q` of word row `R / 4`. -/
theorem bytes_getLsbD (w : IVec S8x128 32) (R : Fin 32) (l : Fin 128) (q : ℕ) (hq : q < 8) :
    (bitcast S32x128 8 w bitcasts_S8x128_w32_S32x128_w8 (ix2 R l)).getLsbD q =
      (w (ix2 ⟨R.val / 4, by omega⟩ l)).getLsbD (8 * (R.val % 4) + q) := by
  have hR := R.isLt
  rw [bitcast_getLsbD _ _ _ q hq (by decide)]
  have hrow : (S32x128.row (ix2 R l)) = R.val := rfl
  have e1 : (S32x128.row (ix2 R l) * 8 + q) / 32 = R.val / 4 := by rw [hrow]; omega
  have e2 : (S32x128.row (ix2 R l) * 8 + q) % 32 = 8 * (R.val % 4) + q := by rw [hrow]; omega
  rw [e2]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- A bit of a word row, from the byte that holds it. -/
theorem words_getLsbD (x : IVec S64x128 8) (a : Fin 16) (l : Fin 128) (q : ℕ) (hq : q < 32) :
    (bitcast S16x128 32 x bitcasts_S64x128_w8_S16x128_w32 (ix2 a l)).getLsbD q =
      (x (ix2 ⟨4 * a.val + q / 8, by omega⟩ l)).getLsbD (q % 8) :=
  bitcast_8_32_getLsbD_ix2 x _ a l q hq ⟨4 * a.val + q / 8, by omega⟩ rfl

/-- A bit of the first word row of four groups of codes. -/
theorem word0_getLsbD (c : Vec Ideal S4x2x1x8x128 .i8) (a : Fin 8) (l : Fin 128) (q : ℕ) (hq : q < 32) :
    (word0V (F := Ideal) c (ix2 a l)).getLsbD q =
      BitVec.getLsbD (w := 8) (c (ix5 ⟨a.val / 2, by omega⟩ ⟨a.val % 2, by omega⟩ 0 ⟨q / 8, by omega⟩ l)) (q % 8) := by
  unfold word0V wordsV
  pointwise
  rw [words_getLsbD _ _ _ q hq]
  congr 1
  pointwise
  congr 1
  have e0 : (4 * (a.val * 2) + q / 8) / 16 = a.val / 2 := by omega
  have e1 : (4 * (a.val * 2) + q / 8) / 8 % 2 = a.val % 2 := by omega
  have e2 : (4 * (a.val * 2) + q / 8) % 8 = q / 8 := by omega
  simp only [e0, e1, e2]

/-- A bit of the second word row of four groups of codes. -/
theorem word1_getLsbD (c : Vec Ideal S4x2x1x8x128 .i8) (a : Fin 8) (l : Fin 128) (q : ℕ) (hq : q < 32) :
    (word1V (F := Ideal) c (ix2 a l)).getLsbD q =
      BitVec.getLsbD (w := 8) (c (ix5 ⟨a.val / 2, by omega⟩ ⟨a.val % 2, by omega⟩ 0 ⟨4 + q / 8, by omega⟩ l)) (q % 8) := by
  unfold word1V wordsV
  pointwise
  rw [words_getLsbD _ _ _ q hq]
  congr 1
  pointwise
  congr 1
  have e0 : (4 * (a.val * 2 + 1) + q / 8) / 16 = a.val / 2 := by omega
  have e1 : (4 * (a.val * 2 + 1) + q / 8) / 8 % 2 = a.val % 2 := by omega
  have e2 : (4 * (a.val * 2 + 1) + q / 8) % 8 = 4 + q / 8 := by omega
  simp only [e0, e1, e2]

/-- The mask keeps the low four bits of every byte. -/
theorem mask_getLsbD (q : ℕ) (hq : q < 32) : (252645135#32).getLsbD q = decide (q % 8 < 4) := by
  interval_cases q <;> rfl

/-- The byte fifteen has its low four bits set. -/
theorem fifteen_getLsbD (q : ℕ) (hq : q < 8) : (15#8).getLsbD q = decide (q < 4) := by
  interval_cases q <;> rfl

/-- A code as a number: the low four bits of the byte shifted down by `s`. -/
def code (b : BitVec 8) (s : ℕ) : EReal := FloatOps.sitofp (F := Ideal) .bf16 ((b >>> s) &&& 15#8)

/-- The masked word at a byte, the words unshifted. -/
theorem nib_unshifted (w : IVec S8x128 32) (R : Fin 32) (l : Fin 128) (b : BitVec 8)
    (h : ∀ q, q < 8 → (w (ix2 ⟨R.val / 4, by omega⟩ l)).getLsbD (8 * (R.val % 4) + q) = b.getLsbD q) :
    nibV (F := Ideal) w (ix2 R l) = code b 0 := by
  unfold nibV code
  show FloatOps.sitofp (F := Ideal) .bf16 _ = _
  congr 1
  apply BitVec.eq_of_getLsbD_eq
  intro q hq
  rw [bytes_getLsbD _ _ _ q hq]
  show (IntOp.andi (w (ix2 ⟨R.val / 4, _⟩ l)) 252645135#32).getLsbD _ = _
  unfold IntOp.andi
  rw [BitVec.getLsbD_and, BitVec.getLsbD_and, h q hq, mask_getLsbD _ (by omega), fifteen_getLsbD q hq, BitVec.getLsbD_ushiftRight]
  have e : (8 * (R.val % 4) + q) % 8 = q := by omega
  rw [e, Nat.zero_add]

/-- The same, the words shifted down by four. -/
theorem nib_shifted (w : IVec S8x128 32) (R : Fin 32) (l : Fin 128) (b : BitVec 8)
    (h : ∀ q, q < 8 → (w (ix2 ⟨R.val / 4, by omega⟩ l)).getLsbD (8 * (R.val % 4) + q) = b.getLsbD q) :
    nibV (F := Ideal) (shiftV w) (ix2 R l) = code b 4 := by
  unfold nibV code
  show FloatOps.sitofp (F := Ideal) .bf16 _ = _
  congr 1
  apply BitVec.eq_of_getLsbD_eq
  intro q hq
  rw [bytes_getLsbD _ _ _ q hq]
  show (IntOp.andi (shiftV w (ix2 ⟨R.val / 4, _⟩ l)) 252645135#32).getLsbD _ = _
  have hs : shiftV w (ix2 ⟨R.val / 4, by omega⟩ l) = (w (ix2 ⟨R.val / 4, by omega⟩ l)) >>> 4 := rfl
  unfold IntOp.andi
  rw [hs, BitVec.getLsbD_and, BitVec.getLsbD_and, mask_getLsbD _ (by omega), fifteen_getLsbD q hq, BitVec.getLsbD_ushiftRight, BitVec.getLsbD_ushiftRight]
  have e : (8 * (R.val % 4) + q) % 8 = q := by omega
  rw [e]
  by_cases h4 : q < 4
  · rw [show 4 + (8 * (R.val % 4) + q) = 8 * (R.val % 4) + (4 + q) by omega, h (4 + q) (by omega)]
  · simp [h4]

/-- Sixteen rows of a pair of scale rows. -/
theorem pairV_apply (a b : FVec Ideal S1x2x128 .bf16) (j : Fin 16) (l : Fin 128) :
    pairV a b (ix2 j l) = (if j.val < 8 then a else b) (ix3 0 ⟨j.val % 2, by omega⟩ l) := by
  unfold pairV rowV upperV
  pointwise
  simp only [dite_eq_ite, ite_self]
  have hc : ∀ j : Fin 16, IntOp.cmpi CmpIPredicate.slt (BitVec.ofNat 32 (j.val / 2)) 4#32 = if j.val < 8 then 1#1 else 0#1 := by decide
  have hp : ∀ j : Fin 16, j.val % 2 = 0 ∨ j.val % 2 = 1 := by decide
  rw [hc j]
  rcases hp j with h | h <;> by_cases h8 : j.val < 8 <;> simp [h, h8, Scalar.select]

/-- The low nibbles of half a word row, times the scales, plus the minima. -/
theorem pieceLo_apply (w : IVec S8x128 32) (s m : FVec Ideal S16x128 .bf16) (j : Fin 16) (l : Fin 128) :
    pieceLo w s m (ix2 j l) = nibV (F := Ideal) w (ix2 ⟨j.val, by omega⟩ l) * s (ix2 j l) + m (ix2 j l) := by
  unfold pieceLo
  pointwise

/-- The high nibbles of half a word row, times the scales, plus the minima. -/
theorem pieceHi_apply (w : IVec S8x128 32) (s m : FVec Ideal S16x128 .bf16) (j : Fin 16) (l : Fin 128) :
    pieceHi w s m (ix2 j l) = nibV (F := Ideal) w (ix2 ⟨16 + j.val, by omega⟩ l) * s (ix2 j l) + m (ix2 j l) := by
  unfold pieceHi
  pointwise

/-- A byte of the first word row is a code. -/
theorem word0_byte (c : Vec Ideal S4x2x1x8x128 .i8) (R : Fin 32) (l : Fin 128) (q : ℕ) (hq : q < 8) :
    (word0V (F := Ideal) c (ix2 ⟨R.val / 4, by omega⟩ l)).getLsbD (8 * (R.val % 4) + q) =
      BitVec.getLsbD (w := 8) (c (ix5 ⟨R.val / 8, by omega⟩ ⟨R.val / 4 % 2, by omega⟩ 0 ⟨R.val % 4, by omega⟩ l)) q := by
  rw [word0_getLsbD _ _ _ _ (by omega)]
  have e0 : R.val / 4 / 2 = R.val / 8 := by omega
  have e1 : (8 * (R.val % 4) + q) / 8 = R.val % 4 := by omega
  have e2 : (8 * (R.val % 4) + q) % 8 = q := by omega
  simp only [e0, e1, e2]

/-- A byte of the second word row is a code. -/
theorem word1_byte (c : Vec Ideal S4x2x1x8x128 .i8) (R : Fin 32) (l : Fin 128) (q : ℕ) (hq : q < 8) :
    (word1V (F := Ideal) c (ix2 ⟨R.val / 4, by omega⟩ l)).getLsbD (8 * (R.val % 4) + q) =
      BitVec.getLsbD (w := 8) (c (ix5 ⟨R.val / 8, by omega⟩ ⟨R.val / 4 % 2, by omega⟩ 0 ⟨4 + R.val % 4, by omega⟩ l)) q := by
  rw [word1_getLsbD _ _ _ _ (by omega)]
  have e0 : R.val / 4 / 2 = R.val / 8 := by omega
  have e1 : (8 * (R.val % 4) + q) / 8 = R.val % 4 := by omega
  have e2 : (8 * (R.val % 4) + q) % 8 = q := by omega
  simp only [e0, e1, e2]

/-- The place in a block of 128 of the product's row `ρ`. -/
def place (ρ : ℕ) : ℕ := 64 * (ρ / 16 % 2) + 32 * (ρ / 8 % 2) + 16 * (ρ / 32 % 2) + 8 * (ρ / 4 % 2) + 4 * (ρ / 64) + ρ % 4

/-- A position's column lies in the tile. -/
theorem place_lt {ρ : ℕ} (h : ρ < 128) : place ρ < 128 := by unfold place; omega

/-- Rows 0 to 15 of a set of weights: code times scale plus minimum. -/
theorem piece0_apply (ax ay bx b_y : FVec Ideal S1x2x128 .bf16) (c : Vec Ideal S4x2x1x8x128 .i8) (A B : Fin 4 → Fin 128 → EReal)
    (hA : ∀ p l, ax (ix3 0 p l) = A 0 l ∧ ay (ix3 0 p l) = A 1 l) (hB : ∀ p l, bx (ix3 0 p l) = B 0 l ∧ b_y (ix3 0 p l) = B 1 l)
    (j : Fin 16) (l : Fin 128) (g : Fin 4) (u : Fin 2) (v : Fin 8) (s : ℕ) (hg : g.val = 0 + j.val / 8) (hu : u.val = j.val / 4 % 2)
    (hv : v.val = 0 + j.val % 4) (hs : s = 0) :
    pieceLo (word0V (F := Ideal) c) (pairV ax ay) (pairV bx b_y) (ix2 j l) = code (c (ix5 g u 0 v l)) s * A g l + B g l := by
  subst hs
  have hn := nib_unshifted (word0V (F := Ideal) c) (⟨j.val, by omega⟩ : Fin 32) l (c (ix5 ⟨j.val / 8, by omega⟩ ⟨j.val / 4 % 2, by omega⟩ 0 ⟨j.val % 4, by omega⟩ l)) (word0_byte c ⟨j.val, by omega⟩ l)
  rw [pieceLo_apply, pairV_apply, pairV_apply, hn]
  have e1 : (if j.val < 8 then ax else ay) (ix3 0 ⟨j.val % 2, by omega⟩ l) = A g l := by
    by_cases h : j.val < 8
    · rw [if_pos h, (hA _ _).1]; congr 1; exact Fin.ext (by rw [hg]; show 0 = _; omega)
    · rw [if_neg h, (hA _ _).2]; congr 1; exact Fin.ext (by rw [hg]; show 1 = _; omega)
  have e2 : (if j.val < 8 then bx else b_y) (ix3 0 ⟨j.val % 2, by omega⟩ l) = B g l := by
    by_cases h : j.val < 8
    · rw [if_pos h, (hB _ _).1]; congr 1; exact Fin.ext (by rw [hg]; show 0 = _; omega)
    · rw [if_neg h, (hB _ _).2]; congr 1; exact Fin.ext (by rw [hg]; show 1 = _; omega)
  rw [e1, e2]
  congr 3
  congr 2 <;> refine Fin.ext ?_ <;> simp only [hg, hu, hv] <;> omega

/-- Rows 16 to 31 of a set of weights: code times scale plus minimum. -/
theorem piece1_apply (ax ay bx b_y : FVec Ideal S1x2x128 .bf16) (c : Vec Ideal S4x2x1x8x128 .i8) (A B : Fin 4 → Fin 128 → EReal)
    (hA : ∀ p l, ax (ix3 0 p l) = A 2 l ∧ ay (ix3 0 p l) = A 3 l) (hB : ∀ p l, bx (ix3 0 p l) = B 2 l ∧ b_y (ix3 0 p l) = B 3 l)
    (j : Fin 16) (l : Fin 128) (g : Fin 4) (u : Fin 2) (v : Fin 8) (s : ℕ) (hg : g.val = 2 + j.val / 8) (hu : u.val = j.val / 4 % 2)
    (hv : v.val = 0 + j.val % 4) (hs : s = 0) :
    pieceHi (word0V (F := Ideal) c) (pairV ax ay) (pairV bx b_y) (ix2 j l) = code (c (ix5 g u 0 v l)) s * A g l + B g l := by
  subst hs
  have hn := nib_unshifted (word0V (F := Ideal) c) (⟨16 + j.val, by omega⟩ : Fin 32) l (c (ix5 ⟨(16 + j.val) / 8, by omega⟩ ⟨(16 + j.val) / 4 % 2, by omega⟩ 0 ⟨(16 + j.val) % 4, by omega⟩ l)) (word0_byte c ⟨16 + j.val, by omega⟩ l)
  rw [pieceHi_apply, pairV_apply, pairV_apply, hn]
  have e1 : (if j.val < 8 then ax else ay) (ix3 0 ⟨j.val % 2, by omega⟩ l) = A g l := by
    by_cases h : j.val < 8
    · rw [if_pos h, (hA _ _).1]; congr 1; exact Fin.ext (by rw [hg]; show 2 = _; omega)
    · rw [if_neg h, (hA _ _).2]; congr 1; exact Fin.ext (by rw [hg]; show 3 = _; omega)
  have e2 : (if j.val < 8 then bx else b_y) (ix3 0 ⟨j.val % 2, by omega⟩ l) = B g l := by
    by_cases h : j.val < 8
    · rw [if_pos h, (hB _ _).1]; congr 1; exact Fin.ext (by rw [hg]; show 2 = _; omega)
    · rw [if_neg h, (hB _ _).2]; congr 1; exact Fin.ext (by rw [hg]; show 3 = _; omega)
  rw [e1, e2]
  congr 3
  congr 2 <;> refine Fin.ext ?_ <;> simp only [hg, hu, hv] <;> omega

/-- Rows 32 to 47 of a set of weights: code times scale plus minimum. -/
theorem piece2_apply (ax ay bx b_y : FVec Ideal S1x2x128 .bf16) (c : Vec Ideal S4x2x1x8x128 .i8) (A B : Fin 4 → Fin 128 → EReal)
    (hA : ∀ p l, ax (ix3 0 p l) = A 0 l ∧ ay (ix3 0 p l) = A 1 l) (hB : ∀ p l, bx (ix3 0 p l) = B 0 l ∧ b_y (ix3 0 p l) = B 1 l)
    (j : Fin 16) (l : Fin 128) (g : Fin 4) (u : Fin 2) (v : Fin 8) (s : ℕ) (hg : g.val = 0 + j.val / 8) (hu : u.val = j.val / 4 % 2)
    (hv : v.val = 0 + j.val % 4) (hs : s = 4) :
    pieceLo (shiftV (word0V (F := Ideal) c)) (pairV ax ay) (pairV bx b_y) (ix2 j l) = code (c (ix5 g u 0 v l)) s * A g l + B g l := by
  subst hs
  have hn := nib_shifted (word0V (F := Ideal) c) (⟨j.val, by omega⟩ : Fin 32) l (c (ix5 ⟨j.val / 8, by omega⟩ ⟨j.val / 4 % 2, by omega⟩ 0 ⟨j.val % 4, by omega⟩ l)) (word0_byte c ⟨j.val, by omega⟩ l)
  rw [pieceLo_apply, pairV_apply, pairV_apply, hn]
  have e1 : (if j.val < 8 then ax else ay) (ix3 0 ⟨j.val % 2, by omega⟩ l) = A g l := by
    by_cases h : j.val < 8
    · rw [if_pos h, (hA _ _).1]; congr 1; exact Fin.ext (by rw [hg]; show 0 = _; omega)
    · rw [if_neg h, (hA _ _).2]; congr 1; exact Fin.ext (by rw [hg]; show 1 = _; omega)
  have e2 : (if j.val < 8 then bx else b_y) (ix3 0 ⟨j.val % 2, by omega⟩ l) = B g l := by
    by_cases h : j.val < 8
    · rw [if_pos h, (hB _ _).1]; congr 1; exact Fin.ext (by rw [hg]; show 0 = _; omega)
    · rw [if_neg h, (hB _ _).2]; congr 1; exact Fin.ext (by rw [hg]; show 1 = _; omega)
  rw [e1, e2]
  congr 3
  congr 2 <;> refine Fin.ext ?_ <;> simp only [hg, hu, hv] <;> omega

/-- Rows 48 to 63 of a set of weights: code times scale plus minimum. -/
theorem piece3_apply (ax ay bx b_y : FVec Ideal S1x2x128 .bf16) (c : Vec Ideal S4x2x1x8x128 .i8) (A B : Fin 4 → Fin 128 → EReal)
    (hA : ∀ p l, ax (ix3 0 p l) = A 2 l ∧ ay (ix3 0 p l) = A 3 l) (hB : ∀ p l, bx (ix3 0 p l) = B 2 l ∧ b_y (ix3 0 p l) = B 3 l)
    (j : Fin 16) (l : Fin 128) (g : Fin 4) (u : Fin 2) (v : Fin 8) (s : ℕ) (hg : g.val = 2 + j.val / 8) (hu : u.val = j.val / 4 % 2)
    (hv : v.val = 0 + j.val % 4) (hs : s = 4) :
    pieceHi (shiftV (word0V (F := Ideal) c)) (pairV ax ay) (pairV bx b_y) (ix2 j l) = code (c (ix5 g u 0 v l)) s * A g l + B g l := by
  subst hs
  have hn := nib_shifted (word0V (F := Ideal) c) (⟨16 + j.val, by omega⟩ : Fin 32) l (c (ix5 ⟨(16 + j.val) / 8, by omega⟩ ⟨(16 + j.val) / 4 % 2, by omega⟩ 0 ⟨(16 + j.val) % 4, by omega⟩ l)) (word0_byte c ⟨16 + j.val, by omega⟩ l)
  rw [pieceHi_apply, pairV_apply, pairV_apply, hn]
  have e1 : (if j.val < 8 then ax else ay) (ix3 0 ⟨j.val % 2, by omega⟩ l) = A g l := by
    by_cases h : j.val < 8
    · rw [if_pos h, (hA _ _).1]; congr 1; exact Fin.ext (by rw [hg]; show 2 = _; omega)
    · rw [if_neg h, (hA _ _).2]; congr 1; exact Fin.ext (by rw [hg]; show 3 = _; omega)
  have e2 : (if j.val < 8 then bx else b_y) (ix3 0 ⟨j.val % 2, by omega⟩ l) = B g l := by
    by_cases h : j.val < 8
    · rw [if_pos h, (hB _ _).1]; congr 1; exact Fin.ext (by rw [hg]; show 2 = _; omega)
    · rw [if_neg h, (hB _ _).2]; congr 1; exact Fin.ext (by rw [hg]; show 3 = _; omega)
  rw [e1, e2]
  congr 3
  congr 2 <;> refine Fin.ext ?_ <;> simp only [hg, hu, hv] <;> omega

/-- Rows 64 to 79 of a set of weights: code times scale plus minimum. -/
theorem piece4_apply (ax ay bx b_y : FVec Ideal S1x2x128 .bf16) (c : Vec Ideal S4x2x1x8x128 .i8) (A B : Fin 4 → Fin 128 → EReal)
    (hA : ∀ p l, ax (ix3 0 p l) = A 0 l ∧ ay (ix3 0 p l) = A 1 l) (hB : ∀ p l, bx (ix3 0 p l) = B 0 l ∧ b_y (ix3 0 p l) = B 1 l)
    (j : Fin 16) (l : Fin 128) (g : Fin 4) (u : Fin 2) (v : Fin 8) (s : ℕ) (hg : g.val = 0 + j.val / 8) (hu : u.val = j.val / 4 % 2)
    (hv : v.val = 4 + j.val % 4) (hs : s = 0) :
    pieceLo (word1V (F := Ideal) c) (pairV ax ay) (pairV bx b_y) (ix2 j l) = code (c (ix5 g u 0 v l)) s * A g l + B g l := by
  subst hs
  have hn := nib_unshifted (word1V (F := Ideal) c) (⟨j.val, by omega⟩ : Fin 32) l (c (ix5 ⟨j.val / 8, by omega⟩ ⟨j.val / 4 % 2, by omega⟩ 0 ⟨4 + j.val % 4, by omega⟩ l)) (word1_byte c ⟨j.val, by omega⟩ l)
  rw [pieceLo_apply, pairV_apply, pairV_apply, hn]
  have e1 : (if j.val < 8 then ax else ay) (ix3 0 ⟨j.val % 2, by omega⟩ l) = A g l := by
    by_cases h : j.val < 8
    · rw [if_pos h, (hA _ _).1]; congr 1; exact Fin.ext (by rw [hg]; show 0 = _; omega)
    · rw [if_neg h, (hA _ _).2]; congr 1; exact Fin.ext (by rw [hg]; show 1 = _; omega)
  have e2 : (if j.val < 8 then bx else b_y) (ix3 0 ⟨j.val % 2, by omega⟩ l) = B g l := by
    by_cases h : j.val < 8
    · rw [if_pos h, (hB _ _).1]; congr 1; exact Fin.ext (by rw [hg]; show 0 = _; omega)
    · rw [if_neg h, (hB _ _).2]; congr 1; exact Fin.ext (by rw [hg]; show 1 = _; omega)
  rw [e1, e2]
  congr 3
  congr 2 <;> refine Fin.ext ?_ <;> simp only [hg, hu, hv] <;> omega

/-- Rows 80 to 95 of a set of weights: code times scale plus minimum. -/
theorem piece5_apply (ax ay bx b_y : FVec Ideal S1x2x128 .bf16) (c : Vec Ideal S4x2x1x8x128 .i8) (A B : Fin 4 → Fin 128 → EReal)
    (hA : ∀ p l, ax (ix3 0 p l) = A 2 l ∧ ay (ix3 0 p l) = A 3 l) (hB : ∀ p l, bx (ix3 0 p l) = B 2 l ∧ b_y (ix3 0 p l) = B 3 l)
    (j : Fin 16) (l : Fin 128) (g : Fin 4) (u : Fin 2) (v : Fin 8) (s : ℕ) (hg : g.val = 2 + j.val / 8) (hu : u.val = j.val / 4 % 2)
    (hv : v.val = 4 + j.val % 4) (hs : s = 0) :
    pieceHi (word1V (F := Ideal) c) (pairV ax ay) (pairV bx b_y) (ix2 j l) = code (c (ix5 g u 0 v l)) s * A g l + B g l := by
  subst hs
  have hn := nib_unshifted (word1V (F := Ideal) c) (⟨16 + j.val, by omega⟩ : Fin 32) l (c (ix5 ⟨(16 + j.val) / 8, by omega⟩ ⟨(16 + j.val) / 4 % 2, by omega⟩ 0 ⟨4 + (16 + j.val) % 4, by omega⟩ l)) (word1_byte c ⟨16 + j.val, by omega⟩ l)
  rw [pieceHi_apply, pairV_apply, pairV_apply, hn]
  have e1 : (if j.val < 8 then ax else ay) (ix3 0 ⟨j.val % 2, by omega⟩ l) = A g l := by
    by_cases h : j.val < 8
    · rw [if_pos h, (hA _ _).1]; congr 1; exact Fin.ext (by rw [hg]; show 2 = _; omega)
    · rw [if_neg h, (hA _ _).2]; congr 1; exact Fin.ext (by rw [hg]; show 3 = _; omega)
  have e2 : (if j.val < 8 then bx else b_y) (ix3 0 ⟨j.val % 2, by omega⟩ l) = B g l := by
    by_cases h : j.val < 8
    · rw [if_pos h, (hB _ _).1]; congr 1; exact Fin.ext (by rw [hg]; show 2 = _; omega)
    · rw [if_neg h, (hB _ _).2]; congr 1; exact Fin.ext (by rw [hg]; show 3 = _; omega)
  rw [e1, e2]
  congr 3
  congr 2 <;> refine Fin.ext ?_ <;> simp only [hg, hu, hv] <;> omega

/-- Rows 96 to 111 of a set of weights: code times scale plus minimum. -/
theorem piece6_apply (ax ay bx b_y : FVec Ideal S1x2x128 .bf16) (c : Vec Ideal S4x2x1x8x128 .i8) (A B : Fin 4 → Fin 128 → EReal)
    (hA : ∀ p l, ax (ix3 0 p l) = A 0 l ∧ ay (ix3 0 p l) = A 1 l) (hB : ∀ p l, bx (ix3 0 p l) = B 0 l ∧ b_y (ix3 0 p l) = B 1 l)
    (j : Fin 16) (l : Fin 128) (g : Fin 4) (u : Fin 2) (v : Fin 8) (s : ℕ) (hg : g.val = 0 + j.val / 8) (hu : u.val = j.val / 4 % 2)
    (hv : v.val = 4 + j.val % 4) (hs : s = 4) :
    pieceLo (shiftV (word1V (F := Ideal) c)) (pairV ax ay) (pairV bx b_y) (ix2 j l) = code (c (ix5 g u 0 v l)) s * A g l + B g l := by
  subst hs
  have hn := nib_shifted (word1V (F := Ideal) c) (⟨j.val, by omega⟩ : Fin 32) l (c (ix5 ⟨j.val / 8, by omega⟩ ⟨j.val / 4 % 2, by omega⟩ 0 ⟨4 + j.val % 4, by omega⟩ l)) (word1_byte c ⟨j.val, by omega⟩ l)
  rw [pieceLo_apply, pairV_apply, pairV_apply, hn]
  have e1 : (if j.val < 8 then ax else ay) (ix3 0 ⟨j.val % 2, by omega⟩ l) = A g l := by
    by_cases h : j.val < 8
    · rw [if_pos h, (hA _ _).1]; congr 1; exact Fin.ext (by rw [hg]; show 0 = _; omega)
    · rw [if_neg h, (hA _ _).2]; congr 1; exact Fin.ext (by rw [hg]; show 1 = _; omega)
  have e2 : (if j.val < 8 then bx else b_y) (ix3 0 ⟨j.val % 2, by omega⟩ l) = B g l := by
    by_cases h : j.val < 8
    · rw [if_pos h, (hB _ _).1]; congr 1; exact Fin.ext (by rw [hg]; show 0 = _; omega)
    · rw [if_neg h, (hB _ _).2]; congr 1; exact Fin.ext (by rw [hg]; show 1 = _; omega)
  rw [e1, e2]
  congr 3
  congr 2 <;> refine Fin.ext ?_ <;> simp only [hg, hu, hv] <;> omega

/-- Rows 112 to 127 of a set of weights: code times scale plus minimum. -/
theorem piece7_apply (ax ay bx b_y : FVec Ideal S1x2x128 .bf16) (c : Vec Ideal S4x2x1x8x128 .i8) (A B : Fin 4 → Fin 128 → EReal)
    (hA : ∀ p l, ax (ix3 0 p l) = A 2 l ∧ ay (ix3 0 p l) = A 3 l) (hB : ∀ p l, bx (ix3 0 p l) = B 2 l ∧ b_y (ix3 0 p l) = B 3 l)
    (j : Fin 16) (l : Fin 128) (g : Fin 4) (u : Fin 2) (v : Fin 8) (s : ℕ) (hg : g.val = 2 + j.val / 8) (hu : u.val = j.val / 4 % 2)
    (hv : v.val = 4 + j.val % 4) (hs : s = 4) :
    pieceHi (shiftV (word1V (F := Ideal) c)) (pairV ax ay) (pairV bx b_y) (ix2 j l) = code (c (ix5 g u 0 v l)) s * A g l + B g l := by
  subst hs
  have hn := nib_shifted (word1V (F := Ideal) c) (⟨16 + j.val, by omega⟩ : Fin 32) l (c (ix5 ⟨(16 + j.val) / 8, by omega⟩ ⟨(16 + j.val) / 4 % 2, by omega⟩ 0 ⟨4 + (16 + j.val) % 4, by omega⟩ l)) (word1_byte c ⟨16 + j.val, by omega⟩ l)
  rw [pieceHi_apply, pairV_apply, pairV_apply, hn]
  have e1 : (if j.val < 8 then ax else ay) (ix3 0 ⟨j.val % 2, by omega⟩ l) = A g l := by
    by_cases h : j.val < 8
    · rw [if_pos h, (hA _ _).1]; congr 1; exact Fin.ext (by rw [hg]; show 2 = _; omega)
    · rw [if_neg h, (hA _ _).2]; congr 1; exact Fin.ext (by rw [hg]; show 3 = _; omega)
  have e2 : (if j.val < 8 then bx else b_y) (ix3 0 ⟨j.val % 2, by omega⟩ l) = B g l := by
    by_cases h : j.val < 8
    · rw [if_pos h, (hB _ _).1]; congr 1; exact Fin.ext (by rw [hg]; show 2 = _; omega)
    · rw [if_neg h, (hB _ _).2]; congr 1; exact Fin.ext (by rw [hg]; show 3 = _; omega)
  rw [e1, e2]
  congr 3
  congr 2 <;> refine Fin.ext ?_ <;> simp only [hg, hu, hv] <;> omega

/-- A row of a set's weights: the code at the row's place, times its group's scale, plus its group's minimum. -/
theorem setV_apply (a0 a1 b0 b1 a2 a3 b2 b3 : FVec Ideal S1x2x128 .bf16) (c : Vec Ideal S4x2x1x8x128 .i8) (A B : Fin 4 → Fin 128 → EReal)
    (hA : ∀ p l, a0 (ix3 0 p l) = A 0 l ∧ a1 (ix3 0 p l) = A 1 l ∧ a2 (ix3 0 p l) = A 2 l ∧ a3 (ix3 0 p l) = A 3 l)
    (hB : ∀ p l, b0 (ix3 0 p l) = B 0 l ∧ b1 (ix3 0 p l) = B 1 l ∧ b2 (ix3 0 p l) = B 2 l ∧ b3 (ix3 0 p l) = B 3 l)
    (ρ : Fin 128) (l : Fin 128) :
    setV (pairV a0 a1) (pairV b0 b1) (pairV a2 a3) (pairV b2 b3) c (ix2 ρ l) =
      code (c (ix5 ⟨place ρ / 32, by have := place_lt ρ.isLt; omega⟩ ⟨place ρ / 8 % 2, by omega⟩ 0 ⟨place ρ % 8, by omega⟩ l)) (4 * (place ρ / 16 % 2))
        * A ⟨place ρ / 32, by have := place_lt ρ.isLt; omega⟩ l + B ⟨place ρ / 32, by have := place_lt ρ.isLt; omega⟩ l := by
  obtain ⟨t, j, ht, hj, e⟩ : ∃ t j : ℕ, t < 8 ∧ j < 16 ∧ ρ.val = 16 * t + j := ⟨ρ.val / 16, ρ.val % 16, by omega, by omega, by omega⟩
  obtain ⟨ρ, hρ⟩ := ρ
  obtain rfl : ρ = 16 * t + j := e
  unfold setV
  pointwise
  interval_cases t
  · rw [dif_pos (by omega)]; exact piece0_apply a0 a1 b0 b1 c A B (fun p l => ⟨(hA p l).1, (hA p l).2.1⟩) (fun p l => ⟨(hB p l).1, (hB p l).2.1⟩) _ l _ _ _ _ (by dsimp only; unfold place; omega) (by dsimp only; unfold place; omega) (by dsimp only; unfold place; omega) (by unfold place; omega)
  · rw [dif_neg (by omega)]; rw [dif_pos (by omega)]; exact piece1_apply a2 a3 b2 b3 c A B (fun p l => ⟨(hA p l).2.2.1, (hA p l).2.2.2⟩) (fun p l => ⟨(hB p l).2.2.1, (hB p l).2.2.2⟩) _ l _ _ _ _ (by dsimp only; unfold place; omega) (by dsimp only; unfold place; omega) (by dsimp only; unfold place; omega) (by unfold place; omega)
  · rw [dif_neg (by omega)]; rw [dif_neg (by omega)]; rw [dif_pos (by omega)]; exact piece2_apply a0 a1 b0 b1 c A B (fun p l => ⟨(hA p l).1, (hA p l).2.1⟩) (fun p l => ⟨(hB p l).1, (hB p l).2.1⟩) _ l _ _ _ _ (by dsimp only; unfold place; omega) (by dsimp only; unfold place; omega) (by dsimp only; unfold place; omega) (by unfold place; omega)
  · rw [dif_neg (by omega)]; rw [dif_neg (by omega)]; rw [dif_neg (by omega)]; rw [dif_pos (by omega)]; exact piece3_apply a2 a3 b2 b3 c A B (fun p l => ⟨(hA p l).2.2.1, (hA p l).2.2.2⟩) (fun p l => ⟨(hB p l).2.2.1, (hB p l).2.2.2⟩) _ l _ _ _ _ (by dsimp only; unfold place; omega) (by dsimp only; unfold place; omega) (by dsimp only; unfold place; omega) (by unfold place; omega)
  · rw [dif_neg (by omega)]; rw [dif_neg (by omega)]; rw [dif_neg (by omega)]; rw [dif_neg (by omega)]; rw [dif_pos (by omega)]; exact piece4_apply a0 a1 b0 b1 c A B (fun p l => ⟨(hA p l).1, (hA p l).2.1⟩) (fun p l => ⟨(hB p l).1, (hB p l).2.1⟩) _ l _ _ _ _ (by dsimp only; unfold place; omega) (by dsimp only; unfold place; omega) (by dsimp only; unfold place; omega) (by unfold place; omega)
  · rw [dif_neg (by omega)]; rw [dif_neg (by omega)]; rw [dif_neg (by omega)]; rw [dif_neg (by omega)]; rw [dif_neg (by omega)]; rw [dif_pos (by omega)]; exact piece5_apply a2 a3 b2 b3 c A B (fun p l => ⟨(hA p l).2.2.1, (hA p l).2.2.2⟩) (fun p l => ⟨(hB p l).2.2.1, (hB p l).2.2.2⟩) _ l _ _ _ _ (by dsimp only; unfold place; omega) (by dsimp only; unfold place; omega) (by dsimp only; unfold place; omega) (by unfold place; omega)
  · rw [dif_neg (by omega)]; rw [dif_neg (by omega)]; rw [dif_neg (by omega)]; rw [dif_neg (by omega)]; rw [dif_neg (by omega)]; rw [dif_neg (by omega)]; rw [dif_pos (by omega)]; exact piece6_apply a0 a1 b0 b1 c A B (fun p l => ⟨(hA p l).1, (hA p l).2.1⟩) (fun p l => ⟨(hB p l).1, (hB p l).2.1⟩) _ l _ _ _ _ (by dsimp only; unfold place; omega) (by dsimp only; unfold place; omega) (by dsimp only; unfold place; omega) (by unfold place; omega)
  · rw [dif_neg (by omega)]; rw [dif_neg (by omega)]; rw [dif_neg (by omega)]; rw [dif_neg (by omega)]; rw [dif_neg (by omega)]; rw [dif_neg (by omega)]; rw [dif_neg (by omega)]; exact piece7_apply a2 a3 b2 b3 c A B (fun p l => ⟨(hA p l).2.2.1, (hA p l).2.2.2⟩) (fun p l => ⟨(hB p l).2.2.1, (hB p l).2.2.2⟩) _ l _ _ _ _ (by dsimp only; unfold place; omega) (by dsimp only; unfold place; omega) (by dsimp only; unfold place; omega) (by unfold place; omega)

end Cert.KernelIdeal.RefValue
-- ==== Proof.Sum.lean ====
module

public import proofs.«01_k».proof.Proof.W

/-!
The column loop as a sum: from the buffers' contents at an index to one sum over the whole contracted axis, in the
order of the original columns.
-/

@[expose] public section

noncomputable section

namespace Cert.KernelIdeal.RefValue

open Idealize.ShloMosaic Cert.KernelIdeal Cert.KernelIdeal.Gen

/-- The weight of contracted index `κ` and column `col`: the code's half byte times the group's scale, plus its minimum. -/
def wt (C : Vec Ideal S160x2x2x8x128 .i8) (sc mn : Fin 160 → Fin 256 → EReal) (κ : Fin 5120) (col : Fin 256) : EReal :=
  code (C (ix5 ⟨κ.val / 32, by have := κ.isLt; omega⟩ ⟨κ.val / 8 % 2, by omega⟩ ⟨col.val / 128, by have := col.isLt; omega⟩
      ⟨κ.val % 8, by omega⟩ ⟨col.val % 128, by omega⟩)) (4 * (κ.val / 16 % 2))
    * sc ⟨κ.val / 32, by have := κ.isLt; omega⟩ col + mn ⟨κ.val / 32, by have := κ.isLt; omega⟩ col

/-- Where column `x` of the stored activations comes from: the columns of each block of 128 are stored in another order. -/
def src (x : ℕ) : ℕ := 128 * (x / 128) + place (x % 128)

/-- Where a stored column comes from is a column. -/
theorem src_lt {x : ℕ} (h : x < 5120) : src x < 5120 := by
  have := place_lt (ρ := x % 128) (by omega)
  unfold src; omega

/-- A load of one scale row reads the buffer at that group and column. -/
theorem ldS_apply (S : Vec Ideal S160x2x256 .bf16) (sc : Fin 160 → Fin 256 → EReal) (hS : ∀ g p l, S (ix3 g p l) = sc g l)
    (g n : ℕ) (hg : g < 160) (hn : n < 2) (p : Fin 2) (l : Fin 128) :
    ldS S g n (ix3 0 p l) = sc ⟨g, hg⟩ ⟨128 * n + l.val, by have := l.isLt; omega⟩ := by
  have e : ldS S g n (ix3 0 p l) = S (ix3 ⟨g % 160, Nat.mod_lt _ (by decide)⟩ p ⟨(128 * n + l.val) % 256, Nat.mod_lt _ (by decide)⟩) := rfl
  rw [e, hS]
  have e1 : (⟨g % 160, Nat.mod_lt _ (by decide)⟩ : Fin 160) = ⟨g, hg⟩ := Fin.ext (Nat.mod_eq_of_lt hg)
  have e2 : (⟨(128 * n + l.val) % 256, Nat.mod_lt _ (by decide)⟩ : Fin 256) = ⟨128 * n + l.val, by have := l.isLt; omega⟩ :=
    Fin.ext (Nat.mod_eq_of_lt (by have := l.isLt; omega))
  rw [e1, e2]

/-- The weights of one set of four groups, at a row and a column. -/
theorem weightV_apply (C : Vec Ideal S160x2x2x8x128 .i8) (S M : Vec Ideal S160x2x256 .bf16) (sc mn : Fin 160 → Fin 256 → EReal)
    (hS : ∀ g p l, S (ix3 g p l) = sc g l) (hM : ∀ g p l, M (ix3 g p l) = mn g l) (b n : ℕ) (hb : b < 40) (hn : n < 2) (ρ l : Fin 128) :
    weightV C S M (4 * b) n (ix2 ρ l) =
      wt C sc mn ⟨128 * b + place ρ.val, by have := place_lt ρ.isLt; omega⟩ ⟨128 * n + l.val, by have := l.isLt; omega⟩ := by
  have hp := place_lt ρ.isLt
  have hl := l.isLt
  unfold weightV
  have kS : ∀ e : Fin 4, ∀ (p : Fin 2) (l : Fin 128), ldS S (4 * b + e.val) n (ix3 0 p l) =
      sc ⟨4 * b + e.val, by have := e.isLt; omega⟩ ⟨128 * n + l.val, by have := l.isLt; omega⟩ :=
    fun e p l => ldS_apply S sc hS (4 * b + e.val) n (by have := e.isLt; omega) hn p l
  have kM : ∀ e : Fin 4, ∀ (p : Fin 2) (l : Fin 128), ldS M (4 * b + e.val) n (ix3 0 p l) =
      mn ⟨4 * b + e.val, by have := e.isLt; omega⟩ ⟨128 * n + l.val, by have := l.isLt; omega⟩ :=
    fun e p l => ldS_apply M mn hM (4 * b + e.val) n (by have := e.isLt; omega) hn p l
  refine (setV_apply (ldS S (4 * b) n) _ (ldS M (4 * b) n) _ _ _ _ _ _
    (fun e l => sc ⟨4 * b + e.val, by have := e.isLt; omega⟩ ⟨128 * n + l.val, by have := l.isLt; omega⟩)
    (fun e l => mn ⟨4 * b + e.val, by have := e.isLt; omega⟩ ⟨128 * n + l.val, by have := l.isLt; omega⟩)
    (fun p l => ⟨kS 0 p l, kS 1 p l, kS 2 p l, kS 3 p l⟩)
    (fun p l => ⟨kM 0 p l, kM 1 p l, kM 2 p l, kM 3 p l⟩) ρ l).trans ?_
  have e : ∀ a : Fin 4, ∀ q : Fin 2, ∀ s : Fin 8, ldC (F := Ideal) C (4 * b) n (ix5 a q 0 s l) =
      C (ix5 ⟨(4 * b + a.val) % 160, Nat.mod_lt _ (by decide)⟩ q ⟨n % 2, Nat.mod_lt _ (by decide)⟩ s l) := fun _ _ _ => rfl
  rw [e]
  unfold wt
  have g1 : (128 * b + place ρ.val) / 32 % 160 = (128 * b + place ρ.val) / 32 := by omega
  have g2 : 4 * b + place ρ.val / 32 = (128 * b + place ρ.val) / 32 := by omega
  have g3 : place ρ.val / 8 % 2 = (128 * b + place ρ.val) / 8 % 2 := by omega
  have g4 : place ρ.val % 8 = (128 * b + place ρ.val) % 8 := by omega
  have g5 : place ρ.val / 16 % 2 = (128 * b + place ρ.val) / 16 % 2 := by omega
  have g6 : n % 2 = (128 * n + l.val) / 128 := by omega
  have g7 : l = ⟨(128 * n + l.val) % 128, by omega⟩ := Fin.ext (by dsimp only; omega)
  simp only [g2, g1, g3, g4, g5, g6]
  rw [← g7]

/-- One step at an index: a sum over its 256 rows of weights. -/
theorem stepV_apply (acc : FVec Ideal S128x256 .f32) (w00 w01 w10 w11 : FVec Ideal S128x128 .bf16) (h : FVec Ideal S64x2x256 .bf16)
    (W : Fin 256 → Fin 256 → EReal)
    (h00 : ∀ ρ l : Fin 128, w00 (ix2 ρ l) = W ⟨ρ.val, by omega⟩ ⟨l.val, by omega⟩)
    (h01 : ∀ ρ l : Fin 128, w01 (ix2 ρ l) = W ⟨128 + ρ.val, by omega⟩ ⟨l.val, by omega⟩)
    (h10 : ∀ ρ l : Fin 128, w10 (ix2 ρ l) = W ⟨ρ.val, by omega⟩ ⟨128 + l.val, by omega⟩)
    (h11 : ∀ ρ l : Fin 128, w11 (ix2 ρ l) = W ⟨128 + ρ.val, by omega⟩ ⟨128 + l.val, by omega⟩)
    (r : Fin 128) (c : Fin 256) :
    stepV acc w00 w01 w10 w11 h (ix2 r c) =
      acc (ix2 r c) +
        ((∑ x : Fin 128, h (ix3 ⟨r.val / 2, by omega⟩ ⟨r.val % 2, by omega⟩ ⟨x.val, by omega⟩) * W ⟨x.val, by omega⟩ c) +
          ∑ x : Fin 128, h (ix3 ⟨r.val / 2, by omega⟩ ⟨r.val % 2, by omega⟩ ⟨128 + x.val, by omega⟩) * W ⟨128 + x.val, by omega⟩ c) := by
  unfold stepV actV
  pointwise
  have hc : ∀ x : Fin 128, (if h : c.val < 128 then w00 (ix2 x ⟨c.val, h⟩) else w10 (ix2 x ⟨c.val - 128, by omega⟩)) =
      W ⟨x.val, by omega⟩ c := by
    intro x
    split
    · rw [h00]
    · rw [h10]; congr 1; exact Fin.ext (by dsimp only; omega)
  have hc' : ∀ x : Fin 128, (if h : c.val < 128 then w01 (ix2 x ⟨c.val, h⟩) else w11 (ix2 x ⟨c.val - 128, by omega⟩)) =
      W ⟨128 + x.val, by omega⟩ c := by
    intro x
    split
    · rw [h01]
    · rw [h11]; congr 1; exact Fin.ext (by dsimp only; omega)
  have hh : ∀ x : Fin 256, (if r.val % 2 = 0 then h (ix3 ⟨r.val / 2, by omega⟩ 0 x) else h (ix3 ⟨r.val / 2, by omega⟩ 1 x)) =
      h (ix3 ⟨r.val / 2, by omega⟩ ⟨r.val % 2, by omega⟩ x) := by
    intro x
    split
    · rename_i e; congr 2; exact Fin.ext e.symm
    · rename_i e; congr 2; exact Fin.ext (by dsimp only [Fin.isValue]; omega)
  simp only [hc, hc', hh]

/-- The contribution of stored column `x` to a row and a column of the projection. -/
def term (Hn : Fin 5120 → EReal) (W : Fin 5120 → EReal) (x : ℕ) : EReal :=
  if h : x < 5120 then Hn ⟨src x, src_lt h⟩ * W ⟨src x, src_lt h⟩ else 0

/-- One step at an index, its four sets of weights read off a table `W` of weights by original column. -/
theorem stepW_apply (w : Fin 2 → Fin 2 → FVec Ideal S128x128 .bf16) (W : Fin 5120 → Fin 256 → EReal)
    (H : Vec Ideal S64x2x5120 .bf16) (Hn : Fin 128 → Fin 5120 → EReal)
    (hH : ∀ (r : Fin 128) (x : Fin 5120), H (ix3 ⟨r.val / 2, by omega⟩ ⟨r.val % 2, by omega⟩ x) = Hn r ⟨src x.val, src_lt x.isLt⟩)
    (k : ℕ) (hk : k < 20)
    (hw : ∀ e n : Fin 2, ∀ ρ l : Fin 128, w e n (ix2 ρ l) =
      W ⟨src (256 * k + 128 * e.val + ρ.val), src_lt (by omega)⟩ ⟨128 * n.val + l.val, by omega⟩)
    (acc : FVec Ideal S128x256 .f32) (r : Fin 128) (c : Fin 256) :
    stepV acc (w 0 0) (w 1 0) (w 0 1) (w 1 1) (ldH H k) (ix2 r c) =
      acc (ix2 r c) + ((∑ x : Fin 128, term (Hn r) (fun κ => W κ c) (256 * k + x.val)) +
        ∑ x : Fin 128, term (Hn r) (fun κ => W κ c) (256 * k + 128 + x.val)) := by
  have hh : ∀ x : Fin 256, ldH H k (ix3 ⟨r.val / 2, by omega⟩ ⟨r.val % 2, by omega⟩ x) = Hn r ⟨src (256 * k + x.val), src_lt (by omega)⟩ := by
    intro x
    have e : ldH H k (ix3 ⟨r.val / 2, by omega⟩ ⟨r.val % 2, by omega⟩ x) =
      H (ix3 ⟨r.val / 2, by omega⟩ ⟨r.val % 2, by omega⟩ ⟨(256 * k + x.val) % 5120, Nat.mod_lt _ (by decide)⟩) := rfl
    have e2 : (⟨(256 * k + x.val) % 5120, Nat.mod_lt _ (by decide)⟩ : Fin 5120) = ⟨256 * k + x.val, by omega⟩ :=
      Fin.ext (Nat.mod_eq_of_lt (by omega))
    rw [e, e2, hH]
  have hT : ∀ x (h : x < 5120), term (Hn r) (fun κ => W κ c) x = Hn r ⟨src x, src_lt h⟩ * W ⟨src x, src_lt h⟩ c := by
    intro x h; unfold term; rw [dif_pos h]
  rw [stepV_apply acc _ _ _ _ _ (fun κ c => W ⟨src (256 * k + κ.val), src_lt (by omega)⟩ c)
    (fun ρ l => ?_) (fun ρ l => ?_) (fun ρ l => ?_) (fun ρ l => ?_)]
  · congr 2
    · refine Finset.sum_congr rfl fun x _ => ?_
      rw [hT _ (by omega), hh]
    · refine Finset.sum_congr rfl fun x _ => ?_
      rw [hT _ (by omega), hh]
      simp only [Nat.add_assoc]
  · refine (hw 0 0 ρ l).trans ?_; congr 1; exact Fin.ext (by simp)
  · refine (hw 1 0 ρ l).trans ?_; simp [Nat.add_assoc]
  · refine (hw 0 1 ρ l).trans ?_; simp
  · refine (hw 1 1 ρ l).trans ?_; simp [Nat.add_assoc]

/-- The steps at an index, over the stored order of the columns. -/
theorem loopW_range (f : ℕ → FVec Ideal S128x256 .f32) (w : ℕ → Fin 2 → Fin 2 → FVec Ideal S128x128 .bf16)
    (W : Fin 5120 → Fin 256 → EReal) (H : Vec Ideal S64x2x5120 .bf16) (Hn : Fin 128 → Fin 5120 → EReal)
    (hH : ∀ (r : Fin 128) (x : Fin 5120), H (ix3 ⟨r.val / 2, by omega⟩ ⟨r.val % 2, by omega⟩ x) = Hn r ⟨src x.val, src_lt x.isLt⟩)
    (hf : ∀ k, k < 20 → f (k + 1) = stepV (f k) (w k 0 0) (w k 1 0) (w k 0 1) (w k 1 1) (ldH H k))
    (hw : ∀ k, (hk : k < 20) → ∀ e n : Fin 2, ∀ ρ l : Fin 128, w k e n (ix2 ρ l) =
      W ⟨src (256 * k + 128 * e.val + ρ.val), src_lt (by omega)⟩ ⟨128 * n.val + l.val, by omega⟩)
    (r : Fin 128) (c : Fin 256) (n : ℕ) (hn : n ≤ 20) :
    f n (ix2 r c) = f 0 (ix2 r c) + ∑ x ∈ Finset.range (256 * n), term (Hn r) (fun κ => W κ c) x := by
  induction n with
  | zero => simp
  | succ n ih =>
    rw [hf n (by omega), stepW_apply (w n) W H Hn hH n (by omega) (hw n (by omega)), ih (by omega),
      show 256 * (n + 1) = 256 * n + 128 + 128 by omega,
      Finset.sum_range_add, Finset.sum_range_add,
      Fin.sum_univ_eq_sum_range (fun x => term (Hn r) (fun κ => W κ c) (256 * n + x)),
      Fin.sum_univ_eq_sum_range (fun x => term (Hn r) (fun κ => W κ c) (256 * n + 128 + x))]
    simp only [add_assoc]

/-- The inverse of `place`. -/
def unplace (y : ℕ) : ℕ := 64 * (y / 4 % 2) + 32 * (y / 16 % 2) + 16 * (y / 64) + 8 * (y / 32 % 2) + 4 * (y / 8 % 2) + y % 4

set_option maxRecDepth 4000 in
theorem unplace_place : ∀ ρ : Fin 128, unplace (place ρ.val) = ρ.val := by decide

/-- Distinct positions of a tile come from distinct columns. -/
theorem place_inj {a b : ℕ} (ha : a < 128) (hb : b < 128) (h : place a = place b) : a = b := by
  exact (unplace_place ⟨a, ha⟩).symm.trans ((congrArg unplace h).trans (unplace_place ⟨b, hb⟩))

/-- The stored order of the columns is a rearrangement. -/
theorem src_bij : Function.Bijective fun x : Fin 5120 => (⟨src x.val, src_lt x.isLt⟩ : Fin 5120) := by
  refine (Finite.injective_iff_bijective).1 fun a b h => ?_
  have h' : src a.val = src b.val := congrArg Fin.val h
  have pa := place_lt (ρ := a.val % 128) (by omega)
  have pb := place_lt (ρ := b.val % 128) (by omega)
  unfold src at h'
  have h1 : a.val / 128 = b.val / 128 := by omega
  have h2 : a.val % 128 = b.val % 128 := place_inj (by omega) (by omega) (by omega)
  exact Fin.ext (by omega)

/-- Twenty steps at an index: the sum over the contracted axis in its own order. -/
theorem loopW_apply (f : ℕ → FVec Ideal S128x256 .f32) (w : ℕ → Fin 2 → Fin 2 → FVec Ideal S128x128 .bf16)
    (W : Fin 5120 → Fin 256 → EReal) (H : Vec Ideal S64x2x5120 .bf16) (Hn : Fin 128 → Fin 5120 → EReal)
    (hH : ∀ (r : Fin 128) (x : Fin 5120), H (ix3 ⟨r.val / 2, by omega⟩ ⟨r.val % 2, by omega⟩ x) = Hn r ⟨src x.val, src_lt x.isLt⟩)
    (hf : ∀ k, k < 20 → f (k + 1) = stepV (f k) (w k 0 0) (w k 1 0) (w k 0 1) (w k 1 1) (ldH H k))
    (hw : ∀ k, (hk : k < 20) → ∀ e n : Fin 2, ∀ ρ l : Fin 128, w k e n (ix2 ρ l) =
      W ⟨src (256 * k + 128 * e.val + ρ.val), src_lt (by omega)⟩ ⟨128 * n.val + l.val, by omega⟩)
    (r : Fin 128) (c : Fin 256) :
    f 20 (ix2 r c) = f 0 (ix2 r c) + ∑ κ : Fin 5120, Hn r κ * W κ c := by
  rw [loopW_range f w W H Hn hH hf hw r c 20 le_rfl,
    ← Fin.sum_univ_eq_sum_range (fun x => term (Hn r) (fun κ => W κ c) x) (256 * 20)]
  refine congrArg (f 0 (ix2 r c) + ·) ?_
  refine Eq.trans ?_ (src_bij.sum_comp (fun κ => Hn r κ * W κ c))
  refine Finset.sum_congr rfl fun x _ => ?_
  unfold term
  rw [dif_pos x.isLt]

/-- The loop of a projection at an index: the sum over the contracted axis in its own order. -/
theorem loopV_apply (C : Vec Ideal S160x2x2x8x128 .i8) (S M : Vec Ideal S160x2x256 .bf16) (H : Vec Ideal S64x2x5120 .bf16)
    (sc mn : Fin 160 → Fin 256 → EReal) (Hn : Fin 128 → Fin 5120 → EReal)
    (hS : ∀ g p l, S (ix3 g p l) = sc g l) (hM : ∀ g p l, M (ix3 g p l) = mn g l)
    (hH : ∀ (r : Fin 128) (x : Fin 5120), H (ix3 ⟨r.val / 2, by omega⟩ ⟨r.val % 2, by omega⟩ x) = Hn r ⟨src x.val, src_lt x.isLt⟩)
    (init : FVec Ideal S128x256 .f32) (r : Fin 128) (c : Fin 256) :
    loopV C S M H init 20 (ix2 r c) = init (ix2 r c) + ∑ κ : Fin 5120, Hn r κ * wt C sc mn κ c := by
  refine loopW_apply (loopV C S M H init) (fun k e n => weightV C S M (8 * k + 4 * e.val) n.val) (wt C sc mn) H Hn hH
    (fun _ _ => rfl) (fun k hk e n ρ l => ?_) r c
  have h1 : 8 * k + 4 * e.val = 4 * (2 * k + e.val) := by omega
  rw [h1, weightV_apply C S M sc mn hS hM (2 * k + e.val) n.val (by omega) n.isLt ρ l]
  congr 1
  refine Fin.ext ?_
  dsimp only
  have h2 : (256 * k + 128 * e.val + ρ.val) / 128 = 2 * k + e.val := by omega
  have h3 : (256 * k + 128 * e.val + ρ.val) % 128 = ρ.val := by omega
  unfold src
  rw [h2, h3]

end Cert.KernelIdeal.RefValue
-- ==== Proof.Hid.lean ====
/- The normalized input as the kernel keeps it: the root-mean-square normalization, its lanes moved within every block of
   128 columns, its rows stored in pairs. -/
module

public import proofs.«01_k».proof.Proof.Sum

@[expose] public section

noncomputable section

namespace Cert.KernelIdeal.RefValue

open Idealize.ShloMosaic Cert.KernelIdeal Cert.KernelIdeal.Gen

/-- The column each lane of a block of 128 takes its value from, as the kernel computes it. -/
def colV : IVec S128x128 32 :=
  ori
    (ori k0_pay5
      (shli (andi (shrsi (iota Kind.tc S128x128 32 [1] iota_S128x128_d1_w32) k0_pay6) (broadcast S128x128 1#32))
        (broadcast S128x128 5#32)))
    (shli
      (andi (shrsi (iota Kind.tc S128x128 32 [1] iota_S128x128_d1_w32) (broadcast S128x128 4#32))
        (broadcast S128x128 1#32))
      (broadcast S128x128 6#32))

/-- It is the lane's place. -/
theorem colV_apply (r l : Fin 128) : colV (ix2 r l) = BitVec.ofNat 32 (place l.val) := by
  have hl : List.foldl (fun n a => n * ![128, 128] a + ((ix2 r l : S128x128.Idx) a).val) 0 [1] = l.val := by
    simp only [List.foldl, Nat.zero_mul, Nat.zero_add]; rfl
  unfold colV k0_pay5 k0_pay6
  simp only [pointwise]
  simp only [hl]
  clear hl
  revert l
  decide

/-- A place is a column: it is not negative, so it is taken as it is. -/
theorem col_toNat : ∀ l : Fin 128,
    (Scalar.select (IntOp.cmpi CmpIPredicate.slt (BitVec.ofNat 32 (place l.val)) 0#32)
      (IntOp.addi (BitVec.ofNat 32 (place l.val)) 128#32) (BitVec.ofNat 32 (place l.val))).toNat % 128 = place l.val := by
  decide

/-- The block of 128 columns from `n`, its lanes moved. -/
def blockV (X : FVec Ideal S128x5120 .f32) (n : ℕ) (h : S128x5120.Slices ![0, n] S128x128) : FVec Ideal S128x128 .f32 :=
  dynamicGather 1 (extractStridedSlice S128x128 ![0, n] X h)
    (shapeCast S128x128
      (shapeCast S128x128x1
        (select (cmpi CmpIPredicate.slt colV (broadcast S128x128 0#32)) (addi colV (broadcast S128x128 128#32)) colV)
        shapeCasts_S128x128_S128x128x1)
      shapeCasts_S128x128x1_S128x128)

/-- A block of 128 columns with its lanes moved, at an index. -/
theorem blockV_apply (X : FVec Ideal S128x5120 .f32) (n : ℕ) (h : S128x5120.Slices ![0, n] S128x128) (r l : Fin 128)
    (k : Fin 5120) (hk : k.val = n + place l.val) : blockV X n h (ix2 r l) = X (ix2 r k) := by
  unfold blockV
  simp only [pointwise, colV_apply]
  refine congrArg X (congrArg₂ ix2 (Fin.ext ?_) (Fin.ext ?_))
  · simp
  · simp only [hk, if_true]
    exact congrArg (n + ·) (col_toNat l)

/-- Every block of 128 columns lies in the array. -/
theorem block_fits (k : Fin 40) : S128x5120.Slices ![0, 128 * k.val] S128x128 := by
  revert k; decide

/-- The forty blocks' widths add up to the array's. -/
theorem moved_fits (f : Fin 40 → FVec Ideal S128x128 .f32) :
    Shape.Concatenates ((List.ofFn fun k : Fin 40 => (⟨S128x128, f k⟩ : (s : Shape) × (s.Idx → Ideal .f32))).map (·.1)) S128x5120 1 := by
  rw [List.map_ofFn]
  have : ((fun x : (s : Shape) × (s.Idx → Ideal .f32) => x.1) ∘ fun k : Fin 40 => (⟨S128x128, f k⟩ : (s : Shape) × (s.Idx → Ideal .f32))) = fun _ => S128x128 := rfl
  rw [this]
  decide

/-- The whole, block after block. -/
def movedV (X : FVec Ideal S128x5120 .f32) : FVec Ideal S128x5120 .f32 :=
  concatenate S128x5120 1 (List.ofFn fun k : Fin 40 => (⟨S128x128, blockV X (128 * k.val) (block_fits k)⟩ : (s : Shape) × (s.Idx → Ideal .f32)))
    (moved_fits fun k => blockV X (128 * k.val) (block_fits k))

/-- The moved array at an index: column `x` is column `src x` of the array. -/
theorem movedV_apply (X : FVec Ideal S128x5120 .f32) (r : Fin 128) (x : Fin 5120) :
    movedV X (ix2 r x) = X (ix2 r ⟨src x.val, src_lt x.isLt⟩) := by
  unfold movedV
  rw [concatenate_ofFn_apply (t := S128x5120) (s₁ := S128x128) 1 (fun k : Fin 40 => blockV X (128 * k.val) (block_fits k)) _ rfl 128 rfl
    (ix2 r x) ⟨x.val / 128, by have := x.isLt; omega⟩ rfl (ix2 r ⟨x.val % 128, by omega⟩) rfl (by
      intro b hb
      match b with
      | ⟨0, _⟩ => rfl
      | ⟨1, _⟩ => exact absurd rfl hb)]
  exact blockV_apply X _ _ r _ _ rfl

/-- What the scratch of the normalized input holds: its rows in pairs, its lanes moved. -/
def hidV (X : FVec Ideal S128x5120 .f32) : Vec Ideal S64x2x5120 .bf16 :=
  interleaveRows S64x2x5120
    (shapeCast S64x1x5120 (rowsOfParity 0 S64x5120 (truncf .bf16 (movedV X) bitsLt_bf16_f32) bitcasts_S128x5120_w16_S64x5120_w32)
      shapeCasts_S64x5120_S64x1x5120)
    (shapeCast S64x1x5120 (rowsOfParity 1 S64x5120 (truncf .bf16 (movedV X) bitsLt_bf16_f32) bitcasts_S128x5120_w16_S64x5120_w32)
      shapeCasts_S64x5120_S64x1x5120) bitcasts_S64x2x5120_w16_S64x1x5120_w32

/-- The rows as the kernel keeps them, at an index: column `x` is column `src x` of the array. -/
theorem hidV_apply (X : FVec Ideal S128x5120 .f32) (r : Fin 128) (x : Fin 5120) :
    hidV X (ix3 ⟨r.val / 2, by omega⟩ ⟨r.val % 2, by omega⟩ x) = X (ix2 r ⟨src x.val, src_lt x.isLt⟩) := by
  unfold hidV
  simp only [pointwise]
  have hr := r.isLt
  rcases Nat.mod_two_eq_zero_or_one r.val with h | h
  · rw [if_pos (by omega)]
    refine (congrArg (movedV X) (congrArg₂ ix2 (Fin.ext ?_) (Fin.ext ?_))).trans (movedV_apply X r x)
    · simp; omega
    · simp
  · rw [if_neg (by omega)]
    refine (congrArg (movedV X) (congrArg₂ ix2 (Fin.ext ?_) (Fin.ext ?_))).trans (movedV_apply X r x)
    · simp; omega
    · simp
end Cert.KernelIdeal.RefValue
-- ==== Proof.Out.lean ====
/- What a grid point leaves: in each output block, the projections of the normalized input it finds; in the carried
   scratch, the normalized input and the angles' cosines and sines. -/
module

public import proofs.«01_k».proof.Proof.Hid
public import proofs.«01_k».proof.Proof.Gen.KernelIdeal.Value
public import Idealize.ShloMosaic.Lib.Pipeline.ValueKit
public import Idealize.ShloMosaic.Lib.Pipeline.ReadBack

@[expose] public section

noncomputable section

namespace Cert.KernelIdeal.RefValue

open Idealize.ShloMosaic Cert.KernelIdeal Cert.KernelIdeal.Gen Cert.KernelIdeal.Value

variable (m : (ℓ : Loc nD τ sig) → Buf (Elt Ideal) ℓ)

/-- Every loop makes twenty trips. -/
theorem trips20 : Scf.trips (0#32) (Scalar.addi 0#32 20#32) 1#32 = 20 := by decide

/-- A projection: the loop over its codes, its scales and minima each stored twice. -/
def projV (C : Vec Ideal S160x2x2x8x128 .i8) (s mn : Vec Ideal S160x256 .bf16) (H : Vec Ideal S64x2x5120 .bf16) :
    FVec Ideal S128x256 .f32 :=
  loopV (F := Ideal) C (k0_pay311 s) (k0_pay311 mn) H k0_pay309 20

/-- The query, key and value projections at a point. -/
def qV (c : Dev nD) (t : Fin cfg0.N) (H : Vec Ideal S64x2x5120 .bf16) := projV (iblk m c 4 t) (iblk m c 5 t) (iblk m c 6 t) H
/-- The point's keys before the rotation. -/
def kV (c : Dev nD) (t : Fin cfg0.N) (H : Vec Ideal S64x2x5120 .bf16) := projV (iblk m c 7 t) (iblk m c 8 t) (iblk m c 9 t) H
/-- The point's values. -/
def vV (c : Dev nD) (t : Fin cfg0.N) (H : Vec Ideal S64x2x5120 .bf16) := projV (iblk m c 10 t) (iblk m c 11 t) (iblk m c 12 t) H

/-- The rotary embedding of head `e` of a pair: cosines `C`, sines `S`. -/
def ropeV (C S : FVec Ideal S128x128 .f32) (X : FVec Ideal S128x256 .f32) (e : Fin 2) (r l : Fin 128) : EReal :=
  X (ix2 r ⟨128 * e.val + l.val, by omega⟩) * C (ix2 r l)
    + X (ix2 r ⟨128 * e.val + (l.val + 64) % 128, by omega⟩) * (if l.val < 64 then 0 - S (ix2 r l) else S (ix2 r l))

/-- The comparison of a lane with 64, decided lane by lane. -/
theorem lane_lt : ∀ l : Fin 128, IntOp.cmpi CmpIPredicate.slt (BitVec.ofNat 32 l.val) 64#32 = if l.val < 64 then 1#1 else 0#1 := by
  decide

/-- The kernel's rotation of a tile of 128 lanes, at an index. -/
theorem ropeV_tile (C S : FVec Ideal S128x128 .f32) (X : FVec Ideal S128x256 .f32) (e : Fin 2) (r l : Fin 128) (n : ℕ)
    (hn : n = 128 * e.val) (h : S128x256.Slices ![0, n] S128x128) :
    addf (mulf (extractStridedSlice S128x128 ![0, n] X h) C)
      (mulf (dynamicRotate 1 64#32 none (extractStridedSlice S128x128 ![0, n] X h) rotates_S128x128_d1) (k0_pay306 S)) (ix2 r l)
      = ropeV C S X e r l := by
  have hl : List.foldl (fun n a => n * ![128, 128] a + ((ix2 r l : S128x128.Idx) a).val) 0 [1] = l.val := by
    simp only [List.foldl, Nat.zero_mul, Nat.zero_add]; rfl
  have hs : ∀ a b : EReal, Scalar.select (if l.val < 64 then 1#1 else 0#1) a b = if l.val < 64 then a else b := by
    intro a b; by_cases h : l.val < 64
    · rw [if_pos h, if_pos h]; rfl
    · rw [if_neg h, if_neg h]; rfl
  unfold k0_pay306 ropeV
  simp only [pointwise, hl, lane_lt, hs]
  refine congrArg₂ (· + ·) (congrArg (· * _) (congrArg X (congrArg₂ ix2 (Fin.ext ?_) (Fin.ext ?_))))
    (congrArg (· * _) (congrArg X (congrArg₂ ix2 (Fin.ext ?_) (Fin.ext ?_))))
  · simp
  · simp [hn]
  · simp
  · simp [hn]

/-- A tile of an output block is the tile computed, at Ideal whatever its format. -/
theorem cast_tile (Y : S128x128.Idx → EReal) (h : S128x128.ShapeCasts S1x128x128) (x : S1x128x128.Idx) (r l : Fin 128)
    (h1 : r.val = (x 1).val) (h2 : l.val = (x 2).val) : shapeCast S1x128x128 Y h x = Y (ix2 r l) := by
  obtain rfl : r = x 1 := Fin.ext h1
  obtain rfl : l = x 2 := Fin.ext h2
  idx_vars x
  simp only [pointwise]

/-- What point 0 leaves in the carried scratch. -/
theorem stA_hid (c : Dev nD) (t : Fin cfg0.N) (acc) (h0 : t.val % 5 = 0) :
    (stAt0 m c t.val t.isLt acc).2.2.2.2.2.1 = hidV (k0_pay4 (iblk m c 0 t) (iblk m c 1 t)) := by
  rw [stAt0_A m c t acc h0]
  frame_out
  rfl
/-- The first point leaves the cosines and the sines of its angles. -/
theorem stA_ang (c : Dev nD) (t : Fin cfg0.N) (acc) (h0 : t.val % 5 = 0) :
    (stAt0 m c t.val t.isLt acc).2.2.2.2.2.2
      = (k0_pay304 (k0_pay59 (iblk m c 2 t)) (iblk m c 3 t), k0_pay305 (k0_pay59 (iblk m c 2 t)) (iblk m c 3 t)) := by
  rw [stAt0_A m c t acc h0]
  refine Prod.ext ?_ ?_
  · frame_out
  · frame_out

/-- The later points leave it as they find it. -/
theorem stB_scratch (c : Dev nD) (t : Fin cfg0.N) (acc) (h0 : ¬ t.val % 5 = 0) :
    (stAt0 m c t.val t.isLt acc).2.2.2.2.2 = acc.2.2.2.2.2 := by
  rw [stAt0_B m c t acc h0]
  rfl

/-- A value's tile is its columns. -/
theorem plain_tile (X : FVec Ideal S128x256 .f32) (e : Fin 2) (r l : Fin 128) (n : ℕ)
    (hn : n = 128 * e.val) (h : S128x256.Slices ![0, n] S128x128) :
    extractStridedSlice S128x128 ![0, n] X h (ix2 r l) = X (ix2 r ⟨128 * e.val + l.val, by omega⟩) := by
  simp only [pointwise]
  refine congrArg X (congrArg₂ ix2 (Fin.ext ?_) (Fin.ext ?_))
  · simp
  · simp [hn]

/-- The output blocks a point leaves: the rotated keys, the values, then the rotated queries, the keys and the values at
    the wider format. -/
def outV (C S : FVec Ideal S128x128 .f32) (q k v : FVec Ideal S128x256 .f32)
    (o : Vec Ideal S2x128x128 .bf16 × Vec Ideal S2x128x128 .bf16 × Vec Ideal S2x128x128 .f32 × Vec Ideal S2x128x128 .f32
      × Vec Ideal S2x128x128 .f32 × Vec Ideal S64x2x5120 .bf16 × Vec Ideal S128x128 .f32 × Vec Ideal S128x128 .f32) : Prop :=
  ∀ (e : Fin 2) (r l : Fin 128),
    o.1 (ix3 e r l) = ropeV C S k e r l
    ∧ o.2.1 (ix3 e r l) = v (ix2 r ⟨128 * e.val + l.val, by omega⟩)
    ∧ o.2.2.1 (ix3 e r l) = ropeV C S q e r l
    ∧ o.2.2.2.1 (ix3 e r l) = ropeV C S k e r l
    ∧ o.2.2.2.2.1 (ix3 e r l) = v (ix2 r ⟨128 * e.val + l.val, by omega⟩)

set_option maxHeartbeats 1000000 in
/-- Point 0 leaves them from the input it normalizes. -/
theorem outA (c : Dev nD) (t : Fin cfg0.N) (acc) (h0 : t.val % 5 = 0) :
    outV (k0_pay304 (k0_pay59 (iblk m c 2 t)) (iblk m c 3 t)) (k0_pay305 (k0_pay59 (iblk m c 2 t)) (iblk m c 3 t))
      (qV m c t (hidV (k0_pay4 (iblk m c 0 t) (iblk m c 1 t)))) (kV m c t (hidV (k0_pay4 (iblk m c 0 t) (iblk m c 1 t))))
      (vV m c t (hidV (k0_pay4 (iblk m c 0 t) (iblk m c 1 t)))) (stAt0 m c t.val t.isLt acc) := by
  intro e r l
  rw [stAt0_A m c t acc h0]
  refine ⟨?_, ?_, ?_, ?_, ?_⟩
  all_goals
    frame_out [trips20, loop1_eq, loop2_eq, loop3_eq]
    canon_tiles x h
  all_goals
    generalize hX : loopV (F := Ideal) _ _ _ _ _ _ = X
    change e.val = _ at h0
    open_payloads
    refine (cast_tile _ _ x r l h1 h2).trans ?_
    first
      | exact (ropeV_tile _ _ X e r l _ (by omega) _).trans (by subst hX; rfl)
      | exact (plain_tile X e r l _ (by omega) (by decide)).trans (by subst hX; rfl)

set_option maxHeartbeats 1000000 in
/-- The later points leave them from the input carried. -/
theorem outB (c : Dev nD) (t : Fin cfg0.N) (acc) (h0 : ¬ t.val % 5 = 0) :
    outV acc.2.2.2.2.2.2.1 acc.2.2.2.2.2.2.2 (qV m c t acc.2.2.2.2.2.1) (kV m c t acc.2.2.2.2.2.1)
      (vV m c t acc.2.2.2.2.2.1) (stAt0 m c t.val t.isLt acc) := by
  intro e r l
  rw [stAt0_B m c t acc h0]
  refine ⟨?_, ?_, ?_, ?_, ?_⟩
  all_goals
    frame_out [trips20, loop1_eq, loop2_eq, loop3_eq, read_unread_whole]
    canon_tiles x h
  all_goals
    generalize hX : loopV (F := Ideal) _ _ _ _ _ _ = X
    change e.val = _ at h0
    open_payloads
    refine (cast_tile _ _ x r l h1 h2).trans ?_
    first
      | exact (ropeV_tile _ _ X e r l _ (by omega) _).trans (by subst hX; rfl)
      | exact (plain_tile X e r l _ (by omega) (by decide)).trans (by subst hX; rfl)

end Cert.KernelIdeal.RefValue
-- ==== Proof.Ref.lean ====
/- What the q, k, v reference's projections compute at an index. -/
module

public import proofs.«01_k».proof.Proof.W
public import proofs.«01_k».proof.Proof.Gen.ReferenceIdeal.Read
public import Idealize.ShloMosaic.Lib.TwoAxisContraction

@[expose] public section

noncomputable section

namespace Cert.ReferenceIdeal.RefValue

open Idealize.ShloMosaic Idealize.ShloMosaic.TcCoe Cert.ReferenceIdeal Cert.ReferenceIdeal.Gen Cert.ReferenceIdeal.Read
open Cert.KernelIdeal.RefValue (code)
open scoped BigOperators

/-- The two-axis contraction at an index. -/
theorem dot_apply (A : FVec Ideal S128x160x16 .bf16) (B : FVec Ideal S1280x160x16 .bf16) (r : Fin 128) (n : Fin 1280) :
    Host.dotGeneral (F := Ideal) (φ₁ := .bf16) (φ₂ := .bf16) dot_S128x160x16_S1280x160x16_S128x1280_12_12_0_0_n_n none A B (ix2 r n) =
      ∑ g : Fin 160, ∑ j : Fin 16, A (ix3 r g j) * B (ix3 n g j) := by
  pointwise

/-- The low nibble of a byte, as a number. -/
theorem code_lo (b : BitVec 8) : (FloatOps.sitofp .bf16 (IntOp.andi (b.setWidth 32) 15#32) : Ideal .bf16) = code b 0 := by
  have h : (IntOp.andi (b.setWidth 32) 15#32).toInt = ((b >>> 0) &&& 15#8).toInt := by
    revert b; decide +kernel
  unfold code
  exact congrArg (fun z : ℤ => (((z : ℝ)) : EReal)) h

/-- The high nibble of a byte, as a number. -/
theorem code_hi (b : BitVec 8) : (FloatOps.sitofp .bf16 (IntOp.shrsi .host (b.setWidth 32) 4#32) : Ideal .bf16) = code b 4 := by
  have h : (IntOp.shrsi .host (b.setWidth 32) 4#32).toInt = ((b >>> 4) &&& 15#8).toInt := by
    revert b; decide +kernel
  unfold code
  exact congrArg (fun z : ℤ => (((z : ℝ)) : EReal)) h

/-- The low half's weights. -/
theorem v29_apply (x2 : (⟨S1280x160x16, .i8⟩ : BufTy).Contents (Elt Ideal)) (x3 x4 : (⟨S1280x160, .bf16⟩ : BufTy).Contents (Elt Ideal)) (n : Fin 1280) (g : Fin 160) (j : Fin 16) :
    val_main_v29 (F := Ideal) x2 x3 x4 (ix3 n g j) = code (x2 (ix3 n g j)) 0 * x3 (ix2 n g) + x4 (ix2 n g) := by
  simp only [val_main_v29_apply, val_main_v28_apply, val_main_v27_apply, val_main_v26_apply, val_main_v25_apply, val_main_v24_apply,
    val_main_v23_apply, val_main_v22_apply, val_main_v21_apply, val_main_v20_apply, val_main_c_apply, code_lo, pointwise]
  refine congrArg₂ (· + ·) (congrArg (_ * ·) (congrArg x3 ?_)) (congrArg x4 ?_) <;>
    exact funext fun a => match a with | ⟨0, _⟩ => rfl | ⟨1, _⟩ => rfl

/-- The high half's weights. -/
theorem v37_apply (x2 : (⟨S1280x160x16, .i8⟩ : BufTy).Contents (Elt Ideal)) (x3 x4 : (⟨S1280x160, .bf16⟩ : BufTy).Contents (Elt Ideal)) (n : Fin 1280) (g : Fin 160) (j : Fin 16) :
    val_main_v37 (F := Ideal) x2 x3 x4 (ix3 n g j) = code (x2 (ix3 n g j)) 4 * x3 (ix2 n g) + x4 (ix2 n g) := by
  simp only [val_main_v37_apply, val_main_v36_apply, val_main_v35_apply, val_main_v34_apply, val_main_v33_apply, val_main_v32_apply,
    val_main_v31_apply, val_main_v30_apply, val_main_v21_apply, val_main_v20_apply, val_main_c_2_apply, code_hi, pointwise]
  refine congrArg₂ (· + ·) (congrArg (_ * ·) (congrArg x3 ?_)) (congrArg x4 ?_) <;>
    exact funext fun a => match a with | ⟨0, _⟩ => rfl | ⟨1, _⟩ => rfl

/-- The contracted axis of width 5120 is 160 groups of a low and a high half. -/
theorem sum_halves (f : Fin 5120 → EReal) :
    ∑ κ : Fin 5120, f κ =
      (∑ g : Fin 160, ∑ j : Fin 16, f ⟨32 * g.val + j.val, by omega⟩) + ∑ g : Fin 160, ∑ j : Fin 16, f ⟨32 * g.val + 16 + j.val, by omega⟩ := by
  rw [← (finProdFinEquiv (m := 160) (n := 32)).sum_comp f, Fintype.sum_prod_type, ← Finset.sum_add_distrib]
  refine Finset.sum_congr rfl fun g _ => ?_
  rw [Fin.sum_univ_add (a := 16) (b := 16)]
  refine congrArg₂ (· + ·) (Finset.sum_congr rfl fun j _ => congrArg f (Fin.ext ?_)) (Finset.sum_congr rfl fun j _ => congrArg f (Fin.ext ?_))
  · simp [finProdFinEquiv]; omega
  · simp [finProdFinEquiv]; omega

/-- The low half of a group of the normalized rows. -/
theorem v18_apply (x0 : (⟨S128x1x5120, .bf16⟩ : BufTy).Contents (Elt Ideal)) (x1 : (⟨S5120, .bf16⟩ : BufTy).Contents (Elt Ideal)) (r : Fin 128) (g : Fin 160) (j : Fin 16) :
    val_main_v18 (F := Ideal) x0 x1 (ix3 r g j) = val_main_v15 (F := Ideal) x0 x1 (ix2 r ⟨32 * g.val + j.val, by omega⟩) := by
  simp only [val_main_v18_apply, val_main_v17_apply, val_main_v16_apply, pointwise]
  refine congrArg _ (funext fun a => Fin.ext ?_)
  match a with
  | ⟨0, _⟩ => show ((r.val * 160 + g.val) * 32 + j.val) / 5120 = r.val; omega
  | ⟨1, _⟩ => show ((r.val * 160 + g.val) * 32 + j.val) % 5120 = 32 * g.val + j.val; omega

/-- The high half of a group of the normalized rows. -/
theorem v19_apply (x0 : (⟨S128x1x5120, .bf16⟩ : BufTy).Contents (Elt Ideal)) (x1 : (⟨S5120, .bf16⟩ : BufTy).Contents (Elt Ideal)) (r : Fin 128) (g : Fin 160) (j : Fin 16) :
    val_main_v19 (F := Ideal) x0 x1 (ix3 r g j) = val_main_v15 (F := Ideal) x0 x1 (ix2 r ⟨32 * g.val + 16 + j.val, by omega⟩) := by
  simp only [val_main_v19_apply, val_main_v17_apply, val_main_v16_apply, pointwise]
  refine congrArg _ (funext fun a => Fin.ext ?_)
  match a with
  | ⟨0, _⟩ => show ((r.val * 160 + g.val) * 32 + (16 + j.val)) / 5120 = r.val; omega
  | ⟨1, _⟩ => show ((r.val * 160 + g.val) * 32 + (16 + j.val)) % 5120 = 32 * g.val + 16 + j.val; omega

/-- The weight at row `κ` of the contracted axis and output column `n`. -/
def rwt (x2 : (⟨S1280x160x16, .i8⟩ : BufTy).Contents (Elt Ideal)) (x3 x4 : (⟨S1280x160, .bf16⟩ : BufTy).Contents (Elt Ideal))
    (κ : Fin 5120) (n : Fin 1280) : EReal :=
  code (x2 (ix3 n ⟨κ.val / 32, by omega⟩ ⟨κ.val % 16, by omega⟩)) (4 * (κ.val / 16 % 2)) * x3 (ix2 n ⟨κ.val / 32, by omega⟩)
    + x4 (ix2 n ⟨κ.val / 32, by omega⟩)

/-- The reference's projection at an index. -/
theorem v40_apply (x0 : (⟨S128x1x5120, .bf16⟩ : BufTy).Contents (Elt Ideal)) (x1 : (⟨S5120, .bf16⟩ : BufTy).Contents (Elt Ideal))
    (x2 : (⟨S1280x160x16, .i8⟩ : BufTy).Contents (Elt Ideal)) (x3 x4 : (⟨S1280x160, .bf16⟩ : BufTy).Contents (Elt Ideal)) (r : Fin 128) (n : Fin 1280) :
    val_main_v40 (F := Ideal) x0 x1 x2 x3 x4 (ix2 r n) = ∑ κ : Fin 5120, val_main_v15 (F := Ideal) x0 x1 (ix2 r κ) * rwt x2 x3 x4 κ n := by
  rw [val_main_v40_apply, sum_halves]
  unfold val_main_v38 val_main_v39
  rw [dot_apply, dot_apply]
  refine congrArg₂ (· + ·) (Finset.sum_congr rfl fun g _ => Finset.sum_congr rfl fun j _ => ?_)
    (Finset.sum_congr rfl fun g _ => Finset.sum_congr rfl fun j _ => ?_)
  · rw [v18_apply, v29_apply]
    unfold rwt
    have e1 : (32 * g.val + j.val) / 32 = g.val := by omega
    have e2 : (32 * g.val + j.val) % 16 = j.val := by omega
    have e3 : (32 * g.val + j.val) / 16 % 2 = 0 := by omega
    simp only [e1, e2, e3, Nat.mul_zero]
  · rw [v19_apply, v37_apply]
    unfold rwt
    have e1 : (32 * g.val + 16 + j.val) / 32 = g.val := by omega
    have e2 : (32 * g.val + 16 + j.val) % 16 = j.val := by omega
    have e3 : (32 * g.val + 16 + j.val) / 16 % 2 = 1 := by omega
    simp only [e1, e2, e3, Nat.mul_one]

end Cert.ReferenceIdeal.RefValue
-- ==== Proof.RefV.lean ====
/- What the q, k, v reference's results are at an index. -/
module

public import proofs.«01_k».proof.Proof.Ref

@[expose] public section

noncomputable section

namespace Cert.ReferenceIdeal.RefValue

open Idealize.ShloMosaic Idealize.ShloMosaic.TcCoe Cert.ReferenceIdeal Cert.ReferenceIdeal.Gen Cert.ReferenceIdeal.Read
open scoped BigOperators

/-- The head-split projection at an index. -/
theorem v41_apply (x0 : (⟨S128x1x5120, .bf16⟩ : BufTy).Contents (Elt Ideal)) (x1 : (⟨S5120, .bf16⟩ : BufTy).Contents (Elt Ideal))
    (x2 : (⟨S1280x160x16, .i8⟩ : BufTy).Contents (Elt Ideal)) (x3 x4 : (⟨S1280x160, .bf16⟩ : BufTy).Contents (Elt Ideal)) (r : Fin 128) (h : Fin 10) (l : Fin 128) :
    val_main_v41 (F := Ideal) x0 x1 x2 x3 x4 (ix3 r h l) = val_main_v40 (F := Ideal) x0 x1 x2 x3 x4 (ix2 r ⟨128 * h.val + l.val, by omega⟩) := by
  rw [val_main_v41_apply]
  refine congrArg _ (funext fun a => Fin.ext ?_)
  match a with
  | ⟨0, _⟩ => show ((r.val * 10 + h.val) * 128 + l.val) / 1280 = r.val; omega
  | ⟨1, _⟩ => show ((r.val * 10 + h.val) * 128 + l.val) % 1280 = 128 * h.val + l.val; omega

/-- A head-split array rotated by the reference: each lane times the cosine, plus the lane half a head away times the
    signed sine. -/
theorem v118_apply (x0 : (⟨S128x1x5120, .bf16⟩ : BufTy).Contents (Elt Ideal)) (x1 : (⟨S5120, .bf16⟩ : BufTy).Contents (Elt Ideal))
    (x2 : (⟨S1280x160x16, .i8⟩ : BufTy).Contents (Elt Ideal)) (x3 x4 : (⟨S1280x160, .bf16⟩ : BufTy).Contents (Elt Ideal))
    (x11 : (⟨S128, .i32⟩ : BufTy).Contents (Elt Ideal)) (r : Fin 128) (h : Fin 10) (l : Fin 128) :
    val_main_v118 (F := Ideal) x0 x1 x2 x3 x4 x11 (ix3 r h l) =
      val_main_v40 (F := Ideal) x0 x1 x2 x3 x4 (ix2 r ⟨128 * h.val + l.val, by omega⟩) * val_main_v104 (F := Ideal) x11 (ix3 r 0 ⟨l.val % 64, by omega⟩)
      + val_main_v40 (F := Ideal) x0 x1 x2 x3 x4 (ix2 r ⟨128 * h.val + (l.val + 64) % 128, by omega⟩)
        * (if l.val < 64 then 0 - val_main_v105 (F := Ideal) x11 (ix3 r 0 ⟨l.val % 64, by omega⟩) else val_main_v105 (F := Ideal) x11 (ix3 r 0 ⟨l.val % 64, by omega⟩)) := by
  rw [← v41_apply, show (⟨128 * h.val + (l.val + 64) % 128, by omega⟩ : Fin 1280) = ⟨128 * h.val + (⟨(l.val + 64) % 128, by omega⟩ : Fin 128).val, by omega⟩ from rfl, ← v41_apply]
  unfold val_main_v118
  pointwise
  split
  · rename_i hl
    simp only [val_main_v112_apply, val_main_v109_apply, val_main_v111_apply, val_main_v106_apply, val_main_v107_apply, val_main_v108_apply, val_main_v110_apply]
    generalize val_main_v41 (F := Ideal) x0 x1 x2 x3 x4 = Q
    generalize val_main_v104 (F := Ideal) x11 = C
    generalize val_main_v105 (F := Ideal) x11 = S
    pointwise
    have e0 : l.val % 64 = l.val := by omega
    have e1 : (l.val + 64) % 128 = 64 + l.val := by omega
    simp only [e0, e1]
    rw [sub_eq_add_neg, zero_sub, mul_neg]
    refine congrArg₂ (· + ·) (congrArg₂ (· * ·) (congrArg Q ?_) (congrArg C ?_)) (congrArg Neg.neg (congrArg₂ (· * ·) (congrArg Q ?_) (congrArg S ?_))) <;>
      exact funext fun a => match a with | ⟨0, _⟩ => rfl | ⟨1, _⟩ => rfl | ⟨2, _⟩ => rfl
  · rename_i hl
    simp only [val_main_v117_apply, val_main_v114_apply, val_main_v116_apply, val_main_v106_apply, val_main_v107_apply, val_main_v113_apply, val_main_v115_apply]
    generalize val_main_v41 (F := Ideal) x0 x1 x2 x3 x4 = Q
    generalize val_main_v104 (F := Ideal) x11 = C
    generalize val_main_v105 (F := Ideal) x11 = S
    pointwise
    have e0 : l.val % 64 = l.val - 64 := by omega
    have e1 : (l.val + 64) % 128 = l.val - 64 := by omega
    simp only [e0, e1]
    refine congrArg₂ (· + ·) (congrArg₂ (· * ·) (congrArg Q ?_) (congrArg C ?_)) (congrArg₂ (· * ·) (congrArg Q ?_) (congrArg S ?_)) <;>
      exact funext fun a => match a with | ⟨0, _⟩ => rfl | ⟨1, _⟩ => rfl | ⟨2, _⟩ => Fin.ext (by first | rfl | (show 64 + (l.val - 64) = l.val; omega))

/-- The angle of token `r` at frequency `l`. -/
def angR (x11 : (⟨S128, .i32⟩ : BufTy).Contents (Elt Ideal)) (r : Fin 128) (l : Fin 64) : EReal :=
  FloatOps.sitofp (F := Ideal) .f32 (x11 (ix1 r)) * val_main_v97 (F := Ideal) (ix1 l)

/-- The reference's angles: position times frequency. -/
theorem v103_apply (x11 : (⟨S128, .i32⟩ : BufTy).Contents (Elt Ideal)) (r : Fin 128) (l : Fin 64) :
    val_main_v103 (F := Ideal) x11 (ix3 r 0 l) = angR x11 r l := by
  simp only [val_main_v103_apply, val_main_v102_apply, val_main_v101_apply, val_main_v100_apply, val_main_v99_apply, val_main_v98_apply, angR, pointwise]
  refine congrArg₂ (· * ·) (congrArg (fun i => FloatOps.sitofp (F := Ideal) .f32 (x11 i)) ?_) (congrArg _ ?_) <;>
    exact funext fun a => match a with | ⟨0, _⟩ => rfl

/-- The cosines of the reference's angles. -/
theorem v104_apply (x11 : (⟨S128, .i32⟩ : BufTy).Contents (Elt Ideal)) (r : Fin 128) (l : Fin 64) :
    val_main_v104 (F := Ideal) x11 (ix3 r 0 l) = FloatOps.cos (F := Ideal) (φ := .f32) (angR x11 r l) := by
  rw [val_main_v104_apply, v103_apply]; rfl

/-- The sines of the reference's angles. -/
theorem v105_apply (x11 : (⟨S128, .i32⟩ : BufTy).Contents (Elt Ideal)) (r : Fin 128) (l : Fin 64) :
    val_main_v105 (F := Ideal) x11 (ix3 r 0 l) = FloatOps.sin (F := Ideal) (φ := .f32) (angR x11 r l) := by
  rw [val_main_v105_apply, v103_apply]; rfl

/-- The normalized row: the entry over the root of the row's mean square plus the guard, times the gain. -/
def normR (x0 : (⟨S128x1x5120, .bf16⟩ : BufTy).Contents (Elt Ideal)) (x1 : (⟨S5120, .bf16⟩ : BufTy).Contents (Elt Ideal)) (r : Fin 128) (κ : Fin 5120) : EReal :=
  x0 (ix3 r 0 κ) * Ideal.rsqrt (Ideal.div (0 + ∑ k : Fin 5120, x0 (ix3 r 0 k) * x0 (ix3 r 0 k)) (Ideal.ofBits FTy.f32 1168113664#32)
    + Ideal.ofBits FTy.f32 897988541#32) * x1 (ix1 κ)

/-- The reference's normalized rows at an index. -/
theorem v15_apply (x0 : (⟨S128x1x5120, .bf16⟩ : BufTy).Contents (Elt Ideal)) (x1 : (⟨S5120, .bf16⟩ : BufTy).Contents (Elt Ideal)) (r : Fin 128) (κ : Fin 5120) :
    val_main_v15 (F := Ideal) x0 x1 (ix2 r κ) = normR x0 x1 r κ := by
  have e : ∀ k : Fin 5120, idx_main_v0 (ix2 r k) = ix3 r 0 k := fun k => funext fun a => Fin.ext (by
    match a with
    | ⟨0, _⟩ => show (r.val * 5120 + k.val) / 5120 = r.val; omega
    | ⟨1, _⟩ => rfl
    | ⟨2, _⟩ => show (r.val * 5120 + k.val) % 5120 = k.val; omega)
  have e3 : ∀ k : Fin 5120, idx_main_v3 (idx_main_v4 (idx_main_v10 (ix2 r κ))) k = ix2 r k := fun k => funext fun a => match a with | ⟨0, _⟩ => rfl | ⟨1, _⟩ => rfl
  have e1 : idx_main_v13 (idx_main_v14 (ix2 r κ)) = ix1 κ := funext fun a => match a with | ⟨0, _⟩ => rfl
  simp only [val_main_v15_apply, val_main_v14_apply, val_main_v13_apply, val_main_v12_apply, val_main_v11_apply, val_main_v10_apply, val_main_v9_apply,
    val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply, pointwise, e3, e, e1, normR]

/-- The projection over the normalized rows. -/
def projR (x0 : (⟨S128x1x5120, .bf16⟩ : BufTy).Contents (Elt Ideal)) (x1 : (⟨S5120, .bf16⟩ : BufTy).Contents (Elt Ideal))
    (x2 : (⟨S1280x160x16, .i8⟩ : BufTy).Contents (Elt Ideal)) (x3 x4 : (⟨S1280x160, .bf16⟩ : BufTy).Contents (Elt Ideal)) (r : Fin 128) (n : Fin 1280) : EReal :=
  ∑ κ : Fin 5120, normR x0 x1 r κ * rwt x2 x3 x4 κ n

/-- The rotated projection. -/
def rotR (x0 : (⟨S128x1x5120, .bf16⟩ : BufTy).Contents (Elt Ideal)) (x1 : (⟨S5120, .bf16⟩ : BufTy).Contents (Elt Ideal))
    (x2 : (⟨S1280x160x16, .i8⟩ : BufTy).Contents (Elt Ideal)) (x3 x4 : (⟨S1280x160, .bf16⟩ : BufTy).Contents (Elt Ideal))
    (x11 : (⟨S128, .i32⟩ : BufTy).Contents (Elt Ideal)) (r : Fin 128) (h : Fin 10) (l : Fin 128) : EReal :=
  projR x0 x1 x2 x3 x4 r ⟨128 * h.val + l.val, by omega⟩ * FloatOps.cos (F := Ideal) (φ := .f32) (angR x11 r ⟨l.val % 64, by omega⟩)
    + projR x0 x1 x2 x3 x4 r ⟨128 * h.val + (l.val + 64) % 128, by omega⟩
      * (if l.val < 64 then 0 - FloatOps.sin (F := Ideal) (φ := .f32) (angR x11 r ⟨l.val % 64, by omega⟩)
          else FloatOps.sin (F := Ideal) (φ := .f32) (angR x11 r ⟨l.val % 64, by omega⟩))

/-- The reference's q projection at an index. -/
theorem v40_eq (x0 : (⟨S128x1x5120, .bf16⟩ : BufTy).Contents (Elt Ideal)) (x1 : (⟨S5120, .bf16⟩ : BufTy).Contents (Elt Ideal))
    (x2 : (⟨S1280x160x16, .i8⟩ : BufTy).Contents (Elt Ideal)) (x3 x4 : (⟨S1280x160, .bf16⟩ : BufTy).Contents (Elt Ideal)) (r : Fin 128) (n : Fin 1280) :
    val_main_v40 (F := Ideal) x0 x1 x2 x3 x4 (ix2 r n) = projR x0 x1 x2 x3 x4 r n := by
  rw [v40_apply]
  simp only [v15_apply, projR]

/-- The reference's rotated result at an index; the queries' and the keys' are this function of their own weights. -/
theorem v120_apply (x0 : (⟨S128x1x5120, .bf16⟩ : BufTy).Contents (Elt Ideal)) (x1 : (⟨S5120, .bf16⟩ : BufTy).Contents (Elt Ideal))
    (x2 : (⟨S1280x160x16, .i8⟩ : BufTy).Contents (Elt Ideal)) (x3 x4 : (⟨S1280x160, .bf16⟩ : BufTy).Contents (Elt Ideal))
    (x11 : (⟨S128, .i32⟩ : BufTy).Contents (Elt Ideal)) (h : Fin 10) (r l : Fin 128) :
    val_main_v120 (F := Ideal) x0 x1 x2 x3 x4 x11 (ix3 h r l) = rotR x0 x1 x2 x3 x4 x11 r h l := by
  rw [val_main_v120_apply, val_main_v119_apply,
    show idx_main_v120 (ix3 h r l) = ix3 r h l from funext fun a => match a with | ⟨0, _⟩ => rfl | ⟨1, _⟩ => rfl | ⟨2, _⟩ => rfl]
  refine (v118_apply x0 x1 x2 x3 x4 x11 r h l).trans ?_
  simp only [v40_eq, v104_apply, v105_apply, rotR]

/-- The reference's keys. -/
theorem v149_apply (x0 : (⟨S128x1x5120, .bf16⟩ : BufTy).Contents (Elt Ideal)) (x1 : (⟨S5120, .bf16⟩ : BufTy).Contents (Elt Ideal))
    (x5 : (⟨S1280x160x16, .i8⟩ : BufTy).Contents (Elt Ideal)) (x6 x7 : (⟨S1280x160, .bf16⟩ : BufTy).Contents (Elt Ideal))
    (x11 : (⟨S128, .i32⟩ : BufTy).Contents (Elt Ideal)) (h : Fin 10) (r l : Fin 128) :
    val_main_v149 (F := Ideal) x0 x1 x5 x6 x7 x11 (ix3 h r l) = rotR x0 x1 x5 x6 x7 x11 r h l :=
  (congrFun (show val_main_v149 (F := Ideal) x0 x1 x5 x6 x7 x11 = val_main_v120 (F := Ideal) x0 x1 x5 x6 x7 x11 from rfl) _).trans
    (v120_apply x0 x1 x5 x6 x7 x11 h r l)

/-- The reference's values. -/
theorem v151_apply (x0 : (⟨S128x1x5120, .bf16⟩ : BufTy).Contents (Elt Ideal)) (x1 : (⟨S5120, .bf16⟩ : BufTy).Contents (Elt Ideal))
    (x8 : (⟨S1280x160x16, .i8⟩ : BufTy).Contents (Elt Ideal)) (x9 x10 : (⟨S1280x160, .bf16⟩ : BufTy).Contents (Elt Ideal)) (h : Fin 10) (r l : Fin 128) :
    val_main_v151 (F := Ideal) x0 x1 x8 x9 x10 (ix3 h r l) = projR x0 x1 x8 x9 x10 r ⟨128 * h.val + l.val, by omega⟩ := by
  rw [val_main_v151_apply, val_main_v150_apply,
    show idx_main_v151 (ix3 h r l) = ix3 r h l from funext fun a => match a with | ⟨0, _⟩ => rfl | ⟨1, _⟩ => rfl | ⟨2, _⟩ => rfl]
  have e : val_main_v91 (F := Ideal) x0 x1 x8 x9 x10 = val_main_v41 (F := Ideal) x0 x1 x8 x9 x10 := rfl
  rw [e]
  exact (v41_apply x0 x1 x8 x9 x10 r h l).trans (v40_eq x0 x1 x8 x9 x10 r _)

end Cert.ReferenceIdeal.RefValue
-- ==== Proof.Block.lean ====
/- The q, k, v kernel's blocks: what each window holds of the arguments, what is carried from point to point, and what
   every point leaves in its output blocks. -/
module

public import proofs.«01_k».proof.Proof.Out
public import proofs.«01_k».proof.Proof.RefV

@[expose] public section

noncomputable section

namespace Cert.KernelIdeal.RefValue

open Idealize.ShloMosaic Idealize.ShloMosaic.TcCoe Idealize.ShloMosaic.Pipeline Cert.KernelIdeal Cert.KernelIdeal.Gen Cert.KernelIdeal.Value Idealize.SL.Sem
open scoped BigOperators

variable (m : (ℓ : Loc nD τ sig) → Buf (Elt Ideal) ℓ)

/-- The normalized rows, as the first point reads them. -/
def nrm (c : Dev nD) : FVec Ideal S128x5120 .f32 := k0_pay4 (iblk m c 0 t0_0) (iblk m c 1 t0_0)
/-- The cosines. -/
def cosV (c : Dev nD) : FVec Ideal S128x128 .f32 := k0_pay304 (k0_pay59 (iblk m c 2 t0_0)) (iblk m c 3 t0_0)
/-- The sines. -/
def sinV (c : Dev nD) : FVec Ideal S128x128 .f32 := k0_pay305 (k0_pay59 (iblk m c 2 t0_0)) (iblk m c 3 t0_0)

/-- Every point but the first is a later one. -/
theorem mod5 (n : ℕ) (hn : n + 1 < cfg0.N) : ¬ (n + 1) % 5 = 0 := by
  have : cfg0.N = 5 := N_0
  omega

/-- The carried scratch is the first point's at every point. -/
theorem scr (c : Dev nD) : ∀ (n : ℕ) (hn : n < cfg0.N), (outsAt0 m c n hn).2.2.2.2.2 = (hidV (nrm m c), cosV m c, sinV m c)
  | 0, hn => by
    rw [outsAt0_zero]
    exact Prod.ext (stA_hid m c t0_0 junk0 rfl) (stA_ang m c t0_0 junk0 rfl)
  | n + 1, hn => by
    rw [outsAt0_succ]
    exact (stB_scratch m c ⟨n + 1, hn⟩ _ (mod5 n hn)).trans (scr c n _)

/-- The output blocks after any point. -/
theorem outs (c : Dev nD) : ∀ (n : ℕ) (hn : n < cfg0.N),
    outV (cosV m c) (sinV m c) (qV m c ⟨n, hn⟩ (hidV (nrm m c))) (kV m c ⟨n, hn⟩ (hidV (nrm m c))) (vV m c ⟨n, hn⟩ (hidV (nrm m c))) (outsAt0 m c n hn)
  | 0, hn => by
    rw [outsAt0_zero]
    exact outA m c t0_0 junk0 rfl
  | n + 1, hn => by
    rw [outsAt0_succ]
    have h := outB m c ⟨n + 1, hn⟩ (outsAt0 m c n (Nat.lt_of_succ_lt hn)) (mod5 n hn)
    rw [scr m c n (Nat.lt_of_succ_lt hn)] at h
    exact h

/-- Every window's block index at a point (decided). -/
theorem idx : ∀ t : Fin cfg0.N, win0_0.index t = ![0, 0] ∧ win0_1.index t = ![0] ∧ win0_2.index t = ![0, 0] ∧ win0_3.index t = ![0, 0]
    ∧ win0_4.index t = ![0, 0, t.val, 0, 0] ∧ win0_5.index t = ![0, t.val] ∧ win0_6.index t = ![0, t.val]
    ∧ win0_7.index t = ![0, 0, t.val, 0, 0] ∧ win0_8.index t = ![0, t.val] ∧ win0_9.index t = ![0, t.val]
    ∧ win0_10.index t = ![0, 0, t.val, 0, 0] ∧ win0_11.index t = ![0, t.val] ∧ win0_12.index t = ![0, t.val] :=
  (by decide +kernel : ∀ t : Fin grid0.N, _)

/-- The rows' window holds the rows. -/
theorem iblk0 (c : Dev nD) (t : Fin cfg0.N) (r : Fin 128) (κ : Fin 5120) :
    iblk m c 0 t (ix2 r κ) = m ((c : Thread nD τ).loc main_arg0) (ix3 r 0 κ) := by
  blk_ext! [iblk, V, idx t]

/-- The gain's window holds the gain. -/
theorem iblk1 (c : Dev nD) (t : Fin cfg0.N) (κ : Fin 5120) :
    iblk m c 1 t (ix1 κ) = m ((c : Thread nD τ).loc main_arg1) (ix1 κ) := by
  blk_ext! [iblk, V, idx t]

/-- The positions' window holds the positions. -/
theorem iblk2 (c : Dev nD) (t : Fin cfg0.N) (r : Fin 128) :
    iblk m c 2 t (ix2 0 r) = m ((c : Thread nD τ).loc main_arg11) (ix1 r) := by
  blk_ext! [iblk, V, idx t]

/-- The frequencies' window holds the frequencies. -/
theorem iblk3 (c : Dev nD) (t : Fin cfg0.N) (l : Fin 64) :
    iblk m c 3 t (ix2 0 l) = Cert.ReferenceIdeal.Read.val_main_v97 (F := Ideal) (ix1 l) := by
  have e : iblk m c 3 t (ix2 0 l) = V m c main_v8 (ix2 0 l) := by
    unfold iblk
    refine congrArg (V m c main_v8) ?_
    blk_ext [idx t]
  rw [e]
  entry_read
  change shapeCast S1x64 (Cert.ReferenceIdeal.Read.val_main_v97 (F := Ideal)) shapeCasts_S64_S1x64 (ix2 0 l) = _
  generalize Cert.ReferenceIdeal.Read.val_main_v97 (F := Ideal) = f
  pointwise

set_option maxHeartbeats 1000000 in
/-- The q codes' window holds the point's columns of the codes, by group, half, tile, row and lane. -/
theorem iblk4 (c : Dev nD) (t : Fin cfg0.N) (g : Fin 160) (hi : Fin 2) (e : Fin 2) (s : Fin 8) (l : Fin 128) (h : 128 * (2 * t.val + e.val) + l.val < 1280) :
    iblk m c 4 t (ix5 g hi e s l) = m ((c : Thread nD τ).loc main_arg2) (ix3 ⟨128 * (2 * t.val + e.val) + l.val, h⟩ g ⟨8 * hi.val + s.val, by omega⟩) := by
  blk_ext! [iblk, V, idx t]

/-- The q scales' window holds the point's columns of the scales. -/
theorem iblk5 (c : Dev nD) (t : Fin cfg0.N) (g : Fin 160) (n : Fin 256) (h : 256 * t.val + n.val < 1280) :
    iblk m c 5 t (ix2 g n) = m ((c : Thread nD τ).loc main_arg3) (ix2 ⟨256 * t.val + n.val, h⟩ g) := by
  blk_ext! [iblk, V, idx t]

/-- The q minima's window holds the point's columns of the minima. -/
theorem iblk6 (c : Dev nD) (t : Fin cfg0.N) (g : Fin 160) (n : Fin 256) (h : 256 * t.val + n.val < 1280) :
    iblk m c 6 t (ix2 g n) = m ((c : Thread nD τ).loc main_arg4) (ix2 ⟨256 * t.val + n.val, h⟩ g) := by
  blk_ext! [iblk, V, idx t]

set_option maxHeartbeats 1000000 in
/-- The k codes' window, likewise. -/
theorem iblk7 (c : Dev nD) (t : Fin cfg0.N) (g : Fin 160) (hi : Fin 2) (e : Fin 2) (s : Fin 8) (l : Fin 128) (h : 128 * (2 * t.val + e.val) + l.val < 1280) :
    iblk m c 7 t (ix5 g hi e s l) = m ((c : Thread nD τ).loc main_arg5) (ix3 ⟨128 * (2 * t.val + e.val) + l.val, h⟩ g ⟨8 * hi.val + s.val, by omega⟩) := by
  blk_ext! [iblk, V, idx t]

/-- The k scales' window, likewise. -/
theorem iblk8 (c : Dev nD) (t : Fin cfg0.N) (g : Fin 160) (n : Fin 256) (h : 256 * t.val + n.val < 1280) :
    iblk m c 8 t (ix2 g n) = m ((c : Thread nD τ).loc main_arg6) (ix2 ⟨256 * t.val + n.val, h⟩ g) := by
  blk_ext! [iblk, V, idx t]

/-- The k minima's window, likewise. -/
theorem iblk9 (c : Dev nD) (t : Fin cfg0.N) (g : Fin 160) (n : Fin 256) (h : 256 * t.val + n.val < 1280) :
    iblk m c 9 t (ix2 g n) = m ((c : Thread nD τ).loc main_arg7) (ix2 ⟨256 * t.val + n.val, h⟩ g) := by
  blk_ext! [iblk, V, idx t]

set_option maxHeartbeats 1000000 in
/-- The v codes' window, likewise. -/
theorem iblk10 (c : Dev nD) (t : Fin cfg0.N) (g : Fin 160) (hi : Fin 2) (e : Fin 2) (s : Fin 8) (l : Fin 128) (h : 128 * (2 * t.val + e.val) + l.val < 1280) :
    iblk m c 10 t (ix5 g hi e s l) = m ((c : Thread nD τ).loc main_arg8) (ix3 ⟨128 * (2 * t.val + e.val) + l.val, h⟩ g ⟨8 * hi.val + s.val, by omega⟩) := by
  blk_ext! [iblk, V, idx t]

/-- The v scales' window, likewise. -/
theorem iblk11 (c : Dev nD) (t : Fin cfg0.N) (g : Fin 160) (n : Fin 256) (h : 256 * t.val + n.val < 1280) :
    iblk m c 11 t (ix2 g n) = m ((c : Thread nD τ).loc main_arg9) (ix2 ⟨256 * t.val + n.val, h⟩ g) := by
  blk_ext! [iblk, V, idx t]

/-- The v minima's window, likewise. -/
theorem iblk12 (c : Dev nD) (t : Fin cfg0.N) (g : Fin 160) (n : Fin 256) (h : 256 * t.val + n.val < 1280) :
    iblk m c 12 t (ix2 g n) = m ((c : Thread nD τ).loc main_arg10) (ix2 ⟨256 * t.val + n.val, h⟩ g) := by
  blk_ext! [iblk, V, idx t]

/-- A scale row stored twice reads as itself. -/
theorem pay311_apply (s : Vec Ideal S160x256 .bf16) (g : Fin 160) (p : Fin 2) (l : Fin 256) : k0_pay311 (F := Ideal) s (ix3 g p l) = s (ix2 g l) := by
  unfold k0_pay311
  pointwise
  exact ite_self _

/-- The loops start from zero. -/
theorem pay309_apply (r : Fin 128) (l : Fin 256) : k0_pay309 (F := Ideal) (ix2 r l) = (0 : EReal) := by
  unfold k0_pay309
  pointwise
  exact ite_self _

/-- A projection over shuffled rows at an index. -/
theorem projV_apply (C : Vec Ideal S160x2x2x8x128 .i8) (s mn : Vec Ideal S160x256 .bf16) (X : FVec Ideal S128x5120 .f32) (r : Fin 128) (n : Fin 256) :
    projV C s mn (hidV X) (ix2 r n) = ∑ κ : Fin 5120, X (ix2 r κ) * wt C (fun g l => s (ix2 g l)) (fun g l => mn (ix2 g l)) κ n := by
  unfold projV
  rw [loopV_apply C _ _ _ (fun g l => s (ix2 g l)) (fun g l => mn (ix2 g l)) (fun r κ => X (ix2 r κ)) (fun g p l => pay311_apply s g p l)
    (fun g p l => pay311_apply mn g p l) (fun r x => hidV_apply X r x), pay309_apply, zero_add]

/-- The kernel's normalized rows are the reference's. -/
theorem nrm_apply (c : Dev nD) (r : Fin 128) (κ : Fin 5120) :
    nrm m c (ix2 r κ) = Cert.ReferenceIdeal.RefValue.normR (m ((c : Thread nD τ).loc main_arg0)) (m ((c : Thread nD τ).loc main_arg1)) r κ := by
  unfold nrm k0_pay4 Cert.ReferenceIdeal.RefValue.normR
  pointwise
  simp only [iblk0, iblk1]

/-- The kernel's angles are position times frequency, in both halves of the lanes. -/
theorem ang_apply (c : Dev nD) (r l : Fin 128) :
    k0_pay303 (k0_pay59 (iblk m c 2 t0_0)) (iblk m c 3 t0_0) (ix2 r l)
      = Cert.ReferenceIdeal.RefValue.angR (m ((c : Thread nD τ).loc main_arg11)) r ⟨l.val % 64, by omega⟩ := by
  unfold k0_pay303 k0_pay59 Cert.ReferenceIdeal.RefValue.angR
  pointwise
  simp only [iblk2, iblk3]
  refine congrArg (_ * ·) ?_
  have hl := l.isLt
  split
  · exact congrArg (fun i => Cert.ReferenceIdeal.Read.val_main_v97 (F := Ideal) (ix1 i)) (Fin.ext (show l.val = l.val % 64 by omega))
  · exact congrArg (fun i => Cert.ReferenceIdeal.Read.val_main_v97 (F := Ideal) (ix1 i)) (Fin.ext (show l.val - 64 = l.val % 64 by omega))

/-- The kernel's cosines are the reference's. -/
theorem cos_apply (c : Dev nD) (r l : Fin 128) :
    cosV m c (ix2 r l) = FloatOps.cos (F := Ideal) (φ := .f32) (Cert.ReferenceIdeal.RefValue.angR (m ((c : Thread nD τ).loc main_arg11)) r ⟨l.val % 64, by omega⟩) := by
  unfold cosV k0_pay304
  pointwise
  rw [ang_apply]

/-- The kernel's sines are the reference's. -/
theorem sin_apply (c : Dev nD) (r l : Fin 128) :
    sinV m c (ix2 r l) = FloatOps.sin (F := Ideal) (φ := .f32) (Cert.ReferenceIdeal.RefValue.angR (m ((c : Thread nD τ).loc main_arg11)) r ⟨l.val % 64, by omega⟩) := by
  unfold sinV k0_pay305
  pointwise
  rw [ang_apply]

/-- The kernel's weight is the reference's. -/
theorem wt_eq (C : Vec Ideal S160x2x2x8x128 .i8) (s mn : Vec Ideal S160x256 .bf16) (x2 : Vec Ideal S1280x160x16 .i8) (x3 x4 : Vec Ideal S1280x160 .bf16)
    (t : ℕ) (ht : t < 5)
    (hC : ∀ (g : Fin 160) (hi : Fin 2) (e : Fin 2) (s : Fin 8) (l : Fin 128) (h : 128 * (2 * t + e.val) + l.val < 1280),
      C (ix5 g hi e s l) = x2 (ix3 ⟨128 * (2 * t + e.val) + l.val, h⟩ g ⟨8 * hi.val + s.val, by omega⟩))
    (hs : ∀ (g : Fin 160) (n : Fin 256) (h : 256 * t + n.val < 1280), s (ix2 g n) = x3 (ix2 ⟨256 * t + n.val, h⟩ g))
    (hm : ∀ (g : Fin 160) (n : Fin 256) (h : 256 * t + n.val < 1280), mn (ix2 g n) = x4 (ix2 ⟨256 * t + n.val, h⟩ g))
    (κ : Fin 5120) (n : Fin 256) :
    wt C (fun g l => s (ix2 g l)) (fun g l => mn (ix2 g l)) κ n = Cert.ReferenceIdeal.RefValue.rwt x2 x3 x4 κ ⟨256 * t + n.val, by omega⟩ := by
  unfold wt Cert.ReferenceIdeal.RefValue.rwt
  have hn := n.isLt
  beta_reduce
  rw [hC _ _ _ _ _ (by show 128 * (2 * t + n.val / 128) + n.val % 128 < 1280; omega), hs _ _ (by omega), hm _ _ (by omega)]
  have e1 : 128 * (2 * t + n.val / 128) + n.val % 128 = 256 * t + n.val := by omega
  have e2 : 8 * (κ.val / 8 % 2) + κ.val % 8 = κ.val % 16 := by omega
  simp only [e1, e2]

end Cert.KernelIdeal.RefValue
-- ==== Proof.Result.lean ====
/- The q, k, v kernel's results at an index: the reference's rotated heads and values. -/
module

public import proofs.«01_k».proof.Proof.Block

@[expose] public section

noncomputable section

namespace Cert.KernelIdeal.RefValue

open Idealize.ShloMosaic Idealize.ShloMosaic.TcCoe Idealize.ShloMosaic.Pipeline Cert.KernelIdeal Cert.KernelIdeal.Gen Cert.KernelIdeal.Value Idealize.SL.Sem
open Cert.ReferenceIdeal.RefValue (projR rotR)
open scoped BigOperators

variable (m : (ℓ : Loc nD τ sig) → Buf (Elt Ideal) ℓ)

/-- A projection whose windows hold the reference's weights is the reference's projection. -/
theorem proj_eq (c : Dev nD) (C : Vec Ideal S160x2x2x8x128 .i8) (s mn : Vec Ideal S160x256 .bf16) (x2 : Vec Ideal S1280x160x16 .i8) (x3 x4 : Vec Ideal S1280x160 .bf16)
    (t : ℕ) (ht : t < 5)
    (hC : ∀ (g : Fin 160) (hi : Fin 2) (e : Fin 2) (s : Fin 8) (l : Fin 128) (h : 128 * (2 * t + e.val) + l.val < 1280),
      C (ix5 g hi e s l) = x2 (ix3 ⟨128 * (2 * t + e.val) + l.val, h⟩ g ⟨8 * hi.val + s.val, by omega⟩))
    (hs : ∀ (g : Fin 160) (n : Fin 256) (h : 256 * t + n.val < 1280), s (ix2 g n) = x3 (ix2 ⟨256 * t + n.val, h⟩ g))
    (hm : ∀ (g : Fin 160) (n : Fin 256) (h : 256 * t + n.val < 1280), mn (ix2 g n) = x4 (ix2 ⟨256 * t + n.val, h⟩ g))
    (r : Fin 128) (n : Fin 256) :
    projV C s mn (hidV (nrm m c)) (ix2 r n)
      = projR (m ((c : Thread nD τ).loc main_arg0)) (m ((c : Thread nD τ).loc main_arg1)) x2 x3 x4 r ⟨256 * t + n.val, by omega⟩ := by
  rw [projV_apply]
  unfold projR
  exact Finset.sum_congr rfl fun κ _ => congrArg₂ (· * ·) (nrm_apply m c r κ) (wt_eq C s mn x2 x3 x4 t ht hC hs hm κ n)

/-- The grid has five points. -/
theorem lt5 (t : Fin cfg0.N) : t.val < 5 := lt_of_lt_of_eq t.isLt N_0

/-- A point's q rows are the reference's projection with wq. -/
theorem q_eq (c : Dev nD) (t : Fin cfg0.N) (r : Fin 128) (n : Fin 256) :
    qV m c t (hidV (nrm m c)) (ix2 r n) = projR (m ((c : Thread nD τ).loc main_arg0)) (m ((c : Thread nD τ).loc main_arg1))
      (m ((c : Thread nD τ).loc main_arg2)) (m ((c : Thread nD τ).loc main_arg3)) (m ((c : Thread nD τ).loc main_arg4)) r ⟨256 * t.val + n.val, by have := lt5 t; omega⟩ :=
  proj_eq m c _ _ _ _ _ _ t.val (lt5 t) (iblk4 m c t) (iblk5 m c t) (iblk6 m c t) r n

/-- A point's k rows are the reference's projection with wk. -/
theorem k_eq (c : Dev nD) (t : Fin cfg0.N) (r : Fin 128) (n : Fin 256) :
    kV m c t (hidV (nrm m c)) (ix2 r n) = projR (m ((c : Thread nD τ).loc main_arg0)) (m ((c : Thread nD τ).loc main_arg1))
      (m ((c : Thread nD τ).loc main_arg5)) (m ((c : Thread nD τ).loc main_arg6)) (m ((c : Thread nD τ).loc main_arg7)) r ⟨256 * t.val + n.val, by have := lt5 t; omega⟩ :=
  proj_eq m c _ _ _ _ _ _ t.val (lt5 t) (iblk7 m c t) (iblk8 m c t) (iblk9 m c t) r n

/-- A point's v rows are the reference's projection with wv. -/
theorem v_eq (c : Dev nD) (t : Fin cfg0.N) (r : Fin 128) (n : Fin 256) :
    vV m c t (hidV (nrm m c)) (ix2 r n) = projR (m ((c : Thread nD τ).loc main_arg0)) (m ((c : Thread nD τ).loc main_arg1))
      (m ((c : Thread nD τ).loc main_arg8)) (m ((c : Thread nD τ).loc main_arg9)) (m ((c : Thread nD τ).loc main_arg10)) r ⟨256 * t.val + n.val, by have := lt5 t; omega⟩ :=
  proj_eq m c _ _ _ _ _ _ t.val (lt5 t) (iblk10 m c t) (iblk11 m c t) (iblk12 m c t) r n

/-- A rotated tile of a projection is the reference's rotated head. -/
theorem rot_eq (c : Dev nD) (X : FVec Ideal S128x256 .f32) (x2 : Vec Ideal S1280x160x16 .i8) (x3 x4 : Vec Ideal S1280x160 .bf16) (h : Fin 10) (r l : Fin 128)
    (hX : ∀ (r : Fin 128) (n : Fin 256), X (ix2 r n) = projR (m ((c : Thread nD τ).loc main_arg0)) (m ((c : Thread nD τ).loc main_arg1)) x2 x3 x4 r ⟨256 * (h.val / 2) + n.val, by omega⟩) :
    ropeV (cosV m c) (sinV m c) X ⟨h.val % 2, by omega⟩ r l
      = rotR (m ((c : Thread nD τ).loc main_arg0)) (m ((c : Thread nD τ).loc main_arg1)) x2 x3 x4 (m ((c : Thread nD τ).loc main_arg11)) r h l := by
  unfold ropeV rotR
  rw [hX, hX, cos_apply, sin_apply]
  have e1 : 256 * (h.val / 2) + (128 * (h.val % 2) + l.val) = 128 * h.val + l.val := by omega
  have e2 : 256 * (h.val / 2) + (128 * (h.val % 2) + (l.val + 64) % 128) = 128 * h.val + (l.val + 64) % 128 := by omega
  simp only [e1, e2]

/-- The point that writes a head back. -/
theorem half_lt (h : Fin 10) : h.val / 2 < cfg0.N := by
  have : cfg0.N = 5 := N_0
  omega

/-- The result arrays at an index are the blocks of the point that holds the head. -/
theorem G_apply (c : Dev nD) (h : Fin 10) (r l : Fin 128) :
    G13 m c (ix3 h r l) = (outsAt0 m c (h.val / 2) (half_lt h)).1 (ix3 ⟨h.val % 2, by omega⟩ r l)
    ∧ G14 m c (ix3 h r l) = (outsAt0 m c (h.val / 2) (half_lt h)).2.1 (ix3 ⟨h.val % 2, by omega⟩ r l)
    ∧ G15 m c (ix3 h r l) = (outsAt0 m c (h.val / 2) (half_lt h)).2.2.1 (ix3 ⟨h.val % 2, by omega⟩ r l)
    ∧ G16 m c (ix3 h r l) = (outsAt0 m c (h.val / 2) (half_lt h)).2.2.2.1 (ix3 ⟨h.val % 2, by omega⟩ r l)
    ∧ G17 m c (ix3 h r l) = (outsAt0 m c (h.val / 2) (half_lt h)).2.2.2.2.1 (ix3 ⟨h.val % 2, by omega⟩ r l) := by
  have hp : pt13Of (ix3 h r l) = h.val / 2 := by
    show 1 * (h.val / 2 - 0) + 1 * (r.val / 128 - 0) + 1 * (l.val / 128 - 0) = h.val / 2
    omega
  have hl : loc13Of (ix3 h r l) = ix3 ⟨h.val % 2, by omega⟩ r l := funext fun a => Fin.ext (by
    match a with
    | ⟨0, _⟩ => rfl
    | ⟨1, _⟩ => exact Nat.mod_eq_of_lt r.isLt
    | ⟨2, _⟩ => exact Nat.mod_eq_of_lt l.isLt)
  have ha := fun hb => fold0_congr m c _ hb _ (by have := half_lt h; omega) hp
  have hs := (outsAt0_sweep m c (h.val / 2) (half_lt h)).symm
  have hlt : pt13Of (ix3 h r l) < cfg0.N := hp ▸ half_lt h
  unfold G13 G14 G15 G16 G17
  refine ⟨?_, ?_, ?_, ?_, ?_⟩ <;> (rw [dif_pos hlt, ha, hs]; exact congrArg _ hl)

/-- The results at an index: the rotated keys, the values, the rotated queries, and the keys and values again. -/
theorem result_apply (c : Dev nD) (h : Fin 10) (r l : Fin 128) :
    let x0 := m ((c : Thread nD τ).loc main_arg0)
    let x1 := m ((c : Thread nD τ).loc main_arg1)
    let q := rotR x0 x1 (m ((c : Thread nD τ).loc main_arg2)) (m ((c : Thread nD τ).loc main_arg3)) (m ((c : Thread nD τ).loc main_arg4)) (m ((c : Thread nD τ).loc main_arg11)) r h l
    let k := rotR x0 x1 (m ((c : Thread nD τ).loc main_arg5)) (m ((c : Thread nD τ).loc main_arg6)) (m ((c : Thread nD τ).loc main_arg7)) (m ((c : Thread nD τ).loc main_arg11)) r h l
    let v := projR x0 x1 (m ((c : Thread nD τ).loc main_arg8)) (m ((c : Thread nD τ).loc main_arg9)) (m ((c : Thread nD τ).loc main_arg10)) r ⟨128 * h.val + l.val, by omega⟩
    G13 m c (ix3 h r l) = k ∧ G14 m c (ix3 h r l) = v ∧ G15 m c (ix3 h r l) = q ∧ G16 m c (ix3 h r l) = k ∧ G17 m c (ix3 h r l) = v := by
  intro x0 x1 q k v
  obtain ⟨g1, g2, g3, g4, g5⟩ := G_apply m c h r l
  obtain ⟨o1, o2, o3, o4, o5⟩ := outs m c (h.val / 2) (half_lt h) ⟨h.val % 2, by omega⟩ r l
  have hk := rot_eq m c _ _ _ _ h r l (k_eq m c ⟨h.val / 2, half_lt h⟩)
  have hq := rot_eq m c _ _ _ _ h r l (q_eq m c ⟨h.val / 2, half_lt h⟩)
  have hv : vV m c ⟨h.val / 2, half_lt h⟩ (hidV (nrm m c)) (ix2 r ⟨128 * (h.val % 2) + l.val, by omega⟩) = v := by
    rw [v_eq]
    exact congrArg _ (Fin.ext (show 256 * (h.val / 2) + (128 * (h.val % 2) + l.val) = 128 * h.val + l.val by omega))
  exact ⟨g1.trans (o1.trans hk), g2.trans (o2.trans hv), g3.trans (o3.trans hq), g4.trans (o4.trans hk), g5.trans (o5.trans hv)⟩

end Cert.KernelIdeal.RefValue
-- ==== Proof.Algebraic.lean ====
/- The q, k, v call's value claim: over the extended reals the kernel's five arrays are the reference's. -/
module

public import proofs.«01_k».proof.Proof.Claims
public import proofs.«01_k».proof.Proof.Result
public import Idealize.ShloMosaic.Lib.Claim

@[expose] public section

noncomputable section

namespace Cert.Claims

open Idealize.ShloMosaic Idealize.ShloMosaic.TcCoe Idealize.SL.Sem

open Cert.ReferenceIdeal.Read Cert.ReferenceIdeal.RefValue
open Cert.KernelIdeal.RefValue (result_apply)

/-- Two arrays over heads, rows and lanes that agree at every triple are equal. -/
theorem ext3 {α : Type} (X Y : Cert.KernelIdeal.S10x128x128.Idx → α) (e : ∀ (h : Fin 10) (r l : Fin 128), X (ix3 h r l) = Y (ix3 h r l)) : X = Y := by
  funext i
  have hi : i = ix3 (i 0) (i 1) (i 2) := funext fun a => match a with | ⟨0, _⟩ => rfl | ⟨1, _⟩ => rfl | ⟨2, _⟩ => rfl
  rw [hi]
  exact e _ _ _

/-- At `Ideal` the kernel's five result arrays and the reference's agree. -/
theorem algebraic : Cert.algebraic_KernelIdeal_ReferenceIdeal (hKernelIdeal := Cert.KernelIdeal.Gen.facts) (hReferenceIdeal := Cert.ReferenceIdeal.Gen.facts) := by
  pair_intro
  · run_from Cert.KernelIdeal.Value.run m g
  · run_from Cert.ReferenceIdeal.Value.run m' g'
    all_goals obtain ⟨a0, a1, a2, a3, a4, a5, a6, a7, a8, a9, a10, a11⟩ := hagree c
    · rw [val_main_v149_eq, a0, a1, a5, a6, a7, a11]
      exact ext3 _ _ fun h r l => (v149_apply _ _ _ _ _ _ h r l).trans (result_apply m c h r l).1.symm
    · exact ext3 (val_main_v151 (F := Ideal) _ _ _ _ _) _ fun h r l => (v151_apply _ _ _ _ _ h r l).trans (result_apply m c h r l).2.1.symm
    · rw [val_main_v152_eq, a0, a1, a2, a3, a4, a11]
      exact ext3 _ _ fun h r l => (v120_apply _ _ _ _ _ _ h r l).trans (result_apply m c h r l).2.2.1.symm
    · rw [val_main_v153_eq, a0, a1, a5, a6, a7, a11]
      exact ext3 _ _ fun h r l => (v149_apply _ _ _ _ _ _ h r l).trans (result_apply m c h r l).2.2.2.1.symm
    · exact ext3 (val_main_v154 (F := Ideal) _ _ _ _ _) _ fun h r l => (v151_apply _ _ _ _ _ h r l).trans (result_apply m c h r l).2.2.2.2.symm

end Cert.Claims
-- ==== Proof.UpClaims.lean ====
/- The gate and up call's claims that need no arithmetic: each program runs to its end with its arguments unchanged, and
   the kernel's idealization rewrites preserve it. -/
module

public import proofs.«01_k».proof.Defs
public import proofs.«01_k».proof.Proof.Gen.KernelUp.Frame
public import proofs.«01_k».proof.Proof.Gen.KernelUpIdeal.Frame
public import proofs.«01_k».proof.Proof.Gen.ReferenceUpIdeal
public import proofs.«01_k».proof.Proof.Gen.ReferenceUpIdeal.Run
public import Idealize.ShloMosaic.Lib.Bf16Pair
public import Idealize.ShloMosaic.Lib.Bf16PairInverse
public import Idealize.ShloMosaic.Lib.Quiescent

@[expose] public section

namespace Cert.Claims

open Idealize.ShloMosaic Idealize.SL.Sem Cert.KernelUpIdeal IdealRules.bf16_pair

/-- Each rewrite of the kernel's ledger preserves the value read: the re-typed word buffers, the packed words, and the
    word vectors read as their two rows. -/
theorem preservesUp : preserves_KernelUp_KernelUpIdeal :=
  ⟨bufferStatement S64x2x5120 S64x1x5120, bufferStatement S160x2x384 S160x1x384, statement S128x5120 S64x5120,
    statement S64x2x5120 S64x1x5120, packStatement S160x384, statement S160x2x384 S160x1x384,
    statement S1x2x128 S1x1x128, statement S16x128 S8x128, statement S64x2x256 S64x1x256, statement S128x256 S64x256⟩

/-- The kernel as written runs to its end and leaves its arguments as they were. -/
theorem frameKernelUp : quiescent_KernelUp (hKernelUp := Cert.KernelUp.Gen.facts) := fun m ρ _ => Cert.KernelUp.Gen.frame m ρ

/-- So does its idealization. -/
theorem frameKernelUpIdeal : quiescent_KernelUpIdeal (hKernelUpIdeal := Cert.KernelUpIdeal.Gen.facts) :=
  fun m ρ _ => Cert.KernelUpIdeal.Gen.frame m ρ

/-- So does the reference. -/
theorem frameReferenceUpIdeal : quiescent_ReferenceUpIdeal (hReferenceUpIdeal := Cert.ReferenceUpIdeal.Gen.facts) :=
  fun m ρ _ => (θ_run _ _ _).mono
    (fun r h => ⟨fun c => (h c).2, sem_eq_zero_of_no_sems (by decide) r.2⟩) (Cert.ReferenceUpIdeal.Value.run m ρ)

end Cert.Claims

end
-- ==== Proof.UpDeq.lean ====
/- The gate and up products' loop: what its four sets of weights are in terms of the buffers, and the loop as one sum
   over the contracted axis for the gate's columns and one for the up's. -/
module

public import proofs.«01_k».proof.Proof.Sum
public import proofs.«01_k».proof.Proof.Gen.KernelUpIdeal.Loops

@[expose] public section

noncomputable section

namespace Cert.KernelUpIdeal.RefValue

open Idealize.ShloMosaic Cert.KernelUpIdeal Cert.KernelUpIdeal.Gen
open Cert.KernelIdeal.RefValue (rowV pairV setV stepV ldH code place place_lt src src_lt setV_apply loopW_apply)

variable {F : FTy → Type} [FloatOps F]

/-- Row `g`, column tile `n` of a scale buffer. -/
def ldS (S : Vec F S160x2x384 .bf16) (g n : ℕ) : FVec F S1x2x128 .bf16 := fun i =>
  S (ix3 ⟨g % 160, Nat.mod_lt _ (by decide)⟩ (i 1) ⟨(128 * n + (i 2).val) % 384, Nat.mod_lt _ (by decide)⟩)

/-- Groups `g` to `g + 3`, column tile `n` of the codes. -/
def ldC (C : Vec F S160x2x3x8x128 .i8) (g n : ℕ) : Vec F S4x2x1x8x128 .i8 := fun i =>
  C (ix5 ⟨(g + (i 0).val) % 160, Nat.mod_lt _ (by decide)⟩ (i 1) ⟨n % 3, Nat.mod_lt _ (by decide)⟩ (i 3) (i 4))

/-- A load of one row and one column tile of a scale buffer. -/
theorem readS (v : View sig .tc .vmem S160x2x384 .bf16) {off : Fin 3 → ℕ} (inb : ∀ a, off a + S1x2x128.size a ≤ S160x2x384.size a)
    (X : BufTy.Contents (Elt F) v.ty) (g n : ℕ) (h : off = ![g, 0, 128 * n]) :
    View.readAt (Elt F) v (Rect.unit (s := S160x2x384) off S1x2x128.size inb).toLoadRect X = ldS (v.read (Elt F) X) g n := by
  subst h
  have h0 : g + 1 ≤ 160 := inb 0
  have h2 : 128 * n + 128 ≤ 384 := inb 2
  rw [View.readAt_eq_ld]
  funext i
  idx_vars i
  unfold ldS
  pointwise
  congr 1
  have e0 : g % 160 = g := Nat.mod_eq_of_lt (by omega)
  have e2 : (128 * n + i2.val) % 384 = 128 * n + i2.val := Nat.mod_eq_of_lt (by have := i2.isLt; omega)
  simp only [e0, e2]

/-- A load of four groups and one column tile of the codes. -/
theorem readC (v : View sig .tc .vmem S160x2x3x8x128 .i8) {off : Fin 5 → ℕ} (inb : ∀ a, off a + S4x2x1x8x128.size a ≤ S160x2x3x8x128.size a)
    (X : BufTy.Contents (Elt F) v.ty) (g n : ℕ) (h : off = ![g, 0, n, 0, 0]) :
    View.readAt (Elt F) v (Rect.unit (s := S160x2x3x8x128) off S4x2x1x8x128.size inb).toLoadRect X = ldC (F := F) (v.read (Elt F) X) g n := by
  subst h
  have h0 : g + 4 ≤ 160 := inb 0
  have h2 : n + 1 ≤ 3 := inb 2
  rw [View.readAt_eq_ld]
  funext i
  idx_vars i
  unfold ldC
  pointwise
  congr 1
  have e0 : (g + i0.val) % 160 = g + i0.val := Nat.mod_eq_of_lt (by have := i0.isLt; omega)
  have e2 : n % 3 = n := Nat.mod_eq_of_lt (by omega)
  simp only [e0, e2]

/-- A load of 256 columns of the activations. -/
theorem readH (v : View sig .tc .vmem S64x2x5120 .bf16) {off : Fin 3 → ℕ} (inb : ∀ a, off a + S64x2x256.size a ≤ S64x2x5120.size a)
    (X : BufTy.Contents (Elt F) v.ty) (k : ℕ) (h : off = ![0, 0, 256 * k]) :
    View.readAt (Elt F) v (Rect.unit (s := S64x2x5120) off S64x2x256.size inb).toLoadRect X = ldH (v.read (Elt F) X) k := by
  subst h
  have h2 : 256 * k + 256 ≤ 5120 := inb 2
  rw [View.readAt_eq_ld]
  funext i
  idx_vars i
  unfold ldH
  pointwise
  congr 1
  have e2 : (256 * k + i2.val) % 5120 = 256 * k + i2.val := Nat.mod_eq_of_lt (by have := i2.isLt; omega)
  simp only [e2]

/-- The weights of groups `g` to `g + 3` in column tile `n`. -/
def weightV (C : Vec F S160x2x3x8x128 .i8) (S M : Vec F S160x2x384 .bf16) (g n : ℕ) : FVec F S128x128 .bf16 :=
  setV (pairV (ldS S g n) (ldS S (g + 1) n)) (pairV (ldS M g n) (ldS M (g + 1) n))
    (pairV (ldS S (g + 2) n) (ldS S (g + 3) n)) (pairV (ldS M (g + 2) n) (ldS M (g + 3) n)) (ldC C g n)

/-- The weights a step computes from its eight loads of scales and minima and its load of codes. -/
theorem setRead (vC : View sig .tc .vmem S160x2x3x8x128 .i8) (vS vM : View sig .tc .vmem S160x2x384 .bf16)
    (XC : BufTy.Contents (Elt F) vC.ty) (XS : BufTy.Contents (Elt F) vS.ty) (XM : BufTy.Contents (Elt F) vM.ty)
    {o0 o1 o2 o3 : Fin 3 → ℕ} {oC : Fin 5 → ℕ}
    (i0 : ∀ a, o0 a + S1x2x128.size a ≤ S160x2x384.size a) (i1 : ∀ a, o1 a + S1x2x128.size a ≤ S160x2x384.size a)
    (i2 : ∀ a, o2 a + S1x2x128.size a ≤ S160x2x384.size a) (i3 : ∀ a, o3 a + S1x2x128.size a ≤ S160x2x384.size a)
    (iC : ∀ a, oC a + S4x2x1x8x128.size a ≤ S160x2x3x8x128.size a) (g n : ℕ)
    (h0 : o0 = ![g, 0, 128 * n]) (h1 : o1 = ![g + 1, 0, 128 * n]) (h2 : o2 = ![g + 2, 0, 128 * n]) (h3 : o3 = ![g + 3, 0, 128 * n])
    (hC : oC = ![g, 0, n, 0, 0]) :
    setV
      (pairV (View.readAt (Elt F) vS (Rect.unit (s := S160x2x384) o0 S1x2x128.size i0).toLoadRect XS) (View.readAt (Elt F) vS (Rect.unit (s := S160x2x384) o1 S1x2x128.size i1).toLoadRect XS))
      (pairV (View.readAt (Elt F) vM (Rect.unit (s := S160x2x384) o0 S1x2x128.size i0).toLoadRect XM) (View.readAt (Elt F) vM (Rect.unit (s := S160x2x384) o1 S1x2x128.size i1).toLoadRect XM))
      (pairV (View.readAt (Elt F) vS (Rect.unit (s := S160x2x384) o2 S1x2x128.size i2).toLoadRect XS) (View.readAt (Elt F) vS (Rect.unit (s := S160x2x384) o3 S1x2x128.size i3).toLoadRect XS))
      (pairV (View.readAt (Elt F) vM (Rect.unit (s := S160x2x384) o2 S1x2x128.size i2).toLoadRect XM) (View.readAt (Elt F) vM (Rect.unit (s := S160x2x384) o3 S1x2x128.size i3).toLoadRect XM))
      (View.readAt (Elt F) vC (Rect.unit (s := S160x2x3x8x128) oC S4x2x1x8x128.size iC).toLoadRect XC)
    = weightV (F := F) (vC.read (Elt F) XC) (vS.read (Elt F) XS) (vM.read (Elt F) XM) g n := by
  rw [readS vS i0 XS g n h0, readS vS i1 XS (g + 1) n h1, readS vS i2 XS (g + 2) n h2, readS vS i3 XS (g + 3) n h3,
    readS vM i0 XM g n h0, readS vM i1 XM (g + 1) n h1, readS vM i2 XM (g + 2) n h2, readS vM i3 XM (g + 3) n h3,
    readC vC iC XC g n hC]
  rfl

/-- One trip over the buffers' contents: column tile `n` of the gate's codes `C`, scales and minima, and of the up's. -/
def tripV (n : ℕ) (C : Vec F S160x2x3x8x128 .i8) (S M : Vec F S160x2x384 .bf16) (C' : Vec F S160x2x3x8x128 .i8)
    (S' M' : Vec F S160x2x384 .bf16) (H : Vec F S64x2x5120 .bf16) (k : ℕ) (acc : FVec F S128x256 .f32) : FVec F S128x256 .f32 :=
  stepV acc (weightV C S M (8 * k) n) (weightV C S M (8 * k + 4) n) (weightV C' S' M' (8 * k) n) (weightV C' S' M' (8 * k + 4) n) (ldH H k)

/-- The trips before trip `k`. -/
def loopV (n : ℕ) (C : Vec F S160x2x3x8x128 .i8) (S M : Vec F S160x2x384 .bf16) (C' : Vec F S160x2x3x8x128 .i8)
    (S' M' : Vec F S160x2x384 .bf16) (H : Vec F S64x2x5120 .bf16) (init : FVec F S128x256 .f32) : ℕ → FVec F S128x256 .f32
  | 0 => init
  | k + 1 => tripV n C S M C' S' M' H k (loopV n C S M C' S' M' H init k)

/-- A step's equation from those of its four sets of weights and of its activations. -/
theorem stepV_congr (acc : FVec F S128x256 .f32) {a a' b b' d d' e e' : FVec F S128x128 .bf16} {h h' : FVec F S64x2x256 .bf16}
    (ha : a = a') (hb : b = b') (hd : d = d') (he : e = e') (hh : h = h') : stepV acc a b d e h = stepV acc a' b' d' e' h' := by
  rw [ha, hb, hd, he, hh]

set_option maxHeartbeats 4000000 in
/-- A trip of loop 1 over the buffers' contents. -/
theorem trip1_eq (𝒱 : Variants) (c : Dev nD) (bd : Option 𝒱.V) (i : grid0.Coords) (arg1 : Memref sig .tc .vmem S128x5120 .f32) (harg1 : arg1.IsWhole) (arg2 : Memref sig .tc .vmem S5120 .bf16) (harg2 : arg2.IsWhole) (arg3 : Memref sig .tc .vmem S160x2x3x8x128 .i8) (harg3 : arg3.IsWhole) (arg4 : Memref sig .tc .vmem S160x384 .bf16) (harg4 : arg4.IsWhole) (arg5 : Memref sig .tc .vmem S160x384 .bf16) (harg5 : arg5.IsWhole) (arg6 : Memref sig .tc .vmem S160x2x3x8x128 .i8) (harg6 : arg6.IsWhole) (arg7 : Memref sig .tc .vmem S160x384 .bf16) (harg7 : arg7.IsWhole) (arg8 : Memref sig .tc .vmem S160x384 .bf16) (harg8 : arg8.IsWhole) (arg9 : Memref sig .tc .vmem S128x384 .bf16) (harg9 : arg9.IsWhole) (arg10 : Memref sig .tc .vmem S64x2x5120 .bf16) (harg10 : arg10.IsWhole) (arg11 : Memref sig .tc .vmem S160x2x384 .bf16) (harg11 : arg11.IsWhole) (arg12 : Memref sig .tc .vmem S160x2x384 .bf16) (harg12 : arg12.IsWhole) (arg13 : Memref sig .tc .vmem S160x2x384 .bf16) (harg13 : arg13.IsWhole) (arg14 : Memref sig .tc .vmem S160x2x384 .bf16) (harg14 : arg14.IsWhole) (k0_w4 : Vec F S160x2x384 .bf16) (X_arg3 : BufTy.Contents (Elt F) arg3.view.ty) (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) (acc : FVec F S128x256 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_w4 X_arg3 X_arg6 X_arg10 X_arg11 X_arg12 X_arg13 X_arg14 k acc =
      tripV (F := F) 0 (arg3.view.read (Elt F) X_arg3) (arg11.view.read (Elt F) X_arg11) (arg12.view.read (Elt F) X_arg12) (arg6.view.read (Elt F) X_arg6) (arg13.view.read (Elt F) X_arg13) (arg14.view.read (Elt F) X_arg14) (arg10.view.read (Elt F) X_arg10) k.val acc := by
  unfold tripR_k0_t1 trip_k0_t1
  exact stepV_congr acc
    (setRead arg3.view arg11.view arg12.view X_arg3 X_arg11 X_arg12 (k0_off1_inb k 0 0) (k0_off1_inb k 0 1) (k0_off1_inb k 1 0) (k0_off1_inb k 1 1) (k0_off2_inb k) (8 * k.val) 0
      (by rw [k0_off1_eq]; first | rfl | (congr 1)) (by rw [k0_off1_eq]; first | rfl | (congr 1)) (by rw [k0_off1_eq]; first | rfl | (congr 1)) (by rw [k0_off1_eq]; first | rfl | (congr 1)) (by rw [k0_off2_eq]))
    (setRead arg3.view arg11.view arg12.view X_arg3 X_arg11 X_arg12 (k0_off3_inb k 0 0) (k0_off3_inb k 0 1) (k0_off3_inb k 1 0) (k0_off3_inb k 1 1) (k0_off4_inb k) (8 * k.val + 4) 0
      (by rw [k0_off3_eq]; first | rfl | (congr 1)) (by rw [k0_off3_eq]; first | rfl | (congr 1)) (by rw [k0_off3_eq]; first | rfl | (congr 1)) (by rw [k0_off3_eq]; first | rfl | (congr 1)) (by rw [k0_off4_eq]))
    (setRead arg6.view arg13.view arg14.view X_arg6 X_arg13 X_arg14 (k0_off1_inb k 0 0) (k0_off1_inb k 0 1) (k0_off1_inb k 1 0) (k0_off1_inb k 1 1) (k0_off2_inb k) (8 * k.val) 0
      (by rw [k0_off1_eq]; first | rfl | (congr 1)) (by rw [k0_off1_eq]; first | rfl | (congr 1)) (by rw [k0_off1_eq]; first | rfl | (congr 1)) (by rw [k0_off1_eq]; first | rfl | (congr 1)) (by rw [k0_off2_eq]))
    (setRead arg6.view arg13.view arg14.view X_arg6 X_arg13 X_arg14 (k0_off3_inb k 0 0) (k0_off3_inb k 0 1) (k0_off3_inb k 1 0) (k0_off3_inb k 1 1) (k0_off4_inb k) (8 * k.val + 4) 0
      (by rw [k0_off3_eq]; first | rfl | (congr 1)) (by rw [k0_off3_eq]; first | rfl | (congr 1)) (by rw [k0_off3_eq]; first | rfl | (congr 1)) (by rw [k0_off3_eq]; first | rfl | (congr 1)) (by rw [k0_off4_eq]))
    (readH arg10.view (k0_off5_inb k) X_arg10 k.val (by rw [k0_off5_eq]))

/-- Loop 1 over the buffers' contents. -/
theorem loop1_eq (𝒱 : Variants) (c : Dev nD) (bd : Option 𝒱.V) (i : grid0.Coords) (arg1 : Memref sig .tc .vmem S128x5120 .f32) (harg1 : arg1.IsWhole) (arg2 : Memref sig .tc .vmem S5120 .bf16) (harg2 : arg2.IsWhole) (arg3 : Memref sig .tc .vmem S160x2x3x8x128 .i8) (harg3 : arg3.IsWhole) (arg4 : Memref sig .tc .vmem S160x384 .bf16) (harg4 : arg4.IsWhole) (arg5 : Memref sig .tc .vmem S160x384 .bf16) (harg5 : arg5.IsWhole) (arg6 : Memref sig .tc .vmem S160x2x3x8x128 .i8) (harg6 : arg6.IsWhole) (arg7 : Memref sig .tc .vmem S160x384 .bf16) (harg7 : arg7.IsWhole) (arg8 : Memref sig .tc .vmem S160x384 .bf16) (harg8 : arg8.IsWhole) (arg9 : Memref sig .tc .vmem S128x384 .bf16) (harg9 : arg9.IsWhole) (arg10 : Memref sig .tc .vmem S64x2x5120 .bf16) (harg10 : arg10.IsWhole) (arg11 : Memref sig .tc .vmem S160x2x384 .bf16) (harg11 : arg11.IsWhole) (arg12 : Memref sig .tc .vmem S160x2x384 .bf16) (harg12 : arg12.IsWhole) (arg13 : Memref sig .tc .vmem S160x2x384 .bf16) (harg13 : arg13.IsWhole) (arg14 : Memref sig .tc .vmem S160x2x384 .bf16) (harg14 : arg14.IsWhole) (k0_w4 : Vec F S160x2x384 .bf16) (X_arg3 : BufTy.Contents (Elt F) arg3.view.ty) (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (init : FVec F S128x256 .f32) (n : ℕ) (hn : n ≤ 20) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_w4 X_arg3 X_arg6 X_arg10 X_arg11 X_arg12 X_arg13 X_arg14 init n =
      loopV (F := F) 0 (arg3.view.read (Elt F) X_arg3) (arg11.view.read (Elt F) X_arg11) (arg12.view.read (Elt F) X_arg12) (arg6.view.read (Elt F) X_arg6) (arg13.view.read (Elt F) X_arg13) (arg14.view.read (Elt F) X_arg14) (arg10.view.read (Elt F) X_arg10) init n := by
  induction n with
  | zero => rfl
  | succ n ih =>
    have e : k0_t1_loop.trips = 20 := by decide
    have hk : n < k0_t1_loop.trips := by rw [e]; omega
    rw [show n + 1 = (⟨n, hk⟩ : Fin k0_t1_loop.trips).val + 1 from rfl, st_k0_t1_succ, trip1_eq, ih (by omega)]
    rfl

set_option maxHeartbeats 4000000 in
/-- A trip of loop 2 over the buffers' contents. -/
theorem trip2_eq (𝒱 : Variants) (c : Dev nD) (bd : Option 𝒱.V) (i : grid0.Coords) (arg1 : Memref sig .tc .vmem S128x5120 .f32) (harg1 : arg1.IsWhole) (arg2 : Memref sig .tc .vmem S5120 .bf16) (harg2 : arg2.IsWhole) (arg3 : Memref sig .tc .vmem S160x2x3x8x128 .i8) (harg3 : arg3.IsWhole) (arg4 : Memref sig .tc .vmem S160x384 .bf16) (harg4 : arg4.IsWhole) (arg5 : Memref sig .tc .vmem S160x384 .bf16) (harg5 : arg5.IsWhole) (arg6 : Memref sig .tc .vmem S160x2x3x8x128 .i8) (harg6 : arg6.IsWhole) (arg7 : Memref sig .tc .vmem S160x384 .bf16) (harg7 : arg7.IsWhole) (arg8 : Memref sig .tc .vmem S160x384 .bf16) (harg8 : arg8.IsWhole) (arg9 : Memref sig .tc .vmem S128x384 .bf16) (harg9 : arg9.IsWhole) (arg10 : Memref sig .tc .vmem S64x2x5120 .bf16) (harg10 : arg10.IsWhole) (arg11 : Memref sig .tc .vmem S160x2x384 .bf16) (harg11 : arg11.IsWhole) (arg12 : Memref sig .tc .vmem S160x2x384 .bf16) (harg12 : arg12.IsWhole) (arg13 : Memref sig .tc .vmem S160x2x384 .bf16) (harg13 : arg13.IsWhole) (arg14 : Memref sig .tc .vmem S160x2x384 .bf16) (harg14 : arg14.IsWhole) (v39 : FVec F S128x128 .f32) (v40 : IVec S128x128 32) (v56 : IVec S128x128 32) (v58 : IVec S128x128 32) (X_arg3 : BufTy.Contents (Elt F) arg3.view.ty) (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t2_loop.trips) (acc : FVec F S128x256 .f32) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v39 v40 v56 v58 X_arg3 X_arg6 X_arg10 X_arg11 X_arg12 X_arg13 X_arg14 k acc =
      tripV (F := F) 1 (arg3.view.read (Elt F) X_arg3) (arg11.view.read (Elt F) X_arg11) (arg12.view.read (Elt F) X_arg12) (arg6.view.read (Elt F) X_arg6) (arg13.view.read (Elt F) X_arg13) (arg14.view.read (Elt F) X_arg14) (arg10.view.read (Elt F) X_arg10) k.val acc := by
  unfold tripR_k0_t2 trip_k0_t2
  exact stepV_congr acc
    (setRead arg3.view arg11.view arg12.view X_arg3 X_arg11 X_arg12 (k0_off6_inb k 0 0) (k0_off6_inb k 0 1) (k0_off6_inb k 1 0) (k0_off6_inb k 1 1) (k0_off7_inb k) (8 * k.val) 1
      (by rw [k0_off6_eq]; first | rfl | (congr 1)) (by rw [k0_off6_eq]; first | rfl | (congr 1)) (by rw [k0_off6_eq]; first | rfl | (congr 1)) (by rw [k0_off6_eq]; first | rfl | (congr 1)) (by rw [k0_off7_eq]))
    (setRead arg3.view arg11.view arg12.view X_arg3 X_arg11 X_arg12 (k0_off8_inb k 0 0) (k0_off8_inb k 0 1) (k0_off8_inb k 1 0) (k0_off8_inb k 1 1) (k0_off9_inb k) (8 * k.val + 4) 1
      (by rw [k0_off8_eq]; first | rfl | (congr 1)) (by rw [k0_off8_eq]; first | rfl | (congr 1)) (by rw [k0_off8_eq]; first | rfl | (congr 1)) (by rw [k0_off8_eq]; first | rfl | (congr 1)) (by rw [k0_off9_eq]))
    (setRead arg6.view arg13.view arg14.view X_arg6 X_arg13 X_arg14 (k0_off6_inb k 0 0) (k0_off6_inb k 0 1) (k0_off6_inb k 1 0) (k0_off6_inb k 1 1) (k0_off7_inb k) (8 * k.val) 1
      (by rw [k0_off6_eq]; first | rfl | (congr 1)) (by rw [k0_off6_eq]; first | rfl | (congr 1)) (by rw [k0_off6_eq]; first | rfl | (congr 1)) (by rw [k0_off6_eq]; first | rfl | (congr 1)) (by rw [k0_off7_eq]))
    (setRead arg6.view arg13.view arg14.view X_arg6 X_arg13 X_arg14 (k0_off8_inb k 0 0) (k0_off8_inb k 0 1) (k0_off8_inb k 1 0) (k0_off8_inb k 1 1) (k0_off9_inb k) (8 * k.val + 4) 1
      (by rw [k0_off8_eq]; first | rfl | (congr 1)) (by rw [k0_off8_eq]; first | rfl | (congr 1)) (by rw [k0_off8_eq]; first | rfl | (congr 1)) (by rw [k0_off8_eq]; first | rfl | (congr 1)) (by rw [k0_off9_eq]))
    (readH arg10.view (k0_off10_inb k) X_arg10 k.val (by rw [k0_off10_eq]))

/-- Loop 2 over the buffers' contents. -/
theorem loop2_eq (𝒱 : Variants) (c : Dev nD) (bd : Option 𝒱.V) (i : grid0.Coords) (arg1 : Memref sig .tc .vmem S128x5120 .f32) (harg1 : arg1.IsWhole) (arg2 : Memref sig .tc .vmem S5120 .bf16) (harg2 : arg2.IsWhole) (arg3 : Memref sig .tc .vmem S160x2x3x8x128 .i8) (harg3 : arg3.IsWhole) (arg4 : Memref sig .tc .vmem S160x384 .bf16) (harg4 : arg4.IsWhole) (arg5 : Memref sig .tc .vmem S160x384 .bf16) (harg5 : arg5.IsWhole) (arg6 : Memref sig .tc .vmem S160x2x3x8x128 .i8) (harg6 : arg6.IsWhole) (arg7 : Memref sig .tc .vmem S160x384 .bf16) (harg7 : arg7.IsWhole) (arg8 : Memref sig .tc .vmem S160x384 .bf16) (harg8 : arg8.IsWhole) (arg9 : Memref sig .tc .vmem S128x384 .bf16) (harg9 : arg9.IsWhole) (arg10 : Memref sig .tc .vmem S64x2x5120 .bf16) (harg10 : arg10.IsWhole) (arg11 : Memref sig .tc .vmem S160x2x384 .bf16) (harg11 : arg11.IsWhole) (arg12 : Memref sig .tc .vmem S160x2x384 .bf16) (harg12 : arg12.IsWhole) (arg13 : Memref sig .tc .vmem S160x2x384 .bf16) (harg13 : arg13.IsWhole) (arg14 : Memref sig .tc .vmem S160x2x384 .bf16) (harg14 : arg14.IsWhole) (v39 : FVec F S128x128 .f32) (v40 : IVec S128x128 32) (v56 : IVec S128x128 32) (v58 : IVec S128x128 32) (X_arg3 : BufTy.Contents (Elt F) arg3.view.ty) (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (init : FVec F S128x256 .f32) (n : ℕ) (hn : n ≤ 20) :
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v39 v40 v56 v58 X_arg3 X_arg6 X_arg10 X_arg11 X_arg12 X_arg13 X_arg14 init n =
      loopV (F := F) 1 (arg3.view.read (Elt F) X_arg3) (arg11.view.read (Elt F) X_arg11) (arg12.view.read (Elt F) X_arg12) (arg6.view.read (Elt F) X_arg6) (arg13.view.read (Elt F) X_arg13) (arg14.view.read (Elt F) X_arg14) (arg10.view.read (Elt F) X_arg10) init n := by
  induction n with
  | zero => rfl
  | succ n ih =>
    have e : k0_t2_loop.trips = 20 := by decide
    have hk : n < k0_t2_loop.trips := by rw [e]; omega
    rw [show n + 1 = (⟨n, hk⟩ : Fin k0_t2_loop.trips).val + 1 from rfl, st_k0_t2_succ, trip2_eq, ih (by omega)]
    rfl

set_option maxHeartbeats 4000000 in
/-- A trip of loop 3 over the buffers' contents. -/
theorem trip3_eq (𝒱 : Variants) (c : Dev nD) (bd : Option 𝒱.V) (i : grid0.Coords) (arg1 : Memref sig .tc .vmem S128x5120 .f32) (harg1 : arg1.IsWhole) (arg2 : Memref sig .tc .vmem S5120 .bf16) (harg2 : arg2.IsWhole) (arg3 : Memref sig .tc .vmem S160x2x3x8x128 .i8) (harg3 : arg3.IsWhole) (arg4 : Memref sig .tc .vmem S160x384 .bf16) (harg4 : arg4.IsWhole) (arg5 : Memref sig .tc .vmem S160x384 .bf16) (harg5 : arg5.IsWhole) (arg6 : Memref sig .tc .vmem S160x2x3x8x128 .i8) (harg6 : arg6.IsWhole) (arg7 : Memref sig .tc .vmem S160x384 .bf16) (harg7 : arg7.IsWhole) (arg8 : Memref sig .tc .vmem S160x384 .bf16) (harg8 : arg8.IsWhole) (arg9 : Memref sig .tc .vmem S128x384 .bf16) (harg9 : arg9.IsWhole) (arg10 : Memref sig .tc .vmem S64x2x5120 .bf16) (harg10 : arg10.IsWhole) (arg11 : Memref sig .tc .vmem S160x2x384 .bf16) (harg11 : arg11.IsWhole) (arg12 : Memref sig .tc .vmem S160x2x384 .bf16) (harg12 : arg12.IsWhole) (arg13 : Memref sig .tc .vmem S160x2x384 .bf16) (harg13 : arg13.IsWhole) (arg14 : Memref sig .tc .vmem S160x2x384 .bf16) (harg14 : arg14.IsWhole) (v142 : FVec F S128x128 .f32) (X_arg3 : BufTy.Contents (Elt F) arg3.view.ty) (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t3_loop.trips) (acc : FVec F S128x256 .f32) :
    tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v142 X_arg3 X_arg6 X_arg10 X_arg11 X_arg12 X_arg13 X_arg14 k acc =
      tripV (F := F) 2 (arg3.view.read (Elt F) X_arg3) (arg11.view.read (Elt F) X_arg11) (arg12.view.read (Elt F) X_arg12) (arg6.view.read (Elt F) X_arg6) (arg13.view.read (Elt F) X_arg13) (arg14.view.read (Elt F) X_arg14) (arg10.view.read (Elt F) X_arg10) k.val acc := by
  unfold tripR_k0_t3 trip_k0_t3
  exact stepV_congr acc
    (setRead arg3.view arg11.view arg12.view X_arg3 X_arg11 X_arg12 (k0_off11_inb k 0 0) (k0_off11_inb k 0 1) (k0_off11_inb k 1 0) (k0_off11_inb k 1 1) (k0_off12_inb k) (8 * k.val) 2
      (by rw [k0_off11_eq]; first | rfl | (congr 1)) (by rw [k0_off11_eq]; first | rfl | (congr 1)) (by rw [k0_off11_eq]; first | rfl | (congr 1)) (by rw [k0_off11_eq]; first | rfl | (congr 1)) (by rw [k0_off12_eq]))
    (setRead arg3.view arg11.view arg12.view X_arg3 X_arg11 X_arg12 (k0_off13_inb k 0 0) (k0_off13_inb k 0 1) (k0_off13_inb k 1 0) (k0_off13_inb k 1 1) (k0_off14_inb k) (8 * k.val + 4) 2
      (by rw [k0_off13_eq]; first | rfl | (congr 1)) (by rw [k0_off13_eq]; first | rfl | (congr 1)) (by rw [k0_off13_eq]; first | rfl | (congr 1)) (by rw [k0_off13_eq]; first | rfl | (congr 1)) (by rw [k0_off14_eq]))
    (setRead arg6.view arg13.view arg14.view X_arg6 X_arg13 X_arg14 (k0_off11_inb k 0 0) (k0_off11_inb k 0 1) (k0_off11_inb k 1 0) (k0_off11_inb k 1 1) (k0_off12_inb k) (8 * k.val) 2
      (by rw [k0_off11_eq]; first | rfl | (congr 1)) (by rw [k0_off11_eq]; first | rfl | (congr 1)) (by rw [k0_off11_eq]; first | rfl | (congr 1)) (by rw [k0_off11_eq]; first | rfl | (congr 1)) (by rw [k0_off12_eq]))
    (setRead arg6.view arg13.view arg14.view X_arg6 X_arg13 X_arg14 (k0_off13_inb k 0 0) (k0_off13_inb k 0 1) (k0_off13_inb k 1 0) (k0_off13_inb k 1 1) (k0_off14_inb k) (8 * k.val + 4) 2
      (by rw [k0_off13_eq]; first | rfl | (congr 1)) (by rw [k0_off13_eq]; first | rfl | (congr 1)) (by rw [k0_off13_eq]; first | rfl | (congr 1)) (by rw [k0_off13_eq]; first | rfl | (congr 1)) (by rw [k0_off14_eq]))
    (readH arg10.view (k0_off15_inb k) X_arg10 k.val (by rw [k0_off15_eq]))

/-- Loop 3 over the buffers' contents. -/
theorem loop3_eq (𝒱 : Variants) (c : Dev nD) (bd : Option 𝒱.V) (i : grid0.Coords) (arg1 : Memref sig .tc .vmem S128x5120 .f32) (harg1 : arg1.IsWhole) (arg2 : Memref sig .tc .vmem S5120 .bf16) (harg2 : arg2.IsWhole) (arg3 : Memref sig .tc .vmem S160x2x3x8x128 .i8) (harg3 : arg3.IsWhole) (arg4 : Memref sig .tc .vmem S160x384 .bf16) (harg4 : arg4.IsWhole) (arg5 : Memref sig .tc .vmem S160x384 .bf16) (harg5 : arg5.IsWhole) (arg6 : Memref sig .tc .vmem S160x2x3x8x128 .i8) (harg6 : arg6.IsWhole) (arg7 : Memref sig .tc .vmem S160x384 .bf16) (harg7 : arg7.IsWhole) (arg8 : Memref sig .tc .vmem S160x384 .bf16) (harg8 : arg8.IsWhole) (arg9 : Memref sig .tc .vmem S128x384 .bf16) (harg9 : arg9.IsWhole) (arg10 : Memref sig .tc .vmem S64x2x5120 .bf16) (harg10 : arg10.IsWhole) (arg11 : Memref sig .tc .vmem S160x2x384 .bf16) (harg11 : arg11.IsWhole) (arg12 : Memref sig .tc .vmem S160x2x384 .bf16) (harg12 : arg12.IsWhole) (arg13 : Memref sig .tc .vmem S160x2x384 .bf16) (harg13 : arg13.IsWhole) (arg14 : Memref sig .tc .vmem S160x2x384 .bf16) (harg14 : arg14.IsWhole) (v142 : FVec F S128x128 .f32) (X_arg3 : BufTy.Contents (Elt F) arg3.view.ty) (X_arg6 : BufTy.Contents (Elt F) arg6.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (init : FVec F S128x256 .f32) (n : ℕ) (hn : n ≤ 20) :
    st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v142 X_arg3 X_arg6 X_arg10 X_arg11 X_arg12 X_arg13 X_arg14 init n =
      loopV (F := F) 2 (arg3.view.read (Elt F) X_arg3) (arg11.view.read (Elt F) X_arg11) (arg12.view.read (Elt F) X_arg12) (arg6.view.read (Elt F) X_arg6) (arg13.view.read (Elt F) X_arg13) (arg14.view.read (Elt F) X_arg14) (arg10.view.read (Elt F) X_arg10) init n := by
  induction n with
  | zero => rfl
  | succ n ih =>
    have e : k0_t3_loop.trips = 20 := by decide
    have hk : n < k0_t3_loop.trips := by rw [e]; omega
    rw [show n + 1 = (⟨n, hk⟩ : Fin k0_t3_loop.trips).val + 1 from rfl, st_k0_t3_succ, trip3_eq, ih (by omega)]
    rfl

end Cert.KernelUpIdeal.RefValue
-- ==== Proof.UpSum.lean ====
/- The gate and up products' loop at an index: one sum over the contracted axis for each. -/
module

public import proofs.«01_k».proof.Proof.UpDeq

@[expose] public section

noncomputable section

namespace Cert.KernelUpIdeal.RefValue

open Idealize.ShloMosaic Cert.KernelUpIdeal Cert.KernelUpIdeal.Gen
open Cert.KernelIdeal.RefValue (rowV pairV setV stepV ldH code place place_lt src src_lt setV_apply loopW_apply)
open scoped BigOperators

/-- The weight of contracted index `κ` and column `col` of a window: the code's half byte times the group's scale, plus
    its minimum. -/
def wt (C : Vec Ideal S160x2x3x8x128 .i8) (sc mn : Fin 160 → Fin 384 → EReal) (κ : Fin 5120) (col : Fin 384) : EReal :=
  code (C (ix5 ⟨κ.val / 32, by have := κ.isLt; omega⟩ ⟨κ.val / 8 % 2, by omega⟩ ⟨col.val / 128, by have := col.isLt; omega⟩
      ⟨κ.val % 8, by omega⟩ ⟨col.val % 128, by omega⟩)) (4 * (κ.val / 16 % 2))
    * sc ⟨κ.val / 32, by have := κ.isLt; omega⟩ col + mn ⟨κ.val / 32, by have := κ.isLt; omega⟩ col

/-- A load of one scale row reads the buffer at that group and column. -/
theorem ldS_apply (S : Vec Ideal S160x2x384 .bf16) (sc : Fin 160 → Fin 384 → EReal) (hS : ∀ g p l, S (ix3 g p l) = sc g l)
    (g n : ℕ) (hg : g < 160) (hn : n < 3) (p : Fin 2) (l : Fin 128) :
    ldS S g n (ix3 0 p l) = sc ⟨g, hg⟩ ⟨128 * n + l.val, by have := l.isLt; omega⟩ := by
  have e : ldS S g n (ix3 0 p l) = S (ix3 ⟨g % 160, Nat.mod_lt _ (by decide)⟩ p ⟨(128 * n + l.val) % 384, Nat.mod_lt _ (by decide)⟩) := rfl
  rw [e, hS]
  have e1 : (⟨g % 160, Nat.mod_lt _ (by decide)⟩ : Fin 160) = ⟨g, hg⟩ := Fin.ext (Nat.mod_eq_of_lt hg)
  have e2 : (⟨(128 * n + l.val) % 384, Nat.mod_lt _ (by decide)⟩ : Fin 384) = ⟨128 * n + l.val, by have := l.isLt; omega⟩ :=
    Fin.ext (Nat.mod_eq_of_lt (by have := l.isLt; omega))
  rw [e1, e2]

/-- The weights of one set of four groups, at a row and a column. -/
theorem weightV_apply (C : Vec Ideal S160x2x3x8x128 .i8) (S M : Vec Ideal S160x2x384 .bf16) (sc mn : Fin 160 → Fin 384 → EReal)
    (hS : ∀ g p l, S (ix3 g p l) = sc g l) (hM : ∀ g p l, M (ix3 g p l) = mn g l) (b n : ℕ) (hb : b < 40) (hn : n < 3) (ρ l : Fin 128) :
    weightV C S M (4 * b) n (ix2 ρ l) =
      wt C sc mn ⟨128 * b + place ρ.val, by have := place_lt ρ.isLt; omega⟩ ⟨128 * n + l.val, by have := l.isLt; omega⟩ := by
  have hp := place_lt ρ.isLt
  have hl := l.isLt
  unfold weightV
  have kS : ∀ e : Fin 4, ∀ (p : Fin 2) (l : Fin 128), ldS S (4 * b + e.val) n (ix3 0 p l) =
      sc ⟨4 * b + e.val, by have := e.isLt; omega⟩ ⟨128 * n + l.val, by have := l.isLt; omega⟩ :=
    fun e p l => ldS_apply S sc hS (4 * b + e.val) n (by have := e.isLt; omega) hn p l
  have kM : ∀ e : Fin 4, ∀ (p : Fin 2) (l : Fin 128), ldS M (4 * b + e.val) n (ix3 0 p l) =
      mn ⟨4 * b + e.val, by have := e.isLt; omega⟩ ⟨128 * n + l.val, by have := l.isLt; omega⟩ :=
    fun e p l => ldS_apply M mn hM (4 * b + e.val) n (by have := e.isLt; omega) hn p l
  refine (setV_apply (ldS S (4 * b) n) _ (ldS M (4 * b) n) _ _ _ _ _ _
    (fun e l => sc ⟨4 * b + e.val, by have := e.isLt; omega⟩ ⟨128 * n + l.val, by have := l.isLt; omega⟩)
    (fun e l => mn ⟨4 * b + e.val, by have := e.isLt; omega⟩ ⟨128 * n + l.val, by have := l.isLt; omega⟩)
    (fun p l => ⟨kS 0 p l, kS 1 p l, kS 2 p l, kS 3 p l⟩)
    (fun p l => ⟨kM 0 p l, kM 1 p l, kM 2 p l, kM 3 p l⟩) ρ l).trans ?_
  have e : ∀ a : Fin 4, ∀ q : Fin 2, ∀ s : Fin 8, ldC (F := Ideal) C (4 * b) n (ix5 a q 0 s l) =
      C (ix5 ⟨(4 * b + a.val) % 160, Nat.mod_lt _ (by decide)⟩ q ⟨n % 3, Nat.mod_lt _ (by decide)⟩ s l) := fun _ _ _ => rfl
  rw [e]
  unfold wt
  have g1 : (128 * b + place ρ.val) / 32 % 160 = (128 * b + place ρ.val) / 32 := by omega
  have g2 : 4 * b + place ρ.val / 32 = (128 * b + place ρ.val) / 32 := by omega
  have g3 : place ρ.val / 8 % 2 = (128 * b + place ρ.val) / 8 % 2 := by omega
  have g4 : place ρ.val % 8 = (128 * b + place ρ.val) % 8 := by omega
  have g5 : place ρ.val / 16 % 2 = (128 * b + place ρ.val) / 16 % 2 := by omega
  have g6 : n % 3 = (128 * n + l.val) / 128 := by omega
  have g7 : l = ⟨(128 * n + l.val) % 128, by omega⟩ := Fin.ext (by dsimp only; omega)
  simp only [g2, g1, g3, g4, g5, g6]
  rw [← g7]

/-- The same by the row's place in the whole contracted axis. -/
theorem weightV_src (C : Vec Ideal S160x2x3x8x128 .i8) (S M : Vec Ideal S160x2x384 .bf16) (sc mn : Fin 160 → Fin 384 → EReal)
    (hS : ∀ g p l, S (ix3 g p l) = sc g l) (hM : ∀ g p l, M (ix3 g p l) = mn g l) (k : ℕ) (hk : k < 20) (e : Fin 2) (n : ℕ) (hn : n < 3)
    (ρ l : Fin 128) :
    weightV C S M (8 * k + 4 * e.val) n (ix2 ρ l) =
      wt C sc mn ⟨src (256 * k + 128 * e.val + ρ.val), src_lt (by omega)⟩ ⟨128 * n + l.val, by omega⟩ := by
  have h1 : 8 * k + 4 * e.val = 4 * (2 * k + e.val) := by omega
  rw [h1, weightV_apply C S M sc mn hS hM (2 * k + e.val) n (by omega) hn ρ l]
  congr 1
  refine Fin.ext ?_
  dsimp only
  have h2 : (256 * k + 128 * e.val + ρ.val) / 128 = 2 * k + e.val := by omega
  have h3 : (256 * k + 128 * e.val + ρ.val) % 128 = ρ.val := by omega
  unfold src
  rw [h2, h3]

/-- Column `c` of a loop's 256: the gate's weights in the first half, the up's in the second. -/
def wtU (C C' : Vec Ideal S160x2x3x8x128 .i8) (sc mn sc' mn' : Fin 160 → Fin 384 → EReal) (n : Fin 3) (κ : Fin 5120) (c : Fin 256) : EReal :=
  if c.val < 128 then wt C sc mn κ ⟨128 * n.val + c.val % 128, by omega⟩ else wt C' sc' mn' κ ⟨128 * n.val + c.val % 128, by omega⟩

/-- The loop over column tile `n` at an index. -/
theorem loopV_apply (n : Fin 3) (C : Vec Ideal S160x2x3x8x128 .i8) (S M : Vec Ideal S160x2x384 .bf16) (C' : Vec Ideal S160x2x3x8x128 .i8)
    (S' M' : Vec Ideal S160x2x384 .bf16) (H : Vec Ideal S64x2x5120 .bf16)
    (sc mn sc' mn' : Fin 160 → Fin 384 → EReal) (Hn : Fin 128 → Fin 5120 → EReal)
    (hS : ∀ g p l, S (ix3 g p l) = sc g l) (hM : ∀ g p l, M (ix3 g p l) = mn g l)
    (hS' : ∀ g p l, S' (ix3 g p l) = sc' g l) (hM' : ∀ g p l, M' (ix3 g p l) = mn' g l)
    (hH : ∀ (r : Fin 128) (x : Fin 5120), H (ix3 ⟨r.val / 2, by omega⟩ ⟨r.val % 2, by omega⟩ x) = Hn r ⟨src x.val, src_lt x.isLt⟩)
    (init : FVec Ideal S128x256 .f32) (r : Fin 128) (c : Fin 256) :
    loopV n.val C S M C' S' M' H init 20 (ix2 r c) = init (ix2 r c) + ∑ κ : Fin 5120, Hn r κ * wtU C C' sc mn sc' mn' n κ c := by
  refine loopW_apply (loopV n.val C S M C' S' M' H init)
    (fun k e q => if q = 0 then weightV C S M (8 * k + 4 * e.val) n.val else weightV C' S' M' (8 * k + 4 * e.val) n.val)
    (wtU C C' sc mn sc' mn' n) H Hn hH (fun _ _ => rfl) (fun k hk e q ρ l => ?_) r c
  have hl := l.isLt
  have em : (128 * q.val + l.val) % 128 = l.val := by omega
  unfold wtU
  dsimp only
  simp only [em]
  match q with
  | 0 =>
    rw [if_pos rfl, if_pos (by simp)]
    exact weightV_src C S M sc mn hS hM k hk e n.val n.isLt ρ l
  | 1 =>
    rw [if_neg (by decide), if_neg (by simp)]
    exact weightV_src C' S' M' sc' mn' hS' hM' k hk e n.val n.isLt ρ l

end Cert.KernelUpIdeal.RefValue
-- ==== Proof.UpOut.lean ====
/- What a grid point of the gate and up products leaves: in its output block, the gated activations, each tile's columns
   in the order in which they are stored; in the carried scratch, the normalized input. -/
module

public import proofs.«01_k».proof.Proof.UpSum
public import proofs.«01_k».proof.Proof.Hid
public import proofs.«01_k».proof.Proof.Gen.KernelUpIdeal.Value
public import Idealize.ShloMosaic.Lib.Pipeline.ValueKit
public import Idealize.ShloMosaic.Lib.Pipeline.ReadBack

@[expose] public section

noncomputable section

namespace Cert.KernelUpIdeal.RefValue

open Idealize.ShloMosaic Cert.KernelUpIdeal Cert.KernelUpIdeal.Gen Cert.KernelUpIdeal.Value
open Cert.KernelIdeal.RefValue (place place_lt src src_lt hidV hidV_apply colV colV_apply col_toNat)

variable (m : (ℓ : Loc nD τ sig) → Buf (Elt Ideal) ℓ)

/-- Every loop makes twenty trips. -/
theorem trips20 : Scf.trips (0#32) (Scalar.addi 0#32 20#32) 1#32 = 20 := by decide

/-- The gate and up products of column tile `n` at a point: the gate's in the first 128 columns. -/
def guV (n : ℕ) (c : Dev nD) (t : Fin cfg0.N) (H : Vec Ideal S64x2x5120 .bf16) : FVec Ideal S128x256 .f32 :=
  loopV (F := Ideal) n (iblk m c 2 t) (k0_pay302 (iblk m c 3 t)) (k0_pay302 (iblk m c 4 t)) (iblk m c 5 t) (k0_pay302 (iblk m c 6 t))
    (k0_pay302 (iblk m c 7 t)) H k0_pay312 20

/-- The gated activation of row `r`, column `l` of a tile. -/
def gated (X : FVec Ideal S128x256 .f32) (r l : Fin 128) : EReal :=
  X (ix2 r ⟨l.val, by omega⟩) * FloatOps.logistic (F := Ideal) (φ := .f32) (X (ix2 r ⟨l.val, by omega⟩)) * X (ix2 r ⟨128 + l.val, by omega⟩)

/-- A tile with its lanes moved. -/
def mixV (Y : FVec Ideal S128x128 .f32) : FVec Ideal S128x128 .f32 :=
  dynamicGather 1 Y
    (shapeCast S128x128
      (shapeCast S128x128x1
        (select (cmpi CmpIPredicate.slt colV (broadcast S128x128 0#32)) (addi colV (broadcast S128x128 128#32)) colV)
        shapeCasts_S128x128_S128x128x1)
      shapeCasts_S128x128x1_S128x128)

/-- Lane `l` of a moved tile is lane `place l` of the tile. -/
theorem mixV_apply (Y : FVec Ideal S128x128 .f32) (r l : Fin 128) : mixV Y (ix2 r l) = Y (ix2 r ⟨place l.val, place_lt l.isLt⟩) := by
  unfold mixV
  simp only [pointwise, colV_apply]
  refine congrArg Y (congrArg₂ ix2 (Fin.ext ?_) (Fin.ext ?_))
  · simp
  · simp only [if_true]
    exact col_toNat l

/-- The gated activations of a tile. -/
theorem gated_apply (X : FVec Ideal S128x256 .f32) (r l : Fin 128) : k0_pay308 (F := Ideal) X (ix2 r l) = gated X r l := by
  unfold k0_pay308 gated
  simp only [pointwise]
  refine congrArg₂ (· * ·) (congrArg₂ (· * ·) (congrArg X ?_) (congrArg (fun i => FloatOps.logistic (F := Ideal) (φ := .f32) (X i)) ?_)) (congrArg X ?_) <;>
    exact congrArg₂ ix2 (Fin.ext (by simp)) (Fin.ext (by simp))

/-- What point 0 leaves in the carried scratch. -/
theorem stA_hid (c : Dev nD) (t : Fin cfg0.N) (acc) (h0 : t.val % 9 = 0) :
    (stAt0 m c t.val t.isLt acc).2 = hidV (k0_pay2 (iblk m c 0 t) (iblk m c 1 t)) := by
  rw [stAt0_A m c t acc h0]
  frame_out [read_unread_whole]
  generalize hX : k0_pay2 (F := Ideal) _ _ = X
  have e : k0_pay2 (F := Ideal) (iblk m c 0 t) (iblk m c 1 t) = X := by
    rw [← hX]
    simp (disch := decide) only [View.ld_unit_lit', Memref.IsWhole.read_unread]
  rw [e]
  clear e hX
  rfl

/-- The later points leave it as they find it. -/
theorem stB_scratch (c : Dev nD) (t : Fin cfg0.N) (acc) (h0 : ¬ t.val % 9 = 0) :
    (stAt0 m c t.val t.isLt acc).2 = acc.2 := by
  rw [stAt0_B m c t acc h0]
  rfl

/-- The three tiles as they are stored: the gated activations, their lanes moved. -/
theorem tile_eq (X : FVec Ideal S128x256 .f32) :
    k0_pay311 (F := Ideal) (k0_pay308 X) (iota Kind.tc S128x128 32 [1] iota_S128x128_d1_w32) k0_pay309 k0_pay310 = mixV (k0_pay308 X)
    ∧ k0_pay317 (F := Ideal) (k0_pay316 (k0_pay314 X) (iota Kind.tc S128x128 32 [1] iota_S128x128_d1_w32) k0_pay315) = mixV (k0_pay308 X)
    ∧ k0_pay1 (F := Ideal) (k0_pay320 X) (iota Kind.tc S128x128 32 [1] iota_S128x128_d1_w32) k0_pay321 k0_pay322 5#32 = mixV (k0_pay308 X) :=
  ⟨rfl, rfl, rfl⟩

/-- A stored tile at an index. -/
theorem tile_apply (Y : S128x128.Idx → EReal) (X : FVec Ideal S128x256 .f32) (h : Y = mixV (k0_pay308 X)) (x : S128x128.Idx) (r l : Fin 128)
    (h0 : r.val = (x 0).val) (h1 : l.val = (x 1).val) : Y x = gated X r ⟨place l.val, place_lt l.isLt⟩ := by
  have hx : x = ix2 r l := funext fun a => Fin.ext (match a with | ⟨0, _⟩ => h0.symm | ⟨1, _⟩ => h1.symm)
  rw [h, hx, mixV_apply, gated_apply]

set_option maxHeartbeats 1000000 in
/-- The later points leave the gated activations of the input carried. -/
theorem outB (c : Dev nD) (t : Fin cfg0.N) (acc) (h0 : ¬ t.val % 9 = 0) (n : Fin 3) (r l : Fin 128) :
    (stAt0 m c t.val t.isLt acc).1 (ix2 r ⟨128 * n.val + l.val, by omega⟩)
      = gated (guV m n.val c t acc.2) r ⟨place l.val, place_lt l.isLt⟩ := by
  have hl := l.isLt
  rw [stAt0_B m c t acc h0]
  frame_out [trips20, loop1_eq, loop2_eq, loop3_eq, read_unread_whole]
  canon_tiles x h
  all_goals change r.val = _ at h0; change 128 * n.val + l.val = _ at h1
  · obtain rfl : n = 2 := Fin.ext (by show n.val = 2; omega)
    exact tile_apply _ _ (tile_eq _).2.2 x r l h0 (by have : (2 : Fin 3).val = 2 := rfl; omega)
  · obtain rfl : n = 1 := Fin.ext (by show n.val = 1; omega)
    exact tile_apply _ _ (tile_eq _).2.1 x r l h0 (by have : (1 : Fin 3).val = 1 := rfl; omega)
  · obtain rfl : n = 0 := Fin.ext (by show n.val = 0; omega)
    exact tile_apply _ _ (tile_eq _).1 x r l h0 (by have : (0 : Fin 3).val = 0 := rfl; omega)

set_option maxHeartbeats 1000000 in
/-- Point 0 leaves those of the input it normalizes. -/
theorem outA (c : Dev nD) (t : Fin cfg0.N) (acc) (h0 : t.val % 9 = 0) (n : Fin 3) (r l : Fin 128) :
    (stAt0 m c t.val t.isLt acc).1 (ix2 r ⟨128 * n.val + l.val, by omega⟩)
      = gated (guV m n.val c t (hidV (k0_pay2 (iblk m c 0 t) (iblk m c 1 t)))) r ⟨place l.val, place_lt l.isLt⟩ := by
  have hl := l.isLt
  rw [stAt0_A m c t acc h0]
  frame_out [trips20, loop1_eq, loop2_eq, loop3_eq, read_unread_whole]
  canon_tiles x h
  all_goals
    change r.val = _ at h0; change 128 * n.val + l.val = _ at h1
    generalize hH : k0_pay301 (F := Ideal) _ = H
    have e : hidV (k0_pay2 (iblk m c 0 t) (iblk m c 1 t)) = H := by
      rw [← hH]
      generalize hY : hidV (k0_pay2 (iblk m c 0 t) (iblk m c 1 t)) = Y
      generalize hX : k0_pay2 (F := Ideal) _ _ = X
      simp (disch := decide) only [View.ld_unit_lit', Memref.IsWhole.read_unread] at hX
      rw [← hY, hX]
      clear hX hH hY
      rfl
    rw [e]
    clear e hH
  · obtain rfl : n = 2 := Fin.ext (by show n.val = 2; omega)
    exact tile_apply _ _ (tile_eq _).2.2 x r l h0 (by have : (2 : Fin 3).val = 2 := rfl; omega)
  · obtain rfl : n = 1 := Fin.ext (by show n.val = 1; omega)
    exact tile_apply _ _ (tile_eq _).2.1 x r l h0 (by have : (1 : Fin 3).val = 1 := rfl; omega)
  · obtain rfl : n = 0 := Fin.ext (by show n.val = 0; omega)
    exact tile_apply _ _ (tile_eq _).1 x r l h0 (by have : (0 : Fin 3).val = 0 := rfl; omega)

end Cert.KernelUpIdeal.RefValue
-- ==== Proof.UpRef.lean ====
/- What the gate and up reference computes at an index. -/
module

public import proofs.«01_k».proof.Proof.Ref
public import proofs.«01_k».proof.Proof.Gen.ReferenceUpIdeal.Read

@[expose] public section

noncomputable section

namespace Cert.ReferenceUpIdeal.RefValue

open Idealize.ShloMosaic Idealize.ShloMosaic.TcCoe Cert.ReferenceUpIdeal Cert.ReferenceUpIdeal.Gen Cert.ReferenceUpIdeal.Read
open Cert.KernelIdeal.RefValue (code place place_lt)
open Cert.ReferenceIdeal.RefValue (code_lo code_hi sum_halves)
open scoped BigOperators

/-- The two-axis contraction at an index. -/
theorem dot_apply (A : FVec Ideal S128x160x16 .bf16) (B : FVec Ideal S3456x160x16 .bf16) (r : Fin 128) (n : Fin 3456) :
    Host.dotGeneral (F := Ideal) (φ₁ := .bf16) (φ₂ := .bf16) dot_S128x160x16_S3456x160x16_S128x3456_12_12_0_0_n_n none A B (ix2 r n) =
      ∑ g : Fin 160, ∑ j : Fin 16, A (ix3 r g j) * B (ix3 n g j) := by
  pointwise

/-- The low half's weights. -/
theorem v27_apply (x2 : (⟨S3456x160x16, .i8⟩ : BufTy).Contents (Elt Ideal)) (x3 x4 : (⟨S3456x160, .bf16⟩ : BufTy).Contents (Elt Ideal)) (n : Fin 3456) (g : Fin 160) (j : Fin 16) :
    val_main_v27 (F := Ideal) x2 x3 x4 (ix3 n g j) = code (x2 (ix3 n g j)) 0 * x3 (ix2 n g) + x4 (ix2 n g) := by
  simp only [val_main_v27_apply, val_main_v26_apply, val_main_v25_apply, val_main_v24_apply,
    val_main_v23_apply, val_main_v22_apply, val_main_v21_apply, val_main_v20_apply, val_main_v19_apply, val_main_v18_apply, val_main_c_apply, code_lo, pointwise]
  refine congrArg₂ (· + ·) (congrArg (_ * ·) (congrArg x3 ?_)) (congrArg x4 ?_) <;>
    exact funext fun a => match a with | ⟨0, _⟩ => rfl | ⟨1, _⟩ => rfl

/-- The high half's weights. -/
theorem v35_apply (x2 : (⟨S3456x160x16, .i8⟩ : BufTy).Contents (Elt Ideal)) (x3 x4 : (⟨S3456x160, .bf16⟩ : BufTy).Contents (Elt Ideal)) (n : Fin 3456) (g : Fin 160) (j : Fin 16) :
    val_main_v35 (F := Ideal) x2 x3 x4 (ix3 n g j) = code (x2 (ix3 n g j)) 4 * x3 (ix2 n g) + x4 (ix2 n g) := by
  simp only [val_main_v35_apply, val_main_v34_apply, val_main_v33_apply, val_main_v32_apply,
    val_main_v31_apply, val_main_v30_apply, val_main_v29_apply, val_main_v28_apply, val_main_v19_apply, val_main_v18_apply, val_main_c_2_apply, code_hi, pointwise]
  refine congrArg₂ (· + ·) (congrArg (_ * ·) (congrArg x3 ?_)) (congrArg x4 ?_) <;>
    exact funext fun a => match a with | ⟨0, _⟩ => rfl | ⟨1, _⟩ => rfl

/-- The low half of a group of the normalized rows. -/
theorem v16_apply (x0 : (⟨S128x5120, .f32⟩ : BufTy).Contents (Elt Ideal)) (x1 : (⟨S5120, .bf16⟩ : BufTy).Contents (Elt Ideal)) (r : Fin 128) (g : Fin 160) (j : Fin 16) :
    val_main_v16 (F := Ideal) x0 x1 (ix3 r g j) = val_main_v14 (F := Ideal) x0 x1 (ix2 r ⟨32 * g.val + j.val, by omega⟩) := by
  simp only [val_main_v16_apply, val_main_v15_apply, pointwise]
  refine congrArg _ (funext fun a => Fin.ext ?_)
  match a with
  | ⟨0, _⟩ => show ((r.val * 160 + g.val) * 32 + j.val) / 5120 = r.val; omega
  | ⟨1, _⟩ => show ((r.val * 160 + g.val) * 32 + j.val) % 5120 = 32 * g.val + j.val; omega

/-- The high half of a group of the normalized rows. -/
theorem v17_apply (x0 : (⟨S128x5120, .f32⟩ : BufTy).Contents (Elt Ideal)) (x1 : (⟨S5120, .bf16⟩ : BufTy).Contents (Elt Ideal)) (r : Fin 128) (g : Fin 160) (j : Fin 16) :
    val_main_v17 (F := Ideal) x0 x1 (ix3 r g j) = val_main_v14 (F := Ideal) x0 x1 (ix2 r ⟨32 * g.val + 16 + j.val, by omega⟩) := by
  simp only [val_main_v17_apply, val_main_v15_apply, pointwise]
  refine congrArg _ (funext fun a => Fin.ext ?_)
  match a with
  | ⟨0, _⟩ => show ((r.val * 160 + g.val) * 32 + (16 + j.val)) / 5120 = r.val; omega
  | ⟨1, _⟩ => show ((r.val * 160 + g.val) * 32 + (16 + j.val)) % 5120 = 32 * g.val + 16 + j.val; omega

/-- The weight at row `κ` of the contracted axis and output column `n`. -/
def rwt (x2 : (⟨S3456x160x16, .i8⟩ : BufTy).Contents (Elt Ideal)) (x3 x4 : (⟨S3456x160, .bf16⟩ : BufTy).Contents (Elt Ideal))
    (κ : Fin 5120) (n : Fin 3456) : EReal :=
  code (x2 (ix3 n ⟨κ.val / 32, by omega⟩ ⟨κ.val % 16, by omega⟩)) (4 * (κ.val / 16 % 2)) * x3 (ix2 n ⟨κ.val / 32, by omega⟩)
    + x4 (ix2 n ⟨κ.val / 32, by omega⟩)

/-- The gate product at an index. -/
theorem v38_apply (x0 : (⟨S128x5120, .f32⟩ : BufTy).Contents (Elt Ideal)) (x1 : (⟨S5120, .bf16⟩ : BufTy).Contents (Elt Ideal))
    (x2 : (⟨S3456x160x16, .i8⟩ : BufTy).Contents (Elt Ideal)) (x3 x4 : (⟨S3456x160, .bf16⟩ : BufTy).Contents (Elt Ideal)) (r : Fin 128) (n : Fin 3456) :
    val_main_v38 (F := Ideal) x0 x1 x2 x3 x4 (ix2 r n) = ∑ κ : Fin 5120, val_main_v14 (F := Ideal) x0 x1 (ix2 r κ) * rwt x2 x3 x4 κ n := by
  rw [val_main_v38_apply, sum_halves]
  unfold val_main_v36 val_main_v37
  rw [dot_apply, dot_apply]
  refine congrArg₂ (· + ·) (Finset.sum_congr rfl fun g _ => Finset.sum_congr rfl fun j _ => ?_)
    (Finset.sum_congr rfl fun g _ => Finset.sum_congr rfl fun j _ => ?_)
  · rw [v16_apply, v27_apply]
    unfold rwt
    have e1 : (32 * g.val + j.val) / 32 = g.val := by omega
    have e2 : (32 * g.val + j.val) % 16 = j.val := by omega
    have e3 : (32 * g.val + j.val) / 16 % 2 = 0 := by omega
    simp only [e1, e2, e3, Nat.mul_zero]
  · rw [v17_apply, v35_apply]
    unfold rwt
    have e1 : (32 * g.val + 16 + j.val) / 32 = g.val := by omega
    have e2 : (32 * g.val + 16 + j.val) % 16 = j.val := by omega
    have e3 : (32 * g.val + 16 + j.val) / 16 % 2 = 1 := by omega
    simp only [e1, e2, e3, Nat.mul_one]

/-- The normalized row: the entry over the root of the row's mean square plus the guard, times the gain. -/
def normR (x0 : (⟨S128x5120, .f32⟩ : BufTy).Contents (Elt Ideal)) (x1 : (⟨S5120, .bf16⟩ : BufTy).Contents (Elt Ideal)) (r : Fin 128) (κ : Fin 5120) : EReal :=
  x0 (ix2 r κ) * Ideal.rsqrt (Ideal.div (0 + ∑ k : Fin 5120, x0 (ix2 r k) * x0 (ix2 r k)) (Ideal.ofBits FTy.f32 1168113664#32)
    + Ideal.ofBits FTy.f32 897988541#32) * x1 (ix1 κ)

/-- The reference's normalized rows. -/
theorem v14_apply (x0 : (⟨S128x5120, .f32⟩ : BufTy).Contents (Elt Ideal)) (x1 : (⟨S5120, .bf16⟩ : BufTy).Contents (Elt Ideal)) (r : Fin 128) (κ : Fin 5120) :
    val_main_v14 (F := Ideal) x0 x1 (ix2 r κ) = normR x0 x1 r κ := by
  have e3 : ∀ k : Fin 5120, idx_main_v1 (idx_main_v2 (idx_main_v8 (ix2 r κ))) k = ix2 r k := fun k => funext fun a => match a with | ⟨0, _⟩ => rfl | ⟨1, _⟩ => rfl
  have e1 : idx_main_v11 (idx_main_v12 (ix2 r κ)) = ix1 κ := funext fun a => match a with | ⟨0, _⟩ => rfl
  simp only [val_main_v14_apply, val_main_v13_apply, val_main_v12_apply, val_main_v11_apply, val_main_v10_apply, val_main_v9_apply,
    val_main_v8_apply, val_main_v7_apply, val_main_v6_apply, val_main_v5_apply, val_main_v4_apply, val_main_v3_apply, val_main_v2_apply, val_main_v1_apply, val_main_v0_apply,
    val_main_cst_apply, val_main_cst_0_apply, val_main_cst_1_apply, pointwise, e3, e1, normR]

/-- A product over the normalized rows. -/
def projR (x0 : (⟨S128x5120, .f32⟩ : BufTy).Contents (Elt Ideal)) (x1 : (⟨S5120, .bf16⟩ : BufTy).Contents (Elt Ideal))
    (x2 : (⟨S3456x160x16, .i8⟩ : BufTy).Contents (Elt Ideal)) (x3 x4 : (⟨S3456x160, .bf16⟩ : BufTy).Contents (Elt Ideal)) (r : Fin 128) (n : Fin 3456) : EReal :=
  ∑ κ : Fin 5120, normR x0 x1 r κ * rwt x2 x3 x4 κ n

/-- The reference's gate is that product. -/
theorem v38_eq (x0 : (⟨S128x5120, .f32⟩ : BufTy).Contents (Elt Ideal)) (x1 : (⟨S5120, .bf16⟩ : BufTy).Contents (Elt Ideal))
    (x2 : (⟨S3456x160x16, .i8⟩ : BufTy).Contents (Elt Ideal)) (x3 x4 : (⟨S3456x160, .bf16⟩ : BufTy).Contents (Elt Ideal)) (r : Fin 128) (n : Fin 3456) :
    val_main_v38 (F := Ideal) x0 x1 x2 x3 x4 (ix2 r n) = projR x0 x1 x2 x3 x4 r n := by
  rw [v38_apply]
  simp only [v14_apply, projR]

/-- The reference's up is that product of its own weights. -/
theorem v62_eq (x0 : (⟨S128x5120, .f32⟩ : BufTy).Contents (Elt Ideal)) (x1 : (⟨S5120, .bf16⟩ : BufTy).Contents (Elt Ideal))
    (x5 : (⟨S3456x160x16, .i8⟩ : BufTy).Contents (Elt Ideal)) (x6 x7 : (⟨S3456x160, .bf16⟩ : BufTy).Contents (Elt Ideal)) (r : Fin 128) (n : Fin 3456) :
    val_main_v62 (F := Ideal) x0 x1 x5 x6 x7 (ix2 r n) = projR x0 x1 x5 x6 x7 r n :=
  (congrFun (show val_main_v62 (F := Ideal) x0 x1 x5 x6 x7 = val_main_v38 (F := Ideal) x0 x1 x5 x6 x7 from rfl) _).trans
    (v38_eq x0 x1 x5 x6 x7 r n)

/-- The gated product: the gate times its logistic, times the up. -/
def actR (x0 : (⟨S128x5120, .f32⟩ : BufTy).Contents (Elt Ideal)) (x1 : (⟨S5120, .bf16⟩ : BufTy).Contents (Elt Ideal))
    (x2 : (⟨S3456x160x16, .i8⟩ : BufTy).Contents (Elt Ideal)) (x3 x4 : (⟨S3456x160, .bf16⟩ : BufTy).Contents (Elt Ideal))
    (x5 : (⟨S3456x160x16, .i8⟩ : BufTy).Contents (Elt Ideal)) (x6 x7 : (⟨S3456x160, .bf16⟩ : BufTy).Contents (Elt Ideal)) (r : Fin 128) (n : Fin 3456) : EReal :=
  projR x0 x1 x2 x3 x4 r n * Ideal.logistic (projR x0 x1 x2 x3 x4 r n) * projR x0 x1 x5 x6 x7 r n

/-- The reference's activations, before they are stored in their order. -/
theorem v65_apply (x0 : (⟨S128x5120, .f32⟩ : BufTy).Contents (Elt Ideal)) (x1 : (⟨S5120, .bf16⟩ : BufTy).Contents (Elt Ideal))
    (x2 : (⟨S3456x160x16, .i8⟩ : BufTy).Contents (Elt Ideal)) (x3 x4 : (⟨S3456x160, .bf16⟩ : BufTy).Contents (Elt Ideal))
    (x5 : (⟨S3456x160x16, .i8⟩ : BufTy).Contents (Elt Ideal)) (x6 x7 : (⟨S3456x160, .bf16⟩ : BufTy).Contents (Elt Ideal)) (r : Fin 128) (n : Fin 3456) :
    val_main_v65 (F := Ideal) x0 x1 x2 x3 x4 x5 x6 x7 (ix2 r n) = actR x0 x1 x2 x3 x4 x5 x6 x7 r n := by
  simp only [val_main_v65_apply, val_main_v64_apply, val_main_v63_apply, val_main_call0_v5_apply, val_main_call0_v4_apply, val_main_call0_cst_0_apply,
    val_main_call0_v3_apply, val_main_call0_v2_apply, val_main_call0_cst_apply, val_main_call0_v1_apply, val_main_call0_v0_apply, v38_eq, v62_eq, actR, pointwise]
  rfl

/-- The index of eight axes of the stored order: a row, a tile, the tile's five upper bits, and the two lower ones. -/
def ixB (r : Fin 128) (T : Fin 27) (ρ : Fin 128) : S128x27x2x2x2x2x2x4.Idx := fun a => match a with
  | ⟨0, _⟩ => r
  | ⟨1, _⟩ => T
  | ⟨2, _⟩ => ⟨ρ.val / 64, show ρ.val / 64 < 2 by omega⟩
  | ⟨3, _⟩ => ⟨ρ.val / 32 % 2, show ρ.val / 32 % 2 < 2 by omega⟩
  | ⟨4, _⟩ => ⟨ρ.val / 16 % 2, show ρ.val / 16 % 2 < 2 by omega⟩
  | ⟨5, _⟩ => ⟨ρ.val / 8 % 2, show ρ.val / 8 % 2 < 2 by omega⟩
  | ⟨6, _⟩ => ⟨ρ.val / 4 % 2, show ρ.val / 4 % 2 < 2 by omega⟩
  | ⟨7, _⟩ => ⟨ρ.val % 4, show ρ.val % 4 < 4 by omega⟩

/-- The position of that index in the array is that of the row, the tile and the column. -/
theorem ixB_pos (r : Fin 128) (T : Fin 27) (ρ : Fin 128) :
    (S128x27x2x2x2x2x2x4.rowMajor (ixB r T ρ)).val = (S128x3456.rowMajor (ix2 r ⟨128 * T.val + ρ.val, by omega⟩)).val := by
  rw [Shape.rowMajor_val_two]
  show (Shape.rowMajorPi _ (ixB r T ρ)).val = _
  simp only [Shape.rowMajorPi_succ_val, Shape.rowMajorPi_zero]
  simp [Fin.prod_univ_succ, ixB]
  omega

/-- The bits of a position's place are the position's bits in another order (decided). -/
theorem place_bits : ∀ ρ : Fin 128, ρ.val / 16 % 2 = place ρ.val / 64 ∧ ρ.val / 8 % 2 = place ρ.val / 32 % 2 ∧ ρ.val / 32 % 2 = place ρ.val / 16 % 2
    ∧ ρ.val / 4 % 2 = place ρ.val / 8 % 2 ∧ ρ.val / 64 = place ρ.val / 4 % 2 ∧ ρ.val % 4 = place ρ.val % 4 := by decide +kernel

/-- The stored order: position `ρ` of a tile holds column `place ρ`. -/
theorem v68_apply (x0 : (⟨S128x5120, .f32⟩ : BufTy).Contents (Elt Ideal)) (x1 : (⟨S5120, .bf16⟩ : BufTy).Contents (Elt Ideal))
    (x2 : (⟨S3456x160x16, .i8⟩ : BufTy).Contents (Elt Ideal)) (x3 x4 : (⟨S3456x160, .bf16⟩ : BufTy).Contents (Elt Ideal))
    (x5 : (⟨S3456x160x16, .i8⟩ : BufTy).Contents (Elt Ideal)) (x6 x7 : (⟨S3456x160, .bf16⟩ : BufTy).Contents (Elt Ideal)) (r : Fin 128) (T : Fin 27) (ρ : Fin 128) :
    val_main_v68 (F := Ideal) x0 x1 x2 x3 x4 x5 x6 x7 (ix2 r ⟨128 * T.val + ρ.val, by omega⟩)
      = actR x0 x1 x2 x3 x4 x5 x6 x7 r ⟨128 * T.val + place ρ.val, by have := place_lt ρ.isLt; omega⟩ := by
  have e : idx_main_v67 (ixB r T ρ) = ixB r T ⟨place ρ.val, place_lt ρ.isLt⟩ := by
    obtain ⟨h2, h3, h4, h5, h6, h7⟩ := place_bits ρ
    exact funext fun a => Fin.ext (match a with
      | ⟨0, _⟩ => rfl
      | ⟨1, _⟩ => rfl
      | ⟨2, _⟩ => h2
      | ⟨3, _⟩ => h3
      | ⟨4, _⟩ => h4
      | ⟨5, _⟩ => h5
      | ⟨6, _⟩ => h6
      | ⟨7, _⟩ => h7)
  unfold val_main_v68
  rw [shapeCast_apply _ _ _ (ixB r T ρ) (ixB_pos r T ρ), val_main_v67_apply, e]
  unfold val_main_v66
  rw [shapeCast_apply _ _ _ (ix2 r ⟨128 * T.val + place ρ.val, by have := place_lt ρ.isLt; omega⟩) (ixB_pos r T ⟨place ρ.val, place_lt ρ.isLt⟩).symm]
  exact v65_apply x0 x1 x2 x3 x4 x5 x6 x7 r _

end Cert.ReferenceUpIdeal.RefValue
-- ==== Proof.UpBlock.lean ====
/- The gate and up kernel's blocks: what each window holds of the arguments, what is carried from point to point, and what
   every point leaves in its output block. -/
module

public import proofs.«01_k».proof.Proof.UpOut
public import proofs.«01_k».proof.Proof.UpRef

@[expose] public section

noncomputable section

namespace Cert.KernelUpIdeal.RefValue

open Idealize.ShloMosaic Idealize.ShloMosaic.TcCoe Idealize.ShloMosaic.Pipeline Cert.KernelUpIdeal Cert.KernelUpIdeal.Gen Cert.KernelUpIdeal.Value Idealize.SL.Sem
open Cert.KernelIdeal.RefValue (hidV hidV_apply code place place_lt src src_lt)
open Cert.ReferenceUpIdeal.RefValue (normR rwt projR actR)
open scoped BigOperators

variable (m : (ℓ : Loc nD τ sig) → Buf (Elt Ideal) ℓ)

/-- The normalized rows, as the first point reads them. -/
def nrm (c : Dev nD) : FVec Ideal S128x5120 .f32 := k0_pay2 (iblk m c 0 t0_0) (iblk m c 1 t0_0)

/-- Every point but the first is a later one. -/
theorem mod9 (n : ℕ) (hn : n + 1 < cfg0.N) : ¬ (n + 1) % 9 = 0 := by
  have : cfg0.N = 9 := N_0
  omega

/-- The carried rows are the first point's at every point. -/
theorem scr (c : Dev nD) : ∀ (n : ℕ) (hn : n < cfg0.N), (outsAt0 m c n hn).2 = hidV (nrm m c)
  | 0, hn => by
    rw [outsAt0_zero]
    exact stA_hid m c t0_0 junk0 rfl
  | n + 1, hn => by
    rw [outsAt0_succ]
    exact (stB_scratch m c ⟨n + 1, hn⟩ _ (mod9 n hn)).trans (scr c n _)

/-- The output block after any point. -/
theorem outs (c : Dev nD) (T : Fin 3) (r l : Fin 128) : ∀ (n : ℕ) (hn : n < cfg0.N),
    (outsAt0 m c n hn).1 (ix2 r ⟨128 * T.val + l.val, by omega⟩)
      = gated (guV m T.val c ⟨n, hn⟩ (hidV (nrm m c))) r ⟨place l.val, place_lt l.isLt⟩
  | 0, hn => by
    rw [outsAt0_zero]
    exact outA m c t0_0 junk0 rfl T r l
  | n + 1, hn => by
    rw [outsAt0_succ]
    have h := outB m c ⟨n + 1, hn⟩ (outsAt0 m c n (Nat.lt_of_succ_lt hn)) (mod9 n hn) T r l
    rw [scr m c n (Nat.lt_of_succ_lt hn)] at h
    exact h

/-- Every window's block index at a point (decided). -/
theorem idx : ∀ t : Fin cfg0.N, win0_0.index t = ![0, 0] ∧ win0_1.index t = ![0]
    ∧ win0_2.index t = ![0, 0, t.val, 0, 0] ∧ win0_3.index t = ![0, t.val] ∧ win0_4.index t = ![0, t.val]
    ∧ win0_5.index t = ![0, 0, t.val, 0, 0] ∧ win0_6.index t = ![0, t.val] ∧ win0_7.index t = ![0, t.val] :=
  (by decide +kernel : ∀ t : Fin grid0.N, _)

/-- The rows' window holds the rows. -/
theorem iblk0 (c : Dev nD) (t : Fin cfg0.N) (r : Fin 128) (κ : Fin 5120) :
    iblk m c 0 t (ix2 r κ) = m ((c : Thread nD τ).loc main_arg0) (ix2 r κ) := by
  blk_ext! [iblk, V, idx t]

/-- The gain's window holds the gain. -/
theorem iblk1 (c : Dev nD) (t : Fin cfg0.N) (κ : Fin 5120) :
    iblk m c 1 t (ix1 κ) = m ((c : Thread nD τ).loc main_arg1) (ix1 κ) := by
  blk_ext! [iblk, V, idx t]

set_option maxHeartbeats 1000000 in
/-- The gate codes' window holds the point's 384 columns of the codes, by group, half, tile, row and lane. -/
theorem iblk2 (c : Dev nD) (t : Fin cfg0.N) (g : Fin 160) (hi : Fin 2) (e : Fin 3) (s : Fin 8) (l : Fin 128) (h : 128 * (3 * t.val + e.val) + l.val < 3456) :
    iblk m c 2 t (ix5 g hi e s l) = m ((c : Thread nD τ).loc main_arg2) (ix3 ⟨128 * (3 * t.val + e.val) + l.val, h⟩ g ⟨8 * hi.val + s.val, by omega⟩) := by
  blk_ext! [iblk, V, idx t]

/-- The gate scales' window holds the point's columns of the scales. -/
theorem iblk3 (c : Dev nD) (t : Fin cfg0.N) (g : Fin 160) (n : Fin 384) (h : 384 * t.val + n.val < 3456) :
    iblk m c 3 t (ix2 g n) = m ((c : Thread nD τ).loc main_arg3) (ix2 ⟨384 * t.val + n.val, h⟩ g) := by
  blk_ext! [iblk, V, idx t]

/-- The gate minima's window holds the point's columns of the minima. -/
theorem iblk4 (c : Dev nD) (t : Fin cfg0.N) (g : Fin 160) (n : Fin 384) (h : 384 * t.val + n.val < 3456) :
    iblk m c 4 t (ix2 g n) = m ((c : Thread nD τ).loc main_arg4) (ix2 ⟨384 * t.val + n.val, h⟩ g) := by
  blk_ext! [iblk, V, idx t]

set_option maxHeartbeats 1000000 in
/-- The up codes' window, likewise. -/
theorem iblk5 (c : Dev nD) (t : Fin cfg0.N) (g : Fin 160) (hi : Fin 2) (e : Fin 3) (s : Fin 8) (l : Fin 128) (h : 128 * (3 * t.val + e.val) + l.val < 3456) :
    iblk m c 5 t (ix5 g hi e s l) = m ((c : Thread nD τ).loc main_arg5) (ix3 ⟨128 * (3 * t.val + e.val) + l.val, h⟩ g ⟨8 * hi.val + s.val, by omega⟩) := by
  blk_ext! [iblk, V, idx t]

/-- The up scales' window, likewise. -/
theorem iblk6 (c : Dev nD) (t : Fin cfg0.N) (g : Fin 160) (n : Fin 384) (h : 384 * t.val + n.val < 3456) :
    iblk m c 6 t (ix2 g n) = m ((c : Thread nD τ).loc main_arg6) (ix2 ⟨384 * t.val + n.val, h⟩ g) := by
  blk_ext! [iblk, V, idx t]

/-- The up minima's window, likewise. -/
theorem iblk7 (c : Dev nD) (t : Fin cfg0.N) (g : Fin 160) (n : Fin 384) (h : 384 * t.val + n.val < 3456) :
    iblk m c 7 t (ix2 g n) = m ((c : Thread nD τ).loc main_arg7) (ix2 ⟨384 * t.val + n.val, h⟩ g) := by
  blk_ext! [iblk, V, idx t]

/-- A scale row stored twice reads as itself. -/
theorem pay302_apply (s : Vec Ideal S160x384 .bf16) (g : Fin 160) (p : Fin 2) (l : Fin 384) : k0_pay302 (F := Ideal) s (ix3 g p l) = s (ix2 g l) := by
  unfold k0_pay302
  pointwise
  exact ite_self _

/-- The loop starts from zero. -/
theorem pay312_apply (r : Fin 128) (l : Fin 256) : k0_pay312 (F := Ideal) (ix2 r l) = (0 : EReal) := by
  unfold k0_pay312
  pointwise
  exact ite_self _

/-- The kernel's normalized rows are the reference's. -/
theorem nrm_apply (c : Dev nD) (r : Fin 128) (κ : Fin 5120) :
    nrm m c (ix2 r κ) = normR (m ((c : Thread nD τ).loc main_arg0)) (m ((c : Thread nD τ).loc main_arg1)) r κ := by
  unfold nrm k0_pay2 normR
  pointwise
  simp only [iblk0, iblk1]

/-- The kernel's weight is the reference's. -/
theorem wt_eq (C : Vec Ideal S160x2x3x8x128 .i8) (s mn : Vec Ideal S160x384 .bf16) (x2 : Vec Ideal S3456x160x16 .i8) (x3 x4 : Vec Ideal S3456x160 .bf16)
    (t : ℕ) (ht : t < 9)
    (hC : ∀ (g : Fin 160) (hi : Fin 2) (e : Fin 3) (s : Fin 8) (l : Fin 128) (h : 128 * (3 * t + e.val) + l.val < 3456),
      C (ix5 g hi e s l) = x2 (ix3 ⟨128 * (3 * t + e.val) + l.val, h⟩ g ⟨8 * hi.val + s.val, by omega⟩))
    (hs : ∀ (g : Fin 160) (n : Fin 384) (h : 384 * t + n.val < 3456), s (ix2 g n) = x3 (ix2 ⟨384 * t + n.val, h⟩ g))
    (hm : ∀ (g : Fin 160) (n : Fin 384) (h : 384 * t + n.val < 3456), mn (ix2 g n) = x4 (ix2 ⟨384 * t + n.val, h⟩ g))
    (κ : Fin 5120) (n : Fin 384) :
    wt C (fun g l => s (ix2 g l)) (fun g l => mn (ix2 g l)) κ n = rwt x2 x3 x4 κ ⟨384 * t + n.val, by omega⟩ := by
  unfold wt rwt
  have hn := n.isLt
  beta_reduce
  rw [hC _ _ _ _ _ (by show 128 * (3 * t + n.val / 128) + n.val % 128 < 3456; omega), hs _ _ (by omega), hm _ _ (by omega)]
  have e1 : 128 * (3 * t + n.val / 128) + n.val % 128 = 384 * t + n.val := by omega
  have e2 : 8 * (κ.val / 8 % 2) + κ.val % 8 = κ.val % 16 := by omega
  simp only [e1, e2]

end Cert.KernelUpIdeal.RefValue
-- ==== Proof.UpResult.lean ====
/- The gate and up kernel's result at an index: the reference's activations in their stored order. -/
module

public import proofs.«01_k».proof.Proof.UpBlock

@[expose] public section

noncomputable section

namespace Cert.KernelUpIdeal.RefValue

open Idealize.ShloMosaic Idealize.ShloMosaic.TcCoe Idealize.ShloMosaic.Pipeline Cert.KernelUpIdeal Cert.KernelUpIdeal.Gen Cert.KernelUpIdeal.Value Idealize.SL.Sem
open Cert.KernelIdeal.RefValue (hidV hidV_apply place place_lt)
open Cert.ReferenceUpIdeal.RefValue (normR rwt projR actR)
open scoped BigOperators

variable (m : (ℓ : Loc nD τ sig) → Buf (Elt Ideal) ℓ)

/-- The grid has nine points. -/
theorem lt9 (t : Fin cfg0.N) : t.val < 9 := lt_of_lt_of_eq t.isLt N_0

/-- A tile's loop at an index: the reference's gate in the first 128 columns, its up in the others. -/
theorem guV_apply (c : Dev nD) (t : Fin cfg0.N) (T : Fin 3) (r : Fin 128) (κ : Fin 256) :
    guV m T.val c t (hidV (nrm m c)) (ix2 r κ) =
      if κ.val < 128 then
        projR (m ((c : Thread nD τ).loc main_arg0)) (m ((c : Thread nD τ).loc main_arg1)) (m ((c : Thread nD τ).loc main_arg2))
          (m ((c : Thread nD τ).loc main_arg3)) (m ((c : Thread nD τ).loc main_arg4)) r ⟨128 * (3 * t.val + T.val) + κ.val % 128, by have := lt9 t; omega⟩
      else
        projR (m ((c : Thread nD τ).loc main_arg0)) (m ((c : Thread nD τ).loc main_arg1)) (m ((c : Thread nD τ).loc main_arg5))
          (m ((c : Thread nD τ).loc main_arg6)) (m ((c : Thread nD τ).loc main_arg7)) r ⟨128 * (3 * t.val + T.val) + κ.val % 128, by have := lt9 t; omega⟩ := by
  have ht := lt9 t
  have e : 384 * t.val + (128 * T.val + κ.val % 128) = 128 * (3 * t.val + T.val) + κ.val % 128 := by omega
  unfold guV
  rw [loopV_apply T _ _ _ _ _ _ _ (fun g l => iblk m c 3 t (ix2 g l)) (fun g l => iblk m c 4 t (ix2 g l)) (fun g l => iblk m c 6 t (ix2 g l))
    (fun g l => iblk m c 7 t (ix2 g l)) (fun r κ => nrm m c (ix2 r κ)) (fun g p l => pay302_apply _ g p l) (fun g p l => pay302_apply _ g p l)
    (fun g p l => pay302_apply _ g p l) (fun g p l => pay302_apply _ g p l) (fun r x => hidV_apply _ r x), pay312_apply, zero_add]
  unfold projR wtU
  split
  · refine Finset.sum_congr rfl fun k _ => congrArg₂ (· * ·) (nrm_apply m c r k) ?_
    exact (wt_eq _ (iblk m c 3 t) (iblk m c 4 t) _ _ _ t.val ht (iblk2 m c t) (iblk3 m c t) (iblk4 m c t) k _).trans (congrArg _ (Fin.ext e))
  · refine Finset.sum_congr rfl fun k _ => congrArg₂ (· * ·) (nrm_apply m c r k) ?_
    exact (wt_eq _ (iblk m c 6 t) (iblk m c 7 t) _ _ _ t.val ht (iblk5 m c t) (iblk6 m c t) (iblk7 m c t) k _).trans (congrArg _ (Fin.ext e))

/-- The gated activations of a tile are the reference's. -/
theorem act_eq (c : Dev nD) (t : Fin cfg0.N) (T : Fin 3) (r l : Fin 128) :
    gated (guV m T.val c t (hidV (nrm m c))) r l =
      actR (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) r ⟨128 * (3 * t.val + T.val) + l.val, by have := lt9 t; omega⟩ := by
  have hl := l.isLt
  unfold gated actR
  rw [guV_apply, guV_apply, if_pos (by show l.val < 128; omega), if_neg (by show ¬ 128 + l.val < 128; omega)]
  have e1 : 128 * (3 * t.val + T.val) + l.val % 128 = 128 * (3 * t.val + T.val) + l.val := by omega
  have e2 : 128 * (3 * t.val + T.val) + (128 + l.val) % 128 = 128 * (3 * t.val + T.val) + l.val := by omega
  simp only [e1, e2]
  rfl

/-- The point that writes a tile back. -/
theorem third_lt (T : Fin 27) : T.val / 3 < cfg0.N := by
  have : cfg0.N = 9 := N_0
  omega

/-- The result array at an index is the block of the point that holds the tile. -/
theorem G_apply (c : Dev nD) (T : Fin 27) (r l : Fin 128) :
    G8 m c (ix2 r ⟨128 * T.val + l.val, by omega⟩) = (outsAt0 m c (T.val / 3) (third_lt T)).1 (ix2 r ⟨128 * (T.val % 3) + l.val, by omega⟩) := by
  have hp : pt8Of (ix2 r ⟨128 * T.val + l.val, by omega⟩) = T.val / 3 := by
    show 9 * (r.val / 128 - 0) + 1 * ((128 * T.val + l.val) / 384 - 0) = T.val / 3
    omega
  have hl : loc8Of (ix2 r ⟨128 * T.val + l.val, by omega⟩) = ix2 r ⟨128 * (T.val % 3) + l.val, by omega⟩ := funext fun a => Fin.ext (by
    match a with
    | ⟨0, _⟩ => exact Nat.mod_eq_of_lt r.isLt
    | ⟨1, _⟩ => show (128 * T.val + l.val) % 384 = 128 * (T.val % 3) + l.val; omega)
  have ha := fun hb => fold0_congr m c _ hb _ (by have := third_lt T; omega) hp
  have hs := (outsAt0_sweep m c (T.val / 3) (third_lt T)).symm
  have hlt : pt8Of (ix2 r ⟨128 * T.val + l.val, by omega⟩) < cfg0.N := hp ▸ third_lt T
  unfold G8
  rw [dif_pos hlt, ha, hs]
  exact congrArg _ hl

/-- The result at an index: position `l` of a tile holds the reference's activation of column `place l`. -/
theorem result_apply (c : Dev nD) (T : Fin 27) (r l : Fin 128) :
    G8 m c (ix2 r ⟨128 * T.val + l.val, by omega⟩) =
      actR (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) r ⟨128 * T.val + place l.val, by have := place_lt l.isLt; omega⟩ := by
  rw [G_apply]
  refine ((outs m c ⟨T.val % 3, by omega⟩ r l (T.val / 3) (third_lt T)).trans (act_eq m c ⟨T.val / 3, third_lt T⟩ ⟨T.val % 3, by omega⟩ r ⟨place l.val, place_lt l.isLt⟩)).trans ?_
  exact congrArg _ (Fin.ext (show 128 * (3 * (T.val / 3) + T.val % 3) + place l.val = 128 * T.val + place l.val by omega))

end Cert.KernelUpIdeal.RefValue
-- ==== Proof.UpAlgebraic.lean ====
/- The gate and up call's value claim: over the extended reals the kernel's array of activations is the reference's. -/
module

public import proofs.«01_k».proof.Proof.UpClaims
public import proofs.«01_k».proof.Proof.UpResult
public import Idealize.ShloMosaic.Lib.Claim

@[expose] public section

noncomputable section

namespace Cert.Claims

open Idealize.ShloMosaic Idealize.ShloMosaic.TcCoe Idealize.SL.Sem

open Cert.ReferenceUpIdeal.Read Cert.ReferenceUpIdeal.RefValue
open Cert.KernelUpIdeal.RefValue (result_apply)

/-- Two arrays over rows and columns that agree at every row, column tile and lane are equal. -/
theorem extT {α : Type} (X Y : Cert.KernelUpIdeal.S128x3456.Idx → α)
    (e : ∀ (r : Fin 128) (T : Fin 27) (l : Fin 128), X (ix2 r ⟨128 * T.val + l.val, by omega⟩) = Y (ix2 r ⟨128 * T.val + l.val, by omega⟩)) : X = Y := by
  funext i
  have h1 : (i 1).val < 3456 := (i 1).isLt
  have hi : i = ix2 (i 0) ⟨128 * ((i 1).val / 128) + (i 1).val % 128, by omega⟩ :=
    funext fun a => match a with | ⟨0, _⟩ => rfl | ⟨1, _⟩ => Fin.ext (show (i 1).val = 128 * ((i 1).val / 128) + (i 1).val % 128 by omega)
  rw [hi]
  exact e (i 0) ⟨(i 1).val / 128, by omega⟩ ⟨(i 1).val % 128, by omega⟩

/-- At `Ideal` the kernel's array of activations and the reference's agree. -/
theorem algebraicUp : Cert.algebraic_KernelUpIdeal_ReferenceUpIdeal (hKernelUpIdeal := Cert.KernelUpIdeal.Gen.facts)
    (hReferenceUpIdeal := Cert.ReferenceUpIdeal.Gen.facts) := by
  pair_intro
  · run_from Cert.KernelUpIdeal.Value.run m g
  · run_from Cert.ReferenceUpIdeal.Value.run m' g'
    obtain ⟨a0, a1, a2, a3, a4, a5, a6, a7⟩ := hagree c
    rw [val_main_v68_eq, a0, a1, a2, a3, a4, a5, a6, a7]
    exact extT _ _ fun r T l => (v68_apply _ _ _ _ _ _ _ _ r T l).trans (result_apply m c T r l).symm

end Cert.Claims
-- ==== Proof.DownClaims.lean ====
/- The down call's claims that need no arithmetic: each program runs to its end with its arguments unchanged, and
   the kernel's idealization rewrites preserve it. -/
module

public import proofs.«01_k».proof.Defs
public import proofs.«01_k».proof.Proof.Gen.KernelDown.Frame
public import proofs.«01_k».proof.Proof.Gen.KernelDownIdeal.Frame
public import proofs.«01_k».proof.Proof.Gen.ReferenceDownIdeal
public import proofs.«01_k».proof.Proof.Gen.ReferenceDownIdeal.Run
public import Idealize.ShloMosaic.Lib.Bf16Pair
public import Idealize.ShloMosaic.Lib.Bf16PairInverse
public import Idealize.ShloMosaic.Lib.Quiescent

@[expose] public section

namespace Cert.Claims

open Idealize.ShloMosaic Idealize.SL.Sem Cert.KernelDownIdeal IdealRules.bf16_pair

/-- Each rewrite of the kernel's ledger preserves the value read: the re-typed word buffers, the packed words, and the
    word vectors read as their two rows. -/
theorem preservesDown : preserves_KernelDown_KernelDownIdeal :=
  ⟨bufferStatement S108x2x1280 S108x1x1280, packStatement S108x1280, statement S108x2x1280 S108x1x1280,
    statement S1x2x128 S1x1x128, statement S16x128 S8x128⟩

/-- The kernel as written runs to its end and leaves its arguments as they were. -/
theorem frameKernelDown : quiescent_KernelDown (hKernelDown := Cert.KernelDown.Gen.facts) := fun m ρ _ => Cert.KernelDown.Gen.frame m ρ

/-- So does its idealization. -/
theorem frameKernelDownIdeal : quiescent_KernelDownIdeal (hKernelDownIdeal := Cert.KernelDownIdeal.Gen.facts) :=
  fun m ρ _ => Cert.KernelDownIdeal.Gen.frame m ρ

/-- So does the reference. -/
theorem frameReferenceDownIdeal : quiescent_ReferenceDownIdeal (hReferenceDownIdeal := Cert.ReferenceDownIdeal.Gen.facts) :=
  fun m ρ _ => (θ_run _ _ _).mono
    (fun r h => ⟨fun c => (h c).2, sem_eq_zero_of_no_sems (by decide) r.2⟩) (Cert.ReferenceDownIdeal.Value.run m ρ)

end Cert.Claims

end
-- ==== Proof.DownDeq.lean ====
/- The down product's loops: what a step's weights and activations are in terms of the buffers, and each loop as its
   thirteen steps. -/
module

public import proofs.«01_k».proof.Proof.Sum
public import proofs.«01_k».proof.Proof.Gen.KernelDownIdeal.Loops

@[expose] public section

noncomputable section

namespace Cert.KernelDownIdeal.RefValue

open Idealize.ShloMosaic Cert.KernelDownIdeal Cert.KernelDownIdeal.Gen
open Cert.KernelIdeal.RefValue (rowV pairV setV code place place_lt src setV_apply)

variable {F : FTy → Type} [FloatOps F]

/-- Row `g`, column tile `n` of a scale buffer. -/
def ldS (S : Vec F S108x2x1280 .bf16) (g n : ℕ) : FVec F S1x2x128 .bf16 := fun i =>
  S (ix3 ⟨g % 108, Nat.mod_lt _ (by decide)⟩ (i 1) ⟨(128 * n + (i 2).val) % 1280, Nat.mod_lt _ (by decide)⟩)

/-- Groups `g` to `g + 3`, column tile `n` of the codes. -/
def ldC (C : Vec F S108x2x10x8x128 .i8) (g n : ℕ) : Vec F S4x2x1x8x128 .i8 := fun i =>
  C (ix5 ⟨(g + (i 0).val) % 108, Nat.mod_lt _ (by decide)⟩ (i 1) ⟨n % 10, Nat.mod_lt _ (by decide)⟩ (i 3) (i 4))

/-- Columns `256 k` to `256 k + 255` of the activations. -/
def ldA (A : Vec F S128x3456 .bf16) (k : ℕ) : Vec F S128x256 .bf16 := fun i =>
  A (ix2 (i 0) ⟨(256 * k + (i 1).val) % 3456, Nat.mod_lt _ (by decide)⟩)

/-- The activations' last 128 columns. -/
def ldT (A : Vec F S128x3456 .bf16) : Vec F S128x128 .bf16 := fun i =>
  A (ix2 (i 0) ⟨3328 + (i 1).val, by have : (i 1).val < 128 := (i 1).isLt; omega⟩)

/-- Columns `256 p` to `256 p + 255` of the input added. -/
def ldX (X : Vec F S128x1280 .f32) (p : ℕ) : Vec F S128x256 .f32 := fun i =>
  X (ix2 (i 0) ⟨(256 * p + (i 1).val) % 1280, Nat.mod_lt _ (by decide)⟩)

/-- A load of one row and one column tile of a scale buffer. -/
theorem readS (v : View sig .tc .vmem S108x2x1280 .bf16) {off : Fin 3 → ℕ} (inb : ∀ a, off a + S1x2x128.size a ≤ S108x2x1280.size a)
    (X : BufTy.Contents (Elt F) v.ty) (g n : ℕ) (h : off = ![g, 0, 128 * n]) :
    View.readAt (Elt F) v (Rect.unit (s := S108x2x1280) off S1x2x128.size inb).toLoadRect X = ldS (v.read (Elt F) X) g n := by
  subst h
  have h0 : g + 1 ≤ 108 := inb 0
  have h2 : 128 * n + 128 ≤ 1280 := inb 2
  rw [View.readAt_eq_ld]
  funext i
  idx_vars i
  unfold ldS
  pointwise
  congr 1
  have e0 : g % 108 = g := Nat.mod_eq_of_lt (by omega)
  have e2 : (128 * n + i2.val) % 1280 = 128 * n + i2.val := Nat.mod_eq_of_lt (by have := i2.isLt; omega)
  simp only [e0, e2]

/-- A load of four groups and one column tile of the codes. -/
theorem readC (v : View sig .tc .vmem S108x2x10x8x128 .i8) {off : Fin 5 → ℕ}
    (inb : ∀ a, off a + S4x2x1x8x128.size a ≤ S108x2x10x8x128.size a)
    (X : BufTy.Contents (Elt F) v.ty) (g n : ℕ) (h : off = ![g, 0, n, 0, 0]) :
    View.readAt (Elt F) v (Rect.unit (s := S108x2x10x8x128) off S4x2x1x8x128.size inb).toLoadRect X = ldC (v.read (Elt F) X) g n := by
  subst h
  have h0 : g + 4 ≤ 108 := inb 0
  have h2 : n + 1 ≤ 10 := inb 2
  rw [View.readAt_eq_ld]
  funext i
  idx_vars i
  unfold ldC
  pointwise
  congr 1
  have e0 : (g + i0.val) % 108 = g + i0.val := Nat.mod_eq_of_lt (by have := i0.isLt; omega)
  have e2 : n % 10 = n := Nat.mod_eq_of_lt (by omega)
  simp only [e0, e2]

/-- A load of 256 columns of the activations. -/
theorem readA (v : View sig .tc .vmem S128x3456 .bf16) {off : Fin 2 → ℕ} (inb : ∀ a, off a + S128x256.size a ≤ S128x3456.size a)
    (X : BufTy.Contents (Elt F) v.ty) (k : ℕ) (h : off = ![0, 256 * k]) :
    View.readAt (Elt F) v (Rect.unit (s := S128x3456) off S128x256.size inb).toLoadRect X = ldA (v.read (Elt F) X) k := by
  subst h
  have h1 : 256 * k + 256 ≤ 3456 := inb 1
  rw [View.readAt_eq_ld]
  funext i
  idx_vars i
  unfold ldA
  pointwise
  congr 1
  have e1 : (256 * k + i1.val) % 3456 = 256 * k + i1.val := Nat.mod_eq_of_lt (by have := i1.isLt; omega)
  simp only [e1]

/-- The load of the activations' last 128 columns. -/
theorem readT (v : View sig .tc .vmem S128x3456 .bf16) (inb : ∀ a, (![0, 3328] : Fin 2 → ℕ) a + S128x128.size a ≤ S128x3456.size a)
    (X : BufTy.Contents (Elt F) v.ty) :
    View.readAt (Elt F) v (Rect.unit (s := S128x3456) ![0, 3328] S128x128.size inb).toLoadRect X = ldT (v.read (Elt F) X) := by
  rw [View.readAt_eq_ld]
  funext i
  idx_vars i
  unfold ldT
  pointwise

/-- A load of 256 columns of the input added. -/
theorem readX (v : View sig .tc .vmem S128x1280 .f32) {off : Fin 2 → ℕ} (inb : ∀ a, off a + S128x256.size a ≤ S128x1280.size a)
    (X : BufTy.Contents (Elt F) v.ty) (p : ℕ) (h : off = ![0, 256 * p]) :
    View.readAt (Elt F) v (Rect.unit (s := S128x1280) off S128x256.size inb).toLoadRect X = ldX (v.read (Elt F) X) p := by
  subst h
  have h1 : 256 * p + 256 ≤ 1280 := inb 1
  rw [View.readAt_eq_ld]
  funext i
  idx_vars i
  unfold ldX
  pointwise
  congr 1
  have e1 : (256 * p + i1.val) % 1280 = 256 * p + i1.val := Nat.mod_eq_of_lt (by have := i1.isLt; omega)
  simp only [e1]

/-- The weights of groups `g` to `g + 3` in column tile `n`. -/
def weightV (C : Vec F S108x2x10x8x128 .i8) (S M : Vec F S108x2x1280 .bf16) (g n : ℕ) : FVec F S128x128 .bf16 :=
  setV (pairV (ldS S g n) (ldS S (g + 1) n)) (pairV (ldS M g n) (ldS M (g + 1) n))
    (pairV (ldS S (g + 2) n) (ldS S (g + 3) n)) (pairV (ldS M (g + 2) n) (ldS M (g + 3) n)) (ldC C g n)

/-- The weights computed from eight loads of scales and minima and a load of codes. -/
theorem setRead (vC : View sig .tc .vmem S108x2x10x8x128 .i8) (vS vM : View sig .tc .vmem S108x2x1280 .bf16)
    (XC : BufTy.Contents (Elt F) vC.ty) (XS : BufTy.Contents (Elt F) vS.ty) (XM : BufTy.Contents (Elt F) vM.ty)
    {o : Fin 2 → Fin 2 → Fin 3 → ℕ} {oC : Fin 5 → ℕ}
    (io : ∀ r s : Fin 2, ∀ a, o r s a + S1x2x128.size a ≤ S108x2x1280.size a)
    (iC : ∀ a, oC a + S4x2x1x8x128.size a ≤ S108x2x10x8x128.size a) (g n : ℕ)
    (ho : ∀ r s : Fin 2, o r s = ![g + 2 * r.val + s.val, 0, 128 * n]) (hC : oC = ![g, 0, n, 0, 0]) :
    setV
      (pairV (View.readAt (Elt F) vS (Rect.unit (s := S108x2x1280) (o 0 0) S1x2x128.size (io 0 0)).toLoadRect XS)
        (View.readAt (Elt F) vS (Rect.unit (s := S108x2x1280) (o 0 1) S1x2x128.size (io 0 1)).toLoadRect XS))
      (pairV (View.readAt (Elt F) vM (Rect.unit (s := S108x2x1280) (o 0 0) S1x2x128.size (io 0 0)).toLoadRect XM)
        (View.readAt (Elt F) vM (Rect.unit (s := S108x2x1280) (o 0 1) S1x2x128.size (io 0 1)).toLoadRect XM))
      (pairV (View.readAt (Elt F) vS (Rect.unit (s := S108x2x1280) (o 1 0) S1x2x128.size (io 1 0)).toLoadRect XS)
        (View.readAt (Elt F) vS (Rect.unit (s := S108x2x1280) (o 1 1) S1x2x128.size (io 1 1)).toLoadRect XS))
      (pairV (View.readAt (Elt F) vM (Rect.unit (s := S108x2x1280) (o 1 0) S1x2x128.size (io 1 0)).toLoadRect XM)
        (View.readAt (Elt F) vM (Rect.unit (s := S108x2x1280) (o 1 1) S1x2x128.size (io 1 1)).toLoadRect XM))
      (View.readAt (Elt F) vC (Rect.unit (s := S108x2x10x8x128) oC S4x2x1x8x128.size iC).toLoadRect XC)
    = weightV (F := F) (vC.read (Elt F) XC) (vS.read (Elt F) XS) (vM.read (Elt F) XM) g n := by
  rw [readS vS (io 0 0) XS g n (ho 0 0), readS vS (io 0 1) XS (g + 1) n (ho 0 1), readS vS (io 1 0) XS (g + 2) n (ho 1 0),
    readS vS (io 1 1) XS (g + 3) n (ho 1 1), readS vM (io 0 0) XM g n (ho 0 0), readS vM (io 0 1) XM (g + 1) n (ho 0 1),
    readS vM (io 1 0) XM (g + 2) n (ho 1 0), readS vM (io 1 1) XM (g + 3) n (ho 1 1), readC vC iC XC g n hC]
  rfl

/-- One step from the weights of its four sets and its 256 columns of activations. -/
def stepV (acc : FVec F S128x256 .f32) (w00 w01 w10 w11 : FVec F S128x128 .bf16) (a : FVec F S128x256 .bf16) : FVec F S128x256 .f32 :=
  addf acc (matmul dot_S128x256_S256x256_S128x256_1_0_0_1_n_n none a
    (concatenate S256x256 1 [⟨S256x128, concatenate S256x128 0 [⟨S128x128, w00⟩, ⟨S128x128, w01⟩] concatenates_S128x128_S128x128_S256x128_d0⟩,
      ⟨S256x128, concatenate S256x128 0 [⟨S128x128, w10⟩, ⟨S128x128, w11⟩] concatenates_S128x128_S128x128_S256x128_d0⟩]
      concatenates_S256x128_S256x128_S256x256_d1) (constant S128x256 .f32 0x00000000#32))

/-- The last half step and the input added: from the weights of two sets and the last 128 columns of activations. -/
def tailV (x acc : FVec F S128x256 .f32) (w0 w1 : FVec F S128x128 .bf16) (a : FVec F S128x128 .bf16) : FVec F S128x256 .bf16 :=
  truncf .bf16 (addf x (addf acc (matmul dot_S128x128_S128x256_S128x256_1_0_0_1_n_n none a
    (concatenate S128x256 1 [⟨S128x128, w0⟩, ⟨S128x128, w1⟩] concatenates_S128x128_S128x128_S128x256_d1)
    (constant S128x256 .f32 0x00000000#32))))

/-- One trip over the buffers' contents, for column tiles `2 p` and `2 p + 1`. -/
def tripV (p : ℕ) (C : Vec F S108x2x10x8x128 .i8) (S M : Vec F S108x2x1280 .bf16) (A : Vec F S128x3456 .bf16) (k : ℕ)
    (acc : FVec F S128x256 .f32) : FVec F S128x256 .f32 :=
  stepV acc (weightV C S M (8 * k) (2 * p)) (weightV C S M (8 * k + 4) (2 * p)) (weightV C S M (8 * k) (2 * p + 1))
    (weightV C S M (8 * k + 4) (2 * p + 1)) (ldA A k)

/-- The trips before trip `k`. -/
def loopV (p : ℕ) (C : Vec F S108x2x10x8x128 .i8) (S M : Vec F S108x2x1280 .bf16) (A : Vec F S128x3456 .bf16)
    (init : FVec F S128x256 .f32) : ℕ → FVec F S128x256 .f32
  | 0 => init
  | k + 1 => tripV p C S M A k (loopV p C S M A init k)

/-- A step's equation from those of its four sets of weights and of its activations. -/
theorem stepV_congr (acc : FVec F S128x256 .f32) {a a' b b' d d' e e' : FVec F S128x128 .bf16} {h h' : FVec F S128x256 .bf16}
    (ha : a = a') (hb : b = b') (hd : d = d') (he : e = e') (hh : h = h') : stepV acc a b d e h = stepV acc a' b' d' e' h' := by
  rw [ha, hb, hd, he, hh]

/-- The offset of a load of scales in a step's second half. -/
theorem off_add (k r s b : ℕ) : (![8 * k + 2 * r + s + 4, 0, b] : Fin 3 → ℕ) = ![8 * k + 4 + 2 * r + s, 0, b] := by
  rw [show 8 * k + 2 * r + s + 4 = 8 * k + 4 + 2 * r + s by omega]

/-- Steps that are trips are the loop. -/
theorem loop_of_trips (p : ℕ) (C : Vec F S108x2x10x8x128 .i8) (S M : Vec F S108x2x1280 .bf16) (A : Vec F S128x3456 .bf16)
    (init : FVec F S128x256 .f32) (f : ℕ → FVec F S128x256 .f32) (h0 : f 0 = init)
    (h : ∀ n, n < 13 → f (n + 1) = tripV p C S M A n (f n)) : ∀ n, n ≤ 13 → f n = loopV p C S M A init n
  | 0, _ => h0
  | n + 1, hn => by rw [h n (by omega), loop_of_trips p C S M A init f h0 h n (by omega)]; rfl

set_option maxHeartbeats 4000000 in
/-- A trip of loop 1 over the buffers' contents. -/
theorem trip1_eq (𝒱 c bd i arg1 harg1 arg2 harg2 arg3 harg3 arg4 harg4 arg5 harg5 arg6 harg6 arg7 harg7 arg8 harg8  X1 X3 X7 X8 k acc) :
    tripR_k0_t1 (F := F) 𝒱 c bd i arg1 harg1 arg2 harg2 arg3 harg3 arg4 harg4 arg5 harg5 arg6 harg6 arg7 harg7 arg8 harg8  X1 X3 X7 X8 k acc =
      tripV (F := F) 0 (arg3.view.read (Elt F) X3) (arg7.view.read (Elt F) X7) (arg8.view.read (Elt F) X8) (arg1.view.read (Elt F) X1) k.val acc := by
  unfold tripR_k0_t1 trip_k0_t1
  exact stepV_congr acc
    (setRead arg3.view arg7.view arg8.view X3 X7 X8 (k0_off1_inb k) (k0_off2_inb k) (8 * k.val) 0 (k0_off1_eq k) (k0_off2_eq k))
    (setRead arg3.view arg7.view arg8.view X3 X7 X8 (k0_off3_inb k) (k0_off4_inb k) (8 * k.val + 4) 0
      (fun r s => (k0_off3_eq k r s).trans (off_add _ _ _ _)) (k0_off4_eq k))
    (setRead arg3.view arg7.view arg8.view X3 X7 X8 (k0_off5_inb k) (k0_off6_inb k) (8 * k.val) 1 (k0_off5_eq k) (k0_off6_eq k))
    (setRead arg3.view arg7.view arg8.view X3 X7 X8 (k0_off7_inb k) (k0_off8_inb k) (8 * k.val + 4) 1
      (fun r s => (k0_off7_eq k r s).trans (off_add _ _ _ _)) (k0_off8_eq k))
    (readA arg1.view (k0_off9_inb k) X1 k.val (k0_off9_eq k))

/-- Loop 1 over the buffers' contents. -/
theorem loop1_eq (𝒱 c bd i arg1 harg1 arg2 harg2 arg3 harg3 arg4 harg4 arg5 harg5 arg6 harg6 arg7 harg7 arg8 harg8  X1 X3 X7 X8 init n) (hn : n ≤ 13) :
    st_k0_t1 (F := F) 𝒱 c bd i arg1 harg1 arg2 harg2 arg3 harg3 arg4 harg4 arg5 harg5 arg6 harg6 arg7 harg7 arg8 harg8  X1 X3 X7 X8 init n =
      loopV (F := F) 0 (arg3.view.read (Elt F) X3) (arg7.view.read (Elt F) X7) (arg8.view.read (Elt F) X8) (arg1.view.read (Elt F) X1) init n :=
  loop_of_trips 0 _ _ _ _ init _ rfl
    (fun n hn => by
      have hk : n < k0_t1_loop.trips := lt_of_lt_of_eq hn (by decide)
      rw [show n + 1 = (⟨n, hk⟩ : Fin k0_t1_loop.trips).val + 1 from rfl, st_k0_t1_succ, trip1_eq]) n hn

set_option maxHeartbeats 4000000 in
/-- A trip of loop 2 over the buffers' contents. -/
theorem trip2_eq (𝒱 c bd i arg1 harg1 arg2 harg2 arg3 harg3 arg4 harg4 arg5 harg5 arg6 harg6 arg7 harg7 arg8 harg8 v14 v18 v113 v122 v131 v140 v149 v163 v166 v175 v178 v192 v195 v201 X1 X3 X7 X8 k acc) :
    tripR_k0_t2 (F := F) 𝒱 c bd i arg1 harg1 arg2 harg2 arg3 harg3 arg4 harg4 arg5 harg5 arg6 harg6 arg7 harg7 arg8 harg8 v14 v18 v113 v122 v131 v140 v149 v163 v166 v175 v178 v192 v195 v201 X1 X3 X7 X8 k acc =
      tripV (F := F) 1 (arg3.view.read (Elt F) X3) (arg7.view.read (Elt F) X7) (arg8.view.read (Elt F) X8) (arg1.view.read (Elt F) X1) k.val acc := by
  unfold tripR_k0_t2 trip_k0_t2
  exact stepV_congr acc
    (setRead arg3.view arg7.view arg8.view X3 X7 X8 (k0_off10_inb k) (k0_off11_inb k) (8 * k.val) 2 (k0_off10_eq k) (k0_off11_eq k))
    (setRead arg3.view arg7.view arg8.view X3 X7 X8 (k0_off12_inb k) (k0_off13_inb k) (8 * k.val + 4) 2
      (fun r s => (k0_off12_eq k r s).trans (off_add _ _ _ _)) (k0_off13_eq k))
    (setRead arg3.view arg7.view arg8.view X3 X7 X8 (k0_off14_inb k) (k0_off15_inb k) (8 * k.val) 3 (k0_off14_eq k) (k0_off15_eq k))
    (setRead arg3.view arg7.view arg8.view X3 X7 X8 (k0_off16_inb k) (k0_off17_inb k) (8 * k.val + 4) 3
      (fun r s => (k0_off16_eq k r s).trans (off_add _ _ _ _)) (k0_off17_eq k))
    (readA arg1.view (k0_off18_inb k) X1 k.val (k0_off18_eq k))

/-- Loop 2 over the buffers' contents. -/
theorem loop2_eq (𝒱 c bd i arg1 harg1 arg2 harg2 arg3 harg3 arg4 harg4 arg5 harg5 arg6 harg6 arg7 harg7 arg8 harg8 v14 v18 v113 v122 v131 v140 v149 v163 v166 v175 v178 v192 v195 v201 X1 X3 X7 X8 init n) (hn : n ≤ 13) :
    st_k0_t2 (F := F) 𝒱 c bd i arg1 harg1 arg2 harg2 arg3 harg3 arg4 harg4 arg5 harg5 arg6 harg6 arg7 harg7 arg8 harg8 v14 v18 v113 v122 v131 v140 v149 v163 v166 v175 v178 v192 v195 v201 X1 X3 X7 X8 init n =
      loopV (F := F) 1 (arg3.view.read (Elt F) X3) (arg7.view.read (Elt F) X7) (arg8.view.read (Elt F) X8) (arg1.view.read (Elt F) X1) init n :=
  loop_of_trips 1 _ _ _ _ init _ rfl
    (fun n hn => by
      have hk : n < k0_t2_loop.trips := lt_of_lt_of_eq hn (by decide)
      rw [show n + 1 = (⟨n, hk⟩ : Fin k0_t2_loop.trips).val + 1 from rfl, st_k0_t2_succ, trip2_eq]) n hn

set_option maxHeartbeats 4000000 in
/-- A trip of loop 3 over the buffers' contents. -/
theorem trip3_eq (𝒱 c bd i arg1 harg1 arg2 harg2 arg3 harg3 arg4 harg4 arg5 harg5 arg6 harg6 arg7 harg7 arg8 harg8 v416 X1 X3 X7 X8 k acc) :
    tripR_k0_t3 (F := F) 𝒱 c bd i arg1 harg1 arg2 harg2 arg3 harg3 arg4 harg4 arg5 harg5 arg6 harg6 arg7 harg7 arg8 harg8 v416 X1 X3 X7 X8 k acc =
      tripV (F := F) 2 (arg3.view.read (Elt F) X3) (arg7.view.read (Elt F) X7) (arg8.view.read (Elt F) X8) (arg1.view.read (Elt F) X1) k.val acc := by
  unfold tripR_k0_t3 trip_k0_t3
  exact stepV_congr acc
    (setRead arg3.view arg7.view arg8.view X3 X7 X8 (k0_off19_inb k) (k0_off20_inb k) (8 * k.val) 4 (k0_off19_eq k) (k0_off20_eq k))
    (setRead arg3.view arg7.view arg8.view X3 X7 X8 (k0_off21_inb k) (k0_off22_inb k) (8 * k.val + 4) 4
      (fun r s => (k0_off21_eq k r s).trans (off_add _ _ _ _)) (k0_off22_eq k))
    (setRead arg3.view arg7.view arg8.view X3 X7 X8 (k0_off23_inb k) (k0_off24_inb k) (8 * k.val) 5 (k0_off23_eq k) (k0_off24_eq k))
    (setRead arg3.view arg7.view arg8.view X3 X7 X8 (k0_off25_inb k) (k0_off26_inb k) (8 * k.val + 4) 5
      (fun r s => (k0_off25_eq k r s).trans (off_add _ _ _ _)) (k0_off26_eq k))
    (readA arg1.view (k0_off27_inb k) X1 k.val (k0_off27_eq k))

/-- Loop 3 over the buffers' contents. -/
theorem loop3_eq (𝒱 c bd i arg1 harg1 arg2 harg2 arg3 harg3 arg4 harg4 arg5 harg5 arg6 harg6 arg7 harg7 arg8 harg8 v416 X1 X3 X7 X8 init n) (hn : n ≤ 13) :
    st_k0_t3 (F := F) 𝒱 c bd i arg1 harg1 arg2 harg2 arg3 harg3 arg4 harg4 arg5 harg5 arg6 harg6 arg7 harg7 arg8 harg8 v416 X1 X3 X7 X8 init n =
      loopV (F := F) 2 (arg3.view.read (Elt F) X3) (arg7.view.read (Elt F) X7) (arg8.view.read (Elt F) X8) (arg1.view.read (Elt F) X1) init n :=
  loop_of_trips 2 _ _ _ _ init _ rfl
    (fun n hn => by
      have hk : n < k0_t3_loop.trips := lt_of_lt_of_eq hn (by decide)
      rw [show n + 1 = (⟨n, hk⟩ : Fin k0_t3_loop.trips).val + 1 from rfl, st_k0_t3_succ, trip3_eq]) n hn

set_option maxHeartbeats 4000000 in
/-- A trip of loop 4 over the buffers' contents. -/
theorem trip4_eq (𝒱 c bd i arg1 harg1 arg2 harg2 arg3 harg3 arg4 harg4 arg5 harg5 arg6 harg6 arg7 harg7 arg8 harg8 v418 v422 v517 v526 v535 v544 v553 v567 v570 v579 v582 X1 X3 X7 X8 k acc) :
    tripR_k0_t4 (F := F) 𝒱 c bd i arg1 harg1 arg2 harg2 arg3 harg3 arg4 harg4 arg5 harg5 arg6 harg6 arg7 harg7 arg8 harg8 v418 v422 v517 v526 v535 v544 v553 v567 v570 v579 v582 X1 X3 X7 X8 k acc =
      tripV (F := F) 3 (arg3.view.read (Elt F) X3) (arg7.view.read (Elt F) X7) (arg8.view.read (Elt F) X8) (arg1.view.read (Elt F) X1) k.val acc := by
  unfold tripR_k0_t4 trip_k0_t4
  exact stepV_congr acc
    (setRead arg3.view arg7.view arg8.view X3 X7 X8 (k0_off28_inb k) (k0_off29_inb k) (8 * k.val) 6 (k0_off28_eq k) (k0_off29_eq k))
    (setRead arg3.view arg7.view arg8.view X3 X7 X8 (k0_off30_inb k) (k0_off31_inb k) (8 * k.val + 4) 6
      (fun r s => (k0_off30_eq k r s).trans (off_add _ _ _ _)) (k0_off31_eq k))
    (setRead arg3.view arg7.view arg8.view X3 X7 X8 (k0_off32_inb k) (k0_off33_inb k) (8 * k.val) 7 (k0_off32_eq k) (k0_off33_eq k))
    (setRead arg3.view arg7.view arg8.view X3 X7 X8 (k0_off34_inb k) (k0_off35_inb k) (8 * k.val + 4) 7
      (fun r s => (k0_off34_eq k r s).trans (off_add _ _ _ _)) (k0_off35_eq k))
    (readA arg1.view (k0_off36_inb k) X1 k.val (k0_off36_eq k))

/-- Loop 4 over the buffers' contents. -/
theorem loop4_eq (𝒱 c bd i arg1 harg1 arg2 harg2 arg3 harg3 arg4 harg4 arg5 harg5 arg6 harg6 arg7 harg7 arg8 harg8 v418 v422 v517 v526 v535 v544 v553 v567 v570 v579 v582 X1 X3 X7 X8 init n) (hn : n ≤ 13) :
    st_k0_t4 (F := F) 𝒱 c bd i arg1 harg1 arg2 harg2 arg3 harg3 arg4 harg4 arg5 harg5 arg6 harg6 arg7 harg7 arg8 harg8 v418 v422 v517 v526 v535 v544 v553 v567 v570 v579 v582 X1 X3 X7 X8 init n =
      loopV (F := F) 3 (arg3.view.read (Elt F) X3) (arg7.view.read (Elt F) X7) (arg8.view.read (Elt F) X8) (arg1.view.read (Elt F) X1) init n :=
  loop_of_trips 3 _ _ _ _ init _ rfl
    (fun n hn => by
      have hk : n < k0_t4_loop.trips := lt_of_lt_of_eq hn (by decide)
      rw [show n + 1 = (⟨n, hk⟩ : Fin k0_t4_loop.trips).val + 1 from rfl, st_k0_t4_succ, trip4_eq]) n hn

set_option maxHeartbeats 4000000 in
/-- A trip of loop 5 over the buffers' contents. -/
theorem trip5_eq (𝒱 c bd i arg1 harg1 arg2 harg2 arg3 harg3 arg4 harg4 arg5 harg5 arg6 harg6 arg7 harg7 arg8 harg8 v620 v624 v719 v728 v737 v746 v755 v769 v772 v781 v784 v791 v798 v800 X1 X3 X7 X8 k acc) :
    tripR_k0_t5 (F := F) 𝒱 c bd i arg1 harg1 arg2 harg2 arg3 harg3 arg4 harg4 arg5 harg5 arg6 harg6 arg7 harg7 arg8 harg8 v620 v624 v719 v728 v737 v746 v755 v769 v772 v781 v784 v791 v798 v800 X1 X3 X7 X8 k acc =
      tripV (F := F) 4 (arg3.view.read (Elt F) X3) (arg7.view.read (Elt F) X7) (arg8.view.read (Elt F) X8) (arg1.view.read (Elt F) X1) k.val acc := by
  unfold tripR_k0_t5 trip_k0_t5
  exact stepV_congr acc
    (setRead arg3.view arg7.view arg8.view X3 X7 X8 (k0_off37_inb k) (k0_off38_inb k) (8 * k.val) 8 (k0_off37_eq k) (k0_off38_eq k))
    (setRead arg3.view arg7.view arg8.view X3 X7 X8 (k0_off39_inb k) (k0_off40_inb k) (8 * k.val + 4) 8
      (fun r s => (k0_off39_eq k r s).trans (off_add _ _ _ _)) (k0_off40_eq k))
    (setRead arg3.view arg7.view arg8.view X3 X7 X8 (k0_off41_inb k) (k0_off42_inb k) (8 * k.val) 9 (k0_off41_eq k) (k0_off42_eq k))
    (setRead arg3.view arg7.view arg8.view X3 X7 X8 (k0_off43_inb k) (k0_off44_inb k) (8 * k.val + 4) 9
      (fun r s => (k0_off43_eq k r s).trans (off_add _ _ _ _)) (k0_off44_eq k))
    (readA arg1.view (k0_off45_inb k) X1 k.val (k0_off45_eq k))

/-- Loop 5 over the buffers' contents. -/
theorem loop5_eq (𝒱 c bd i arg1 harg1 arg2 harg2 arg3 harg3 arg4 harg4 arg5 harg5 arg6 harg6 arg7 harg7 arg8 harg8 v620 v624 v719 v728 v737 v746 v755 v769 v772 v781 v784 v791 v798 v800 X1 X3 X7 X8 init n) (hn : n ≤ 13) :
    st_k0_t5 (F := F) 𝒱 c bd i arg1 harg1 arg2 harg2 arg3 harg3 arg4 harg4 arg5 harg5 arg6 harg6 arg7 harg7 arg8 harg8 v620 v624 v719 v728 v737 v746 v755 v769 v772 v781 v784 v791 v798 v800 X1 X3 X7 X8 init n =
      loopV (F := F) 4 (arg3.view.read (Elt F) X3) (arg7.view.read (Elt F) X7) (arg8.view.read (Elt F) X8) (arg1.view.read (Elt F) X1) init n :=
  loop_of_trips 4 _ _ _ _ init _ rfl
    (fun n hn => by
      have hk : n < k0_t5_loop.trips := lt_of_lt_of_eq hn (by decide)
      rw [show n + 1 = (⟨n, hk⟩ : Fin k0_t5_loop.trips).val + 1 from rfl, st_k0_t5_succ, trip5_eq]) n hn

end Cert.KernelDownIdeal.RefValue
-- ==== Proof.DownSum.lean ====
/- The down product's loops at an index: the steps and the last half step as one sum over the contracted axis. -/
module

public import proofs.«01_k».proof.Proof.DownDeq

@[expose] public section

noncomputable section

namespace Cert.KernelDownIdeal.RefValue

open Idealize.ShloMosaic Cert.KernelDownIdeal Cert.KernelDownIdeal.Gen
open Cert.KernelIdeal.RefValue (rowV pairV setV code place place_lt place_inj src setV_apply)
open scoped BigOperators

/-- The weight of contracted index `κ` and column `col` of a window: the code's half byte times the group's scale, plus
    its minimum. -/
def wt (C : Vec Ideal S108x2x10x8x128 .i8) (sc mn : Fin 108 → Fin 1280 → EReal) (κ : Fin 3456) (col : Fin 1280) : EReal :=
  code (C (ix5 ⟨κ.val / 32, by have := κ.isLt; omega⟩ ⟨κ.val / 8 % 2, by omega⟩ ⟨col.val / 128, by have := col.isLt; omega⟩
      ⟨κ.val % 8, by omega⟩ ⟨col.val % 128, by omega⟩)) (4 * (κ.val / 16 % 2))
    * sc ⟨κ.val / 32, by have := κ.isLt; omega⟩ col + mn ⟨κ.val / 32, by have := κ.isLt; omega⟩ col

/-- Where a stored column comes from is a column. -/
theorem src_lt {x : ℕ} (h : x < 3456) : src x < 3456 := by
  have := place_lt (ρ := x % 128) (by omega)
  unfold src; omega

/-- A load of one scale row reads the buffer at that group and column. -/
theorem ldS_apply (S : Vec Ideal S108x2x1280 .bf16) (sc : Fin 108 → Fin 1280 → EReal) (hS : ∀ g p l, S (ix3 g p l) = sc g l)
    (g n : ℕ) (hg : g < 108) (hn : n < 10) (p : Fin 2) (l : Fin 128) :
    ldS S g n (ix3 0 p l) = sc ⟨g, hg⟩ ⟨128 * n + l.val, by have := l.isLt; omega⟩ := by
  have e : ldS S g n (ix3 0 p l) = S (ix3 ⟨g % 108, Nat.mod_lt _ (by decide)⟩ p ⟨(128 * n + l.val) % 1280, Nat.mod_lt _ (by decide)⟩) := rfl
  rw [e, hS]
  have e1 : (⟨g % 108, Nat.mod_lt _ (by decide)⟩ : Fin 108) = ⟨g, hg⟩ := Fin.ext (Nat.mod_eq_of_lt hg)
  have e2 : (⟨(128 * n + l.val) % 1280, Nat.mod_lt _ (by decide)⟩ : Fin 1280) = ⟨128 * n + l.val, by have := l.isLt; omega⟩ :=
    Fin.ext (Nat.mod_eq_of_lt (by have := l.isLt; omega))
  rw [e1, e2]

/-- The weights of one set of four groups, at a row and a column: those of the rows the stored order puts there. -/
theorem weightV_apply (C : Vec Ideal S108x2x10x8x128 .i8) (S M : Vec Ideal S108x2x1280 .bf16) (sc mn : Fin 108 → Fin 1280 → EReal)
    (hS : ∀ g p l, S (ix3 g p l) = sc g l) (hM : ∀ g p l, M (ix3 g p l) = mn g l) (b n : ℕ) (hb : b < 27) (hn : n < 10) (ρ l : Fin 128) :
    weightV C S M (4 * b) n (ix2 ρ l) =
      wt C sc mn ⟨src (128 * b + ρ.val), src_lt (by omega)⟩ ⟨128 * n + l.val, by have := l.isLt; omega⟩ := by
  have hp := place_lt ρ.isLt
  have hl := l.isLt
  have hsrc : src (128 * b + ρ.val) = 128 * b + place ρ.val := by
    unfold src
    rw [show (128 * b + ρ.val) / 128 = b by omega, show (128 * b + ρ.val) % 128 = ρ.val by omega]
  unfold weightV
  have kS : ∀ e : Fin 4, ∀ (p : Fin 2) (l : Fin 128), ldS S (4 * b + e.val) n (ix3 0 p l) =
      sc ⟨4 * b + e.val, by have := e.isLt; omega⟩ ⟨128 * n + l.val, by have := l.isLt; omega⟩ :=
    fun e p l => ldS_apply S sc hS (4 * b + e.val) n (by have := e.isLt; omega) hn p l
  have kM : ∀ e : Fin 4, ∀ (p : Fin 2) (l : Fin 128), ldS M (4 * b + e.val) n (ix3 0 p l) =
      mn ⟨4 * b + e.val, by have := e.isLt; omega⟩ ⟨128 * n + l.val, by have := l.isLt; omega⟩ :=
    fun e p l => ldS_apply M mn hM (4 * b + e.val) n (by have := e.isLt; omega) hn p l
  refine (setV_apply (ldS S (4 * b) n) _ (ldS M (4 * b) n) _ _ _ _ _ _
    (fun e l => sc ⟨4 * b + e.val, by have := e.isLt; omega⟩ ⟨128 * n + l.val, by have := l.isLt; omega⟩)
    (fun e l => mn ⟨4 * b + e.val, by have := e.isLt; omega⟩ ⟨128 * n + l.val, by have := l.isLt; omega⟩)
    (fun p l => ⟨kS 0 p l, kS 1 p l, kS 2 p l, kS 3 p l⟩)
    (fun p l => ⟨kM 0 p l, kM 1 p l, kM 2 p l, kM 3 p l⟩) ρ l).trans ?_
  have e : ∀ a : Fin 4, ∀ q : Fin 2, ∀ s : Fin 8, ldC (F := Ideal) C (4 * b) n (ix5 a q 0 s l) =
      C (ix5 ⟨(4 * b + a.val) % 108, Nat.mod_lt _ (by decide)⟩ q ⟨n % 10, Nat.mod_lt _ (by decide)⟩ s l) := fun _ _ _ => rfl
  rw [e]
  unfold wt
  have g1 : (128 * b + place ρ.val) / 32 % 108 = (128 * b + place ρ.val) / 32 := by omega
  have g2 : 4 * b + place ρ.val / 32 = (128 * b + place ρ.val) / 32 := by omega
  have g3 : place ρ.val / 8 % 2 = (128 * b + place ρ.val) / 8 % 2 := by omega
  have g4 : place ρ.val % 8 = (128 * b + place ρ.val) % 8 := by omega
  have g5 : place ρ.val / 16 % 2 = (128 * b + place ρ.val) / 16 % 2 := by omega
  have g6 : n % 10 = (128 * n + l.val) / 128 := by omega
  have g7 : l = ⟨(128 * n + l.val) % 128, by omega⟩ := Fin.ext (by dsimp only; omega)
  simp only [hsrc, g2, g1, g3, g4, g5, g6]
  rw [← g7]

/-- The weight of a stored row in a pair's column. -/
def wp (C : Vec Ideal S108x2x10x8x128 .i8) (sc mn : Fin 108 → Fin 1280 → EReal) (p : Fin 5) (κ : Fin 3456) (c : Fin 256) : EReal :=
  wt C sc mn κ ⟨256 * p.val + c.val, by omega⟩

/-- Two tiles' weights side by side, at a row and a pair's column. -/
theorem pair_apply (C : Vec Ideal S108x2x10x8x128 .i8) (S M : Vec Ideal S108x2x1280 .bf16) (sc mn : Fin 108 → Fin 1280 → EReal)
    (hS : ∀ g p l, S (ix3 g p l) = sc g l) (hM : ∀ g p l, M (ix3 g p l) = mn g l) (b : ℕ) (hb : b < 27) (p : Fin 5) (ρ : Fin 128) (c : Fin 256) :
    (if h : c.val < 128 then weightV C S M (4 * b) (2 * p.val) (ix2 ρ ⟨c.val, h⟩)
      else weightV C S M (4 * b) (2 * p.val + 1) (ix2 ρ ⟨c.val - 128, by omega⟩))
    = wp C sc mn p ⟨src (128 * b + ρ.val), src_lt (by omega)⟩ c := by
  unfold wp
  split
  · rw [weightV_apply C S M sc mn hS hM b _ hb (by omega)]
    exact congrArg _ (Fin.ext (by show 128 * (2 * p.val) + c.val = 256 * p.val + c.val; omega))
  · rw [weightV_apply C S M sc mn hS hM b _ hb (by omega)]
    exact congrArg _ (Fin.ext (by show 128 * (2 * p.val + 1) + (c.val - 128) = 256 * p.val + c.val; omega))

/-- The contribution of stored column `x` to a row and a column of the product. -/
def term (Hn W : Fin 3456 → EReal) (x : ℕ) : EReal :=
  if h : x < 3456 then Hn ⟨src x, src_lt h⟩ * W ⟨src x, src_lt h⟩ else 0

/-- One step at an index. -/
theorem stepV_apply (acc : FVec Ideal S128x256 .f32) (w00 w01 w10 w11 : FVec Ideal S128x128 .bf16) (a : FVec Ideal S128x256 .bf16)
    (r : Fin 128) (c : Fin 256) :
    stepV acc w00 w01 w10 w11 a (ix2 r c) =
      acc (ix2 r c) +
        ((∑ x : Fin 128, a (ix2 r ⟨x.val, by omega⟩) * (if h : c.val < 128 then w00 (ix2 x ⟨c.val, h⟩) else w10 (ix2 x ⟨c.val - 128, by omega⟩))) +
          ∑ x : Fin 128, a (ix2 r ⟨128 + x.val, by omega⟩) * (if h : c.val < 128 then w01 (ix2 x ⟨c.val, h⟩) else w11 (ix2 x ⟨c.val - 128, by omega⟩))) := by
  unfold stepV
  pointwise

/-- The last half step and the input added, at an index. -/
theorem tailV_apply (x acc : FVec Ideal S128x256 .f32) (w0 w1 : FVec Ideal S128x128 .bf16) (a : FVec Ideal S128x128 .bf16)
    (r : Fin 128) (c : Fin 256) :
    tailV x acc w0 w1 a (ix2 r c) =
      x (ix2 r c) + (acc (ix2 r c) +
        ∑ y : Fin 128, a (ix2 r y) * (if h : c.val < 128 then w0 (ix2 y ⟨c.val, h⟩) else w1 (ix2 y ⟨c.val - 128, by omega⟩))) := by
  unfold tailV
  pointwise

/-- The stored order of the columns is a rearrangement. -/
theorem src_bij : Function.Bijective fun x : Fin 3456 => (⟨src x.val, src_lt x.isLt⟩ : Fin 3456) := by
  refine (Finite.injective_iff_bijective).1 fun a b h => ?_
  have h' : src a.val = src b.val := congrArg Fin.val h
  have pa := place_lt (ρ := a.val % 128) (by omega)
  have pb := place_lt (ρ := b.val % 128) (by omega)
  unfold src at h'
  have h1 : a.val / 128 = b.val / 128 := by omega
  have h2 : a.val % 128 = b.val % 128 := place_inj (by omega) (by omega) (by omega)
  exact Fin.ext (by omega)

section Loop

variable (p : Fin 5) (C : Vec Ideal S108x2x10x8x128 .i8) (S M : Vec Ideal S108x2x1280 .bf16) (A : Vec Ideal S128x3456 .bf16)
  (sc mn : Fin 108 → Fin 1280 → EReal) (Hn : Fin 128 → Fin 3456 → EReal)
  (hS : ∀ g p l, S (ix3 g p l) = sc g l) (hM : ∀ g p l, M (ix3 g p l) = mn g l)
  (hA : ∀ (r : Fin 128) (x : Fin 3456), A (ix2 r x) = Hn r ⟨src x.val, src_lt x.isLt⟩)

include hS hM hA

/-- The steps at an index, over the stored order of the columns. -/
theorem loopV_range (init : FVec Ideal S128x256 .f32) (r : Fin 128) (c : Fin 256) : ∀ n, n ≤ 13 →
    loopV p.val C S M A init n (ix2 r c) =
      init (ix2 r c) + ∑ x ∈ Finset.range (256 * n), term (Hn r) (fun κ => wp C sc mn p κ c) x
  | 0, _ => by simp [loopV]
  | n + 1, hn => by
    have hT : ∀ x (h : x < 3456), term (Hn r) (fun κ => wp C sc mn p κ c) x = Hn r ⟨src x, src_lt h⟩ * wp C sc mn p ⟨src x, src_lt h⟩ c := by
      intro x h; unfold term; rw [dif_pos h]
    have hh : ∀ x : Fin 256, ldA A n (ix2 r x) = Hn r ⟨src (256 * n + x.val), src_lt (by omega)⟩ := by
      intro x
      have e : ldA A n (ix2 r x) = A (ix2 r ⟨(256 * n + x.val) % 3456, Nat.mod_lt _ (by decide)⟩) := rfl
      have e2 : (⟨(256 * n + x.val) % 3456, Nat.mod_lt _ (by decide)⟩ : Fin 3456) = ⟨256 * n + x.val, by omega⟩ :=
        Fin.ext (Nat.mod_eq_of_lt (by omega))
      rw [e, e2, hA]
    have g0 : 8 * n = 4 * (2 * n) := by omega
    have g1 : 8 * n + 4 = 4 * (2 * n + 1) := by omega
    unfold loopV tripV
    rw [stepV_apply, loopV_range init r c n (by omega), g1, g0,
      show 256 * (n + 1) = 256 * n + 128 + 128 by omega, Finset.sum_range_add, Finset.sum_range_add,
      ← Fin.sum_univ_eq_sum_range (fun x => term (Hn r) (fun κ => wp C sc mn p κ c) (256 * n + x)),
      ← Fin.sum_univ_eq_sum_range (fun x => term (Hn r) (fun κ => wp C sc mn p κ c) (256 * n + 128 + x))]
    simp only [add_assoc]
    refine congrArg _ (congrArg _ (congrArg₂ (· + ·) (Finset.sum_congr rfl fun x _ => ?_) (Finset.sum_congr rfl fun x _ => ?_)))
    · rw [pair_apply C S M sc mn hS hM (2 * n) (by omega), hh, hT _ (by omega)]
      simp only [show 128 * (2 * n) = 256 * n by omega]
    · rw [pair_apply C S M sc mn hS hM (2 * n + 1) (by omega), hh, hT _ (by omega)]
      simp only [show 128 * (2 * n + 1) + x.val = 256 * n + (128 + x.val) by omega]

/-- An output tile at an index: the input plus the sum over the contracted axis in its own order. -/
theorem tile_apply (X init : FVec Ideal S128x256 .f32) (r : Fin 128) (c : Fin 256) :
    tailV X (loopV p.val C S M A init 13) (weightV C S M 104 (2 * p.val)) (weightV C S M 104 (2 * p.val + 1)) (ldT A) (ix2 r c)
      = X (ix2 r c) + (init (ix2 r c) + ∑ κ : Fin 3456, Hn r κ * wp C sc mn p κ c) := by
  have hT : ∀ x (h : x < 3456), term (Hn r) (fun κ => wp C sc mn p κ c) x = Hn r ⟨src x, src_lt h⟩ * wp C sc mn p ⟨src x, src_lt h⟩ c := by
    intro x h; unfold term; rw [dif_pos h]
  have hh : ∀ x : Fin 128, ldT A (ix2 r x) = Hn r ⟨src (3328 + x.val), src_lt (by omega)⟩ := fun x => hA r ⟨3328 + x.val, by omega⟩
  have hs : (∑ κ : Fin 3456, Hn r κ * wp C sc mn p κ c) = ∑ x ∈ Finset.range (256 * 13 + 128), term (Hn r) (fun κ => wp C sc mn p κ c) x := by
    rw [← Fin.sum_univ_eq_sum_range (fun x => term (Hn r) (fun κ => wp C sc mn p κ c) x) (256 * 13 + 128)]
    refine (src_bij.sum_comp (fun κ => Hn r κ * wp C sc mn p κ c)).symm.trans ?_
    exact Finset.sum_congr rfl fun x _ => (hT x.val x.isLt).symm
  rw [tailV_apply, loopV_range p C S M A sc mn Hn hS hM hA init r c 13 le_rfl, hs, Finset.sum_range_add,
    ← Fin.sum_univ_eq_sum_range (fun x => term (Hn r) (fun κ => wp C sc mn p κ c) (256 * 13 + x)), add_assoc]
  refine congrArg _ (congrArg _ (congrArg _ (Finset.sum_congr rfl fun x _ => ?_)))
  rw [show (104 : ℕ) = 4 * 26 from rfl, pair_apply C S M sc mn hS hM 26 (by omega), hh, hT _ (by omega)]

end Loop

end Cert.KernelDownIdeal.RefValue
-- ==== Proof.DownOut.lean ====
/- The down kernel's output block: the value each point leaves in every tile of it, over the windows' blocks. -/
module

public import proofs.«01_k».proof.Proof.DownSum
public import proofs.«01_k».proof.Proof.Gen.KernelDownIdeal.Value
public import Idealize.ShloMosaic.Lib.Pipeline.ValueKit
public import Idealize.ShloMosaic.Lib.Pipeline.ReadBack

@[expose] public section

noncomputable section

namespace Cert.KernelDownIdeal.RefValue

open Idealize.ShloMosaic Cert.KernelDownIdeal Cert.KernelDownIdeal.Gen
open Cert.KernelIdeal.RefValue (pairV setV)

variable {F : FTy → Type} [FloatOps F]

/-- A load of one row and one column tile of a scale buffer that was filled whole. -/
theorem covS (v : View sig .tc .vmem S108x2x1280 .bf16) (i0 : ∀ a, (![0, 0, 0] : Fin 3 → ℕ) a + S108x2x1280.size a ≤ S108x2x1280.size a)
    (Y : S108x2x1280.Idx → Elt F .bf16) (g n : ℕ) (inb : ∀ a, (![g, 0, 128 * n] : Fin 3 → ℕ) a + S1x2x128.size a ≤ S108x2x1280.size a) :
    v.readCov (Val := Elt F) [⟨Rect.unit (s := S108x2x1280) ![0, 0, 0] S108x2x1280.size i0, Y⟩]
      (Rect.unit (s := S108x2x1280) ![g, 0, 128 * n] S1x2x128.size inb).toLoadRect = ldS Y g n := by
  have h0 : g + 1 ≤ 108 := inb 0
  have h2 : 128 * n + 128 ≤ 1280 := inb 2
  rw [View.readCov_fill v i0 Y [] _ (by decide)]
  funext i
  idx_vars i
  unfold ldS
  pointwise
  congr 1
  have e0 : g % 108 = g := Nat.mod_eq_of_lt (by omega)
  have e2 : (128 * n + i2.val) % 1280 = 128 * n + i2.val := Nat.mod_eq_of_lt (by have := i2.isLt; omega)
  simp only [e0, e2]

/-- Four groups and one column tile of the codes' block. -/
theorem ldC_ld (X : Vec F S108x2x10x8x128 .i8) (g n : ℕ)
    (inb : ∀ a, (![g, 0, n, 0, 0] : Fin 5 → ℕ) a + S4x2x1x8x128.size a ≤ S108x2x10x8x128.size a) :
    View.ld (Val := Elt F) X (Rect.unit (s := S108x2x10x8x128) ![g, 0, n, 0, 0] S4x2x1x8x128.size inb) = ldC X g n := by
  have h0 : g + 4 ≤ 108 := inb 0
  have h2 : n + 1 ≤ 10 := inb 2
  funext i
  idx_vars i
  unfold ldC
  pointwise
  congr 1
  have e0 : (g + i0.val) % 108 = g + i0.val := Nat.mod_eq_of_lt (by have := i0.isLt; omega)
  have e2 : n % 10 = n := Nat.mod_eq_of_lt (by omega)
  simp only [e0, e2]

/-- The activations' last 128 columns. -/
theorem ldT_ld (X : Vec F S128x3456 .bf16) (inb : ∀ a, (![0, 3328] : Fin 2 → ℕ) a + S128x128.size a ≤ S128x3456.size a) :
    View.ld (Val := Elt F) X (Rect.unit (s := S128x3456) ![0, 3328] S128x128.size inb) = ldT X := by
  funext i
  idx_vars i
  unfold ldT
  pointwise

/-- Tile `p` of the block of the input added. -/
theorem ldX_ld (X : Vec F S128x1280 .f32) (p : ℕ) (inb : ∀ a, (![0, 256 * p] : Fin 2 → ℕ) a + S128x256.size a ≤ S128x1280.size a) :
    View.ld (Val := Elt F) X (Rect.unit (s := S128x1280) ![0, 256 * p] S128x256.size inb) = ldX X p := by
  have h1 : 256 * p + 256 ≤ 1280 := inb 1
  funext i
  idx_vars i
  unfold ldX
  pointwise
  congr 1
  have e1 : (256 * p + i1.val) % 1280 = 256 * p + i1.val := Nat.mod_eq_of_lt (by have := i1.isLt; omega)
  simp only [e1]

/-- The last four groups' weights in column tile `n`, from loads of the filled scale buffers and of the codes. -/
theorem setCov (n : ℕ) (vS vM : View sig .tc .vmem S108x2x1280 .bf16)
    (i0 : ∀ a, (![0, 0, 0] : Fin 3 → ℕ) a + S108x2x1280.size a ≤ S108x2x1280.size a)
    (C : Vec F S108x2x10x8x128 .i8) (S M : S108x2x1280.Idx → Elt F .bf16)
    (a0 : ∀ a, (![104, 0, 128 * n] : Fin 3 → ℕ) a + S1x2x128.size a ≤ S108x2x1280.size a)
    (a1 : ∀ a, (![105, 0, 128 * n] : Fin 3 → ℕ) a + S1x2x128.size a ≤ S108x2x1280.size a)
    (a2 : ∀ a, (![106, 0, 128 * n] : Fin 3 → ℕ) a + S1x2x128.size a ≤ S108x2x1280.size a)
    (a3 : ∀ a, (![107, 0, 128 * n] : Fin 3 → ℕ) a + S1x2x128.size a ≤ S108x2x1280.size a)
    (iC : ∀ a, (![104, 0, n, 0, 0] : Fin 5 → ℕ) a + S4x2x1x8x128.size a ≤ S108x2x10x8x128.size a) :
    setV
      (pairV (vS.readCov (Val := Elt F) [⟨Rect.unit (s := S108x2x1280) ![0, 0, 0] S108x2x1280.size i0, S⟩] (Rect.unit (s := S108x2x1280) ![104, 0, 128 * n] S1x2x128.size a0).toLoadRect)
        (vS.readCov (Val := Elt F) [⟨Rect.unit (s := S108x2x1280) ![0, 0, 0] S108x2x1280.size i0, S⟩] (Rect.unit (s := S108x2x1280) ![105, 0, 128 * n] S1x2x128.size a1).toLoadRect))
      (pairV (vM.readCov (Val := Elt F) [⟨Rect.unit (s := S108x2x1280) ![0, 0, 0] S108x2x1280.size i0, M⟩] (Rect.unit (s := S108x2x1280) ![104, 0, 128 * n] S1x2x128.size a0).toLoadRect)
        (vM.readCov (Val := Elt F) [⟨Rect.unit (s := S108x2x1280) ![0, 0, 0] S108x2x1280.size i0, M⟩] (Rect.unit (s := S108x2x1280) ![105, 0, 128 * n] S1x2x128.size a1).toLoadRect))
      (pairV (vS.readCov (Val := Elt F) [⟨Rect.unit (s := S108x2x1280) ![0, 0, 0] S108x2x1280.size i0, S⟩] (Rect.unit (s := S108x2x1280) ![106, 0, 128 * n] S1x2x128.size a2).toLoadRect)
        (vS.readCov (Val := Elt F) [⟨Rect.unit (s := S108x2x1280) ![0, 0, 0] S108x2x1280.size i0, S⟩] (Rect.unit (s := S108x2x1280) ![107, 0, 128 * n] S1x2x128.size a3).toLoadRect))
      (pairV (vM.readCov (Val := Elt F) [⟨Rect.unit (s := S108x2x1280) ![0, 0, 0] S108x2x1280.size i0, M⟩] (Rect.unit (s := S108x2x1280) ![106, 0, 128 * n] S1x2x128.size a2).toLoadRect)
        (vM.readCov (Val := Elt F) [⟨Rect.unit (s := S108x2x1280) ![0, 0, 0] S108x2x1280.size i0, M⟩] (Rect.unit (s := S108x2x1280) ![107, 0, 128 * n] S1x2x128.size a3).toLoadRect))
      (View.ld (Val := Elt F) C (Rect.unit (s := S108x2x10x8x128) ![104, 0, n, 0, 0] S4x2x1x8x128.size iC))
    = weightV C S M 104 n := by
  rw [covS, covS, covS, covS, covS, covS, covS, covS, ldC_ld]
  rfl

/-- A tile's equation from those of its input, its last two sets of weights and its last columns of activations. -/
theorem tailV_congr {x x' acc : FVec F S128x256 .f32} {w0 w0' w1 w1' a a' : FVec F S128x128 .bf16}
    (hx : x = x') (h0 : w0 = w0') (h1 : w1 = w1') (ha : a = a') : tailV x acc w0 w1 a = tailV x' acc w0' w1' a' := by
  rw [hx, h0, h1, ha]

section

variable {X : Vec F S128x256 .f32} {acc : FVec F S128x256 .f32} {T : Vec F S128x128 .bf16} {s0 s1 s2 s3 s4 s5 s6 s7 n0 n1 n2 n3 n4 n5 n6 n7 : Vec F S1x2x128 .bf16}
  {d0 d1 : Vec F S4x2x1x8x128 .i8}

/-- Tile 0's payload from its loads: the tail of the sum over its two sets of weights. -/
theorem pay0_eq :
    k0_pay449 X acc (k0_pay428 (k0_pay414 k0_pay411 (k0_pay412 s0) (k0_pay413 s0) s1) (k0_pay415 n0 n1) (k0_pay416 s2 s3) (k0_pay419 k0_pay417 n2
      (k0_pay418 n2) n3) (k0_pay422 (k0_pay414 k0_pay411 (k0_pay412 s0) (k0_pay413 s0) s1) (k0_pay415 n0 n1) d0) (k0_pay423 (k0_pay416 s2 s3) k0_pay417
      n2 (k0_pay418 n2) n3 d0) (k0_pay425 (k0_pay414 k0_pay411 (k0_pay412 s0) (k0_pay413 s0) s1) (k0_pay415 n0 n1) d0) (k0_pay426 (k0_pay416 s2 s3)
      k0_pay417 n2 (k0_pay418 n2) n3 d0) (k0_pay427 d0)) (k0_pay429 s4 s5) (k0_pay433 k0_pay430 (k0_pay431 n4) (k0_pay432 n4) n5) (k0_pay434 s6 s7)
      (k0_pay435 n6 n7) (k0_pay439 (k0_pay429 s4 s5) (k0_pay433 k0_pay430 (k0_pay431 n4) (k0_pay432 n4) n5) (k0_pay436 d1)) (k0_pay440 (k0_pay434 s6
      s7) (k0_pay435 n6 n7) (k0_pay436 d1)) (k0_pay442 (k0_pay429 s4 s5) (k0_pay433 k0_pay430 (k0_pay431 n4) (k0_pay432 n4) n5) (k0_pay436 d1))
      (k0_pay443 (k0_pay434 s6 s7) (k0_pay435 n6 n7) (k0_pay436 d1)) (k0_pay446 (k0_pay429 s4 s5) (k0_pay433 k0_pay430 (k0_pay431 n4) (k0_pay432 n4)
      n5) d1) (k0_pay447 (k0_pay434 s6 s7) (k0_pay435 n6 n7) d1) (k0_pay448 d1) T
      = tailV X acc (setV (pairV s0 s1) (pairV n0 n1) (pairV s2 s3) (pairV n2 n3) d0) (setV (pairV s4 s5) (pairV n4 n5) (pairV s6 s7) (pairV n6 n7) d1) T := rfl

/-- Tile 1's payload from its loads: the tail of the sum over its two sets of weights. -/
theorem pay1_eq :
    k0_pay480 X acc (k0_pay469 (k0_pay452 s0 s1) (k0_pay454 k0_pay453 n0 n1) (k0_pay455 s2 s3) (k0_pay456 n2 n3) (k0_pay459 (k0_pay452 s0 s1)
      (k0_pay454 k0_pay453 n0 n1) d0) (k0_pay460 (k0_pay455 s2 s3) (k0_pay456 n2 n3) d0) (k0_pay462 (k0_pay452 s0 s1) (k0_pay454 k0_pay453 n0 n1) d0)
      (k0_pay463 (k0_pay455 s2 s3) (k0_pay456 n2 n3) d0) (k0_pay466 (k0_pay452 s0 s1) (k0_pay454 k0_pay453 n0 n1) d0) (k0_pay467 (k0_pay455 s2 s3)
      (k0_pay456 n2 n3) d0) (k0_pay468 d0) 252645135#32) (k0_pay470 s4 s5) (k0_pay471 n4 n5) (k0_pay473 k0_pay472 s6 s7) (k0_pay474 n6 n7) (k0_pay475
      d1) (k0_pay477 (k0_pay470 s4 s5) (k0_pay471 n4 n5) d1) (k0_pay478 k0_pay472 s6 s7 n6 n7 d1) k0_pay479 d1 T
      = tailV X acc (setV (pairV s0 s1) (pairV n0 n1) (pairV s2 s3) (pairV n2 n3) d0) (setV (pairV s4 s5) (pairV n4 n5) (pairV s6 s7) (pairV n6 n7) d1) T := rfl

/-- Tile 2's payload from its loads: the tail of the sum over its two sets of weights. -/
theorem pay2_eq :
    k0_pay506 X acc (k0_pay492 (k0_pay483 s0 s1) (k0_pay484 n0 n1) (k0_pay486 (iota Kind.tc S8x128 32 [0] iota_S8x128_d0_w32) k0_pay485 s2 s3)
      (k0_pay487 n2 n3) (k0_pay488 d0) (k0_pay490 (k0_pay483 s0 s1) (k0_pay484 n0 n1) d0) (k0_pay491 d0) d0) (k0_pay494 k0_pay493 s4 s5) (k0_pay495 n4
      n5) (k0_pay496 s6 s7) (k0_pay498 (iota Kind.tc S8x128 32 [0] iota_S8x128_d0_w32) k0_pay497 n6 n7) (k0_pay501 (k0_pay494 k0_pay493 s4 s5)
      (k0_pay495 n4 n5) d1) (k0_pay502 (k0_pay496 s6 s7) (iota Kind.tc S8x128 32 [0] iota_S8x128_d0_w32) k0_pay497 n6 n7 d1) (k0_pay504 (k0_pay494
      k0_pay493 s4 s5) (k0_pay495 n4 n5) d1) (k0_pay505 (k0_pay496 s6 s7) (iota Kind.tc S8x128 32 [0] iota_S8x128_d0_w32) k0_pay497 n6 n7 d1) d1 T
      = tailV X acc (setV (pairV s0 s1) (pairV n0 n1) (pairV s2 s3) (pairV n2 n3) d0) (setV (pairV s4 s5) (pairV n4 n5) (pairV s6 s7) (pairV n6 n7) d1) T := rfl

/-- Tile 3's payload from its loads: the tail of the sum over its two sets of weights. -/
theorem pay3_eq :
    k0_pay542 X acc (k0_pay523 (k0_pay509 (iota Kind.tc S8x128 32 [0] iota_S8x128_d0_w32) (4#32) s0 s1) (k0_pay510 n0 n1) (k0_pay514 (k0_pay512 s2 s3)
      (k0_pay513 s2 s3)) (k0_pay515 n2 n3) (k0_pay518 (k0_pay509 (iota Kind.tc S8x128 32 [0] iota_S8x128_d0_w32) (4#32) s0 s1) (k0_pay510 n0 n1) d0)
      (k0_pay519 (k0_pay512 s2 s3) (k0_pay513 s2 s3) n2 n3 d0) (k0_pay521 (k0_pay509 (iota Kind.tc S8x128 32 [0] iota_S8x128_d0_w32) (4#32) s0 s1)
      (k0_pay510 n0 n1) d0) (k0_pay522 (k0_pay512 s2 s3) (k0_pay513 s2 s3) n2 n3 d0) d0) (k0_pay524 s4 s5) (k0_pay525 (iota Kind.tc S8x128 32 [0]
      iota_S8x128_d0_w32) (4#32) n4 n5) (k0_pay526 s6 s7) (k0_pay530 (k0_pay528 n6 n7) (k0_pay529 n6 n7)) (k0_pay533 (k0_pay524 s4 s5) (k0_pay525 (iota
      Kind.tc S8x128 32 [0] iota_S8x128_d0_w32) (4#32) n4 n5) d1) (k0_pay534 (k0_pay526 s6 s7) (k0_pay528 n6 n7) (k0_pay529 n6 n7) d1) (k0_pay536
      (k0_pay524 s4 s5) (k0_pay525 (iota Kind.tc S8x128 32 [0] iota_S8x128_d0_w32) (4#32) n4 n5) d1) (k0_pay537 (k0_pay526 s6 s7) (k0_pay528 n6 n7)
      (k0_pay529 n6 n7) d1) (k0_pay538 d1) (k0_pay540 (k0_pay524 s4 s5) (k0_pay525 (iota Kind.tc S8x128 32 [0] iota_S8x128_d0_w32) (4#32) n4 n5) d1)
      (k0_pay541 (k0_pay526 s6 s7) d1) T
      = tailV X acc (setV (pairV s0 s1) (pairV n0 n1) (pairV s2 s3) (pairV n2 n3) d0) (setV (pairV s4 s5) (pairV n4 n5) (pairV s6 s7) (pairV n6 n7) d1) T := rfl

/-- Tile 4's payload from its loads: the tail of the sum over its two sets of weights. -/
theorem pay4_eq :
    k0_pay1 X acc (k0_pay579 (k0_pay568 (k0_pay549 k0_pay545 (k0_pay546 s0) (k0_pay547 s1) (k0_pay548 s0 s1)) (k0_pay550 n0 n1) (k0_pay551 s2 s3)
      (k0_pay557 k0_pay552 (k0_pay553 n2) (k0_pay554 n2) (k0_pay555 n3) (k0_pay556 n3)) (k0_pay560 (k0_pay549 k0_pay545 (k0_pay546 s0) (k0_pay547 s1)
      (k0_pay548 s0 s1)) (k0_pay550 n0 n1) d0) (k0_pay561 (k0_pay551 s2 s3) k0_pay552 (k0_pay553 n2) (k0_pay554 n2) (k0_pay555 n3) (k0_pay556 n3) d0)
      (k0_pay563 (k0_pay549 k0_pay545 (k0_pay546 s0) (k0_pay547 s1) (k0_pay548 s0 s1)) (k0_pay550 n0 n1) d0) (k0_pay564 (k0_pay551 s2 s3) k0_pay552
      (k0_pay553 n2) (k0_pay554 n2) (k0_pay555 n3) (k0_pay556 n3) d0) (k0_pay565 d0) (k0_pay566 d0) (k0_pay567 d0)) (k0_pay569 s4 s5) (k0_pay574
      k0_pay570 (k0_pay571 n4) (k0_pay572 n5) (k0_pay573 n4 n5)) (k0_pay575 s6 s7) (k0_pay576 n6 n7) (k0_pay577 d1) (k0_pay578 d1) d1) T
      = tailV X acc (setV (pairV s0 s1) (pairV n0 n1) (pairV s2 s3) (pairV n2 n3) d0) (setV (pairV s4 s5) (pairV n4 n5) (pairV s6 s7) (pairV n6 n7) d1) T := rfl

end

/-- Tile `p` of the output block, over the blocks of the input, the codes, the scales, the minima and the activations. -/
def outT (X : Vec F S128x1280 .f32) (C : Vec F S108x2x10x8x128 .i8) (S M : Vec F S108x1280 .bf16) (A : Vec F S128x3456 .bf16) (p : ℕ) :
    FVec F S128x256 .bf16 :=
  tailV (ldX X p) (loopV p C (k0_pay407 S) (k0_pay408 M) A k0_pay409 13) (weightV C (k0_pay407 S) (k0_pay408 M) 104 (2 * p))
    (weightV C (k0_pay407 S) (k0_pay408 M) 104 (2 * p + 1)) (ldT A)

/-- A tile of 256 columns lies in the block's 1280. -/
theorem col_lt (p : Fin 5) (q : Fin 256) : 256 * p.val + q.val < 1280 := by omega

/-- Every loop makes thirteen trips. -/
theorem trips13 : Scf.trips (0#32) (Scalar.addi 0#32 13#32) 1#32 = 13 := by decide

variable (m : (ℓ : Loc nD τ sig) → Buf (Elt Ideal) ℓ)

set_option maxHeartbeats 1000000 in
/-- The output block after a point, tile by tile. -/
theorem out_eq (c : Dev nD) (t : Fin cfg0.N) (p : Fin 5) (r : Fin 128) (q : Fin 256) :
    outsAt0 m c t (ix2 r ⟨256 * p.val + q.val, col_lt p q⟩)
      = outT (iblk m c 1 t) (iblk m c 2 t) (iblk m c 3 t) (iblk m c 4 t) (iblk m c 0 t) p.val (ix2 r q) := by
  unfold outsAt0
  frame_out [trips13, loop1_eq, loop2_eq, loop3_eq, loop4_eq, loop5_eq, le_refl, read_unread_whole]
  have key : ∀ (n : ℕ) (x : S128x256.Idx), r.val = (x 0).val → 256 * p.val + q.val = 256 * n + (x 1).val → p.val = n ∧ ix2 r q = x := by
    intro n x h0 h1
    have hq := q.isLt
    have hx : (x 1).val < 256 := (x 1).isLt
    exact ⟨by omega, funext fun a => Fin.ext (match a with | ⟨0, _⟩ => h0 | ⟨1, _⟩ => show q.val = (x 1).val by omega)⟩
  canon_tiles x h
  · obtain ⟨hp, hx⟩ := key 4 x (by simpa using h0) (by simpa using h1)
    rw [hp, hx]
    refine (congrFun pay4_eq x).trans ?_
    exact congrFun (tailV_congr (ldX_ld (iblk m c 1 t) 4 _) (setCov 8 _ _ _ _ _ _ _ _ _ _ _) (setCov 9 _ _ _ _ _ _ _ _ _ _ _) (ldT_ld (iblk m c 0 t) _)) x
  · obtain ⟨hp, hx⟩ := key 3 x (by simpa using h0) (by simpa using h1)
    rw [hp, hx]
    refine (congrFun pay3_eq x).trans ?_
    exact congrFun (tailV_congr (ldX_ld (iblk m c 1 t) 3 _) (setCov 6 _ _ _ _ _ _ _ _ _ _ _) (setCov 7 _ _ _ _ _ _ _ _ _ _ _) (ldT_ld (iblk m c 0 t) _)) x
  · obtain ⟨hp, hx⟩ := key 2 x (by simpa using h0) (by simpa using h1)
    rw [hp, hx]
    refine (congrFun pay2_eq x).trans ?_
    exact congrFun (tailV_congr (ldX_ld (iblk m c 1 t) 2 _) (setCov 4 _ _ _ _ _ _ _ _ _ _ _) (setCov 5 _ _ _ _ _ _ _ _ _ _ _) (ldT_ld (iblk m c 0 t) _)) x
  · obtain ⟨hp, hx⟩ := key 1 x (by simpa using h0) (by simpa using h1)
    rw [hp, hx]
    refine (congrFun pay1_eq x).trans ?_
    exact congrFun (tailV_congr (ldX_ld (iblk m c 1 t) 1 _) (setCov 2 _ _ _ _ _ _ _ _ _ _ _) (setCov 3 _ _ _ _ _ _ _ _ _ _ _) (ldT_ld (iblk m c 0 t) _)) x
  · obtain ⟨hp, hx⟩ := key 0 x (by simpa using h0) (by simpa using h1)
    rw [hp, hx]
    refine (congrFun pay0_eq x).trans ?_
    exact congrFun (tailV_congr (ldX_ld (iblk m c 1 t) 0 _) (setCov 0 _ _ _ _ _ _ _ _ _ _ _) (setCov 1 _ _ _ _ _ _ _ _ _ _ _) (ldT_ld (iblk m c 0 t) _)) x

end Cert.KernelDownIdeal.RefValue
-- ==== Proof.DownRef.lean ====
/- What the down reference computes at an index. -/
module

public import proofs.«01_k».proof.Proof.UpRef
public import proofs.«01_k».proof.Proof.Gen.ReferenceDownIdeal.Read

@[expose] public section

noncomputable section

namespace Cert.ReferenceDownIdeal.RefValue

open Idealize.ShloMosaic Idealize.ShloMosaic.TcCoe Cert.ReferenceDownIdeal Cert.ReferenceDownIdeal.Gen Cert.ReferenceDownIdeal.Read
open Cert.KernelIdeal.RefValue (code place place_lt)
open Cert.ReferenceIdeal.RefValue (code_lo code_hi)
open Cert.ReferenceUpIdeal.RefValue (ixB ixB_pos place_bits)
open scoped BigOperators

/-- The two-axis contraction at an index. -/
theorem dot_apply (A : FVec Ideal S128x108x16 .bf16) (B : FVec Ideal S5120x108x16 .bf16) (r : Fin 128) (n : Fin 5120) :
    Host.dotGeneral (F := Ideal) (φ₁ := .bf16) (φ₂ := .bf16) dot_S128x108x16_S5120x108x16_S128x5120_12_12_0_0_n_n none A B (ix2 r n) =
      ∑ g : Fin 108, ∑ j : Fin 16, A (ix3 r g j) * B (ix3 n g j) := by
  pointwise

/-- The contracted axis of width 3456 is 108 groups of a low and a high half. -/
theorem sum_halves (f : Fin 3456 → EReal) :
    ∑ κ : Fin 3456, f κ =
      (∑ g : Fin 108, ∑ j : Fin 16, f ⟨32 * g.val + j.val, by omega⟩) + ∑ g : Fin 108, ∑ j : Fin 16, f ⟨32 * g.val + 16 + j.val, by omega⟩ := by
  rw [← (finProdFinEquiv (m := 108) (n := 32)).sum_comp f, Fintype.sum_prod_type, ← Finset.sum_add_distrib]
  refine Finset.sum_congr rfl fun g _ => ?_
  rw [Fin.sum_univ_add (a := 16) (b := 16)]
  refine congrArg₂ (· + ·) (Finset.sum_congr rfl fun j _ => congrArg f (Fin.ext ?_)) (Finset.sum_congr rfl fun j _ => congrArg f (Fin.ext ?_))
  · simp [finProdFinEquiv]; omega
  · simp [finProdFinEquiv]; omega

section

variable (x0 : (⟨S128x3456, .bf16⟩ : BufTy).Contents (Elt Ideal)) (x1 : (⟨S128x5120, .f32⟩ : BufTy).Contents (Elt Ideal))
  (x2 : (⟨S5120x108x16, .i8⟩ : BufTy).Contents (Elt Ideal)) (x3 x4 : (⟨S5120x108, .bf16⟩ : BufTy).Contents (Elt Ideal))

/-- The low half's weights. -/
theorem v15_apply (n : Fin 5120) (g : Fin 108) (j : Fin 16) :
    val_main_v15 (F := Ideal) x2 x3 x4 (ix3 n g j) = code (x2 (ix3 n g j)) 0 * x3 (ix2 n g) + x4 (ix2 n g) := by
  simp only [val_main_v15_apply, val_main_v14_apply, val_main_v13_apply, val_main_v12_apply,
    val_main_v11_apply, val_main_v10_apply, val_main_v9_apply, val_main_v8_apply, val_main_v7_apply, val_main_v6_apply, val_main_c_apply, code_lo, pointwise]
  refine congrArg₂ (· + ·) (congrArg (_ * ·) (congrArg x3 ?_)) (congrArg x4 ?_) <;>
    exact funext fun a => match a with | ⟨0, _⟩ => rfl | ⟨1, _⟩ => rfl

/-- The high half's weights. -/
theorem v23_apply (n : Fin 5120) (g : Fin 108) (j : Fin 16) :
    val_main_v23 (F := Ideal) x2 x3 x4 (ix3 n g j) = code (x2 (ix3 n g j)) 4 * x3 (ix2 n g) + x4 (ix2 n g) := by
  simp only [val_main_v23_apply, val_main_v22_apply, val_main_v21_apply, val_main_v20_apply,
    val_main_v19_apply, val_main_v18_apply, val_main_v17_apply, val_main_v16_apply, val_main_v7_apply, val_main_v6_apply, val_main_c_0_apply, code_hi, pointwise]
  refine congrArg₂ (· + ·) (congrArg (_ * ·) (congrArg x3 ?_)) (congrArg x4 ?_) <;>
    exact funext fun a => match a with | ⟨0, _⟩ => rfl | ⟨1, _⟩ => rfl

/-- The low half of a group of the activations. -/
theorem v4_apply (r : Fin 128) (g : Fin 108) (j : Fin 16) :
    val_main_v4 (F := Ideal) x0 (ix3 r g j) = val_main_v2 (F := Ideal) x0 (ix2 r ⟨32 * g.val + j.val, by omega⟩) := by
  simp only [val_main_v4_apply, val_main_v3_apply, pointwise]
  refine congrArg _ (funext fun a => Fin.ext ?_)
  match a with
  | ⟨0, _⟩ => show ((r.val * 108 + g.val) * 32 + j.val) / 3456 = r.val; omega
  | ⟨1, _⟩ => show ((r.val * 108 + g.val) * 32 + j.val) % 3456 = 32 * g.val + j.val; omega

/-- The high half of a group of the activations. -/
theorem v5_apply (r : Fin 128) (g : Fin 108) (j : Fin 16) :
    val_main_v5 (F := Ideal) x0 (ix3 r g j) = val_main_v2 (F := Ideal) x0 (ix2 r ⟨32 * g.val + 16 + j.val, by omega⟩) := by
  simp only [val_main_v5_apply, val_main_v3_apply, pointwise]
  refine congrArg _ (funext fun a => Fin.ext ?_)
  match a with
  | ⟨0, _⟩ => show ((r.val * 108 + g.val) * 32 + (16 + j.val)) / 3456 = r.val; omega
  | ⟨1, _⟩ => show ((r.val * 108 + g.val) * 32 + (16 + j.val)) % 3456 = 32 * g.val + 16 + j.val; omega

/-- The weight at row `κ` of the contracted axis and output column `n`. -/
def rwt (κ : Fin 3456) (n : Fin 5120) : EReal :=
  code (x2 (ix3 n ⟨κ.val / 32, by omega⟩ ⟨κ.val % 16, by omega⟩)) (4 * (κ.val / 16 % 2)) * x3 (ix2 n ⟨κ.val / 32, by omega⟩)
    + x4 (ix2 n ⟨κ.val / 32, by omega⟩)

/-- The down product at an index. -/
theorem v26_apply (r : Fin 128) (n : Fin 5120) :
    val_main_v26 (F := Ideal) x0 x2 x3 x4 (ix2 r n) = ∑ κ : Fin 3456, val_main_v2 (F := Ideal) x0 (ix2 r κ) * rwt x2 x3 x4 κ n := by
  rw [val_main_v26_apply, sum_halves]
  unfold val_main_v24 val_main_v25
  rw [dot_apply, dot_apply]
  refine congrArg₂ (· + ·) (Finset.sum_congr rfl fun g _ => Finset.sum_congr rfl fun j _ => ?_)
    (Finset.sum_congr rfl fun g _ => Finset.sum_congr rfl fun j _ => ?_)
  · rw [v4_apply, v15_apply]
    unfold rwt
    have e1 : (32 * g.val + j.val) / 32 = g.val := by omega
    have e2 : (32 * g.val + j.val) % 16 = j.val := by omega
    have e3 : (32 * g.val + j.val) / 16 % 2 = 0 := by omega
    simp only [e1, e2, e3, Nat.mul_zero]
  · rw [v5_apply, v23_apply]
    unfold rwt
    have e1 : (32 * g.val + 16 + j.val) / 32 = g.val := by omega
    have e2 : (32 * g.val + 16 + j.val) % 16 = j.val := by omega
    have e3 : (32 * g.val + 16 + j.val) / 16 % 2 = 1 := by omega
    simp only [e1, e2, e3, Nat.mul_one]

/-- The reference's result at an index: the input plus the product. -/
theorem v28_apply (r : Fin 128) (n : Fin 5120) :
    val_main_v28 (F := Ideal) x0 x1 x2 x3 x4 (ix2 r n)
      = x1 (ix2 r n) + ∑ κ : Fin 3456, val_main_v2 (F := Ideal) x0 (ix2 r κ) * rwt x2 x3 x4 κ n := by
  simp only [val_main_v28_apply, val_main_v27_apply, v26_apply, pointwise]

/-- The columns back in order: position `ρ` of a stored tile is column `place ρ`. -/
theorem v2_apply (r : Fin 128) (T : Fin 27) (ρ : Fin 128) :
    val_main_v2 (F := Ideal) x0 (ix2 r ⟨128 * T.val + place ρ.val, by have := place_lt ρ.isLt; omega⟩)
      = x0 (ix2 r ⟨128 * T.val + ρ.val, by omega⟩) := by
  have e : idx_main_v1 (ixB r T ⟨place ρ.val, place_lt ρ.isLt⟩) = ixB r T ρ := by
    obtain ⟨h4, h5, h3, h6, h2, h7⟩ := place_bits ρ
    exact funext fun a => Fin.ext (match a with
      | ⟨0, _⟩ => rfl
      | ⟨1, _⟩ => rfl
      | ⟨2, _⟩ => h2.symm
      | ⟨3, _⟩ => h3.symm
      | ⟨4, _⟩ => h4.symm
      | ⟨5, _⟩ => h5.symm
      | ⟨6, _⟩ => h6.symm
      | ⟨7, _⟩ => h7.symm)
  unfold val_main_v2
  rw [shapeCast_apply _ _ _ (ixB r T ⟨place ρ.val, place_lt ρ.isLt⟩) (ixB_pos r T ⟨place ρ.val, place_lt ρ.isLt⟩), val_main_v1_apply, e]
  unfold val_main_v0
  rw [shapeCast_apply _ _ _ (ix2 r ⟨128 * T.val + ρ.val, by omega⟩) (ixB_pos r T ρ).symm]

end

end Cert.ReferenceDownIdeal.RefValue
-- ==== Proof.DownBlock.lean ====
/- The down kernel's result at an index: what each window holds of the arguments, and the reference's sum in every tile. -/
module

public import proofs.«01_k».proof.Proof.DownOut
public import proofs.«01_k».proof.Proof.DownRef

@[expose] public section

noncomputable section

namespace Cert.KernelDownIdeal.RefValue

open Idealize.ShloMosaic Idealize.ShloMosaic.TcCoe Idealize.ShloMosaic.Pipeline Cert.KernelDownIdeal Cert.KernelDownIdeal.Gen Cert.KernelDownIdeal.Value Idealize.SL.Sem
open Cert.KernelIdeal.RefValue (code place place_lt src)
open Cert.ReferenceDownIdeal.RefValue (rwt v28_apply v2_apply)
open Cert.ReferenceDownIdeal.Read
open scoped BigOperators

variable (m : (ℓ : Loc nD τ sig) → Buf (Elt Ideal) ℓ)

/-- The grid has four points. -/
theorem lt4 (t : Fin cfg0.N) : t.val < 4 := lt_of_lt_of_eq t.isLt N_0

/-- Every window's block index at a point (decided). -/
theorem idx : ∀ t : Fin cfg0.N, win0_0.index t = ![0, 0] ∧ win0_1.index t = ![0, t.val]
    ∧ win0_2.index t = ![0, 0, t.val, 0, 0] ∧ win0_3.index t = ![0, t.val] ∧ win0_4.index t = ![0, t.val]
    ∧ win0_5.index t = ![0, t.val] :=
  (by decide +kernel : ∀ t : Fin grid0.N, _)

/-- The activations' window holds the activations. -/
theorem iblk0 (c : Dev nD) (t : Fin cfg0.N) (r : Fin 128) (κ : Fin 3456) :
    iblk m c 0 t (ix2 r κ) = m ((c : Thread nD τ).loc main_arg0) (ix2 r κ) := by
  blk_ext! [iblk, V, idx t]

/-- The added input's window holds the point's columns of it. -/
theorem iblk1 (c : Dev nD) (t : Fin cfg0.N) (r : Fin 128) (n : Fin 1280) (h : 1280 * t.val + n.val < 5120) :
    iblk m c 1 t (ix2 r n) = m ((c : Thread nD τ).loc main_arg1) (ix2 r ⟨1280 * t.val + n.val, h⟩) := by
  blk_ext! [iblk, V, idx t]

set_option maxHeartbeats 1000000 in
/-- The codes' window holds the point's 1280 columns of the codes, by group, half, tile, row and lane. -/
theorem iblk2 (c : Dev nD) (t : Fin cfg0.N) (g : Fin 108) (hi : Fin 2) (e : Fin 10) (s : Fin 8) (l : Fin 128) (h : 128 * (10 * t.val + e.val) + l.val < 5120) :
    iblk m c 2 t (ix5 g hi e s l) = m ((c : Thread nD τ).loc main_arg2) (ix3 ⟨128 * (10 * t.val + e.val) + l.val, h⟩ g ⟨8 * hi.val + s.val, by omega⟩) := by
  blk_ext! [iblk, V, idx t]

/-- The scales' window holds the point's columns of the scales. -/
theorem iblk3 (c : Dev nD) (t : Fin cfg0.N) (g : Fin 108) (n : Fin 1280) (h : 1280 * t.val + n.val < 5120) :
    iblk m c 3 t (ix2 g n) = m ((c : Thread nD τ).loc main_arg3) (ix2 ⟨1280 * t.val + n.val, h⟩ g) := by
  blk_ext! [iblk, V, idx t]

/-- The minima's window holds the point's columns of the minima. -/
theorem iblk4 (c : Dev nD) (t : Fin cfg0.N) (g : Fin 108) (n : Fin 1280) (h : 1280 * t.val + n.val < 5120) :
    iblk m c 4 t (ix2 g n) = m ((c : Thread nD τ).loc main_arg4) (ix2 ⟨1280 * t.val + n.val, h⟩ g) := by
  blk_ext! [iblk, V, idx t]

/-- A scale row stored twice reads as itself. -/
theorem pay407_apply (s : Vec Ideal S108x1280 .bf16) (g : Fin 108) (p : Fin 2) (l : Fin 1280) : k0_pay407 (F := Ideal) s (ix3 g p l) = s (ix2 g l) := by
  unfold k0_pay407
  pointwise
  exact ite_self _

/-- So does a row of minima. -/
theorem pay408_apply (s : Vec Ideal S108x1280 .bf16) (g : Fin 108) (p : Fin 2) (l : Fin 1280) : k0_pay408 (F := Ideal) s (ix3 g p l) = s (ix2 g l) :=
  pay407_apply s g p l

/-- The loops start from zero. -/
theorem pay409_apply (r : Fin 128) (l : Fin 256) : k0_pay409 (F := Ideal) (ix2 r l) = (0 : EReal) := by
  unfold k0_pay409
  pointwise
  exact ite_self _

/-- The kernel's weight is the reference's. -/
theorem wt_eq (c : Dev nD) (t : Fin cfg0.N) (κ : Fin 3456) (n : Fin 1280) :
    wt (iblk m c 2 t) (fun g l => iblk m c 3 t (ix2 g l)) (fun g l => iblk m c 4 t (ix2 g l)) κ n =
      rwt (m ((c : Thread nD τ).loc main_arg2)) (m ((c : Thread nD τ).loc main_arg3)) (m ((c : Thread nD τ).loc main_arg4)) κ
        ⟨1280 * t.val + n.val, by have := lt4 t; omega⟩ := by
  have ht := lt4 t
  have hn := n.isLt
  unfold wt rwt
  beta_reduce
  rw [iblk2 m c t _ _ _ _ _ (by show 128 * (10 * t.val + n.val / 128) + n.val % 128 < 5120; omega), iblk3 m c t _ _ (by omega), iblk4 m c t _ _ (by omega)]
  have e1 : 128 * (10 * t.val + n.val / 128) + n.val % 128 = 1280 * t.val + n.val := by omega
  have e2 : 8 * (κ.val / 8 % 2) + κ.val % 8 = κ.val % 16 := by omega
  simp only [e1, e2]

/-- A stored column of the activations is the reference's column it came from. -/
theorem act_apply (x0 : Vec Ideal S128x3456 .bf16) (r : Fin 128) (x : Fin 3456) :
    x0 (ix2 r x) = val_main_v2 (F := Ideal) x0 (ix2 r ⟨src x.val, src_lt x.isLt⟩) := by
  have h := v2_apply x0 r ⟨x.val / 128, by omega⟩ ⟨x.val % 128, by omega⟩
  have e : 128 * (x.val / 128) + x.val % 128 = x.val := by omega
  simp only [e] at h
  exact h.symm

/-- A tile of a point's block at an index: the reference's value there. -/
theorem tile_eq (c : Dev nD) (t : Fin cfg0.N) (p : Fin 5) (r : Fin 128) (q : Fin 256) :
    outT (iblk m c 1 t) (iblk m c 2 t) (iblk m c 3 t) (iblk m c 4 t) (iblk m c 0 t) p.val (ix2 r q) =
      val_main_v28 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (ix2 r ⟨1280 * t.val + (256 * p.val + q.val), by have := lt4 t; omega⟩) := by
  have ht := lt4 t
  have hX : ldX (iblk m c 1 t) p.val (ix2 r q) = m ((c : Thread nD τ).loc main_arg1) (ix2 r ⟨1280 * t.val + (256 * p.val + q.val), by omega⟩) := by
    have e : (256 * p.val + q.val) % 1280 = 256 * p.val + q.val := Nat.mod_eq_of_lt (col_lt p q)
    refine Eq.trans ?_ (iblk1 m c t r ⟨256 * p.val + q.val, col_lt p q⟩ (by show 1280 * t.val + (256 * p.val + q.val) < 5120; omega))
    exact congrArg (fun y => iblk m c 1 t (ix2 r y)) (Fin.ext e)
  unfold outT
  rw [tile_apply p _ _ _ _ (fun g l => iblk m c 3 t (ix2 g l)) (fun g l => iblk m c 4 t (ix2 g l))
    (fun r κ => val_main_v2 (F := Ideal) (m ((c : Thread nD τ).loc main_arg0)) (ix2 r κ)) (fun g p l => pay407_apply _ g p l) (fun g p l => pay408_apply _ g p l)
    (fun r x => (iblk0 m c t r x).trans (act_apply _ r x)), hX, pay409_apply, zero_add, v28_apply]
  exact congrArg _ (Finset.sum_congr rfl fun k _ => congrArg _ (wt_eq m c t k ⟨256 * p.val + q.val, col_lt p q⟩))

/-- The output window's block is the point's columns of the result array. -/
theorem blk5 (t : Fin cfg0.N) (X : S128x5120.Idx → Elt Ideal .bf16) (r : Fin 128) (n : Fin 1280) (h : 1280 * t.val + n.val < 5120) :
    ((cfg0.win 5).blk t).view.read (Elt Ideal) X (ix2 r n) = X (ix2 r ⟨1280 * t.val + n.val, h⟩) := by
  blk_ext! [idx t]

/-- The result array at an index: the reference's value there. -/
theorem result_apply (c : Dev nD) (t : Fin cfg0.N) (p : Fin 5) (r : Fin 128) (q : Fin 256) :
    (dats m 0 c).arrAt 5 cfg0.N (ix2 r ⟨1280 * t.val + (256 * p.val + q.val), by have := lt4 t; omega⟩) =
      val_main_v28 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (ix2 r ⟨1280 * t.val + (256 * p.val + q.val), by have := lt4 t; omega⟩) := by
  have hb := congrFun ((blocks5 m c t (flush0_5 t)).trans (flushed5 m c t)) (ix2 r ⟨256 * p.val + q.val, col_lt p q⟩)
  have h1 := blk5 t ((dats m 0 c).arrAt 5 cfg0.N) r ⟨256 * p.val + q.val, col_lt p q⟩ (by have := lt4 t; show 1280 * t.val + (256 * p.val + q.val) < 5120; omega)
  refine (h1.symm.trans hb).trans (Eq.trans ?_ ((out_eq m c t p r q).trans (tile_eq m c t p r q)))
  rfl

end Cert.KernelDownIdeal.RefValue
-- ==== Proof.DownAlgebraic.lean ====
/- The down call's value claim: over the extended reals the kernel's array of hidden states is the reference's. -/
module

public import proofs.«01_k».proof.Proof.DownClaims
public import proofs.«01_k».proof.Proof.DownBlock
public import proofs.«01_k».proof.Proof.Gen.ReferenceDownIdeal.Run
public import Idealize.ShloMosaic.Lib.Claim

@[expose] public section

noncomputable section

namespace Cert.Claims

open Idealize.ShloMosaic Idealize.ShloMosaic.TcCoe Idealize.SL.Sem

open Cert.ReferenceDownIdeal.Read
open Cert.KernelDownIdeal.RefValue (result_apply)

/-- Two arrays over rows and columns that agree at every row, grid point's block, tile and column of it are equal. -/
theorem extD {α : Type} (X Y : Cert.KernelDownIdeal.S128x5120.Idx → α)
    (e : ∀ (r : Fin 128) (t : Fin 4) (p : Fin 5) (q : Fin 256), X (ix2 r ⟨1280 * t.val + (256 * p.val + q.val), by omega⟩)
      = Y (ix2 r ⟨1280 * t.val + (256 * p.val + q.val), by omega⟩)) : X = Y := by
  funext i
  have h1 : (i 1).val < 5120 := (i 1).isLt
  have hi : i = ix2 (i 0) ⟨1280 * ((i 1).val / 1280) + (256 * ((i 1).val % 1280 / 256) + (i 1).val % 256), by omega⟩ :=
    funext fun a => match a with
      | ⟨0, _⟩ => rfl
      | ⟨1, _⟩ => Fin.ext (show (i 1).val = 1280 * ((i 1).val / 1280) + (256 * ((i 1).val % 1280 / 256) + (i 1).val % 256) by omega)
  rw [hi]
  exact e (i 0) ⟨(i 1).val / 1280, by omega⟩ ⟨(i 1).val % 1280 / 256, by omega⟩ ⟨(i 1).val % 256, by omega⟩

/-- At `Ideal` the kernel's array of hidden states and the reference's agree. -/
theorem algebraicDown : Cert.algebraic_KernelDownIdeal_ReferenceDownIdeal (hKernelDownIdeal := Cert.KernelDownIdeal.Gen.facts)
    (hReferenceDownIdeal := Cert.ReferenceDownIdeal.Gen.facts) := by
  pair_intro
  · run_from Cert.KernelDownIdeal.Value.run_blocks m g
  · run_from Cert.ReferenceDownIdeal.Value.run m' g'
    rw [val_main_v28_eq]
    exact extD _ _ fun r t p q => (result_apply m c ⟨t.val, lt_of_lt_of_eq t.isLt Cert.KernelDownIdeal.Gen.N_0.symm⟩ p r q).symm

end Cert.Claims
-- ==== Proof.WoClaims.lean ====
/- The output projection's claims that need no arithmetic: each program runs to its end with its arguments unchanged, and
   the kernel's idealization rewrites preserve it. -/
module

public import proofs.«01_k».proof.Defs
public import proofs.«01_k».proof.Proof.Gen.KernelWo.Frame
public import proofs.«01_k».proof.Proof.Gen.KernelWoIdeal.Frame
public import proofs.«01_k».proof.Proof.Gen.ReferenceWoIdeal
public import proofs.«01_k».proof.Proof.Gen.ReferenceWoIdeal.Run
public import Idealize.ShloMosaic.Lib.Bf16Pair
public import Idealize.ShloMosaic.Lib.Bf16PairInverse
public import Idealize.ShloMosaic.Lib.Quiescent

@[expose] public section

namespace Cert.Claims

open Idealize.ShloMosaic Idealize.SL.Sem Cert.KernelWoIdeal IdealRules.bf16_pair

/-- Each rewrite of the kernel's ledger preserves the value read: the re-typed word buffers, the packed words, and the
    word vectors read as their two rows. -/
theorem preservesWo : preserves_KernelWo_KernelWoIdeal :=
  ⟨bufferStatement S40x2x1280 S40x1x1280, packStatement S40x1280, statement S40x2x1280 S40x1x1280,
    statement S1x2x128 S1x1x128, statement S16x128 S8x128⟩

/-- The kernel as written runs to its end and leaves its arguments as they were. -/
theorem frameKernelWo : quiescent_KernelWo (hKernelWo := Cert.KernelWo.Gen.facts) := fun m ρ _ => Cert.KernelWo.Gen.frame m ρ

/-- So does its idealization. -/
theorem frameKernelWoIdeal : quiescent_KernelWoIdeal (hKernelWoIdeal := Cert.KernelWoIdeal.Gen.facts) :=
  fun m ρ _ => Cert.KernelWoIdeal.Gen.frame m ρ

/-- So does the reference. -/
theorem frameReferenceWoIdeal : quiescent_ReferenceWoIdeal (hReferenceWoIdeal := Cert.ReferenceWoIdeal.Gen.facts) :=
  fun m ρ _ => (θ_run _ _ _).mono
    (fun r h => ⟨fun c => (h c).2, sem_eq_zero_of_no_sems (by decide) r.2⟩) (Cert.ReferenceWoIdeal.Value.run m ρ)

end Cert.Claims

end
-- ==== Proof.WoDeq.lean ====
/- The output projection's loops: what a step's weights and activations are in terms of the buffers, and each loop as its
   five steps. -/
module

public import proofs.«01_k».proof.Proof.Sum
public import proofs.«01_k».proof.Proof.Gen.KernelWoIdeal.Loops

@[expose] public section

noncomputable section

namespace Cert.KernelWoIdeal.RefValue

open Idealize.ShloMosaic Cert.KernelWoIdeal Cert.KernelWoIdeal.Gen
open Cert.KernelIdeal.RefValue (rowV pairV setV code place place_lt src setV_apply)

variable {F : FTy → Type} [FloatOps F]

/-- Row `g`, column tile `n` of a scale buffer. -/
def ldS (S : Vec F S40x2x1280 .bf16) (g n : ℕ) : FVec F S1x2x128 .bf16 := fun i =>
  S (ix3 ⟨g % 40, Nat.mod_lt _ (by decide)⟩ (i 1) ⟨(128 * n + (i 2).val) % 1280, Nat.mod_lt _ (by decide)⟩)

/-- Groups `g` to `g + 3`, column tile `n` of the codes. -/
def ldC (C : Vec F S40x2x10x8x128 .i8) (g n : ℕ) : Vec F S4x2x1x8x128 .i8 := fun i =>
  C (ix5 ⟨(g + (i 0).val) % 40, Nat.mod_lt _ (by decide)⟩ (i 1) ⟨n % 10, Nat.mod_lt _ (by decide)⟩ (i 3) (i 4))

/-- Columns `256 k` to `256 k + 255` of the attention rows. -/
def ldA (A : Vec F S128x1280 .bf16) (k : ℕ) : Vec F S128x256 .bf16 := fun i =>
  A (ix2 (i 0) ⟨(256 * k + (i 1).val) % 1280, Nat.mod_lt _ (by decide)⟩)

/-- A load of one row and one column tile of a scale buffer. -/
theorem readS (v : View sig .tc .vmem S40x2x1280 .bf16) {off : Fin 3 → ℕ} (inb : ∀ a, off a + S1x2x128.size a ≤ S40x2x1280.size a)
    (X : BufTy.Contents (Elt F) v.ty) (g n : ℕ) (h : off = ![g, 0, 128 * n]) :
    View.readAt (Elt F) v (Rect.unit (s := S40x2x1280) off S1x2x128.size inb).toLoadRect X = ldS (v.read (Elt F) X) g n := by
  subst h
  have h0 : g + 1 ≤ 40 := inb 0
  have h2 : 128 * n + 128 ≤ 1280 := inb 2
  rw [View.readAt_eq_ld]
  funext i
  idx_vars i
  unfold ldS
  pointwise
  congr 1
  have e0 : g % 40 = g := Nat.mod_eq_of_lt (by omega)
  have e2 : (128 * n + i2.val) % 1280 = 128 * n + i2.val := Nat.mod_eq_of_lt (by have := i2.isLt; omega)
  simp only [e0, e2]

/-- A load of four groups and one column tile of the codes. -/
theorem readC (v : View sig .tc .vmem S40x2x10x8x128 .i8) {off : Fin 5 → ℕ}
    (inb : ∀ a, off a + S4x2x1x8x128.size a ≤ S40x2x10x8x128.size a)
    (X : BufTy.Contents (Elt F) v.ty) (g n : ℕ) (h : off = ![g, 0, n, 0, 0]) :
    View.readAt (Elt F) v (Rect.unit (s := S40x2x10x8x128) off S4x2x1x8x128.size inb).toLoadRect X = ldC (v.read (Elt F) X) g n := by
  subst h
  have h0 : g + 4 ≤ 40 := inb 0
  have h2 : n + 1 ≤ 10 := inb 2
  rw [View.readAt_eq_ld]
  funext i
  idx_vars i
  unfold ldC
  pointwise
  congr 1
  have e0 : (g + i0.val) % 40 = g + i0.val := Nat.mod_eq_of_lt (by have := i0.isLt; omega)
  have e2 : n % 10 = n := Nat.mod_eq_of_lt (by omega)
  simp only [e0, e2]

/-- A load of 256 columns of the attention rows. -/
theorem readA (v : View sig .tc .vmem S128x1280 .bf16) {off : Fin 2 → ℕ} (inb : ∀ a, off a + S128x256.size a ≤ S128x1280.size a)
    (X : BufTy.Contents (Elt F) v.ty) (k : ℕ) (h : off = ![0, 256 * k]) :
    View.readAt (Elt F) v (Rect.unit (s := S128x1280) off S128x256.size inb).toLoadRect X = ldA (v.read (Elt F) X) k := by
  subst h
  have h1 : 256 * k + 256 ≤ 1280 := inb 1
  rw [View.readAt_eq_ld]
  funext i
  idx_vars i
  unfold ldA
  pointwise
  congr 1
  have e1 : (256 * k + i1.val) % 1280 = 256 * k + i1.val := Nat.mod_eq_of_lt (by have := i1.isLt; omega)
  simp only [e1]

/-- The weights of groups `g` to `g + 3` in column tile `n`. -/
def weightV (C : Vec F S40x2x10x8x128 .i8) (S M : Vec F S40x2x1280 .bf16) (g n : ℕ) : FVec F S128x128 .bf16 :=
  setV (pairV (ldS S g n) (ldS S (g + 1) n)) (pairV (ldS M g n) (ldS M (g + 1) n))
    (pairV (ldS S (g + 2) n) (ldS S (g + 3) n)) (pairV (ldS M (g + 2) n) (ldS M (g + 3) n)) (ldC C g n)

/-- The weights computed from eight loads of scales and minima and a load of codes. -/
theorem setRead (vC : View sig .tc .vmem S40x2x10x8x128 .i8) (vS vM : View sig .tc .vmem S40x2x1280 .bf16)
    (XC : BufTy.Contents (Elt F) vC.ty) (XS : BufTy.Contents (Elt F) vS.ty) (XM : BufTy.Contents (Elt F) vM.ty)
    {o : Fin 2 → Fin 2 → Fin 3 → ℕ} {oC : Fin 5 → ℕ}
    (io : ∀ r s : Fin 2, ∀ a, o r s a + S1x2x128.size a ≤ S40x2x1280.size a)
    (iC : ∀ a, oC a + S4x2x1x8x128.size a ≤ S40x2x10x8x128.size a) (g n : ℕ)
    (ho : ∀ r s : Fin 2, o r s = ![g + 2 * r.val + s.val, 0, 128 * n]) (hC : oC = ![g, 0, n, 0, 0]) :
    setV
      (pairV (View.readAt (Elt F) vS (Rect.unit (s := S40x2x1280) (o 0 0) S1x2x128.size (io 0 0)).toLoadRect XS)
        (View.readAt (Elt F) vS (Rect.unit (s := S40x2x1280) (o 0 1) S1x2x128.size (io 0 1)).toLoadRect XS))
      (pairV (View.readAt (Elt F) vM (Rect.unit (s := S40x2x1280) (o 0 0) S1x2x128.size (io 0 0)).toLoadRect XM)
        (View.readAt (Elt F) vM (Rect.unit (s := S40x2x1280) (o 0 1) S1x2x128.size (io 0 1)).toLoadRect XM))
      (pairV (View.readAt (Elt F) vS (Rect.unit (s := S40x2x1280) (o 1 0) S1x2x128.size (io 1 0)).toLoadRect XS)
        (View.readAt (Elt F) vS (Rect.unit (s := S40x2x1280) (o 1 1) S1x2x128.size (io 1 1)).toLoadRect XS))
      (pairV (View.readAt (Elt F) vM (Rect.unit (s := S40x2x1280) (o 1 0) S1x2x128.size (io 1 0)).toLoadRect XM)
        (View.readAt (Elt F) vM (Rect.unit (s := S40x2x1280) (o 1 1) S1x2x128.size (io 1 1)).toLoadRect XM))
      (View.readAt (Elt F) vC (Rect.unit (s := S40x2x10x8x128) oC S4x2x1x8x128.size iC).toLoadRect XC)
    = weightV (F := F) (vC.read (Elt F) XC) (vS.read (Elt F) XS) (vM.read (Elt F) XM) g n := by
  rw [readS vS (io 0 0) XS g n (ho 0 0), readS vS (io 0 1) XS (g + 1) n (ho 0 1), readS vS (io 1 0) XS (g + 2) n (ho 1 0),
    readS vS (io 1 1) XS (g + 3) n (ho 1 1), readS vM (io 0 0) XM g n (ho 0 0), readS vM (io 0 1) XM (g + 1) n (ho 0 1),
    readS vM (io 1 0) XM (g + 2) n (ho 1 0), readS vM (io 1 1) XM (g + 3) n (ho 1 1), readC vC iC XC g n hC]
  rfl

/-- One step from the weights of its four sets and its 256 columns of the attention rows. -/
def stepV (acc : FVec F S128x256 .f32) (w00 w01 w10 w11 : FVec F S128x128 .bf16) (a : FVec F S128x256 .bf16) : FVec F S128x256 .f32 :=
  addf acc (matmul dot_S128x256_S256x256_S128x256_1_0_0_1_n_n none a
    (concatenate S256x256 1 [⟨S256x128, concatenate S256x128 0 [⟨S128x128, w00⟩, ⟨S128x128, w01⟩] concatenates_S128x128_S128x128_S256x128_d0⟩,
      ⟨S256x128, concatenate S256x128 0 [⟨S128x128, w10⟩, ⟨S128x128, w11⟩] concatenates_S128x128_S128x128_S256x128_d0⟩]
      concatenates_S256x128_S256x128_S256x256_d1) (constant S128x256 .f32 0x00000000#32))

/-- One trip over the buffers' contents, for column tiles `2 p` and `2 p + 1`. -/
def tripV (p : ℕ) (C : Vec F S40x2x10x8x128 .i8) (S M : Vec F S40x2x1280 .bf16) (A : Vec F S128x1280 .bf16) (k : ℕ)
    (acc : FVec F S128x256 .f32) : FVec F S128x256 .f32 :=
  stepV acc (weightV C S M (8 * k) (2 * p)) (weightV C S M (8 * k + 4) (2 * p)) (weightV C S M (8 * k) (2 * p + 1))
    (weightV C S M (8 * k + 4) (2 * p + 1)) (ldA A k)

/-- The trips before trip `k`. -/
def loopV (p : ℕ) (C : Vec F S40x2x10x8x128 .i8) (S M : Vec F S40x2x1280 .bf16) (A : Vec F S128x1280 .bf16)
    (init : FVec F S128x256 .f32) : ℕ → FVec F S128x256 .f32
  | 0 => init
  | k + 1 => tripV p C S M A k (loopV p C S M A init k)

/-- A step's equation from those of its four sets of weights and of its attention rows. -/
theorem stepV_congr (acc : FVec F S128x256 .f32) {a a' b b' d d' e e' : FVec F S128x128 .bf16} {h h' : FVec F S128x256 .bf16}
    (ha : a = a') (hb : b = b') (hd : d = d') (he : e = e') (hh : h = h') : stepV acc a b d e h = stepV acc a' b' d' e' h' := by
  rw [ha, hb, hd, he, hh]

/-- The offset of a load of scales in a step's second half. -/
theorem off_add (k r s b : ℕ) : (![8 * k + 2 * r + s + 4, 0, b] : Fin 3 → ℕ) = ![8 * k + 4 + 2 * r + s, 0, b] := by
  rw [show 8 * k + 2 * r + s + 4 = 8 * k + 4 + 2 * r + s by omega]

/-- Steps that are trips are the loop. -/
theorem loop_of_trips (p : ℕ) (C : Vec F S40x2x10x8x128 .i8) (S M : Vec F S40x2x1280 .bf16) (A : Vec F S128x1280 .bf16)
    (init : FVec F S128x256 .f32) (f : ℕ → FVec F S128x256 .f32) (h0 : f 0 = init)
    (h : ∀ n, n < 5 → f (n + 1) = tripV p C S M A n (f n)) : ∀ n, n ≤ 5 → f n = loopV p C S M A init n
  | 0, _ => h0
  | n + 1, hn => by rw [h n (by omega), loop_of_trips p C S M A init f h0 h n (by omega)]; rfl

set_option maxHeartbeats 4000000 in
/-- A trip of loop 1 over the buffers' contents. -/
theorem trip1_eq (𝒱 c bd i arg1 harg1 arg2 harg2 arg3 harg3 arg4 harg4 arg5 harg5 arg6 harg6 arg7 harg7 arg8 harg8  X1 X3 X7 X8 k acc) :
    tripR_k0_t1 (F := F) 𝒱 c bd i arg1 harg1 arg2 harg2 arg3 harg3 arg4 harg4 arg5 harg5 arg6 harg6 arg7 harg7 arg8 harg8  X1 X3 X7 X8 k acc =
      tripV (F := F) 0 (arg3.view.read (Elt F) X3) (arg7.view.read (Elt F) X7) (arg8.view.read (Elt F) X8) (arg1.view.read (Elt F) X1) k.val acc := by
  unfold tripR_k0_t1 trip_k0_t1
  exact stepV_congr acc
    (setRead arg3.view arg7.view arg8.view X3 X7 X8 (k0_off1_inb k) (k0_off2_inb k) (8 * k.val) 0 (k0_off1_eq k) (k0_off2_eq k))
    (setRead arg3.view arg7.view arg8.view X3 X7 X8 (k0_off3_inb k) (k0_off4_inb k) (8 * k.val + 4) 0
      (fun r s => (k0_off3_eq k r s).trans (off_add _ _ _ _)) (k0_off4_eq k))
    (setRead arg3.view arg7.view arg8.view X3 X7 X8 (k0_off5_inb k) (k0_off6_inb k) (8 * k.val) 1 (k0_off5_eq k) (k0_off6_eq k))
    (setRead arg3.view arg7.view arg8.view X3 X7 X8 (k0_off7_inb k) (k0_off8_inb k) (8 * k.val + 4) 1
      (fun r s => (k0_off7_eq k r s).trans (off_add _ _ _ _)) (k0_off8_eq k))
    (readA arg1.view (k0_off9_inb k) X1 k.val (k0_off9_eq k))

/-- Loop 1 over the buffers' contents. -/
theorem loop1_eq (𝒱 c bd i arg1 harg1 arg2 harg2 arg3 harg3 arg4 harg4 arg5 harg5 arg6 harg6 arg7 harg7 arg8 harg8  X1 X3 X7 X8 init n) (hn : n ≤ 5) :
    st_k0_t1 (F := F) 𝒱 c bd i arg1 harg1 arg2 harg2 arg3 harg3 arg4 harg4 arg5 harg5 arg6 harg6 arg7 harg7 arg8 harg8  X1 X3 X7 X8 init n =
      loopV (F := F) 0 (arg3.view.read (Elt F) X3) (arg7.view.read (Elt F) X7) (arg8.view.read (Elt F) X8) (arg1.view.read (Elt F) X1) init n :=
  loop_of_trips 0 _ _ _ _ init _ rfl
    (fun n hn => by
      have hk : n < k0_t1_loop.trips := lt_of_lt_of_eq hn (by decide)
      rw [show n + 1 = (⟨n, hk⟩ : Fin k0_t1_loop.trips).val + 1 from rfl, st_k0_t1_succ, trip1_eq]) n hn

set_option maxHeartbeats 4000000 in
/-- A trip of loop 2 over the buffers' contents. -/
theorem trip2_eq (𝒱 c bd i arg1 harg1 arg2 harg2 arg3 harg3 arg4 harg4 arg5 harg5 arg6 harg6 arg7 harg7 arg8 harg8 v23 cst_13 X1 X3 X7 X8 k acc) :
    tripR_k0_t2 (F := F) 𝒱 c bd i arg1 harg1 arg2 harg2 arg3 harg3 arg4 harg4 arg5 harg5 arg6 harg6 arg7 harg7 arg8 harg8 v23 cst_13 X1 X3 X7 X8 k acc =
      tripV (F := F) 1 (arg3.view.read (Elt F) X3) (arg7.view.read (Elt F) X7) (arg8.view.read (Elt F) X8) (arg1.view.read (Elt F) X1) k.val acc := by
  unfold tripR_k0_t2 trip_k0_t2
  exact stepV_congr acc
    (setRead arg3.view arg7.view arg8.view X3 X7 X8 (k0_off10_inb k) (k0_off11_inb k) (8 * k.val) 2 (k0_off10_eq k) (k0_off11_eq k))
    (setRead arg3.view arg7.view arg8.view X3 X7 X8 (k0_off12_inb k) (k0_off13_inb k) (8 * k.val + 4) 2
      (fun r s => (k0_off12_eq k r s).trans (off_add _ _ _ _)) (k0_off13_eq k))
    (setRead arg3.view arg7.view arg8.view X3 X7 X8 (k0_off14_inb k) (k0_off15_inb k) (8 * k.val) 3 (k0_off14_eq k) (k0_off15_eq k))
    (setRead arg3.view arg7.view arg8.view X3 X7 X8 (k0_off16_inb k) (k0_off17_inb k) (8 * k.val + 4) 3
      (fun r s => (k0_off16_eq k r s).trans (off_add _ _ _ _)) (k0_off17_eq k))
    (readA arg1.view (k0_off18_inb k) X1 k.val (k0_off18_eq k))

/-- Loop 2 over the buffers' contents. -/
theorem loop2_eq (𝒱 c bd i arg1 harg1 arg2 harg2 arg3 harg3 arg4 harg4 arg5 harg5 arg6 harg6 arg7 harg7 arg8 harg8 v23 cst_13 X1 X3 X7 X8 init n) (hn : n ≤ 5) :
    st_k0_t2 (F := F) 𝒱 c bd i arg1 harg1 arg2 harg2 arg3 harg3 arg4 harg4 arg5 harg5 arg6 harg6 arg7 harg7 arg8 harg8 v23 cst_13 X1 X3 X7 X8 init n =
      loopV (F := F) 1 (arg3.view.read (Elt F) X3) (arg7.view.read (Elt F) X7) (arg8.view.read (Elt F) X8) (arg1.view.read (Elt F) X1) init n :=
  loop_of_trips 1 _ _ _ _ init _ rfl
    (fun n hn => by
      have hk : n < k0_t2_loop.trips := lt_of_lt_of_eq hn (by decide)
      rw [show n + 1 = (⟨n, hk⟩ : Fin k0_t2_loop.trips).val + 1 from rfl, st_k0_t2_succ, trip2_eq]) n hn

set_option maxHeartbeats 4000000 in
/-- A trip of loop 3 over the buffers' contents. -/
theorem trip3_eq (𝒱 c bd i arg1 harg1 arg2 harg2 arg3 harg3 arg4 harg4 arg5 harg5 arg6 harg6 arg7 harg7 arg8 harg8 v23 cst_13 X1 X3 X7 X8 k acc) :
    tripR_k0_t3 (F := F) 𝒱 c bd i arg1 harg1 arg2 harg2 arg3 harg3 arg4 harg4 arg5 harg5 arg6 harg6 arg7 harg7 arg8 harg8 v23 cst_13 X1 X3 X7 X8 k acc =
      tripV (F := F) 2 (arg3.view.read (Elt F) X3) (arg7.view.read (Elt F) X7) (arg8.view.read (Elt F) X8) (arg1.view.read (Elt F) X1) k.val acc := by
  unfold tripR_k0_t3 trip_k0_t3
  exact stepV_congr acc
    (setRead arg3.view arg7.view arg8.view X3 X7 X8 (k0_off19_inb k) (k0_off20_inb k) (8 * k.val) 4 (k0_off19_eq k) (k0_off20_eq k))
    (setRead arg3.view arg7.view arg8.view X3 X7 X8 (k0_off21_inb k) (k0_off22_inb k) (8 * k.val + 4) 4
      (fun r s => (k0_off21_eq k r s).trans (off_add _ _ _ _)) (k0_off22_eq k))
    (setRead arg3.view arg7.view arg8.view X3 X7 X8 (k0_off23_inb k) (k0_off24_inb k) (8 * k.val) 5 (k0_off23_eq k) (k0_off24_eq k))
    (setRead arg3.view arg7.view arg8.view X3 X7 X8 (k0_off25_inb k) (k0_off26_inb k) (8 * k.val + 4) 5
      (fun r s => (k0_off25_eq k r s).trans (off_add _ _ _ _)) (k0_off26_eq k))
    (readA arg1.view (k0_off27_inb k) X1 k.val (k0_off27_eq k))

/-- Loop 3 over the buffers' contents. -/
theorem loop3_eq (𝒱 c bd i arg1 harg1 arg2 harg2 arg3 harg3 arg4 harg4 arg5 harg5 arg6 harg6 arg7 harg7 arg8 harg8 v23 cst_13 X1 X3 X7 X8 init n) (hn : n ≤ 5) :
    st_k0_t3 (F := F) 𝒱 c bd i arg1 harg1 arg2 harg2 arg3 harg3 arg4 harg4 arg5 harg5 arg6 harg6 arg7 harg7 arg8 harg8 v23 cst_13 X1 X3 X7 X8 init n =
      loopV (F := F) 2 (arg3.view.read (Elt F) X3) (arg7.view.read (Elt F) X7) (arg8.view.read (Elt F) X8) (arg1.view.read (Elt F) X1) init n :=
  loop_of_trips 2 _ _ _ _ init _ rfl
    (fun n hn => by
      have hk : n < k0_t3_loop.trips := lt_of_lt_of_eq hn (by decide)
      rw [show n + 1 = (⟨n, hk⟩ : Fin k0_t3_loop.trips).val + 1 from rfl, st_k0_t3_succ, trip3_eq]) n hn

set_option maxHeartbeats 4000000 in
/-- A trip of loop 4 over the buffers' contents. -/
theorem trip4_eq (𝒱 c bd i arg1 harg1 arg2 harg2 arg3 harg3 arg4 harg4 arg5 harg5 arg6 harg6 arg7 harg7 arg8 harg8 v23 cst_13 X1 X3 X7 X8 k acc) :
    tripR_k0_t4 (F := F) 𝒱 c bd i arg1 harg1 arg2 harg2 arg3 harg3 arg4 harg4 arg5 harg5 arg6 harg6 arg7 harg7 arg8 harg8 v23 cst_13 X1 X3 X7 X8 k acc =
      tripV (F := F) 3 (arg3.view.read (Elt F) X3) (arg7.view.read (Elt F) X7) (arg8.view.read (Elt F) X8) (arg1.view.read (Elt F) X1) k.val acc := by
  unfold tripR_k0_t4 trip_k0_t4
  exact stepV_congr acc
    (setRead arg3.view arg7.view arg8.view X3 X7 X8 (k0_off28_inb k) (k0_off29_inb k) (8 * k.val) 6 (k0_off28_eq k) (k0_off29_eq k))
    (setRead arg3.view arg7.view arg8.view X3 X7 X8 (k0_off30_inb k) (k0_off31_inb k) (8 * k.val + 4) 6
      (fun r s => (k0_off30_eq k r s).trans (off_add _ _ _ _)) (k0_off31_eq k))
    (setRead arg3.view arg7.view arg8.view X3 X7 X8 (k0_off32_inb k) (k0_off33_inb k) (8 * k.val) 7 (k0_off32_eq k) (k0_off33_eq k))
    (setRead arg3.view arg7.view arg8.view X3 X7 X8 (k0_off34_inb k) (k0_off35_inb k) (8 * k.val + 4) 7
      (fun r s => (k0_off34_eq k r s).trans (off_add _ _ _ _)) (k0_off35_eq k))
    (readA arg1.view (k0_off36_inb k) X1 k.val (k0_off36_eq k))

/-- Loop 4 over the buffers' contents. -/
theorem loop4_eq (𝒱 c bd i arg1 harg1 arg2 harg2 arg3 harg3 arg4 harg4 arg5 harg5 arg6 harg6 arg7 harg7 arg8 harg8 v23 cst_13 X1 X3 X7 X8 init n) (hn : n ≤ 5) :
    st_k0_t4 (F := F) 𝒱 c bd i arg1 harg1 arg2 harg2 arg3 harg3 arg4 harg4 arg5 harg5 arg6 harg6 arg7 harg7 arg8 harg8 v23 cst_13 X1 X3 X7 X8 init n =
      loopV (F := F) 3 (arg3.view.read (Elt F) X3) (arg7.view.read (Elt F) X7) (arg8.view.read (Elt F) X8) (arg1.view.read (Elt F) X1) init n :=
  loop_of_trips 3 _ _ _ _ init _ rfl
    (fun n hn => by
      have hk : n < k0_t4_loop.trips := lt_of_lt_of_eq hn (by decide)
      rw [show n + 1 = (⟨n, hk⟩ : Fin k0_t4_loop.trips).val + 1 from rfl, st_k0_t4_succ, trip4_eq]) n hn

set_option maxHeartbeats 4000000 in
/-- A trip of loop 5 over the buffers' contents. -/
theorem trip5_eq (𝒱 c bd i arg1 harg1 arg2 harg2 arg3 harg3 arg4 harg4 arg5 harg5 arg6 harg6 arg7 harg7 arg8 harg8 c0_i32_38 c1_i32_40 X1 X3 X7 X8 k acc) :
    tripR_k0_t5 (F := F) 𝒱 c bd i arg1 harg1 arg2 harg2 arg3 harg3 arg4 harg4 arg5 harg5 arg6 harg6 arg7 harg7 arg8 harg8 c0_i32_38 c1_i32_40 X1 X3 X7 X8 k acc =
      tripV (F := F) 4 (arg3.view.read (Elt F) X3) (arg7.view.read (Elt F) X7) (arg8.view.read (Elt F) X8) (arg1.view.read (Elt F) X1) k.val acc := by
  unfold tripR_k0_t5 trip_k0_t5
  exact stepV_congr acc
    (setRead arg3.view arg7.view arg8.view X3 X7 X8 (k0_off37_inb k) (k0_off38_inb k) (8 * k.val) 8 (k0_off37_eq k) (k0_off38_eq k))
    (setRead arg3.view arg7.view arg8.view X3 X7 X8 (k0_off39_inb k) (k0_off40_inb k) (8 * k.val + 4) 8
      (fun r s => (k0_off39_eq k r s).trans (off_add _ _ _ _)) (k0_off40_eq k))
    (setRead arg3.view arg7.view arg8.view X3 X7 X8 (k0_off41_inb k) (k0_off42_inb k) (8 * k.val) 9 (k0_off41_eq k) (k0_off42_eq k))
    (setRead arg3.view arg7.view arg8.view X3 X7 X8 (k0_off43_inb k) (k0_off44_inb k) (8 * k.val + 4) 9
      (fun r s => (k0_off43_eq k r s).trans (off_add _ _ _ _)) (k0_off44_eq k))
    (readA arg1.view (k0_off45_inb k) X1 k.val (k0_off45_eq k))

/-- Loop 5 over the buffers' contents. -/
theorem loop5_eq (𝒱 c bd i arg1 harg1 arg2 harg2 arg3 harg3 arg4 harg4 arg5 harg5 arg6 harg6 arg7 harg7 arg8 harg8 c0_i32_38 c1_i32_40 X1 X3 X7 X8 init n) (hn : n ≤ 5) :
    st_k0_t5 (F := F) 𝒱 c bd i arg1 harg1 arg2 harg2 arg3 harg3 arg4 harg4 arg5 harg5 arg6 harg6 arg7 harg7 arg8 harg8 c0_i32_38 c1_i32_40 X1 X3 X7 X8 init n =
      loopV (F := F) 4 (arg3.view.read (Elt F) X3) (arg7.view.read (Elt F) X7) (arg8.view.read (Elt F) X8) (arg1.view.read (Elt F) X1) init n :=
  loop_of_trips 4 _ _ _ _ init _ rfl
    (fun n hn => by
      have hk : n < k0_t5_loop.trips := lt_of_lt_of_eq hn (by decide)
      rw [show n + 1 = (⟨n, hk⟩ : Fin k0_t5_loop.trips).val + 1 from rfl, st_k0_t5_succ, trip5_eq]) n hn

end Cert.KernelWoIdeal.RefValue
-- ==== Proof.WoSum.lean ====
/- The output projection's loops at an index: the steps as one sum over the contracted axis. -/
module

public import proofs.«01_k».proof.Proof.WoDeq

@[expose] public section

noncomputable section

namespace Cert.KernelWoIdeal.RefValue

open Idealize.ShloMosaic Cert.KernelWoIdeal Cert.KernelWoIdeal.Gen
open Cert.KernelIdeal.RefValue (rowV pairV setV code place place_lt place_inj src setV_apply)
open scoped BigOperators

/-- The weight of contracted index `κ` and column `col` of a window: the code's half byte times the group's scale, plus
    its minimum. -/
def wt (C : Vec Ideal S40x2x10x8x128 .i8) (sc mn : Fin 40 → Fin 1280 → EReal) (κ : Fin 1280) (col : Fin 1280) : EReal :=
  code (C (ix5 ⟨κ.val / 32, by have := κ.isLt; omega⟩ ⟨κ.val / 8 % 2, by omega⟩ ⟨col.val / 128, by have := col.isLt; omega⟩
      ⟨κ.val % 8, by omega⟩ ⟨col.val % 128, by omega⟩)) (4 * (κ.val / 16 % 2))
    * sc ⟨κ.val / 32, by have := κ.isLt; omega⟩ col + mn ⟨κ.val / 32, by have := κ.isLt; omega⟩ col

/-- Where a stored column comes from is a column. -/
theorem src_lt {x : ℕ} (h : x < 1280) : src x < 1280 := by
  have := place_lt (ρ := x % 128) (by omega)
  unfold src; omega

/-- A load of one scale row reads the buffer at that group and column. -/
theorem ldS_apply (S : Vec Ideal S40x2x1280 .bf16) (sc : Fin 40 → Fin 1280 → EReal) (hS : ∀ g p l, S (ix3 g p l) = sc g l)
    (g n : ℕ) (hg : g < 40) (hn : n < 10) (p : Fin 2) (l : Fin 128) :
    ldS S g n (ix3 0 p l) = sc ⟨g, hg⟩ ⟨128 * n + l.val, by have := l.isLt; omega⟩ := by
  have e : ldS S g n (ix3 0 p l) = S (ix3 ⟨g % 40, Nat.mod_lt _ (by decide)⟩ p ⟨(128 * n + l.val) % 1280, Nat.mod_lt _ (by decide)⟩) := rfl
  rw [e, hS]
  have e1 : (⟨g % 40, Nat.mod_lt _ (by decide)⟩ : Fin 40) = ⟨g, hg⟩ := Fin.ext (Nat.mod_eq_of_lt hg)
  have e2 : (⟨(128 * n + l.val) % 1280, Nat.mod_lt _ (by decide)⟩ : Fin 1280) = ⟨128 * n + l.val, by have := l.isLt; omega⟩ :=
    Fin.ext (Nat.mod_eq_of_lt (by have := l.isLt; omega))
  rw [e1, e2]

/-- The weights of one set of four groups, at a row and a column: those of the rows the stored order puts there. -/
theorem weightV_apply (C : Vec Ideal S40x2x10x8x128 .i8) (S M : Vec Ideal S40x2x1280 .bf16) (sc mn : Fin 40 → Fin 1280 → EReal)
    (hS : ∀ g p l, S (ix3 g p l) = sc g l) (hM : ∀ g p l, M (ix3 g p l) = mn g l) (b n : ℕ) (hb : b < 10) (hn : n < 10) (ρ l : Fin 128) :
    weightV C S M (4 * b) n (ix2 ρ l) =
      wt C sc mn ⟨src (128 * b + ρ.val), src_lt (by omega)⟩ ⟨128 * n + l.val, by have := l.isLt; omega⟩ := by
  have hp := place_lt ρ.isLt
  have hl := l.isLt
  have hsrc : src (128 * b + ρ.val) = 128 * b + place ρ.val := by
    unfold src
    rw [show (128 * b + ρ.val) / 128 = b by omega, show (128 * b + ρ.val) % 128 = ρ.val by omega]
  unfold weightV
  have kS : ∀ e : Fin 4, ∀ (p : Fin 2) (l : Fin 128), ldS S (4 * b + e.val) n (ix3 0 p l) =
      sc ⟨4 * b + e.val, by have := e.isLt; omega⟩ ⟨128 * n + l.val, by have := l.isLt; omega⟩ :=
    fun e p l => ldS_apply S sc hS (4 * b + e.val) n (by have := e.isLt; omega) hn p l
  have kM : ∀ e : Fin 4, ∀ (p : Fin 2) (l : Fin 128), ldS M (4 * b + e.val) n (ix3 0 p l) =
      mn ⟨4 * b + e.val, by have := e.isLt; omega⟩ ⟨128 * n + l.val, by have := l.isLt; omega⟩ :=
    fun e p l => ldS_apply M mn hM (4 * b + e.val) n (by have := e.isLt; omega) hn p l
  refine (setV_apply (ldS S (4 * b) n) _ (ldS M (4 * b) n) _ _ _ _ _ _
    (fun e l => sc ⟨4 * b + e.val, by have := e.isLt; omega⟩ ⟨128 * n + l.val, by have := l.isLt; omega⟩)
    (fun e l => mn ⟨4 * b + e.val, by have := e.isLt; omega⟩ ⟨128 * n + l.val, by have := l.isLt; omega⟩)
    (fun p l => ⟨kS 0 p l, kS 1 p l, kS 2 p l, kS 3 p l⟩)
    (fun p l => ⟨kM 0 p l, kM 1 p l, kM 2 p l, kM 3 p l⟩) ρ l).trans ?_
  have e : ∀ a : Fin 4, ∀ q : Fin 2, ∀ s : Fin 8, ldC (F := Ideal) C (4 * b) n (ix5 a q 0 s l) =
      C (ix5 ⟨(4 * b + a.val) % 40, Nat.mod_lt _ (by decide)⟩ q ⟨n % 10, Nat.mod_lt _ (by decide)⟩ s l) := fun _ _ _ => rfl
  rw [e]
  unfold wt
  have g1 : (128 * b + place ρ.val) / 32 % 40 = (128 * b + place ρ.val) / 32 := by omega
  have g2 : 4 * b + place ρ.val / 32 = (128 * b + place ρ.val) / 32 := by omega
  have g3 : place ρ.val / 8 % 2 = (128 * b + place ρ.val) / 8 % 2 := by omega
  have g4 : place ρ.val % 8 = (128 * b + place ρ.val) % 8 := by omega
  have g5 : place ρ.val / 16 % 2 = (128 * b + place ρ.val) / 16 % 2 := by omega
  have g6 : n % 10 = (128 * n + l.val) / 128 := by omega
  have g7 : l = ⟨(128 * n + l.val) % 128, by omega⟩ := Fin.ext (by dsimp only; omega)
  simp only [hsrc, g2, g1, g3, g4, g5, g6]
  rw [← g7]

/-- The weight of a stored row in a pair's column. -/
def wp (C : Vec Ideal S40x2x10x8x128 .i8) (sc mn : Fin 40 → Fin 1280 → EReal) (p : Fin 5) (κ : Fin 1280) (c : Fin 256) : EReal :=
  wt C sc mn κ ⟨256 * p.val + c.val, by omega⟩

/-- Two tiles' weights side by side, at a row and a pair's column. -/
theorem pair_apply (C : Vec Ideal S40x2x10x8x128 .i8) (S M : Vec Ideal S40x2x1280 .bf16) (sc mn : Fin 40 → Fin 1280 → EReal)
    (hS : ∀ g p l, S (ix3 g p l) = sc g l) (hM : ∀ g p l, M (ix3 g p l) = mn g l) (b : ℕ) (hb : b < 10) (p : Fin 5) (ρ : Fin 128) (c : Fin 256) :
    (if h : c.val < 128 then weightV C S M (4 * b) (2 * p.val) (ix2 ρ ⟨c.val, h⟩)
      else weightV C S M (4 * b) (2 * p.val + 1) (ix2 ρ ⟨c.val - 128, by omega⟩))
    = wp C sc mn p ⟨src (128 * b + ρ.val), src_lt (by omega)⟩ c := by
  unfold wp
  split
  · rw [weightV_apply C S M sc mn hS hM b _ hb (by omega)]
    exact congrArg _ (Fin.ext (by show 128 * (2 * p.val) + c.val = 256 * p.val + c.val; omega))
  · rw [weightV_apply C S M sc mn hS hM b _ hb (by omega)]
    exact congrArg _ (Fin.ext (by show 128 * (2 * p.val + 1) + (c.val - 128) = 256 * p.val + c.val; omega))

/-- The contribution of stored column `x` to a row and a column of the product. -/
def term (Hn W : Fin 1280 → EReal) (x : ℕ) : EReal :=
  if h : x < 1280 then Hn ⟨src x, src_lt h⟩ * W ⟨src x, src_lt h⟩ else 0

/-- One step at an index. -/
theorem stepV_apply (acc : FVec Ideal S128x256 .f32) (w00 w01 w10 w11 : FVec Ideal S128x128 .bf16) (a : FVec Ideal S128x256 .bf16)
    (r : Fin 128) (c : Fin 256) :
    stepV acc w00 w01 w10 w11 a (ix2 r c) =
      acc (ix2 r c) +
        ((∑ x : Fin 128, a (ix2 r ⟨x.val, by omega⟩) * (if h : c.val < 128 then w00 (ix2 x ⟨c.val, h⟩) else w10 (ix2 x ⟨c.val - 128, by omega⟩))) +
          ∑ x : Fin 128, a (ix2 r ⟨128 + x.val, by omega⟩) * (if h : c.val < 128 then w01 (ix2 x ⟨c.val, h⟩) else w11 (ix2 x ⟨c.val - 128, by omega⟩))) := by
  unfold stepV
  pointwise

/-- The stored order of the columns is a rearrangement. -/
theorem src_bij : Function.Bijective fun x : Fin 1280 => (⟨src x.val, src_lt x.isLt⟩ : Fin 1280) := by
  refine (Finite.injective_iff_bijective).1 fun a b h => ?_
  have h' : src a.val = src b.val := congrArg Fin.val h
  have pa := place_lt (ρ := a.val % 128) (by omega)
  have pb := place_lt (ρ := b.val % 128) (by omega)
  unfold src at h'
  have h1 : a.val / 128 = b.val / 128 := by omega
  have h2 : a.val % 128 = b.val % 128 := place_inj (by omega) (by omega) (by omega)
  exact Fin.ext (by omega)

section Loop

variable (p : Fin 5) (C : Vec Ideal S40x2x10x8x128 .i8) (S M : Vec Ideal S40x2x1280 .bf16) (A : Vec Ideal S128x1280 .bf16)
  (sc mn : Fin 40 → Fin 1280 → EReal) (Hn : Fin 128 → Fin 1280 → EReal)
  (hS : ∀ g p l, S (ix3 g p l) = sc g l) (hM : ∀ g p l, M (ix3 g p l) = mn g l)
  (hA : ∀ (r : Fin 128) (x : Fin 1280), A (ix2 r x) = Hn r ⟨src x.val, src_lt x.isLt⟩)

include hS hM hA

/-- The steps at an index, over the stored order of the columns. -/
theorem loopV_range (init : FVec Ideal S128x256 .f32) (r : Fin 128) (c : Fin 256) : ∀ n, n ≤ 5 →
    loopV p.val C S M A init n (ix2 r c) =
      init (ix2 r c) + ∑ x ∈ Finset.range (256 * n), term (Hn r) (fun κ => wp C sc mn p κ c) x
  | 0, _ => by simp [loopV]
  | n + 1, hn => by
    have hT : ∀ x (h : x < 1280), term (Hn r) (fun κ => wp C sc mn p κ c) x = Hn r ⟨src x, src_lt h⟩ * wp C sc mn p ⟨src x, src_lt h⟩ c := by
      intro x h; unfold term; rw [dif_pos h]
    have hh : ∀ x : Fin 256, ldA A n (ix2 r x) = Hn r ⟨src (256 * n + x.val), src_lt (by omega)⟩ := by
      intro x
      have e : ldA A n (ix2 r x) = A (ix2 r ⟨(256 * n + x.val) % 1280, Nat.mod_lt _ (by decide)⟩) := rfl
      have e2 : (⟨(256 * n + x.val) % 1280, Nat.mod_lt _ (by decide)⟩ : Fin 1280) = ⟨256 * n + x.val, by omega⟩ :=
        Fin.ext (Nat.mod_eq_of_lt (by omega))
      rw [e, e2, hA]
    have g0 : 8 * n = 4 * (2 * n) := by omega
    have g1 : 8 * n + 4 = 4 * (2 * n + 1) := by omega
    unfold loopV tripV
    rw [stepV_apply, loopV_range init r c n (by omega), g1, g0,
      show 256 * (n + 1) = 256 * n + 128 + 128 by omega, Finset.sum_range_add, Finset.sum_range_add,
      ← Fin.sum_univ_eq_sum_range (fun x => term (Hn r) (fun κ => wp C sc mn p κ c) (256 * n + x)),
      ← Fin.sum_univ_eq_sum_range (fun x => term (Hn r) (fun κ => wp C sc mn p κ c) (256 * n + 128 + x))]
    simp only [add_assoc]
    refine congrArg _ (congrArg _ (congrArg₂ (· + ·) (Finset.sum_congr rfl fun x _ => ?_) (Finset.sum_congr rfl fun x _ => ?_)))
    · rw [pair_apply C S M sc mn hS hM (2 * n) (by omega), hh, hT _ (by omega)]
      simp only [show 128 * (2 * n) = 256 * n by omega]
    · rw [pair_apply C S M sc mn hS hM (2 * n + 1) (by omega), hh, hT _ (by omega)]
      simp only [show 128 * (2 * n + 1) + x.val = 256 * n + (128 + x.val) by omega]

/-- The loop of a tile at an index: its start plus the sum over the contracted axis in its own order. -/
theorem tile_apply (init : FVec Ideal S128x256 .f32) (r : Fin 128) (c : Fin 256) :
    loopV p.val C S M A init 5 (ix2 r c) = init (ix2 r c) + ∑ κ : Fin 1280, Hn r κ * wp C sc mn p κ c := by
  have hT : ∀ x (h : x < 1280), term (Hn r) (fun κ => wp C sc mn p κ c) x = Hn r ⟨src x, src_lt h⟩ * wp C sc mn p ⟨src x, src_lt h⟩ c := by
    intro x h; unfold term; rw [dif_pos h]
  have hs : (∑ κ : Fin 1280, Hn r κ * wp C sc mn p κ c) = ∑ x ∈ Finset.range (256 * 5), term (Hn r) (fun κ => wp C sc mn p κ c) x := by
    rw [← Fin.sum_univ_eq_sum_range (fun x => term (Hn r) (fun κ => wp C sc mn p κ c) x) (256 * 5)]
    refine (src_bij.sum_comp (fun κ => Hn r κ * wp C sc mn p κ c)).symm.trans ?_
    exact Finset.sum_congr rfl fun x _ => (hT x.val x.isLt).symm
  rw [loopV_range p C S M A sc mn Hn hS hM hA init r c 5 le_rfl, hs]

end Loop

end Cert.KernelWoIdeal.RefValue
-- ==== Proof.WoOut.lean ====
/- The output projection kernel's output block: the value each point leaves in every tile of it, over the windows' blocks. -/
module

public import proofs.«01_k».proof.Proof.WoSum
public import proofs.«01_k».proof.Proof.Gen.KernelWoIdeal.Value
public import Idealize.ShloMosaic.Lib.Pipeline.ValueKit
public import Idealize.ShloMosaic.Lib.Pipeline.ReadBack

@[expose] public section

noncomputable section

namespace Cert.KernelWoIdeal.RefValue

open Idealize.ShloMosaic Cert.KernelWoIdeal Cert.KernelWoIdeal.Gen

variable {F : FTy → Type} [FloatOps F]

/-- Tile `p` of the block of the input added. -/
theorem ldA_ld (X : Vec F S128x1280 .bf16) (p : ℕ) (inb : ∀ a, (![0, 256 * p] : Fin 2 → ℕ) a + S128x256.size a ≤ S128x1280.size a) :
    View.ld (Val := Elt F) X (Rect.unit (s := S128x1280) ![0, 256 * p] S128x256.size inb) = ldA X p := by
  have h1 : 256 * p + 256 ≤ 1280 := inb 1
  funext i
  idx_vars i
  unfold ldA
  pointwise
  congr 1
  have e1 : (256 * p + i1.val) % 1280 = 256 * p + i1.val := Nat.mod_eq_of_lt (by have := i1.isLt; omega)
  simp only [e1]

/-- A tile: the input added, and the loop's sum. -/
def sumV (x : Vec F S128x256 .bf16) (acc : FVec F S128x256 .f32) : FVec F S128x256 .f32 :=
  addf (extf .f32 x bitsLt_bf16_f32) acc

/-- Tile `p` of the output block, over the blocks of the input, the codes, the scales, the minima and the attention rows. -/
def outT (X : Vec F S128x1280 .bf16) (C : Vec F S40x2x10x8x128 .i8) (S M : Vec F S40x1280 .bf16) (A : Vec F S128x1280 .bf16) (p : ℕ) :
    FVec F S128x256 .f32 :=
  sumV (ldA X p) (loopV p C (k0_pay408 S) (k0_pay409 M) A k0_pay410 5)

/-- A tile of 256 columns lies in the block's 1280. -/
theorem col_lt (p : Fin 5) (q : Fin 256) : 256 * p.val + q.val < 1280 := by omega

/-- Every loop makes five trips. -/
theorem trips5 : Scf.trips (0#32) (Scalar.addi 0#32 5#32) 1#32 = 5 := by decide

/-- The payload of a tile: the input added, and the loop's sum. -/
theorem pay_eq {X : Vec F S128x256 .bf16} {x acc acc' : FVec F S128x256 .f32} {X' : Vec F S128x256 .bf16}
    (hx : x = extf .f32 X bitsLt_bf16_f32) (hX : X = X') (ha : acc = acc') : addf x acc = sumV X' acc' := by
  subst hx hX ha; rfl

variable (m : (ℓ : Loc nD τ sig) → Buf (Elt Ideal) ℓ)

set_option maxHeartbeats 1000000 in
/-- The output block after a point, tile by tile. -/
theorem out_eq (c : Dev nD) (t : Fin cfg0.N) (p : Fin 5) (r : Fin 128) (q : Fin 256) :
    outsAt0 m c t (ix2 r ⟨256 * p.val + q.val, col_lt p q⟩)
      = outT (iblk m c 1 t) (iblk m c 2 t) (iblk m c 3 t) (iblk m c 4 t) (iblk m c 0 t) p.val (ix2 r q) := by
  unfold outsAt0
  frame_out [trips5, loop1_eq, loop2_eq, loop3_eq, loop4_eq, loop5_eq, le_refl, read_unread_whole]
  have key : ∀ (n : ℕ) (x : S128x256.Idx), r.val = (x 0).val → 256 * p.val + q.val = 256 * n + (x 1).val → p.val = n ∧ ix2 r q = x := by
    intro n x h0 h1
    have hq := q.isLt
    have hx : (x 1).val < 256 := (x 1).isLt
    exact ⟨by omega, funext fun a => Fin.ext (match a with | ⟨0, _⟩ => h0 | ⟨1, _⟩ => show q.val = (x 1).val by omega)⟩
  canon_tiles x h
  · obtain ⟨hp, hx⟩ := key 4 x (by simpa using h0) (by simpa using h1)
    rw [hp, hx]
    exact congrFun (pay_eq rfl (ldA_ld (iblk m c 1 t) 4 _) rfl) x
  · obtain ⟨hp, hx⟩ := key 3 x (by simpa using h0) (by simpa using h1)
    rw [hp, hx]
    exact congrFun (pay_eq rfl (ldA_ld (iblk m c 1 t) 3 _) rfl) x
  · obtain ⟨hp, hx⟩ := key 2 x (by simpa using h0) (by simpa using h1)
    rw [hp, hx]
    exact congrFun (pay_eq rfl (ldA_ld (iblk m c 1 t) 2 _) rfl) x
  · obtain ⟨hp, hx⟩ := key 1 x (by simpa using h0) (by simpa using h1)
    rw [hp, hx]
    exact congrFun (pay_eq rfl (ldA_ld (iblk m c 1 t) 1 _) rfl) x
  · obtain ⟨hp, hx⟩ := key 0 x (by simpa using h0) (by simpa using h1)
    rw [hp, hx]
    exact congrFun (pay_eq rfl (ldA_ld (iblk m c 1 t) 0 _) rfl) x

end Cert.KernelWoIdeal.RefValue
-- ==== Proof.WoRef.lean ====
/- What the output projection reference computes at an index. -/
module

public import proofs.«01_k».proof.Proof.UpRef
public import proofs.«01_k».proof.Proof.Gen.ReferenceWoIdeal.Read

@[expose] public section

noncomputable section

namespace Cert.ReferenceWoIdeal.RefValue

open Idealize.ShloMosaic Idealize.ShloMosaic.TcCoe Cert.ReferenceWoIdeal Cert.ReferenceWoIdeal.Gen Cert.ReferenceWoIdeal.Read
open Cert.KernelIdeal.RefValue (code place place_lt)
open Cert.ReferenceIdeal.RefValue (code_lo code_hi)
open Cert.ReferenceUpIdeal.RefValue (place_bits)
open scoped BigOperators

/-- The index of eight axes of the stored order: a row, a tile, the tile's five upper bits, and the two lower ones. -/
def ixB (r : Fin 128) (T : Fin 10) (ρ : Fin 128) : S128x10x2x2x2x2x2x4.Idx := fun a => match a with
  | ⟨0, _⟩ => r
  | ⟨1, _⟩ => T
  | ⟨2, _⟩ => ⟨ρ.val / 64, show ρ.val / 64 < 2 by omega⟩
  | ⟨3, _⟩ => ⟨ρ.val / 32 % 2, show ρ.val / 32 % 2 < 2 by omega⟩
  | ⟨4, _⟩ => ⟨ρ.val / 16 % 2, show ρ.val / 16 % 2 < 2 by omega⟩
  | ⟨5, _⟩ => ⟨ρ.val / 8 % 2, show ρ.val / 8 % 2 < 2 by omega⟩
  | ⟨6, _⟩ => ⟨ρ.val / 4 % 2, show ρ.val / 4 % 2 < 2 by omega⟩
  | ⟨7, _⟩ => ⟨ρ.val % 4, show ρ.val % 4 < 4 by omega⟩

/-- The position of that index in the array is that of the row, the tile and the column. -/
theorem ixB_pos (r : Fin 128) (T : Fin 10) (ρ : Fin 128) :
    (S128x10x2x2x2x2x2x4.rowMajor (ixB r T ρ)).val = (S128x1280.rowMajor (ix2 r ⟨128 * T.val + ρ.val, by omega⟩)).val := by
  rw [Shape.rowMajor_val_two]
  show (Shape.rowMajorPi _ (ixB r T ρ)).val = _
  simp only [Shape.rowMajorPi_succ_val, Shape.rowMajorPi_zero]
  simp [Fin.prod_univ_succ, ixB]
  omega

/-- The two-axis contraction at an index. -/
theorem dot_apply (A : FVec Ideal S128x40x16 .bf16) (B : FVec Ideal S5120x40x16 .bf16) (r : Fin 128) (n : Fin 5120) :
    Host.dotGeneral (F := Ideal) (φ₁ := .bf16) (φ₂ := .bf16) dot_S128x40x16_S5120x40x16_S128x5120_12_12_0_0_n_n none A B (ix2 r n) =
      ∑ g : Fin 40, ∑ j : Fin 16, A (ix3 r g j) * B (ix3 n g j) := by
  pointwise

/-- The contracted axis of width 1280 is 40 groups of a low and a high half. -/
theorem sum_halves (f : Fin 1280 → EReal) :
    ∑ κ : Fin 1280, f κ =
      (∑ g : Fin 40, ∑ j : Fin 16, f ⟨32 * g.val + j.val, by omega⟩) + ∑ g : Fin 40, ∑ j : Fin 16, f ⟨32 * g.val + 16 + j.val, by omega⟩ := by
  rw [← (finProdFinEquiv (m := 40) (n := 32)).sum_comp f, Fintype.sum_prod_type, ← Finset.sum_add_distrib]
  refine Finset.sum_congr rfl fun g _ => ?_
  rw [Fin.sum_univ_add (a := 16) (b := 16)]
  refine congrArg₂ (· + ·) (Finset.sum_congr rfl fun j _ => congrArg f (Fin.ext ?_)) (Finset.sum_congr rfl fun j _ => congrArg f (Fin.ext ?_))
  · simp [finProdFinEquiv]; omega
  · simp [finProdFinEquiv]; omega

section

variable (x0 : (⟨S128x1280, .bf16⟩ : BufTy).Contents (Elt Ideal)) (x1 : (⟨S128x5120, .bf16⟩ : BufTy).Contents (Elt Ideal))
  (x2 : (⟨S5120x40x16, .i8⟩ : BufTy).Contents (Elt Ideal)) (x3 x4 : (⟨S5120x40, .bf16⟩ : BufTy).Contents (Elt Ideal))

/-- The low half's weights. -/
theorem v16_apply (n : Fin 5120) (g : Fin 40) (j : Fin 16) :
    val_main_v16 (F := Ideal) x2 x3 x4 (ix3 n g j) = code (x2 (ix3 n g j)) 0 * x3 (ix2 n g) + x4 (ix2 n g) := by
  simp only [val_main_v16_apply, val_main_v15_apply, val_main_v14_apply, val_main_v13_apply,
    val_main_v12_apply, val_main_v11_apply, val_main_v10_apply, val_main_v9_apply, val_main_v8_apply, val_main_v7_apply, val_main_c_apply, code_lo, pointwise]
  refine congrArg₂ (· + ·) (congrArg (_ * ·) (congrArg x3 ?_)) (congrArg x4 ?_) <;>
    exact funext fun a => match a with | ⟨0, _⟩ => rfl | ⟨1, _⟩ => rfl

/-- The high half's weights. -/
theorem v24_apply (n : Fin 5120) (g : Fin 40) (j : Fin 16) :
    val_main_v24 (F := Ideal) x2 x3 x4 (ix3 n g j) = code (x2 (ix3 n g j)) 4 * x3 (ix2 n g) + x4 (ix2 n g) := by
  simp only [val_main_v24_apply, val_main_v23_apply, val_main_v22_apply, val_main_v21_apply,
    val_main_v20_apply, val_main_v19_apply, val_main_v18_apply, val_main_v17_apply, val_main_v8_apply, val_main_v7_apply, val_main_c_0_apply, code_hi, pointwise]
  refine congrArg₂ (· + ·) (congrArg (_ * ·) (congrArg x3 ?_)) (congrArg x4 ?_) <;>
    exact funext fun a => match a with | ⟨0, _⟩ => rfl | ⟨1, _⟩ => rfl

/-- The low half of a group of the attention rows. -/
theorem v5_apply (r : Fin 128) (g : Fin 40) (j : Fin 16) :
    val_main_v5 (F := Ideal) x0 (ix3 r g j) = val_main_v2 (F := Ideal) x0 (ix2 r ⟨32 * g.val + j.val, by omega⟩) := by
  simp only [val_main_v5_apply, val_main_v4_apply, pointwise]
  refine congrArg _ (funext fun a => Fin.ext ?_)
  match a with
  | ⟨0, _⟩ => show ((r.val * 40 + g.val) * 32 + j.val) / 1280 = r.val; omega
  | ⟨1, _⟩ => show ((r.val * 40 + g.val) * 32 + j.val) % 1280 = 32 * g.val + j.val; omega

/-- The high half of a group of the attention rows. -/
theorem v6_apply (r : Fin 128) (g : Fin 40) (j : Fin 16) :
    val_main_v6 (F := Ideal) x0 (ix3 r g j) = val_main_v2 (F := Ideal) x0 (ix2 r ⟨32 * g.val + 16 + j.val, by omega⟩) := by
  simp only [val_main_v6_apply, val_main_v4_apply, pointwise]
  refine congrArg _ (funext fun a => Fin.ext ?_)
  match a with
  | ⟨0, _⟩ => show ((r.val * 40 + g.val) * 32 + (16 + j.val)) / 1280 = r.val; omega
  | ⟨1, _⟩ => show ((r.val * 40 + g.val) * 32 + (16 + j.val)) % 1280 = 32 * g.val + 16 + j.val; omega

/-- The weight at row `κ` of the contracted axis and output column `n`. -/
def rwt (κ : Fin 1280) (n : Fin 5120) : EReal :=
  code (x2 (ix3 n ⟨κ.val / 32, by omega⟩ ⟨κ.val % 16, by omega⟩)) (4 * (κ.val / 16 % 2)) * x3 (ix2 n ⟨κ.val / 32, by omega⟩)
    + x4 (ix2 n ⟨κ.val / 32, by omega⟩)

/-- The product at an index. -/
theorem v27_apply (r : Fin 128) (n : Fin 5120) :
    val_main_v27 (F := Ideal) x0 x2 x3 x4 (ix2 r n) = ∑ κ : Fin 1280, val_main_v2 (F := Ideal) x0 (ix2 r κ) * rwt x2 x3 x4 κ n := by
  rw [val_main_v27_apply, sum_halves]
  unfold val_main_v25 val_main_v26
  rw [dot_apply, dot_apply]
  refine congrArg₂ (· + ·) (Finset.sum_congr rfl fun g _ => Finset.sum_congr rfl fun j _ => ?_)
    (Finset.sum_congr rfl fun g _ => Finset.sum_congr rfl fun j _ => ?_)
  · rw [v5_apply, v16_apply]
    unfold rwt
    have e1 : (32 * g.val + j.val) / 32 = g.val := by omega
    have e2 : (32 * g.val + j.val) % 16 = j.val := by omega
    have e3 : (32 * g.val + j.val) / 16 % 2 = 0 := by omega
    simp only [e1, e2, e3, Nat.mul_zero]
  · rw [v6_apply, v24_apply]
    unfold rwt
    have e1 : (32 * g.val + 16 + j.val) / 32 = g.val := by omega
    have e2 : (32 * g.val + 16 + j.val) % 16 = j.val := by omega
    have e3 : (32 * g.val + 16 + j.val) / 16 % 2 = 1 := by omega
    simp only [e1, e2, e3, Nat.mul_one]

/-- The reference's result at an index: the input plus the product. -/
theorem v28_apply (r : Fin 128) (n : Fin 5120) :
    val_main_v28 (F := Ideal) x0 x1 x2 x3 x4 (ix2 r n)
      = x1 (ix2 r n) + ∑ κ : Fin 1280, val_main_v2 (F := Ideal) x0 (ix2 r κ) * rwt x2 x3 x4 κ n := by
  simp only [val_main_v28_apply, val_main_v3_apply, v27_apply, pointwise]

/-- The columns back in order: position `ρ` of a stored tile is column `place ρ`. -/
theorem v2_apply (r : Fin 128) (T : Fin 10) (ρ : Fin 128) :
    val_main_v2 (F := Ideal) x0 (ix2 r ⟨128 * T.val + place ρ.val, by have := place_lt ρ.isLt; omega⟩)
      = x0 (ix2 r ⟨128 * T.val + ρ.val, by omega⟩) := by
  have e : idx_main_v1 (ixB r T ⟨place ρ.val, place_lt ρ.isLt⟩) = ixB r T ρ := by
    obtain ⟨h4, h5, h3, h6, h2, h7⟩ := place_bits ρ
    exact funext fun a => Fin.ext (match a with
      | ⟨0, _⟩ => rfl
      | ⟨1, _⟩ => rfl
      | ⟨2, _⟩ => h2.symm
      | ⟨3, _⟩ => h3.symm
      | ⟨4, _⟩ => h4.symm
      | ⟨5, _⟩ => h5.symm
      | ⟨6, _⟩ => h6.symm
      | ⟨7, _⟩ => h7.symm)
  unfold val_main_v2
  rw [shapeCast_apply _ _ _ (ixB r T ⟨place ρ.val, place_lt ρ.isLt⟩) (ixB_pos r T ⟨place ρ.val, place_lt ρ.isLt⟩), val_main_v1_apply, e]
  unfold val_main_v0
  rw [shapeCast_apply _ _ _ (ix2 r ⟨128 * T.val + ρ.val, by omega⟩) (ixB_pos r T ρ).symm]

end

end Cert.ReferenceWoIdeal.RefValue
-- ==== Proof.WoBlock.lean ====
/- The output projection kernel's result at an index: what each window holds of the arguments, and the reference's sum in every tile. -/
module

public import proofs.«01_k».proof.Proof.WoOut
public import proofs.«01_k».proof.Proof.WoRef

@[expose] public section

noncomputable section

namespace Cert.KernelWoIdeal.RefValue

open Idealize.ShloMosaic Idealize.ShloMosaic.TcCoe Idealize.ShloMosaic.Pipeline Cert.KernelWoIdeal Cert.KernelWoIdeal.Gen Cert.KernelWoIdeal.Value Idealize.SL.Sem
open Cert.KernelIdeal.RefValue (code place place_lt src)
open Cert.ReferenceWoIdeal.RefValue (rwt v28_apply v2_apply)
open Cert.ReferenceWoIdeal.Read
open scoped BigOperators

variable (m : (ℓ : Loc nD τ sig) → Buf (Elt Ideal) ℓ)

/-- The grid has four points. -/
theorem lt4 (t : Fin cfg0.N) : t.val < 4 := lt_of_lt_of_eq t.isLt N_0

/-- Every window's block index at a point (decided). -/
theorem idx : ∀ t : Fin cfg0.N, win0_0.index t = ![0, 0] ∧ win0_1.index t = ![0, t.val]
    ∧ win0_2.index t = ![0, 0, t.val, 0, 0] ∧ win0_3.index t = ![0, t.val] ∧ win0_4.index t = ![0, t.val]
    ∧ win0_5.index t = ![0, t.val] :=
  (by decide +kernel : ∀ t : Fin grid0.N, _)

/-- The attention rows' window holds the attention rows. -/
theorem iblk0 (c : Dev nD) (t : Fin cfg0.N) (r : Fin 128) (κ : Fin 1280) :
    iblk m c 0 t (ix2 r κ) = m ((c : Thread nD τ).loc main_arg0) (ix2 r κ) := by
  blk_ext! [iblk, V, idx t]

/-- The added input's window holds the point's columns of it. -/
theorem iblk1 (c : Dev nD) (t : Fin cfg0.N) (r : Fin 128) (n : Fin 1280) (h : 1280 * t.val + n.val < 5120) :
    iblk m c 1 t (ix2 r n) = m ((c : Thread nD τ).loc main_arg1) (ix2 r ⟨1280 * t.val + n.val, h⟩) := by
  blk_ext! [iblk, V, idx t]

set_option maxHeartbeats 1000000 in
/-- The codes' window holds the point's 1280 columns of the codes, by group, half, tile, row and lane. -/
theorem iblk2 (c : Dev nD) (t : Fin cfg0.N) (g : Fin 40) (hi : Fin 2) (e : Fin 10) (s : Fin 8) (l : Fin 128) (h : 128 * (10 * t.val + e.val) + l.val < 5120) :
    iblk m c 2 t (ix5 g hi e s l) = m ((c : Thread nD τ).loc main_arg2) (ix3 ⟨128 * (10 * t.val + e.val) + l.val, h⟩ g ⟨8 * hi.val + s.val, by omega⟩) := by
  blk_ext! [iblk, V, idx t]

/-- The scales' window holds the point's columns of the scales. -/
theorem iblk3 (c : Dev nD) (t : Fin cfg0.N) (g : Fin 40) (n : Fin 1280) (h : 1280 * t.val + n.val < 5120) :
    iblk m c 3 t (ix2 g n) = m ((c : Thread nD τ).loc main_arg3) (ix2 ⟨1280 * t.val + n.val, h⟩ g) := by
  blk_ext! [iblk, V, idx t]

/-- The minima's window holds the point's columns of the minima. -/
theorem iblk4 (c : Dev nD) (t : Fin cfg0.N) (g : Fin 40) (n : Fin 1280) (h : 1280 * t.val + n.val < 5120) :
    iblk m c 4 t (ix2 g n) = m ((c : Thread nD τ).loc main_arg4) (ix2 ⟨1280 * t.val + n.val, h⟩ g) := by
  blk_ext! [iblk, V, idx t]

/-- A scale row stored twice reads as itself. -/
theorem pay408_apply (s : Vec Ideal S40x1280 .bf16) (g : Fin 40) (p : Fin 2) (l : Fin 1280) : k0_pay408 (F := Ideal) s (ix3 g p l) = s (ix2 g l) := by
  unfold k0_pay408
  pointwise
  exact ite_self _

/-- So does a row of minima. -/
theorem pay409_apply (s : Vec Ideal S40x1280 .bf16) (g : Fin 40) (p : Fin 2) (l : Fin 1280) : k0_pay409 (F := Ideal) s (ix3 g p l) = s (ix2 g l) :=
  pay408_apply s g p l

/-- The loops start from zero. -/
theorem pay410_apply (r : Fin 128) (l : Fin 256) : k0_pay410 (F := Ideal) (ix2 r l) = (0 : EReal) := by
  unfold k0_pay410
  pointwise
  exact ite_self _

/-- The kernel's weight is the reference's. -/
theorem wt_eq (c : Dev nD) (t : Fin cfg0.N) (κ : Fin 1280) (n : Fin 1280) :
    wt (iblk m c 2 t) (fun g l => iblk m c 3 t (ix2 g l)) (fun g l => iblk m c 4 t (ix2 g l)) κ n =
      rwt (m ((c : Thread nD τ).loc main_arg2)) (m ((c : Thread nD τ).loc main_arg3)) (m ((c : Thread nD τ).loc main_arg4)) κ
        ⟨1280 * t.val + n.val, by have := lt4 t; omega⟩ := by
  have ht := lt4 t
  have hn := n.isLt
  unfold wt rwt
  beta_reduce
  rw [iblk2 m c t _ _ _ _ _ (by show 128 * (10 * t.val + n.val / 128) + n.val % 128 < 5120; omega), iblk3 m c t _ _ (by omega), iblk4 m c t _ _ (by omega)]
  have e1 : 128 * (10 * t.val + n.val / 128) + n.val % 128 = 1280 * t.val + n.val := by omega
  have e2 : 8 * (κ.val / 8 % 2) + κ.val % 8 = κ.val % 16 := by omega
  simp only [e1, e2]

/-- A stored column of the attention rows is the reference's column it came from. -/
theorem act_apply (x0 : Vec Ideal S128x1280 .bf16) (r : Fin 128) (x : Fin 1280) :
    x0 (ix2 r x) = val_main_v2 (F := Ideal) x0 (ix2 r ⟨src x.val, src_lt x.isLt⟩) := by
  have h := v2_apply x0 r ⟨x.val / 128, by omega⟩ ⟨x.val % 128, by omega⟩
  have e : 128 * (x.val / 128) + x.val % 128 = x.val := by omega
  simp only [e] at h
  exact h.symm

/-- A tile at an index. -/
theorem sumV_apply (x : Vec Ideal S128x256 .bf16) (acc : FVec Ideal S128x256 .f32) (r : Fin 128) (q : Fin 256) :
    sumV x acc (ix2 r q) = x (ix2 r q) + acc (ix2 r q) := by
  unfold sumV
  pointwise

/-- A tile of a point's block at an index: the reference's value there. -/
theorem tile_eq (c : Dev nD) (t : Fin cfg0.N) (p : Fin 5) (r : Fin 128) (q : Fin 256) :
    outT (iblk m c 1 t) (iblk m c 2 t) (iblk m c 3 t) (iblk m c 4 t) (iblk m c 0 t) p.val (ix2 r q) =
      val_main_v28 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (ix2 r ⟨1280 * t.val + (256 * p.val + q.val), by have := lt4 t; omega⟩) := by
  have ht := lt4 t
  have hX : ldA (iblk m c 1 t) p.val (ix2 r q) = m ((c : Thread nD τ).loc main_arg1) (ix2 r ⟨1280 * t.val + (256 * p.val + q.val), by omega⟩) := by
    have e : (256 * p.val + q.val) % 1280 = 256 * p.val + q.val := Nat.mod_eq_of_lt (col_lt p q)
    refine Eq.trans ?_ (iblk1 m c t r ⟨256 * p.val + q.val, col_lt p q⟩ (by show 1280 * t.val + (256 * p.val + q.val) < 5120; omega))
    exact congrArg (fun y => iblk m c 1 t (ix2 r y)) (Fin.ext e)
  unfold outT
  rw [sumV_apply, tile_apply p _ _ _ _ (fun g l => iblk m c 3 t (ix2 g l)) (fun g l => iblk m c 4 t (ix2 g l))
    (fun r κ => val_main_v2 (F := Ideal) (m ((c : Thread nD τ).loc main_arg0)) (ix2 r κ)) (fun g p l => pay408_apply _ g p l) (fun g p l => pay409_apply _ g p l)
    (fun r x => (iblk0 m c t r x).trans (act_apply _ r x)), hX, pay410_apply, zero_add, v28_apply]
  exact congrArg _ (Finset.sum_congr rfl fun k _ => congrArg _ (wt_eq m c t k ⟨256 * p.val + q.val, col_lt p q⟩))

/-- The output window's block is the point's columns of the result array. -/
theorem blk5 (t : Fin cfg0.N) (X : S128x5120.Idx → Elt Ideal .f32) (r : Fin 128) (n : Fin 1280) (h : 1280 * t.val + n.val < 5120) :
    ((cfg0.win 5).blk t).view.read (Elt Ideal) X (ix2 r n) = X (ix2 r ⟨1280 * t.val + n.val, h⟩) := by
  blk_ext! [idx t]

/-- The result array at an index: the reference's value there. -/
theorem result_apply (c : Dev nD) (t : Fin cfg0.N) (p : Fin 5) (r : Fin 128) (q : Fin 256) :
    (dats m 0 c).arrAt 5 cfg0.N (ix2 r ⟨1280 * t.val + (256 * p.val + q.val), by have := lt4 t; omega⟩) =
      val_main_v28 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (ix2 r ⟨1280 * t.val + (256 * p.val + q.val), by have := lt4 t; omega⟩) := by
  have hb := congrFun ((blocks5 m c t (flush0_5 t)).trans (flushed5 m c t)) (ix2 r ⟨256 * p.val + q.val, col_lt p q⟩)
  have h1 := blk5 t ((dats m 0 c).arrAt 5 cfg0.N) r ⟨256 * p.val + q.val, col_lt p q⟩ (by have := lt4 t; show 1280 * t.val + (256 * p.val + q.val) < 5120; omega)
  refine (h1.symm.trans hb).trans (Eq.trans ?_ ((out_eq m c t p r q).trans (tile_eq m c t p r q)))
  rfl

end Cert.KernelWoIdeal.RefValue
-- ==== Proof.WoAlgebraic.lean ====
/- The output projection's value claim: over the extended reals the kernel's array of hidden states is the reference's. -/
module

public import proofs.«01_k».proof.Proof.DownAlgebraic
public import proofs.«01_k».proof.Proof.WoClaims
public import proofs.«01_k».proof.Proof.WoBlock
public import proofs.«01_k».proof.Proof.Gen.ReferenceWoIdeal.Run
public import Idealize.ShloMosaic.Lib.Claim

@[expose] public section

noncomputable section

namespace Cert.Claims

open Idealize.ShloMosaic Idealize.ShloMosaic.TcCoe Idealize.SL.Sem

open Cert.ReferenceWoIdeal.Read
open Cert.KernelWoIdeal.RefValue (result_apply)

/-- At `Ideal` the kernel's array of hidden states and the reference's agree. -/
theorem algebraicWo : Cert.algebraic_KernelWoIdeal_ReferenceWoIdeal (hKernelWoIdeal := Cert.KernelWoIdeal.Gen.facts)
    (hReferenceWoIdeal := Cert.ReferenceWoIdeal.Gen.facts) := by
  pair_intro
  · run_from Cert.KernelWoIdeal.Value.run_blocks m g
  · run_from Cert.ReferenceWoIdeal.Value.run m' g'
    rw [val_main_v28_eq]
    exact extD _ _ fun r t p q => (result_apply m c ⟨t.val, lt_of_lt_of_eq t.isLt Cert.KernelWoIdeal.Gen.N_0.symm⟩ p r q).symm

end Cert.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelUp
public import proofs.«01_k».proof.Proof.Gen.KernelUp.Skeleton
public import proofs.«01_k».proof.Proof.Gen.KernelUp.Loops
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Loops
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.KernelDown
public import proofs.«01_k».proof.Proof.Gen.KernelDown.Skeleton
public import proofs.«01_k».proof.Proof.Gen.KernelDown.Loops
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Loops
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelWo
public import proofs.«01_k».proof.Proof.Gen.KernelWo.Skeleton
public import proofs.«01_k».proof.Proof.Gen.KernelWo.Loops
public import proofs.«01_k».proof.Proof.Gen.KernelWo.Launch
public import proofs.«01_k».proof.Proof.Gen.KernelWo.Points
public import proofs.«01_k».proof.Proof.Gen.KernelWo.Frame
public import proofs.«01_k».proof.Proof.Gen.KernelWoIdeal
public import proofs.«01_k».proof.Proof.Gen.KernelWoIdeal.Skeleton
public import proofs.«01_k».proof.Proof.Gen.KernelWoIdeal.Loops
public import proofs.«01_k».proof.Proof.Gen.KernelWoIdeal.Launch
public import proofs.«01_k».proof.Proof.Gen.KernelWoIdeal.Points
public import proofs.«01_k».proof.Proof.Gen.KernelWoIdeal.Frame
public import proofs.«01_k».proof.Proof.Gen.ReferenceWoIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Gen.KernelWoIdeal.Value
public import proofs.«01_k».proof.Proof.Gen.ReferenceWoIdeal.Run
public import proofs.«01_k».proof.Proof.Gen.ReferenceWoIdeal.Read
public import proofs.«01_k».proof.Proof.Claims
public import proofs.«01_k».proof.Proof.Algebraic
public import proofs.«01_k».proof.Proof.UpClaims
public import proofs.«01_k».proof.Proof.UpAlgebraic
public import proofs.«01_k».proof.Proof.DownClaims
public import proofs.«01_k».proof.Proof.DownAlgebraic
public import proofs.«01_k».proof.Proof.WoClaims
public import proofs.«01_k».proof.Proof.WoAlgebraic
public import Idealize.ShloMosaic.Adequacy
public import Idealize.ShloMosaic.Init

@[expose] public section

noncomputable section

namespace Cert.Proof

open Idealize.ShloMosaic Idealize.SL.Sem Cert.Kernel

/-- The claim: each program's facts, then each frame, then for each call its idealization and its value. -/
theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelWo.Gen.facts, Cert.KernelWoIdeal.Gen.facts, Cert.ReferenceWoIdeal.Gen.facts,
  Cert.Claims.frameKernel, Cert.Claims.frameKernelIdeal, Cert.Claims.frameReferenceIdeal,
  Cert.Claims.frameKernelUp, Cert.Claims.frameKernelUpIdeal, Cert.Claims.frameReferenceUpIdeal,
  Cert.Claims.frameKernelDown, Cert.Claims.frameKernelDownIdeal, Cert.Claims.frameReferenceDownIdeal,
  Cert.Claims.frameKernelWo, Cert.Claims.frameKernelWoIdeal, Cert.Claims.frameReferenceWoIdeal,
  Cert.Claims.preserves, Cert.Claims.algebraic,
  Cert.Claims.preservesUp, Cert.Claims.algebraicUp,
  Cert.Claims.preservesDown, Cert.Claims.algebraicDown,
  Cert.Claims.preservesWo, Cert.Claims.algebraicWo⟩

end Cert.Proof

end
